-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite [hPre_finite : Cert.Pre_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite [hPre_finite : Cert.Pre_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_FfnFwdKernel (m : (ℓ : Loc Cert.FfnFwdKernel.nD Cert.FfnFwdKernel.τ Cert.FfnFwdKernel.sig) → Buf (Elt Bits) ℓ) : Prop :=
  True

def Pre_FfnFwdKernelIdeal (m : (ℓ : Loc Cert.FfnFwdKernelIdeal.nD Cert.FfnFwdKernelIdeal.τ Cert.FfnFwdKernelIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_FwdInKernel (m : (ℓ : Loc Cert.FwdInKernel.nD Cert.FwdInKernel.τ Cert.FwdInKernel.sig) → Buf (Elt Bits) ℓ) : Prop :=
  True

def Pre_FwdInKernelIdeal (m : (ℓ : Loc Cert.FwdInKernelIdeal.nD Cert.FwdInKernelIdeal.τ Cert.FwdInKernelIdeal.sig) → Buf (Elt Ideal) ℓ) : Prop :=
  True

def Pre_FwdInReferenceIdeal (m : (ℓ : Loc Cert.FwdInReferenceIdeal.nD Cert.FwdInReferenceIdeal.τ Cert.FwdInReferenceIdeal.sig) → Buf (Elt Ideal) ℓ) : Prop :=
  True

def Pre_FwdOutKernel (m : (ℓ : Loc Cert.FwdOutKernel.nD Cert.FwdOutKernel.τ Cert.FwdOutKernel.sig) → Buf (Elt Bits) ℓ) : Prop :=
  True

def Pre_FwdOutKernelIdeal (m : (ℓ : Loc Cert.FwdOutKernelIdeal.nD Cert.FwdOutKernelIdeal.τ Cert.FwdOutKernelIdeal.sig) → Buf (Elt Ideal) ℓ) : Prop :=
  True

def Pre_FwdOutReferenceIdeal (m : (ℓ : Loc Cert.FwdOutReferenceIdeal.nD Cert.FwdOutReferenceIdeal.τ Cert.FwdOutReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_AdamGateKernel (m : (ℓ : Loc Cert.AdamGateKernel.nD Cert.AdamGateKernel.τ Cert.AdamGateKernel.sig) → Buf (Elt Bits) ℓ) : Prop :=
  True

def Pre_AdamGateKernelIdeal (m : (ℓ : Loc Cert.AdamGateKernelIdeal.nD Cert.AdamGateKernelIdeal.τ Cert.AdamGateKernelIdeal.sig) → Buf (Elt Ideal) ℓ) : Prop :=
  True

def Pre_AdamGateReferenceIdeal (m : (ℓ : Loc Cert.AdamGateReferenceIdeal.nD Cert.AdamGateReferenceIdeal.τ Cert.AdamGateReferenceIdeal.sig) → Buf (Elt Ideal) ℓ) : Prop :=
  True

def Pre_AdamDownKernel (m : (ℓ : Loc Cert.AdamDownKernel.nD Cert.AdamDownKernel.τ Cert.AdamDownKernel.sig) → Buf (Elt Bits) ℓ) : Prop :=
  True

def Pre_AdamDownKernelIdeal (m : (ℓ : Loc Cert.AdamDownKernelIdeal.nD Cert.AdamDownKernelIdeal.τ Cert.AdamDownKernelIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamInKernel (m : (ℓ : Loc Cert.AdamInKernel.nD Cert.AdamInKernel.τ Cert.AdamInKernel.sig) → Buf (Elt Bits) ℓ) : Prop :=
  True

def Pre_AdamInKernelIdeal (m : (ℓ : Loc Cert.AdamInKernelIdeal.nD Cert.AdamInKernelIdeal.τ Cert.AdamInKernelIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOutKernel (m : (ℓ : Loc Cert.AdamOutKernel.nD Cert.AdamOutKernel.τ Cert.AdamOutKernel.sig) → Buf (Elt Bits) ℓ) : Prop :=
  True

def Pre_AdamOutKernelIdeal (m : (ℓ : Loc Cert.AdamOutKernelIdeal.nD Cert.AdamOutKernelIdeal.τ Cert.AdamOutKernelIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamNormKernel (m : (ℓ : Loc Cert.AdamNormKernel.nD Cert.AdamNormKernel.τ Cert.AdamNormKernel.sig) → Buf (Elt Bits) ℓ) : Prop :=
  True

def Pre_AdamNormKernelIdeal (m : (ℓ : Loc Cert.AdamNormKernelIdeal.nD Cert.AdamNormKernelIdeal.τ Cert.AdamNormKernelIdeal.sig) → Buf (Elt Ideal) ℓ) : Prop :=
  True

def Pre_AdamNormReferenceIdeal (m : (ℓ : Loc Cert.AdamNormReferenceIdeal.nD Cert.AdamNormReferenceIdeal.τ Cert.AdamNormReferenceIdeal.sig) → Buf (Elt Ideal) ℓ) : Prop :=
  True

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_finite [hFfnKernelIdeal : Cert.FfnKernelIdeal.Facts] [hPre_finite : Cert.Pre_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite [hFfnReferenceIdeal : Cert.FfnReferenceIdeal.Facts] [hPre_finite : Cert.Pre_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_FfnFwdKernel [hFfnFwdKernel : Cert.FfnFwdKernel.Facts] : Prop :=
  ∀ (m : (ℓ : Loc Cert.FfnFwdKernel.nD Cert.FfnFwdKernel.τ Cert.FfnFwdKernel.sig) → Buf (Elt Bits) ℓ) (g : Dev Cert.FfnFwdKernel.nD → PrngReg), Pre_FfnFwdKernel m →
    θ_run (Cert.FfnFwdKernel.defs (F := Bits)) (onTc (τ := Cert.FfnFwdKernel.τ) (Cert.FfnFwdKernel.main (F := Bits))) ⟨m, fun _ => 0, g⟩ (fun r => (∀ c : Dev Cert.FfnFwdKernel.nD,
      r.2.mem ((c.tc : Thread Cert.FfnFwdKernel.nD Cert.FfnFwdKernel.τ).loc Cert.FfnFwdKernel.main_arg0) = m ((c.tc : Thread Cert.FfnFwdKernel.nD Cert.FfnFwdKernel.τ).loc Cert.FfnFwdKernel.main_arg0)
      ∧ r.2.mem ((c.tc : Thread Cert.FfnFwdKernel.nD Cert.FfnFwdKernel.τ).loc Cert.FfnFwdKernel.main_arg1) = m ((c.tc : Thread Cert.FfnFwdKernel.nD Cert.FfnFwdKernel.τ).loc Cert.FfnFwdKernel.main_arg1)
      ∧ r.2.mem ((c.tc : Thread Cert.FfnFwdKernel.nD Cert.FfnFwdKernel.τ).loc Cert.FfnFwdKernel.main_arg2) = m ((c.tc : Thread Cert.FfnFwdKernel.nD Cert.FfnFwdKernel.τ).loc Cert.FfnFwdKernel.main_arg2)
      ∧ r.2.mem ((c.tc : Thread Cert.FfnFwdKernel.nD Cert.FfnFwdKernel.τ).loc Cert.FfnFwdKernel.main_arg3) = m ((c.tc : Thread Cert.FfnFwdKernel.nD Cert.FfnFwdKernel.τ).loc Cert.FfnFwdKernel.main_arg3)
      ∧ r.2.mem ((c.tc : Thread Cert.FfnFwdKernel.nD Cert.FfnFwdKernel.τ).loc Cert.FfnFwdKernel.main_arg4) = m ((c.tc : Thread Cert.FfnFwdKernel.nD Cert.FfnFwdKernel.τ).loc Cert.FfnFwdKernel.main_arg4)
      ∧ r.2.mem ((c.tc : Thread Cert.FfnFwdKernel.nD Cert.FfnFwdKernel.τ).loc Cert.FfnFwdKernel.main_arg5) = m ((c.tc : Thread Cert.FfnFwdKernel.nD Cert.FfnFwdKernel.τ).loc Cert.FfnFwdKernel.main_arg5)
      ∧ r.2.mem ((c.tc : Thread Cert.FfnFwdKernel.nD Cert.FfnFwdKernel.τ).loc Cert.FfnFwdKernel.main_arg6) = m ((c.tc : Thread Cert.FfnFwdKernel.nD Cert.FfnFwdKernel.τ).loc Cert.FfnFwdKernel.main_arg6))
      ∧ r.2.sem = fun _ => 0)

def quiescent_FfnFwdKernelIdeal [hFfnFwdKernelIdeal : Cert.FfnFwdKernelIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg), Pre_FfnFwdKernelIdeal m →
    θ_run (Cert.FfnFwdKernelIdeal.defs (F := Ideal)) (onTc (τ := Cert.FfnFwdKernelIdeal.τ) (Cert.FfnFwdKernelIdeal.main (F := Ideal))) ⟨m, fun _ => 0, g⟩ (fun r => (∀ c : Dev Cert.FfnFwdKernelIdeal.nD,
      r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
      ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
      ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
      ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
      ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4)
      ∧ r.2.mem ((c.tc : Thread Cert.FfnFwdKernelIdeal.nD Cert.FfnFwdKernelIdeal.τ).loc Cert.FfnFwdKernelIdeal.main_arg5) = m ((c.tc : Thread Cert.FfnFwdKernelIdeal.nD Cert.FfnFwdKernelIdeal.τ).loc Cert.FfnFwdKernelIdeal.main_arg5)
      ∧ r.2.mem ((c.tc : Thread Cert.FfnFwdKernelIdeal.nD Cert.FfnFwdKernelIdeal.τ).loc Cert.FfnFwdKernelIdeal.main_arg6) = m ((c.tc : Thread Cert.FfnFwdKernelIdeal.nD Cert.FfnFwdKernelIdeal.τ).loc Cert.FfnFwdKernelIdeal.main_arg6))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4)
      ∧ r.2.mem ((c.tc : Thread Cert.FfnFwdReferenceIdeal.nD Cert.FfnFwdReferenceIdeal.τ).loc Cert.FfnFwdReferenceIdeal.main_arg5) = m ((c.tc : Thread Cert.FfnFwdReferenceIdeal.nD Cert.FfnFwdReferenceIdeal.τ).loc Cert.FfnFwdReferenceIdeal.main_arg5)
      ∧ r.2.mem ((c.tc : Thread Cert.FfnFwdReferenceIdeal.nD Cert.FfnFwdReferenceIdeal.τ).loc Cert.FfnFwdReferenceIdeal.main_arg6) = m ((c.tc : Thread Cert.FfnFwdReferenceIdeal.nD Cert.FfnFwdReferenceIdeal.τ).loc Cert.FfnFwdReferenceIdeal.main_arg6))
      ∧ r.2.sem = fun _ => 0)

def quiescent_FwdInKernel [hFwdInKernel : Cert.FwdInKernel.Facts] : Prop :=
  ∀ (m : (ℓ : Loc Cert.FwdInKernel.nD Cert.FwdInKernel.τ Cert.FwdInKernel.sig) → Buf (Elt Bits) ℓ) (g : Dev Cert.FwdInKernel.nD → PrngReg), Pre_FwdInKernel m →
    θ_run (Cert.FwdInKernel.defs (F := Bits)) (onTc (τ := Cert.FwdInKernel.τ) (Cert.FwdInKernel.main (F := Bits))) ⟨m, fun _ => 0, g⟩ (fun r => (∀ c : Dev Cert.FwdInKernel.nD,
      r.2.mem ((c.tc : Thread Cert.FwdInKernel.nD Cert.FwdInKernel.τ).loc Cert.FwdInKernel.main_arg0) = m ((c.tc : Thread Cert.FwdInKernel.nD Cert.FwdInKernel.τ).loc Cert.FwdInKernel.main_arg0)
      ∧ r.2.mem ((c.tc : Thread Cert.FwdInKernel.nD Cert.FwdInKernel.τ).loc Cert.FwdInKernel.main_arg1) = m ((c.tc : Thread Cert.FwdInKernel.nD Cert.FwdInKernel.τ).loc Cert.FwdInKernel.main_arg1)
      ∧ r.2.mem ((c.tc : Thread Cert.FwdInKernel.nD Cert.FwdInKernel.τ).loc Cert.FwdInKernel.main_arg2) = m ((c.tc : Thread Cert.FwdInKernel.nD Cert.FwdInKernel.τ).loc Cert.FwdInKernel.main_arg2))
      ∧ r.2.sem = fun _ => 0)

def quiescent_FwdInKernelIdeal [hFwdInKernelIdeal : Cert.FwdInKernelIdeal.Facts] : Prop :=
  ∀ (m : (ℓ : Loc Cert.FwdInKernelIdeal.nD Cert.FwdInKernelIdeal.τ Cert.FwdInKernelIdeal.sig) → Buf (Elt Ideal) ℓ) (g : Dev Cert.FwdInKernelIdeal.nD → PrngReg), Pre_FwdInKernelIdeal m →
    θ_run (Cert.FwdInKernelIdeal.defs (F := Ideal)) (onTc (τ := Cert.FwdInKernelIdeal.τ) (Cert.FwdInKernelIdeal.main (F := Ideal))) ⟨m, fun _ => 0, g⟩ (fun r => (∀ c : Dev Cert.FwdInKernelIdeal.nD,
      r.2.mem ((c.tc : Thread Cert.FwdInKernelIdeal.nD Cert.FwdInKernelIdeal.τ).loc Cert.FwdInKernelIdeal.main_arg0) = m ((c.tc : Thread Cert.FwdInKernelIdeal.nD Cert.FwdInKernelIdeal.τ).loc Cert.FwdInKernelIdeal.main_arg0)
      ∧ r.2.mem ((c.tc : Thread Cert.FwdInKernelIdeal.nD Cert.FwdInKernelIdeal.τ).loc Cert.FwdInKernelIdeal.main_arg1) = m ((c.tc : Thread Cert.FwdInKernelIdeal.nD Cert.FwdInKernelIdeal.τ).loc Cert.FwdInKernelIdeal.main_arg1)
      ∧ r.2.mem ((c.tc : Thread Cert.FwdInKernelIdeal.nD Cert.FwdInKernelIdeal.τ).loc Cert.FwdInKernelIdeal.main_arg2) = m ((c.tc : Thread Cert.FwdInKernelIdeal.nD Cert.FwdInKernelIdeal.τ).loc Cert.FwdInKernelIdeal.main_arg2))
      ∧ r.2.sem = fun _ => 0)

def quiescent_FwdInReferenceIdeal [hFwdInReferenceIdeal : Cert.FwdInReferenceIdeal.Facts] : Prop :=
  ∀ (m : (ℓ : Loc Cert.FwdInReferenceIdeal.nD Cert.FwdInReferenceIdeal.τ Cert.FwdInReferenceIdeal.sig) → Buf (Elt Ideal) ℓ) (g : Dev Cert.FwdInReferenceIdeal.nD → PrngReg), Pre_FwdInReferenceIdeal m →
    θ_run (Cert.FwdInReferenceIdeal.defs (F := Ideal)) (onTc (τ := Cert.FwdInReferenceIdeal.τ) (Cert.FwdInReferenceIdeal.main (F := Ideal))) ⟨m, fun _ => 0, g⟩ (fun r => (∀ c : Dev Cert.FwdInReferenceIdeal.nD,
      r.2.mem ((c.tc : Thread Cert.FwdInReferenceIdeal.nD Cert.FwdInReferenceIdeal.τ).loc Cert.FwdInReferenceIdeal.main_arg0) = m ((c.tc : Thread Cert.FwdInReferenceIdeal.nD Cert.FwdInReferenceIdeal.τ).loc Cert.FwdInReferenceIdeal.main_arg0)
      ∧ r.2.mem ((c.tc : Thread Cert.FwdInReferenceIdeal.nD Cert.FwdInReferenceIdeal.τ).loc Cert.FwdInReferenceIdeal.main_arg1) = m ((c.tc : Thread Cert.FwdInReferenceIdeal.nD Cert.FwdInReferenceIdeal.τ).loc Cert.FwdInReferenceIdeal.main_arg1)
      ∧ r.2.mem ((c.tc : Thread Cert.FwdInReferenceIdeal.nD Cert.FwdInReferenceIdeal.τ).loc Cert.FwdInReferenceIdeal.main_arg2) = m ((c.tc : Thread Cert.FwdInReferenceIdeal.nD Cert.FwdInReferenceIdeal.τ).loc Cert.FwdInReferenceIdeal.main_arg2))
      ∧ r.2.sem = fun _ => 0)

def quiescent_FwdOutKernel [hFwdOutKernel : Cert.FwdOutKernel.Facts] : Prop :=
  ∀ (m : (ℓ : Loc Cert.FwdOutKernel.nD Cert.FwdOutKernel.τ Cert.FwdOutKernel.sig) → Buf (Elt Bits) ℓ) (g : Dev Cert.FwdOutKernel.nD → PrngReg), Pre_FwdOutKernel m →
    θ_run (Cert.FwdOutKernel.defs (F := Bits)) (onTc (τ := Cert.FwdOutKernel.τ) (Cert.FwdOutKernel.main (F := Bits))) ⟨m, fun _ => 0, g⟩ (fun r => (∀ c : Dev Cert.FwdOutKernel.nD,
      r.2.mem ((c.tc : Thread Cert.FwdOutKernel.nD Cert.FwdOutKernel.τ).loc Cert.FwdOutKernel.main_arg0) = m ((c.tc : Thread Cert.FwdOutKernel.nD Cert.FwdOutKernel.τ).loc Cert.FwdOutKernel.main_arg0)
      ∧ r.2.mem ((c.tc : Thread Cert.FwdOutKernel.nD Cert.FwdOutKernel.τ).loc Cert.FwdOutKernel.main_arg1) = m ((c.tc : Thread Cert.FwdOutKernel.nD Cert.FwdOutKernel.τ).loc Cert.FwdOutKernel.main_arg1)
      ∧ r.2.mem ((c.tc : Thread Cert.FwdOutKernel.nD Cert.FwdOutKernel.τ).loc Cert.FwdOutKernel.main_arg2) = m ((c.tc : Thread Cert.FwdOutKernel.nD Cert.FwdOutKernel.τ).loc Cert.FwdOutKernel.main_arg2)
      ∧ r.2.mem ((c.tc : Thread Cert.FwdOutKernel.nD Cert.FwdOutKernel.τ).loc Cert.FwdOutKernel.main_arg3) = m ((c.tc : Thread Cert.FwdOutKernel.nD Cert.FwdOutKernel.τ).loc Cert.FwdOutKernel.main_arg3)
      ∧ r.2.mem ((c.tc : Thread Cert.FwdOutKernel.nD Cert.FwdOutKernel.τ).loc Cert.FwdOutKernel.main_arg4) = m ((c.tc : Thread Cert.FwdOutKernel.nD Cert.FwdOutKernel.τ).loc Cert.FwdOutKernel.main_arg4)
      ∧ r.2.mem ((c.tc : Thread Cert.FwdOutKernel.nD Cert.FwdOutKernel.τ).loc Cert.FwdOutKernel.main_arg5) = m ((c.tc : Thread Cert.FwdOutKernel.nD Cert.FwdOutKernel.τ).loc Cert.FwdOutKernel.main_arg5)
      ∧ r.2.mem ((c.tc : Thread Cert.FwdOutKernel.nD Cert.FwdOutKernel.τ).loc Cert.FwdOutKernel.main_arg6) = m ((c.tc : Thread Cert.FwdOutKernel.nD Cert.FwdOutKernel.τ).loc Cert.FwdOutKernel.main_arg6))
      ∧ r.2.sem = fun _ => 0)

def quiescent_FwdOutKernelIdeal [hFwdOutKernelIdeal : Cert.FwdOutKernelIdeal.Facts] : Prop :=
  ∀ (m : (ℓ : Loc Cert.FwdOutKernelIdeal.nD Cert.FwdOutKernelIdeal.τ Cert.FwdOutKernelIdeal.sig) → Buf (Elt Ideal) ℓ) (g : Dev Cert.FwdOutKernelIdeal.nD → PrngReg), Pre_FwdOutKernelIdeal m →
    θ_run (Cert.FwdOutKernelIdeal.defs (F := Ideal)) (onTc (τ := Cert.FwdOutKernelIdeal.τ) (Cert.FwdOutKernelIdeal.main (F := Ideal))) ⟨m, fun _ => 0, g⟩ (fun r => (∀ c : Dev Cert.FwdOutKernelIdeal.nD,
      r.2.mem ((c.tc : Thread Cert.FwdOutKernelIdeal.nD Cert.FwdOutKernelIdeal.τ).loc Cert.FwdOutKernelIdeal.main_arg0) = m ((c.tc : Thread Cert.FwdOutKernelIdeal.nD Cert.FwdOutKernelIdeal.τ).loc Cert.FwdOutKernelIdeal.main_arg0)
      ∧ r.2.mem ((c.tc : Thread Cert.FwdOutKernelIdeal.nD Cert.FwdOutKernelIdeal.τ).loc Cert.FwdOutKernelIdeal.main_arg1) = m ((c.tc : Thread Cert.FwdOutKernelIdeal.nD Cert.FwdOutKernelIdeal.τ).loc Cert.FwdOutKernelIdeal.main_arg1)
      ∧ r.2.mem ((c.tc : Thread Cert.FwdOutKernelIdeal.nD Cert.FwdOutKernelIdeal.τ).loc Cert.FwdOutKernelIdeal.main_arg2) = m ((c.tc : Thread Cert.FwdOutKernelIdeal.nD Cert.FwdOutKernelIdeal.τ).loc Cert.FwdOutKernelIdeal.main_arg2)
      ∧ r.2.mem ((c.tc : Thread Cert.FwdOutKernelIdeal.nD Cert.FwdOutKernelIdeal.τ).loc Cert.FwdOutKernelIdeal.main_arg3) = m ((c.tc : Thread Cert.FwdOutKernelIdeal.nD Cert.FwdOutKernelIdeal.τ).loc Cert.FwdOutKernelIdeal.main_arg3)
      ∧ r.2.mem ((c.tc : Thread Cert.FwdOutKernelIdeal.nD Cert.FwdOutKernelIdeal.τ).loc Cert.FwdOutKernelIdeal.main_arg4) = m ((c.tc : Thread Cert.FwdOutKernelIdeal.nD Cert.FwdOutKernelIdeal.τ).loc Cert.FwdOutKernelIdeal.main_arg4)
      ∧ r.2.mem ((c.tc : Thread Cert.FwdOutKernelIdeal.nD Cert.FwdOutKernelIdeal.τ).loc Cert.FwdOutKernelIdeal.main_arg5) = m ((c.tc : Thread Cert.FwdOutKernelIdeal.nD Cert.FwdOutKernelIdeal.τ).loc Cert.FwdOutKernelIdeal.main_arg5)
      ∧ r.2.mem ((c.tc : Thread Cert.FwdOutKernelIdeal.nD Cert.FwdOutKernelIdeal.τ).loc Cert.FwdOutKernelIdeal.main_arg6) = m ((c.tc : Thread Cert.FwdOutKernelIdeal.nD Cert.FwdOutKernelIdeal.τ).loc Cert.FwdOutKernelIdeal.main_arg6))
      ∧ r.2.sem = fun _ => 0)

def quiescent_FwdOutReferenceIdeal [hFwdOutReferenceIdeal : Cert.FwdOutReferenceIdeal.Facts] : Prop :=
  ∀ (m : (ℓ : Loc Cert.FwdOutReferenceIdeal.nD Cert.FwdOutReferenceIdeal.τ Cert.FwdOutReferenceIdeal.sig) → Buf (Elt Ideal) ℓ) (g : Dev Cert.FwdOutReferenceIdeal.nD → PrngReg), Pre_FwdOutReferenceIdeal m →
    θ_run (Cert.FwdOutReferenceIdeal.defs (F := Ideal)) (onTc (τ := Cert.FwdOutReferenceIdeal.τ) (Cert.FwdOutReferenceIdeal.main (F := Ideal))) ⟨m, fun _ => 0, g⟩ (fun r => (∀ c : Dev Cert.FwdOutReferenceIdeal.nD,
      r.2.mem ((c.tc : Thread Cert.FwdOutReferenceIdeal.nD Cert.FwdOutReferenceIdeal.τ).loc Cert.FwdOutReferenceIdeal.main_arg0) = m ((c.tc : Thread Cert.FwdOutReferenceIdeal.nD Cert.FwdOutReferenceIdeal.τ).loc Cert.FwdOutReferenceIdeal.main_arg0)
      ∧ r.2.mem ((c.tc : Thread Cert.FwdOutReferenceIdeal.nD Cert.FwdOutReferenceIdeal.τ).loc Cert.FwdOutReferenceIdeal.main_arg1) = m ((c.tc : Thread Cert.FwdOutReferenceIdeal.nD Cert.FwdOutReferenceIdeal.τ).loc Cert.FwdOutReferenceIdeal.main_arg1)
      ∧ r.2.mem ((c.tc : Thread Cert.FwdOutReferenceIdeal.nD Cert.FwdOutReferenceIdeal.τ).loc Cert.FwdOutReferenceIdeal.main_arg2) = m ((c.tc : Thread Cert.FwdOutReferenceIdeal.nD Cert.FwdOutReferenceIdeal.τ).loc Cert.FwdOutReferenceIdeal.main_arg2)
      ∧ r.2.mem ((c.tc : Thread Cert.FwdOutReferenceIdeal.nD Cert.FwdOutReferenceIdeal.τ).loc Cert.FwdOutReferenceIdeal.main_arg3) = m ((c.tc : Thread Cert.FwdOutReferenceIdeal.nD Cert.FwdOutReferenceIdeal.τ).loc Cert.FwdOutReferenceIdeal.main_arg3)
      ∧ r.2.mem ((c.tc : Thread Cert.FwdOutReferenceIdeal.nD Cert.FwdOutReferenceIdeal.τ).loc Cert.FwdOutReferenceIdeal.main_arg4) = m ((c.tc : Thread Cert.FwdOutReferenceIdeal.nD Cert.FwdOutReferenceIdeal.τ).loc Cert.FwdOutReferenceIdeal.main_arg4)
      ∧ r.2.mem ((c.tc : Thread Cert.FwdOutReferenceIdeal.nD Cert.FwdOutReferenceIdeal.τ).loc Cert.FwdOutReferenceIdeal.main_arg5) = m ((c.tc : Thread Cert.FwdOutReferenceIdeal.nD Cert.FwdOutReferenceIdeal.τ).loc Cert.FwdOutReferenceIdeal.main_arg5)
      ∧ r.2.mem ((c.tc : Thread Cert.FwdOutReferenceIdeal.nD Cert.FwdOutReferenceIdeal.τ).loc Cert.FwdOutReferenceIdeal.main_arg6) = m ((c.tc : Thread Cert.FwdOutReferenceIdeal.nD Cert.FwdOutReferenceIdeal.τ).loc Cert.FwdOutReferenceIdeal.main_arg6))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8))
      ∧ r.2.sem = fun _ => 0)

def quiescent_AdamGateKernel [hAdamGateKernel : Cert.AdamGateKernel.Facts] : Prop :=
  ∀ (m : (ℓ : Loc Cert.AdamGateKernel.nD Cert.AdamGateKernel.τ Cert.AdamGateKernel.sig) → Buf (Elt Bits) ℓ) (g : Dev Cert.AdamGateKernel.nD → PrngReg), Pre_AdamGateKernel m →
    θ_run (Cert.AdamGateKernel.defs (F := Bits)) (onTc (τ := Cert.AdamGateKernel.τ) (Cert.AdamGateKernel.main (F := Bits))) ⟨m, fun _ => 0, g⟩ (fun r => (∀ c : Dev Cert.AdamGateKernel.nD,
      r.2.mem ((c.tc : Thread Cert.AdamGateKernel.nD Cert.AdamGateKernel.τ).loc Cert.AdamGateKernel.main_arg0) = m ((c.tc : Thread Cert.AdamGateKernel.nD Cert.AdamGateKernel.τ).loc Cert.AdamGateKernel.main_arg0)
      ∧ r.2.mem ((c.tc : Thread Cert.AdamGateKernel.nD Cert.AdamGateKernel.τ).loc Cert.AdamGateKernel.main_arg1) = m ((c.tc : Thread Cert.AdamGateKernel.nD Cert.AdamGateKernel.τ).loc Cert.AdamGateKernel.main_arg1)
      ∧ r.2.mem ((c.tc : Thread Cert.AdamGateKernel.nD Cert.AdamGateKernel.τ).loc Cert.AdamGateKernel.main_arg2) = m ((c.tc : Thread Cert.AdamGateKernel.nD Cert.AdamGateKernel.τ).loc Cert.AdamGateKernel.main_arg2)
      ∧ r.2.mem ((c.tc : Thread Cert.AdamGateKernel.nD Cert.AdamGateKernel.τ).loc Cert.AdamGateKernel.main_arg3) = m ((c.tc : Thread Cert.AdamGateKernel.nD Cert.AdamGateKernel.τ).loc Cert.AdamGateKernel.main_arg3))
      ∧ r.2.sem = fun _ => 0)

def quiescent_AdamGateKernelIdeal [hAdamGateKernelIdeal : Cert.AdamGateKernelIdeal.Facts] : Prop :=
  ∀ (m : (ℓ : Loc Cert.AdamGateKernelIdeal.nD Cert.AdamGateKernelIdeal.τ Cert.AdamGateKernelIdeal.sig) → Buf (Elt Ideal) ℓ) (g : Dev Cert.AdamGateKernelIdeal.nD → PrngReg), Pre_AdamGateKernelIdeal m →
    θ_run (Cert.AdamGateKernelIdeal.defs (F := Ideal)) (onTc (τ := Cert.AdamGateKernelIdeal.τ) (Cert.AdamGateKernelIdeal.main (F := Ideal))) ⟨m, fun _ => 0, g⟩ (fun r => (∀ c : Dev Cert.AdamGateKernelIdeal.nD,
      r.2.mem ((c.tc : Thread Cert.AdamGateKernelIdeal.nD Cert.AdamGateKernelIdeal.τ).loc Cert.AdamGateKernelIdeal.main_arg0) = m ((c.tc : Thread Cert.AdamGateKernelIdeal.nD Cert.AdamGateKernelIdeal.τ).loc Cert.AdamGateKernelIdeal.main_arg0)
      ∧ r.2.mem ((c.tc : Thread Cert.AdamGateKernelIdeal.nD Cert.AdamGateKernelIdeal.τ).loc Cert.AdamGateKernelIdeal.main_arg1) = m ((c.tc : Thread Cert.AdamGateKernelIdeal.nD Cert.AdamGateKernelIdeal.τ).loc Cert.AdamGateKernelIdeal.main_arg1)
      ∧ r.2.mem ((c.tc : Thread Cert.AdamGateKernelIdeal.nD Cert.AdamGateKernelIdeal.τ).loc Cert.AdamGateKernelIdeal.main_arg2) = m ((c.tc : Thread Cert.AdamGateKernelIdeal.nD Cert.AdamGateKernelIdeal.τ).loc Cert.AdamGateKernelIdeal.main_arg2)
      ∧ r.2.mem ((c.tc : Thread Cert.AdamGateKernelIdeal.nD Cert.AdamGateKernelIdeal.τ).loc Cert.AdamGateKernelIdeal.main_arg3) = m ((c.tc : Thread Cert.AdamGateKernelIdeal.nD Cert.AdamGateKernelIdeal.τ).loc Cert.AdamGateKernelIdeal.main_arg3))
      ∧ r.2.sem = fun _ => 0)

def quiescent_AdamGateReferenceIdeal [hAdamGateReferenceIdeal : Cert.AdamGateReferenceIdeal.Facts] : Prop :=
  ∀ (m : (ℓ : Loc Cert.AdamGateReferenceIdeal.nD Cert.AdamGateReferenceIdeal.τ Cert.AdamGateReferenceIdeal.sig) → Buf (Elt Ideal) ℓ) (g : Dev Cert.AdamGateReferenceIdeal.nD → PrngReg), Pre_AdamGateReferenceIdeal m →
    θ_run (Cert.AdamGateReferenceIdeal.defs (F := Ideal)) (onTc (τ := Cert.AdamGateReferenceIdeal.τ) (Cert.AdamGateReferenceIdeal.main (F := Ideal))) ⟨m, fun _ => 0, g⟩ (fun r => (∀ c : Dev Cert.AdamGateReferenceIdeal.nD,
      r.2.mem ((c.tc : Thread Cert.AdamGateReferenceIdeal.nD Cert.AdamGateReferenceIdeal.τ).loc Cert.AdamGateReferenceIdeal.main_arg0) = m ((c.tc : Thread Cert.AdamGateReferenceIdeal.nD Cert.AdamGateReferenceIdeal.τ).loc Cert.AdamGateReferenceIdeal.main_arg0)
      ∧ r.2.mem ((c.tc : Thread Cert.AdamGateReferenceIdeal.nD Cert.AdamGateReferenceIdeal.τ).loc Cert.AdamGateReferenceIdeal.main_arg1) = m ((c.tc : Thread Cert.AdamGateReferenceIdeal.nD Cert.AdamGateReferenceIdeal.τ).loc Cert.AdamGateReferenceIdeal.main_arg1)
      ∧ r.2.mem ((c.tc : Thread Cert.AdamGateReferenceIdeal.nD Cert.AdamGateReferenceIdeal.τ).loc Cert.AdamGateReferenceIdeal.main_arg2) = m ((c.tc : Thread Cert.AdamGateReferenceIdeal.nD Cert.AdamGateReferenceIdeal.τ).loc Cert.AdamGateReferenceIdeal.main_arg2)
      ∧ r.2.mem ((c.tc : Thread Cert.AdamGateReferenceIdeal.nD Cert.AdamGateReferenceIdeal.τ).loc Cert.AdamGateReferenceIdeal.main_arg3) = m ((c.tc : Thread Cert.AdamGateReferenceIdeal.nD Cert.AdamGateReferenceIdeal.τ).loc Cert.AdamGateReferenceIdeal.main_arg3))
      ∧ r.2.sem = fun _ => 0)

def quiescent_AdamDownKernel [hAdamDownKernel : Cert.AdamDownKernel.Facts] : Prop :=
  ∀ (m : (ℓ : Loc Cert.AdamDownKernel.nD Cert.AdamDownKernel.τ Cert.AdamDownKernel.sig) → Buf (Elt Bits) ℓ) (g : Dev Cert.AdamDownKernel.nD → PrngReg), Pre_AdamDownKernel m →
    θ_run (Cert.AdamDownKernel.defs (F := Bits)) (onTc (τ := Cert.AdamDownKernel.τ) (Cert.AdamDownKernel.main (F := Bits))) ⟨m, fun _ => 0, g⟩ (fun r => (∀ c : Dev Cert.AdamDownKernel.nD,
      r.2.mem ((c.tc : Thread Cert.AdamDownKernel.nD Cert.AdamDownKernel.τ).loc Cert.AdamDownKernel.main_arg0) = m ((c.tc : Thread Cert.AdamDownKernel.nD Cert.AdamDownKernel.τ).loc Cert.AdamDownKernel.main_arg0)
      ∧ r.2.mem ((c.tc : Thread Cert.AdamDownKernel.nD Cert.AdamDownKernel.τ).loc Cert.AdamDownKernel.main_arg1) = m ((c.tc : Thread Cert.AdamDownKernel.nD Cert.AdamDownKernel.τ).loc Cert.AdamDownKernel.main_arg1)
      ∧ r.2.mem ((c.tc : Thread Cert.AdamDownKernel.nD Cert.AdamDownKernel.τ).loc Cert.AdamDownKernel.main_arg2) = m ((c.tc : Thread Cert.AdamDownKernel.nD Cert.AdamDownKernel.τ).loc Cert.AdamDownKernel.main_arg2)
      ∧ r.2.mem ((c.tc : Thread Cert.AdamDownKernel.nD Cert.AdamDownKernel.τ).loc Cert.AdamDownKernel.main_arg3) = m ((c.tc : Thread Cert.AdamDownKernel.nD Cert.AdamDownKernel.τ).loc Cert.AdamDownKernel.main_arg3))
      ∧ r.2.sem = fun _ => 0)

def quiescent_AdamDownKernelIdeal [hAdamDownKernelIdeal : Cert.AdamDownKernelIdeal.Facts] : Prop :=
  ∀ (m : (ℓ : Loc Cert.AdamDownKernelIdeal.nD Cert.AdamDownKernelIdeal.τ Cert.AdamDownKernelIdeal.sig) → Buf (Elt Ideal) ℓ) (g : Dev Cert.AdamDownKernelIdeal.nD → PrngReg), Pre_AdamDownKernelIdeal m →
    θ_run (Cert.AdamDownKernelIdeal.defs (F := Ideal)) (onTc (τ := Cert.AdamDownKernelIdeal.τ) (Cert.AdamDownKernelIdeal.main (F := Ideal))) ⟨m, fun _ => 0, g⟩ (fun r => (∀ c : Dev Cert.AdamDownKernelIdeal.nD,
      r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
      ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
      ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
      ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamInKernel [hAdamInKernel : Cert.AdamInKernel.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3))
      ∧ r.2.sem = fun _ => 0)

def quiescent_AdamInKernelIdeal [hAdamInKernelIdeal : Cert.AdamInKernelIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamOutKernel [hAdamOutKernel : Cert.AdamOutKernel.Facts] : Prop :=
  ∀ (m : (ℓ : Loc Cert.AdamOutKernel.nD Cert.AdamOutKernel.τ Cert.AdamOutKernel.sig) → Buf (Elt Bits) ℓ) (g : Dev Cert.AdamOutKernel.nD → PrngReg), Pre_AdamOutKernel m →
    θ_run (Cert.AdamOutKernel.defs (F := Bits)) (onTc (τ := Cert.AdamOutKernel.τ) (Cert.AdamOutKernel.main (F := Bits))) ⟨m, fun _ => 0, g⟩ (fun r => (∀ c : Dev Cert.AdamOutKernel.nD,
      r.2.mem ((c.tc : Thread Cert.AdamOutKernel.nD Cert.AdamOutKernel.τ).loc Cert.AdamOutKernel.main_arg0) = m ((c.tc : Thread Cert.AdamOutKernel.nD Cert.AdamOutKernel.τ).loc Cert.AdamOutKernel.main_arg0)
      ∧ r.2.mem ((c.tc : Thread Cert.AdamOutKernel.nD Cert.AdamOutKernel.τ).loc Cert.AdamOutKernel.main_arg1) = m ((c.tc : Thread Cert.AdamOutKernel.nD Cert.AdamOutKernel.τ).loc Cert.AdamOutKernel.main_arg1)
      ∧ r.2.mem ((c.tc : Thread Cert.AdamOutKernel.nD Cert.AdamOutKernel.τ).loc Cert.AdamOutKernel.main_arg2) = m ((c.tc : Thread Cert.AdamOutKernel.nD Cert.AdamOutKernel.τ).loc Cert.AdamOutKernel.main_arg2)
      ∧ r.2.mem ((c.tc : Thread Cert.AdamOutKernel.nD Cert.AdamOutKernel.τ).loc Cert.AdamOutKernel.main_arg3) = m ((c.tc : Thread Cert.AdamOutKernel.nD Cert.AdamOutKernel.τ).loc Cert.AdamOutKernel.main_arg3))
      ∧ r.2.sem = fun _ => 0)

def quiescent_AdamOutKernelIdeal [hAdamOutKernelIdeal : Cert.AdamOutKernelIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg), Pre_AdamOutKernelIdeal m →
    θ_run (Cert.AdamOutKernelIdeal.defs (F := Ideal)) (onTc (τ := Cert.AdamOutKernelIdeal.τ) (Cert.AdamOutKernelIdeal.main (F := Ideal))) ⟨m, fun _ => 0, g⟩ (fun r => (∀ c : Dev Cert.AdamOutKernelIdeal.nD,
      r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
      ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
      ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
      ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamNormKernel [hAdamNormKernel : Cert.AdamNormKernel.Facts] : Prop :=
  ∀ (m : (ℓ : Loc Cert.AdamNormKernel.nD Cert.AdamNormKernel.τ Cert.AdamNormKernel.sig) → Buf (Elt Bits) ℓ) (g : Dev Cert.AdamNormKernel.nD → PrngReg), Pre_AdamNormKernel m →
    θ_run (Cert.AdamNormKernel.defs (F := Bits)) (onTc (τ := Cert.AdamNormKernel.τ) (Cert.AdamNormKernel.main (F := Bits))) ⟨m, fun _ => 0, g⟩ (fun r => (∀ c : Dev Cert.AdamNormKernel.nD,
      r.2.mem ((c.tc : Thread Cert.AdamNormKernel.nD Cert.AdamNormKernel.τ).loc Cert.AdamNormKernel.main_arg0) = m ((c.tc : Thread Cert.AdamNormKernel.nD Cert.AdamNormKernel.τ).loc Cert.AdamNormKernel.main_arg0)
      ∧ r.2.mem ((c.tc : Thread Cert.AdamNormKernel.nD Cert.AdamNormKernel.τ).loc Cert.AdamNormKernel.main_arg1) = m ((c.tc : Thread Cert.AdamNormKernel.nD Cert.AdamNormKernel.τ).loc Cert.AdamNormKernel.main_arg1)
      ∧ r.2.mem ((c.tc : Thread Cert.AdamNormKernel.nD Cert.AdamNormKernel.τ).loc Cert.AdamNormKernel.main_arg2) = m ((c.tc : Thread Cert.AdamNormKernel.nD Cert.AdamNormKernel.τ).loc Cert.AdamNormKernel.main_arg2)
      ∧ r.2.mem ((c.tc : Thread Cert.AdamNormKernel.nD Cert.AdamNormKernel.τ).loc Cert.AdamNormKernel.main_arg3) = m ((c.tc : Thread Cert.AdamNormKernel.nD Cert.AdamNormKernel.τ).loc Cert.AdamNormKernel.main_arg3))
      ∧ r.2.sem = fun _ => 0)

def quiescent_AdamNormKernelIdeal [hAdamNormKernelIdeal : Cert.AdamNormKernelIdeal.Facts] : Prop :=
  ∀ (m : (ℓ : Loc Cert.AdamNormKernelIdeal.nD Cert.AdamNormKernelIdeal.τ Cert.AdamNormKernelIdeal.sig) → Buf (Elt Ideal) ℓ) (g : Dev Cert.AdamNormKernelIdeal.nD → PrngReg), Pre_AdamNormKernelIdeal m →
    θ_run (Cert.AdamNormKernelIdeal.defs (F := Ideal)) (onTc (τ := Cert.AdamNormKernelIdeal.τ) (Cert.AdamNormKernelIdeal.main (F := Ideal))) ⟨m, fun _ => 0, g⟩ (fun r => (∀ c : Dev Cert.AdamNormKernelIdeal.nD,
      r.2.mem ((c.tc : Thread Cert.AdamNormKernelIdeal.nD Cert.AdamNormKernelIdeal.τ).loc Cert.AdamNormKernelIdeal.main_arg0) = m ((c.tc : Thread Cert.AdamNormKernelIdeal.nD Cert.AdamNormKernelIdeal.τ).loc Cert.AdamNormKernelIdeal.main_arg0)
      ∧ r.2.mem ((c.tc : Thread Cert.AdamNormKernelIdeal.nD Cert.AdamNormKernelIdeal.τ).loc Cert.AdamNormKernelIdeal.main_arg1) = m ((c.tc : Thread Cert.AdamNormKernelIdeal.nD Cert.AdamNormKernelIdeal.τ).loc Cert.AdamNormKernelIdeal.main_arg1)
      ∧ r.2.mem ((c.tc : Thread Cert.AdamNormKernelIdeal.nD Cert.AdamNormKernelIdeal.τ).loc Cert.AdamNormKernelIdeal.main_arg2) = m ((c.tc : Thread Cert.AdamNormKernelIdeal.nD Cert.AdamNormKernelIdeal.τ).loc Cert.AdamNormKernelIdeal.main_arg2)
      ∧ r.2.mem ((c.tc : Thread Cert.AdamNormKernelIdeal.nD Cert.AdamNormKernelIdeal.τ).loc Cert.AdamNormKernelIdeal.main_arg3) = m ((c.tc : Thread Cert.AdamNormKernelIdeal.nD Cert.AdamNormKernelIdeal.τ).loc Cert.AdamNormKernelIdeal.main_arg3))
      ∧ r.2.sem = fun _ => 0)

def quiescent_AdamNormReferenceIdeal [hAdamNormReferenceIdeal : Cert.AdamNormReferenceIdeal.Facts] : Prop :=
  ∀ (m : (ℓ : Loc Cert.AdamNormReferenceIdeal.nD Cert.AdamNormReferenceIdeal.τ Cert.AdamNormReferenceIdeal.sig) → Buf (Elt Ideal) ℓ) (g : Dev Cert.AdamNormReferenceIdeal.nD → PrngReg), Pre_AdamNormReferenceIdeal m →
    θ_run (Cert.AdamNormReferenceIdeal.defs (F := Ideal)) (onTc (τ := Cert.AdamNormReferenceIdeal.τ) (Cert.AdamNormReferenceIdeal.main (F := Ideal))) ⟨m, fun _ => 0, g⟩ (fun r => (∀ c : Dev Cert.AdamNormReferenceIdeal.nD,
      r.2.mem ((c.tc : Thread Cert.AdamNormReferenceIdeal.nD Cert.AdamNormReferenceIdeal.τ).loc Cert.AdamNormReferenceIdeal.main_arg0) = m ((c.tc : Thread Cert.AdamNormReferenceIdeal.nD Cert.AdamNormReferenceIdeal.τ).loc Cert.AdamNormReferenceIdeal.main_arg0)
      ∧ r.2.mem ((c.tc : Thread Cert.AdamNormReferenceIdeal.nD Cert.AdamNormReferenceIdeal.τ).loc Cert.AdamNormReferenceIdeal.main_arg1) = m ((c.tc : Thread Cert.AdamNormReferenceIdeal.nD Cert.AdamNormReferenceIdeal.τ).loc Cert.AdamNormReferenceIdeal.main_arg1)
      ∧ r.2.mem ((c.tc : Thread Cert.AdamNormReferenceIdeal.nD Cert.AdamNormReferenceIdeal.τ).loc Cert.AdamNormReferenceIdeal.main_arg2) = m ((c.tc : Thread Cert.AdamNormReferenceIdeal.nD Cert.AdamNormReferenceIdeal.τ).loc Cert.AdamNormReferenceIdeal.main_arg2)
      ∧ r.2.mem ((c.tc : Thread Cert.AdamNormReferenceIdeal.nD Cert.AdamNormReferenceIdeal.τ).loc Cert.AdamNormReferenceIdeal.main_arg3) = m ((c.tc : Thread Cert.AdamNormReferenceIdeal.nD Cert.AdamNormReferenceIdeal.τ).loc Cert.AdamNormReferenceIdeal.main_arg3))
      ∧ r.2.sem = fun _ => 0)

def preserves_FfnKernel_FfnKernelIdeal : Prop :=
  True

def algebraic_FfnKernelIdeal_FfnReferenceIdeal_pre_finite [hFfnKernelIdeal : Cert.FfnKernelIdeal.Facts] [hFfnReferenceIdeal : Cert.FfnReferenceIdeal.Facts] [hPre_finite : Cert.Pre_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v11_0)) (v1 : (c : Dev Cert.FfnKernelIdeal.nD) → Buf (Elt Ideal) ((c.tc : Thread Cert.FfnKernelIdeal.nD Cert.FfnKernelIdeal.τ).loc Cert.FfnKernelIdeal.main_v11_1)) (v2 : (c : Dev Cert.FfnKernelIdeal.nD) → Buf (Elt Ideal) ((c.tc : Thread Cert.FfnKernelIdeal.nD Cert.FfnKernelIdeal.τ).loc Cert.FfnKernelIdeal.main_v11_2)) (v3 : (c : Dev Cert.FfnKernelIdeal.nD) → Buf (Elt Ideal) ((c.tc : Thread Cert.FfnKernelIdeal.nD Cert.FfnKernelIdeal.τ).loc Cert.FfnKernelIdeal.main_v11_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v11_0) = v0 c
          ∧ r.2.mem ((c.tc : Thread Cert.FfnKernelIdeal.nD Cert.FfnKernelIdeal.τ).loc Cert.FfnKernelIdeal.main_v11_1) = v1 c
          ∧ r.2.mem ((c.tc : Thread Cert.FfnKernelIdeal.nD Cert.FfnKernelIdeal.τ).loc Cert.FfnKernelIdeal.main_v11_2) = v2 c
          ∧ r.2.mem ((c.tc : Thread Cert.FfnKernelIdeal.nD Cert.FfnKernelIdeal.τ).loc Cert.FfnKernelIdeal.main_v11_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v19) = v0 c
          ∧ r.2.mem ((c.tc : Thread Cert.FfnReferenceIdeal.nD Cert.FfnReferenceIdeal.τ).loc Cert.FfnReferenceIdeal.main_v21) = v1 c
          ∧ r.2.mem ((c.tc : Thread Cert.FfnReferenceIdeal.nD Cert.FfnReferenceIdeal.τ).loc Cert.FfnReferenceIdeal.main_v22) = v2 c
          ∧ r.2.mem ((c.tc : Thread Cert.FfnReferenceIdeal.nD Cert.FfnReferenceIdeal.τ).loc Cert.FfnReferenceIdeal.main_v17) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v13_0)) (v1 : (c : Dev Cert.InKernelIdeal.nD) → Buf (Elt Ideal) ((c.tc : Thread Cert.InKernelIdeal.nD Cert.InKernelIdeal.τ).loc Cert.InKernelIdeal.main_v13_1)) (v2 : (c : Dev Cert.InKernelIdeal.nD) → Buf (Elt Ideal) ((c.tc : Thread Cert.InKernelIdeal.nD Cert.InKernelIdeal.τ).loc Cert.InKernelIdeal.main_v13_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v13_0) = v0 c
          ∧ r.2.mem ((c.tc : Thread Cert.InKernelIdeal.nD Cert.InKernelIdeal.τ).loc Cert.InKernelIdeal.main_v13_1) = v1 c
          ∧ r.2.mem ((c.tc : Thread Cert.InKernelIdeal.nD Cert.InKernelIdeal.τ).loc Cert.InKernelIdeal.main_v13_2) = v2 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v38) = v0 c
          ∧ r.2.mem ((c.tc : Thread Cert.InReferenceIdeal.nD Cert.InReferenceIdeal.τ).loc Cert.InReferenceIdeal.main_v40) = v1 c
          ∧ r.2.mem ((c.tc : Thread Cert.InReferenceIdeal.nD Cert.InReferenceIdeal.τ).loc Cert.InReferenceIdeal.main_v21) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_FfnFwdKernel_FfnFwdKernelIdeal : Prop :=
  True

def algebraic_FfnFwdKernelIdeal_FfnFwdReferenceIdeal [hFfnFwdKernelIdeal : Cert.FfnFwdKernelIdeal.Facts] [hFfnFwdReferenceIdeal : Cert.FfnFwdReferenceIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdKernelIdeal m →
    (∀ c : Dev Cert.FfnFwdKernelIdeal.nD,
      m' ((c.tc : Thread Cert.FfnFwdReferenceIdeal.nD Cert.FfnFwdReferenceIdeal.τ).loc Cert.FfnFwdReferenceIdeal.main_arg0) = m ((c.tc : Thread Cert.FfnFwdKernelIdeal.nD Cert.FfnFwdKernelIdeal.τ).loc Cert.FfnFwdKernelIdeal.main_arg0)
      ∧ m' ((c.tc : Thread Cert.FfnFwdReferenceIdeal.nD Cert.FfnFwdReferenceIdeal.τ).loc Cert.FfnFwdReferenceIdeal.main_arg1) = m ((c.tc : Thread Cert.FfnFwdKernelIdeal.nD Cert.FfnFwdKernelIdeal.τ).loc Cert.FfnFwdKernelIdeal.main_arg1)
      ∧ m' ((c.tc : Thread Cert.FfnFwdReferenceIdeal.nD Cert.FfnFwdReferenceIdeal.τ).loc Cert.FfnFwdReferenceIdeal.main_arg2) = m ((c.tc : Thread Cert.FfnFwdKernelIdeal.nD Cert.FfnFwdKernelIdeal.τ).loc Cert.FfnFwdKernelIdeal.main_arg2)
      ∧ m' ((c.tc : Thread Cert.FfnFwdReferenceIdeal.nD Cert.FfnFwdReferenceIdeal.τ).loc Cert.FfnFwdReferenceIdeal.main_arg3) = m ((c.tc : Thread Cert.FfnFwdKernelIdeal.nD Cert.FfnFwdKernelIdeal.τ).loc Cert.FfnFwdKernelIdeal.main_arg3)
      ∧ m' ((c.tc : Thread Cert.FfnFwdReferenceIdeal.nD Cert.FfnFwdReferenceIdeal.τ).loc Cert.FfnFwdReferenceIdeal.main_arg4) = m ((c.tc : Thread Cert.FfnFwdKernelIdeal.nD Cert.FfnFwdKernelIdeal.τ).loc Cert.FfnFwdKernelIdeal.main_arg4)
      ∧ m' ((c.tc : Thread Cert.FfnFwdReferenceIdeal.nD Cert.FfnFwdReferenceIdeal.τ).loc Cert.FfnFwdReferenceIdeal.main_arg5) = m ((c.tc : Thread Cert.FfnFwdKernelIdeal.nD Cert.FfnFwdKernelIdeal.τ).loc Cert.FfnFwdKernelIdeal.main_arg5)
      ∧ m' ((c.tc : Thread Cert.FfnFwdReferenceIdeal.nD Cert.FfnFwdReferenceIdeal.τ).loc Cert.FfnFwdReferenceIdeal.main_arg6) = m ((c.tc : Thread Cert.FfnFwdKernelIdeal.nD Cert.FfnFwdKernelIdeal.τ).loc Cert.FfnFwdKernelIdeal.main_arg6)) →
    ∃ (v0 : (c : Dev Cert.FfnFwdKernelIdeal.nD) → Buf (Elt Ideal) ((c.tc : Thread Cert.FfnFwdKernelIdeal.nD Cert.FfnFwdKernelIdeal.τ).loc Cert.FfnFwdKernelIdeal.main_v6_0)) (v1 : (c : Dev Cert.FfnFwdKernelIdeal.nD) → Buf (Elt Ideal) ((c.tc : Thread Cert.FfnFwdKernelIdeal.nD Cert.FfnFwdKernelIdeal.τ).loc Cert.FfnFwdKernelIdeal.main_v6_1)) (v2 : (c : Dev Cert.FfnFwdKernelIdeal.nD) → Buf (Elt Ideal) ((c.tc : Thread Cert.FfnFwdKernelIdeal.nD Cert.FfnFwdKernelIdeal.τ).loc Cert.FfnFwdKernelIdeal.main_v6_2)) (v3 : (c : Dev Cert.FfnFwdKernelIdeal.nD) → Buf (Elt Ideal) ((c.tc : Thread Cert.FfnFwdKernelIdeal.nD Cert.FfnFwdKernelIdeal.τ).loc Cert.FfnFwdKernelIdeal.main_v6_3)) (v4 : (c : Dev Cert.FfnFwdKernelIdeal.nD) → Buf (Elt Ideal) ((c.tc : Thread Cert.FfnFwdKernelIdeal.nD Cert.FfnFwdKernelIdeal.τ).loc Cert.FfnFwdKernelIdeal.main_v6_4)) (v5 : (c : Dev Cert.FfnFwdKernelIdeal.nD) → Buf (Elt Ideal) ((c.tc : Thread Cert.FfnFwdKernelIdeal.nD Cert.FfnFwdKernelIdeal.τ).loc Cert.FfnFwdKernelIdeal.main_v6_5)),
      θ_run (Cert.FfnFwdKernelIdeal.defs (F := Ideal)) (onTc (τ := Cert.FfnFwdKernelIdeal.τ) (Cert.FfnFwdKernelIdeal.main (F := Ideal))) ⟨m, fun _ => 0, g⟩ (fun r => ∀ c : Dev Cert.FfnFwdKernelIdeal.nD,
          r.2.mem ((c.tc : Thread Cert.FfnFwdKernelIdeal.nD Cert.FfnFwdKernelIdeal.τ).loc Cert.FfnFwdKernelIdeal.main_v6_0) = v0 c
          ∧ r.2.mem ((c.tc : Thread Cert.FfnFwdKernelIdeal.nD Cert.FfnFwdKernelIdeal.τ).loc Cert.FfnFwdKernelIdeal.main_v6_1) = v1 c
          ∧ r.2.mem ((c.tc : Thread Cert.FfnFwdKernelIdeal.nD Cert.FfnFwdKernelIdeal.τ).loc Cert.FfnFwdKernelIdeal.main_v6_2) = v2 c
          ∧ r.2.mem ((c.tc : Thread Cert.FfnFwdKernelIdeal.nD Cert.FfnFwdKernelIdeal.τ).loc Cert.FfnFwdKernelIdeal.main_v6_3) = v3 c
          ∧ r.2.mem ((c.tc : Thread Cert.FfnFwdKernelIdeal.nD Cert.FfnFwdKernelIdeal.τ).loc Cert.FfnFwdKernelIdeal.main_v6_4) = v4 c
          ∧ r.2.mem ((c.tc : Thread Cert.FfnFwdKernelIdeal.nD Cert.FfnFwdKernelIdeal.τ).loc Cert.FfnFwdKernelIdeal.main_v6_5) = v5 c
          ∧ r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
          ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
          ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
          ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
          ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4)
          ∧ r.2.mem ((c.tc : Thread Cert.FfnFwdKernelIdeal.nD Cert.FfnFwdKernelIdeal.τ).loc Cert.FfnFwdKernelIdeal.main_arg5) = m ((c.tc : Thread Cert.FfnFwdKernelIdeal.nD Cert.FfnFwdKernelIdeal.τ).loc Cert.FfnFwdKernelIdeal.main_arg5)
          ∧ r.2.mem ((c.tc : Thread Cert.FfnFwdKernelIdeal.nD Cert.FfnFwdKernelIdeal.τ).loc Cert.FfnFwdKernelIdeal.main_arg6) = m ((c.tc : Thread Cert.FfnFwdKernelIdeal.nD Cert.FfnFwdKernelIdeal.τ).loc Cert.FfnFwdKernelIdeal.main_arg6))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v71) = v0 c
          ∧ r.2.mem ((c.tc : Thread Cert.FfnFwdReferenceIdeal.nD Cert.FfnFwdReferenceIdeal.τ).loc Cert.FfnFwdReferenceIdeal.main_v72) = v1 c
          ∧ r.2.mem ((c.tc : Thread Cert.FfnFwdReferenceIdeal.nD Cert.FfnFwdReferenceIdeal.τ).loc Cert.FfnFwdReferenceIdeal.main_v54) = v2 c
          ∧ r.2.mem ((c.tc : Thread Cert.FfnFwdReferenceIdeal.nD Cert.FfnFwdReferenceIdeal.τ).loc Cert.FfnFwdReferenceIdeal.main_v73) = v3 c
          ∧ r.2.mem ((c.tc : Thread Cert.FfnFwdReferenceIdeal.nD Cert.FfnFwdReferenceIdeal.τ).loc Cert.FfnFwdReferenceIdeal.main_v38) = v4 c
          ∧ r.2.mem ((c.tc : Thread Cert.FfnFwdReferenceIdeal.nD Cert.FfnFwdReferenceIdeal.τ).loc Cert.FfnFwdReferenceIdeal.main_v70) = v5 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4)
          ∧ r.2.mem ((c.tc : Thread Cert.FfnFwdReferenceIdeal.nD Cert.FfnFwdReferenceIdeal.τ).loc Cert.FfnFwdReferenceIdeal.main_arg5) = m' ((c.tc : Thread Cert.FfnFwdReferenceIdeal.nD Cert.FfnFwdReferenceIdeal.τ).loc Cert.FfnFwdReferenceIdeal.main_arg5)
          ∧ r.2.mem ((c.tc : Thread Cert.FfnFwdReferenceIdeal.nD Cert.FfnFwdReferenceIdeal.τ).loc Cert.FfnFwdReferenceIdeal.main_arg6) = m' ((c.tc : Thread Cert.FfnFwdReferenceIdeal.nD Cert.FfnFwdReferenceIdeal.τ).loc Cert.FfnFwdReferenceIdeal.main_arg6))

def preserves_FwdInKernel_FwdInKernelIdeal : Prop :=
  True

def algebraic_FwdInKernelIdeal_FwdInReferenceIdeal [hFwdInKernelIdeal : Cert.FwdInKernelIdeal.Facts] [hFwdInReferenceIdeal : Cert.FwdInReferenceIdeal.Facts] : Prop :=
  ∀ (m : (ℓ : Loc Cert.FwdInKernelIdeal.nD Cert.FwdInKernelIdeal.τ Cert.FwdInKernelIdeal.sig) → Buf (Elt Ideal) ℓ) (g : Dev Cert.FwdInKernelIdeal.nD → PrngReg)
    (m' : (ℓ : Loc Cert.FwdInReferenceIdeal.nD Cert.FwdInReferenceIdeal.τ Cert.FwdInReferenceIdeal.sig) → Buf (Elt Ideal) ℓ) (g' : Dev Cert.FwdInReferenceIdeal.nD → PrngReg), Pre_FwdInKernelIdeal m →
    (∀ c : Dev Cert.FwdInKernelIdeal.nD,
      m' ((c.tc : Thread Cert.FwdInReferenceIdeal.nD Cert.FwdInReferenceIdeal.τ).loc Cert.FwdInReferenceIdeal.main_arg0) = m ((c.tc : Thread Cert.FwdInKernelIdeal.nD Cert.FwdInKernelIdeal.τ).loc Cert.FwdInKernelIdeal.main_arg0)
      ∧ m' ((c.tc : Thread Cert.FwdInReferenceIdeal.nD Cert.FwdInReferenceIdeal.τ).loc Cert.FwdInReferenceIdeal.main_arg1) = m ((c.tc : Thread Cert.FwdInKernelIdeal.nD Cert.FwdInKernelIdeal.τ).loc Cert.FwdInKernelIdeal.main_arg1)
      ∧ m' ((c.tc : Thread Cert.FwdInReferenceIdeal.nD Cert.FwdInReferenceIdeal.τ).loc Cert.FwdInReferenceIdeal.main_arg2) = m ((c.tc : Thread Cert.FwdInKernelIdeal.nD Cert.FwdInKernelIdeal.τ).loc Cert.FwdInKernelIdeal.main_arg2)) →
    ∃ (v0 : (c : Dev Cert.FwdInKernelIdeal.nD) → Buf (Elt Ideal) ((c.tc : Thread Cert.FwdInKernelIdeal.nD Cert.FwdInKernelIdeal.τ).loc Cert.FwdInKernelIdeal.main_v2_0)) (v1 : (c : Dev Cert.FwdInKernelIdeal.nD) → Buf (Elt Ideal) ((c.tc : Thread Cert.FwdInKernelIdeal.nD Cert.FwdInKernelIdeal.τ).loc Cert.FwdInKernelIdeal.main_v2_1)) (v2 : (c : Dev Cert.FwdInKernelIdeal.nD) → Buf (Elt Ideal) ((c.tc : Thread Cert.FwdInKernelIdeal.nD Cert.FwdInKernelIdeal.τ).loc Cert.FwdInKernelIdeal.main_v2_2)),
      θ_run (Cert.FwdInKernelIdeal.defs (F := Ideal)) (onTc (τ := Cert.FwdInKernelIdeal.τ) (Cert.FwdInKernelIdeal.main (F := Ideal))) ⟨m, fun _ => 0, g⟩ (fun r => ∀ c : Dev Cert.FwdInKernelIdeal.nD,
          r.2.mem ((c.tc : Thread Cert.FwdInKernelIdeal.nD Cert.FwdInKernelIdeal.τ).loc Cert.FwdInKernelIdeal.main_v2_0) = v0 c
          ∧ r.2.mem ((c.tc : Thread Cert.FwdInKernelIdeal.nD Cert.FwdInKernelIdeal.τ).loc Cert.FwdInKernelIdeal.main_v2_1) = v1 c
          ∧ r.2.mem ((c.tc : Thread Cert.FwdInKernelIdeal.nD Cert.FwdInKernelIdeal.τ).loc Cert.FwdInKernelIdeal.main_v2_2) = v2 c
          ∧ r.2.mem ((c.tc : Thread Cert.FwdInKernelIdeal.nD Cert.FwdInKernelIdeal.τ).loc Cert.FwdInKernelIdeal.main_arg0) = m ((c.tc : Thread Cert.FwdInKernelIdeal.nD Cert.FwdInKernelIdeal.τ).loc Cert.FwdInKernelIdeal.main_arg0)
          ∧ r.2.mem ((c.tc : Thread Cert.FwdInKernelIdeal.nD Cert.FwdInKernelIdeal.τ).loc Cert.FwdInKernelIdeal.main_arg1) = m ((c.tc : Thread Cert.FwdInKernelIdeal.nD Cert.FwdInKernelIdeal.τ).loc Cert.FwdInKernelIdeal.main_arg1)
          ∧ r.2.mem ((c.tc : Thread Cert.FwdInKernelIdeal.nD Cert.FwdInKernelIdeal.τ).loc Cert.FwdInKernelIdeal.main_arg2) = m ((c.tc : Thread Cert.FwdInKernelIdeal.nD Cert.FwdInKernelIdeal.τ).loc Cert.FwdInKernelIdeal.main_arg2))
      ∧ θ_run (Cert.FwdInReferenceIdeal.defs (F := Ideal)) (onTc (τ := Cert.FwdInReferenceIdeal.τ) (Cert.FwdInReferenceIdeal.main (F := Ideal))) ⟨m', fun _ => 0, g'⟩ (fun r => ∀ c : Dev Cert.FwdInReferenceIdeal.nD,
          r.2.mem ((c.tc : Thread Cert.FwdInReferenceIdeal.nD Cert.FwdInReferenceIdeal.τ).loc Cert.FwdInReferenceIdeal.main_v15) = v0 c
          ∧ r.2.mem ((c.tc : Thread Cert.FwdInReferenceIdeal.nD Cert.FwdInReferenceIdeal.τ).loc Cert.FwdInReferenceIdeal.main_v18) = v1 c
          ∧ r.2.mem ((c.tc : Thread Cert.FwdInReferenceIdeal.nD Cert.FwdInReferenceIdeal.τ).loc Cert.FwdInReferenceIdeal.main_v21) = v2 c
          ∧ r.2.mem ((c.tc : Thread Cert.FwdInReferenceIdeal.nD Cert.FwdInReferenceIdeal.τ).loc Cert.FwdInReferenceIdeal.main_arg0) = m' ((c.tc : Thread Cert.FwdInReferenceIdeal.nD Cert.FwdInReferenceIdeal.τ).loc Cert.FwdInReferenceIdeal.main_arg0)
          ∧ r.2.mem ((c.tc : Thread Cert.FwdInReferenceIdeal.nD Cert.FwdInReferenceIdeal.τ).loc Cert.FwdInReferenceIdeal.main_arg1) = m' ((c.tc : Thread Cert.FwdInReferenceIdeal.nD Cert.FwdInReferenceIdeal.τ).loc Cert.FwdInReferenceIdeal.main_arg1)
          ∧ r.2.mem ((c.tc : Thread Cert.FwdInReferenceIdeal.nD Cert.FwdInReferenceIdeal.τ).loc Cert.FwdInReferenceIdeal.main_arg2) = m' ((c.tc : Thread Cert.FwdInReferenceIdeal.nD Cert.FwdInReferenceIdeal.τ).loc Cert.FwdInReferenceIdeal.main_arg2))

def preserves_FwdOutKernel_FwdOutKernelIdeal : Prop :=
  True

def algebraic_FwdOutKernelIdeal_FwdOutReferenceIdeal [hFwdOutKernelIdeal : Cert.FwdOutKernelIdeal.Facts] [hFwdOutReferenceIdeal : Cert.FwdOutReferenceIdeal.Facts] : Prop :=
  ∀ (m : (ℓ : Loc Cert.FwdOutKernelIdeal.nD Cert.FwdOutKernelIdeal.τ Cert.FwdOutKernelIdeal.sig) → Buf (Elt Ideal) ℓ) (g : Dev Cert.FwdOutKernelIdeal.nD → PrngReg)
    (m' : (ℓ : Loc Cert.FwdOutReferenceIdeal.nD Cert.FwdOutReferenceIdeal.τ Cert.FwdOutReferenceIdeal.sig) → Buf (Elt Ideal) ℓ) (g' : Dev Cert.FwdOutReferenceIdeal.nD → PrngReg), Pre_FwdOutKernelIdeal m →
    (∀ c : Dev Cert.FwdOutKernelIdeal.nD,
      m' ((c.tc : Thread Cert.FwdOutReferenceIdeal.nD Cert.FwdOutReferenceIdeal.τ).loc Cert.FwdOutReferenceIdeal.main_arg0) = m ((c.tc : Thread Cert.FwdOutKernelIdeal.nD Cert.FwdOutKernelIdeal.τ).loc Cert.FwdOutKernelIdeal.main_arg0)
      ∧ m' ((c.tc : Thread Cert.FwdOutReferenceIdeal.nD Cert.FwdOutReferenceIdeal.τ).loc Cert.FwdOutReferenceIdeal.main_arg1) = m ((c.tc : Thread Cert.FwdOutKernelIdeal.nD Cert.FwdOutKernelIdeal.τ).loc Cert.FwdOutKernelIdeal.main_arg1)
      ∧ m' ((c.tc : Thread Cert.FwdOutReferenceIdeal.nD Cert.FwdOutReferenceIdeal.τ).loc Cert.FwdOutReferenceIdeal.main_arg2) = m ((c.tc : Thread Cert.FwdOutKernelIdeal.nD Cert.FwdOutKernelIdeal.τ).loc Cert.FwdOutKernelIdeal.main_arg2)
      ∧ m' ((c.tc : Thread Cert.FwdOutReferenceIdeal.nD Cert.FwdOutReferenceIdeal.τ).loc Cert.FwdOutReferenceIdeal.main_arg3) = m ((c.tc : Thread Cert.FwdOutKernelIdeal.nD Cert.FwdOutKernelIdeal.τ).loc Cert.FwdOutKernelIdeal.main_arg3)
      ∧ m' ((c.tc : Thread Cert.FwdOutReferenceIdeal.nD Cert.FwdOutReferenceIdeal.τ).loc Cert.FwdOutReferenceIdeal.main_arg4) = m ((c.tc : Thread Cert.FwdOutKernelIdeal.nD Cert.FwdOutKernelIdeal.τ).loc Cert.FwdOutKernelIdeal.main_arg4)
      ∧ m' ((c.tc : Thread Cert.FwdOutReferenceIdeal.nD Cert.FwdOutReferenceIdeal.τ).loc Cert.FwdOutReferenceIdeal.main_arg5) = m ((c.tc : Thread Cert.FwdOutKernelIdeal.nD Cert.FwdOutKernelIdeal.τ).loc Cert.FwdOutKernelIdeal.main_arg5)
      ∧ m' ((c.tc : Thread Cert.FwdOutReferenceIdeal.nD Cert.FwdOutReferenceIdeal.τ).loc Cert.FwdOutReferenceIdeal.main_arg6) = m ((c.tc : Thread Cert.FwdOutKernelIdeal.nD Cert.FwdOutKernelIdeal.τ).loc Cert.FwdOutKernelIdeal.main_arg6)) →
    ∃ (v0 : (c : Dev Cert.FwdOutKernelIdeal.nD) → Buf (Elt Ideal) ((c.tc : Thread Cert.FwdOutKernelIdeal.nD Cert.FwdOutKernelIdeal.τ).loc Cert.FwdOutKernelIdeal.main_v5_0)) (v1 : (c : Dev Cert.FwdOutKernelIdeal.nD) → Buf (Elt Ideal) ((c.tc : Thread Cert.FwdOutKernelIdeal.nD Cert.FwdOutKernelIdeal.τ).loc Cert.FwdOutKernelIdeal.main_v5_1)),
      θ_run (Cert.FwdOutKernelIdeal.defs (F := Ideal)) (onTc (τ := Cert.FwdOutKernelIdeal.τ) (Cert.FwdOutKernelIdeal.main (F := Ideal))) ⟨m, fun _ => 0, g⟩ (fun r => ∀ c : Dev Cert.FwdOutKernelIdeal.nD,
          r.2.mem ((c.tc : Thread Cert.FwdOutKernelIdeal.nD Cert.FwdOutKernelIdeal.τ).loc Cert.FwdOutKernelIdeal.main_v5_0) = v0 c
          ∧ r.2.mem ((c.tc : Thread Cert.FwdOutKernelIdeal.nD Cert.FwdOutKernelIdeal.τ).loc Cert.FwdOutKernelIdeal.main_v5_1) = v1 c
          ∧ r.2.mem ((c.tc : Thread Cert.FwdOutKernelIdeal.nD Cert.FwdOutKernelIdeal.τ).loc Cert.FwdOutKernelIdeal.main_arg0) = m ((c.tc : Thread Cert.FwdOutKernelIdeal.nD Cert.FwdOutKernelIdeal.τ).loc Cert.FwdOutKernelIdeal.main_arg0)
          ∧ r.2.mem ((c.tc : Thread Cert.FwdOutKernelIdeal.nD Cert.FwdOutKernelIdeal.τ).loc Cert.FwdOutKernelIdeal.main_arg1) = m ((c.tc : Thread Cert.FwdOutKernelIdeal.nD Cert.FwdOutKernelIdeal.τ).loc Cert.FwdOutKernelIdeal.main_arg1)
          ∧ r.2.mem ((c.tc : Thread Cert.FwdOutKernelIdeal.nD Cert.FwdOutKernelIdeal.τ).loc Cert.FwdOutKernelIdeal.main_arg2) = m ((c.tc : Thread Cert.FwdOutKernelIdeal.nD Cert.FwdOutKernelIdeal.τ).loc Cert.FwdOutKernelIdeal.main_arg2)
          ∧ r.2.mem ((c.tc : Thread Cert.FwdOutKernelIdeal.nD Cert.FwdOutKernelIdeal.τ).loc Cert.FwdOutKernelIdeal.main_arg3) = m ((c.tc : Thread Cert.FwdOutKernelIdeal.nD Cert.FwdOutKernelIdeal.τ).loc Cert.FwdOutKernelIdeal.main_arg3)
          ∧ r.2.mem ((c.tc : Thread Cert.FwdOutKernelIdeal.nD Cert.FwdOutKernelIdeal.τ).loc Cert.FwdOutKernelIdeal.main_arg4) = m ((c.tc : Thread Cert.FwdOutKernelIdeal.nD Cert.FwdOutKernelIdeal.τ).loc Cert.FwdOutKernelIdeal.main_arg4)
          ∧ r.2.mem ((c.tc : Thread Cert.FwdOutKernelIdeal.nD Cert.FwdOutKernelIdeal.τ).loc Cert.FwdOutKernelIdeal.main_arg5) = m ((c.tc : Thread Cert.FwdOutKernelIdeal.nD Cert.FwdOutKernelIdeal.τ).loc Cert.FwdOutKernelIdeal.main_arg5)
          ∧ r.2.mem ((c.tc : Thread Cert.FwdOutKernelIdeal.nD Cert.FwdOutKernelIdeal.τ).loc Cert.FwdOutKernelIdeal.main_arg6) = m ((c.tc : Thread Cert.FwdOutKernelIdeal.nD Cert.FwdOutKernelIdeal.τ).loc Cert.FwdOutKernelIdeal.main_arg6))
      ∧ θ_run (Cert.FwdOutReferenceIdeal.defs (F := Ideal)) (onTc (τ := Cert.FwdOutReferenceIdeal.τ) (Cert.FwdOutReferenceIdeal.main (F := Ideal))) ⟨m', fun _ => 0, g'⟩ (fun r => ∀ c : Dev Cert.FwdOutReferenceIdeal.nD,
          r.2.mem ((c.tc : Thread Cert.FwdOutReferenceIdeal.nD Cert.FwdOutReferenceIdeal.τ).loc Cert.FwdOutReferenceIdeal.main_v26) = v0 c
          ∧ r.2.mem ((c.tc : Thread Cert.FwdOutReferenceIdeal.nD Cert.FwdOutReferenceIdeal.τ).loc Cert.FwdOutReferenceIdeal.main_v39) = v1 c
          ∧ r.2.mem ((c.tc : Thread Cert.FwdOutReferenceIdeal.nD Cert.FwdOutReferenceIdeal.τ).loc Cert.FwdOutReferenceIdeal.main_arg0) = m' ((c.tc : Thread Cert.FwdOutReferenceIdeal.nD Cert.FwdOutReferenceIdeal.τ).loc Cert.FwdOutReferenceIdeal.main_arg0)
          ∧ r.2.mem ((c.tc : Thread Cert.FwdOutReferenceIdeal.nD Cert.FwdOutReferenceIdeal.τ).loc Cert.FwdOutReferenceIdeal.main_arg1) = m' ((c.tc : Thread Cert.FwdOutReferenceIdeal.nD Cert.FwdOutReferenceIdeal.τ).loc Cert.FwdOutReferenceIdeal.main_arg1)
          ∧ r.2.mem ((c.tc : Thread Cert.FwdOutReferenceIdeal.nD Cert.FwdOutReferenceIdeal.τ).loc Cert.FwdOutReferenceIdeal.main_arg2) = m' ((c.tc : Thread Cert.FwdOutReferenceIdeal.nD Cert.FwdOutReferenceIdeal.τ).loc Cert.FwdOutReferenceIdeal.main_arg2)
          ∧ r.2.mem ((c.tc : Thread Cert.FwdOutReferenceIdeal.nD Cert.FwdOutReferenceIdeal.τ).loc Cert.FwdOutReferenceIdeal.main_arg3) = m' ((c.tc : Thread Cert.FwdOutReferenceIdeal.nD Cert.FwdOutReferenceIdeal.τ).loc Cert.FwdOutReferenceIdeal.main_arg3)
          ∧ r.2.mem ((c.tc : Thread Cert.FwdOutReferenceIdeal.nD Cert.FwdOutReferenceIdeal.τ).loc Cert.FwdOutReferenceIdeal.main_arg4) = m' ((c.tc : Thread Cert.FwdOutReferenceIdeal.nD Cert.FwdOutReferenceIdeal.τ).loc Cert.FwdOutReferenceIdeal.main_arg4)
          ∧ r.2.mem ((c.tc : Thread Cert.FwdOutReferenceIdeal.nD Cert.FwdOutReferenceIdeal.τ).loc Cert.FwdOutReferenceIdeal.main_arg5) = m' ((c.tc : Thread Cert.FwdOutReferenceIdeal.nD Cert.FwdOutReferenceIdeal.τ).loc Cert.FwdOutReferenceIdeal.main_arg5)
          ∧ r.2.mem ((c.tc : Thread Cert.FwdOutReferenceIdeal.nD Cert.FwdOutReferenceIdeal.τ).loc Cert.FwdOutReferenceIdeal.main_arg6) = m' ((c.tc : Thread Cert.FwdOutReferenceIdeal.nD Cert.FwdOutReferenceIdeal.τ).loc Cert.FwdOutReferenceIdeal.main_arg6))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)) →
    ∃ (v0 : (c : Dev Cert.OutKernelIdeal.nD) → Buf (Elt Ideal) ((c.tc : Thread Cert.OutKernelIdeal.nD Cert.OutKernelIdeal.τ).loc Cert.OutKernelIdeal.main_v45_0)) (v1 : (c : Dev Cert.OutKernelIdeal.nD) → Buf (Elt Ideal) ((c.tc : Thread Cert.OutKernelIdeal.nD Cert.OutKernelIdeal.τ).loc Cert.OutKernelIdeal.main_v45_1)) (v2 : (c : Dev Cert.OutKernelIdeal.nD) → Buf (Elt Ideal) ((c.tc : Thread Cert.OutKernelIdeal.nD Cert.OutKernelIdeal.τ).loc Cert.OutKernelIdeal.main_v45_2)) (v3 : (c : Dev Cert.OutKernelIdeal.nD) → Buf (Elt Ideal) ((c.tc : Thread Cert.OutKernelIdeal.nD Cert.OutKernelIdeal.τ).loc Cert.OutKernelIdeal.main_v45_3)) (v4 : (c : Dev Cert.OutKernelIdeal.nD) → Buf (Elt Ideal) ((c.tc : Thread Cert.OutKernelIdeal.nD Cert.OutKernelIdeal.τ).loc Cert.OutKernelIdeal.main_v45_4)) (v5 : (c : Dev Cert.OutKernelIdeal.nD) → Buf (Elt Ideal) ((c.tc : Thread Cert.OutKernelIdeal.nD Cert.OutKernelIdeal.τ).loc Cert.OutKernelIdeal.main_v45_5)) (v6 : (c : Dev Cert.OutKernelIdeal.nD) → Buf (Elt Ideal) ((c.tc : Thread Cert.OutKernelIdeal.nD Cert.OutKernelIdeal.τ).loc Cert.OutKernelIdeal.main_v45_6)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v45_0) = v0 c
          ∧ r.2.mem ((c.tc : Thread Cert.OutKernelIdeal.nD Cert.OutKernelIdeal.τ).loc Cert.OutKernelIdeal.main_v45_1) = v1 c
          ∧ r.2.mem ((c.tc : Thread Cert.OutKernelIdeal.nD Cert.OutKernelIdeal.τ).loc Cert.OutKernelIdeal.main_v45_2) = v2 c
          ∧ r.2.mem ((c.tc : Thread Cert.OutKernelIdeal.nD Cert.OutKernelIdeal.τ).loc Cert.OutKernelIdeal.main_v45_3) = v3 c
          ∧ r.2.mem ((c.tc : Thread Cert.OutKernelIdeal.nD Cert.OutKernelIdeal.τ).loc Cert.OutKernelIdeal.main_v45_4) = v4 c
          ∧ r.2.mem ((c.tc : Thread Cert.OutKernelIdeal.nD Cert.OutKernelIdeal.τ).loc Cert.OutKernelIdeal.main_v45_5) = v5 c
          ∧ r.2.mem ((c.tc : Thread Cert.OutKernelIdeal.nD Cert.OutKernelIdeal.τ).loc Cert.OutKernelIdeal.main_v45_6) = v6 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v67) = v0 c
          ∧ r.2.mem ((c.tc : Thread Cert.OutReferenceIdeal.nD Cert.OutReferenceIdeal.τ).loc Cert.OutReferenceIdeal.main_v113) = v1 c
          ∧ r.2.mem ((c.tc : Thread Cert.OutReferenceIdeal.nD Cert.OutReferenceIdeal.τ).loc Cert.OutReferenceIdeal.main_v115) = v2 c
          ∧ r.2.mem ((c.tc : Thread Cert.OutReferenceIdeal.nD Cert.OutReferenceIdeal.τ).loc Cert.OutReferenceIdeal.main_v116) = v3 c
          ∧ r.2.mem ((c.tc : Thread Cert.OutReferenceIdeal.nD Cert.OutReferenceIdeal.τ).loc Cert.OutReferenceIdeal.main_v50) = v4 c
          ∧ r.2.mem ((c.tc : Thread Cert.OutReferenceIdeal.nD Cert.OutReferenceIdeal.τ).loc Cert.OutReferenceIdeal.main_v95) = v5 c
          ∧ r.2.mem ((c.tc : Thread Cert.OutReferenceIdeal.nD Cert.OutReferenceIdeal.τ).loc Cert.OutReferenceIdeal.main_v76) = v6 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8))

def preserves_AdamGateKernel_AdamGateKernelIdeal : Prop :=
  True

def algebraic_AdamGateKernelIdeal_AdamGateReferenceIdeal [hAdamGateKernelIdeal : Cert.AdamGateKernelIdeal.Facts] [hAdamGateReferenceIdeal : Cert.AdamGateReferenceIdeal.Facts] : Prop :=
  ∀ (m : (ℓ : Loc Cert.AdamGateKernelIdeal.nD Cert.AdamGateKernelIdeal.τ Cert.AdamGateKernelIdeal.sig) → Buf (Elt Ideal) ℓ) (g : Dev Cert.AdamGateKernelIdeal.nD → PrngReg)
    (m' : (ℓ : Loc Cert.AdamGateReferenceIdeal.nD Cert.AdamGateReferenceIdeal.τ Cert.AdamGateReferenceIdeal.sig) → Buf (Elt Ideal) ℓ) (g' : Dev Cert.AdamGateReferenceIdeal.nD → PrngReg), Pre_AdamGateKernelIdeal m →
    (∀ c : Dev Cert.AdamGateKernelIdeal.nD,
      m' ((c.tc : Thread Cert.AdamGateReferenceIdeal.nD Cert.AdamGateReferenceIdeal.τ).loc Cert.AdamGateReferenceIdeal.main_arg0) = m ((c.tc : Thread Cert.AdamGateKernelIdeal.nD Cert.AdamGateKernelIdeal.τ).loc Cert.AdamGateKernelIdeal.main_arg0)
      ∧ m' ((c.tc : Thread Cert.AdamGateReferenceIdeal.nD Cert.AdamGateReferenceIdeal.τ).loc Cert.AdamGateReferenceIdeal.main_arg1) = m ((c.tc : Thread Cert.AdamGateKernelIdeal.nD Cert.AdamGateKernelIdeal.τ).loc Cert.AdamGateKernelIdeal.main_arg1)
      ∧ m' ((c.tc : Thread Cert.AdamGateReferenceIdeal.nD Cert.AdamGateReferenceIdeal.τ).loc Cert.AdamGateReferenceIdeal.main_arg2) = m ((c.tc : Thread Cert.AdamGateKernelIdeal.nD Cert.AdamGateKernelIdeal.τ).loc Cert.AdamGateKernelIdeal.main_arg2)
      ∧ m' ((c.tc : Thread Cert.AdamGateReferenceIdeal.nD Cert.AdamGateReferenceIdeal.τ).loc Cert.AdamGateReferenceIdeal.main_arg3) = m ((c.tc : Thread Cert.AdamGateKernelIdeal.nD Cert.AdamGateKernelIdeal.τ).loc Cert.AdamGateKernelIdeal.main_arg3)) →
    ∃ (v0 : (c : Dev Cert.AdamGateKernelIdeal.nD) → Buf (Elt Ideal) ((c.tc : Thread Cert.AdamGateKernelIdeal.nD Cert.AdamGateKernelIdeal.τ).loc Cert.AdamGateKernelIdeal.main_v6_0)) (v1 : (c : Dev Cert.AdamGateKernelIdeal.nD) → Buf (Elt Ideal) ((c.tc : Thread Cert.AdamGateKernelIdeal.nD Cert.AdamGateKernelIdeal.τ).loc Cert.AdamGateKernelIdeal.main_v6_1)) (v2 : (c : Dev Cert.AdamGateKernelIdeal.nD) → Buf (Elt Ideal) ((c.tc : Thread Cert.AdamGateKernelIdeal.nD Cert.AdamGateKernelIdeal.τ).loc Cert.AdamGateKernelIdeal.main_v6_2)) (v3 : (c : Dev Cert.AdamGateKernelIdeal.nD) → Buf (Elt Ideal) ((c.tc : Thread Cert.AdamGateKernelIdeal.nD Cert.AdamGateKernelIdeal.τ).loc Cert.AdamGateKernelIdeal.main_v6_3)),
      θ_run (Cert.AdamGateKernelIdeal.defs (F := Ideal)) (onTc (τ := Cert.AdamGateKernelIdeal.τ) (Cert.AdamGateKernelIdeal.main (F := Ideal))) ⟨m, fun _ => 0, g⟩ (fun r => ∀ c : Dev Cert.AdamGateKernelIdeal.nD,
          r.2.mem ((c.tc : Thread Cert.AdamGateKernelIdeal.nD Cert.AdamGateKernelIdeal.τ).loc Cert.AdamGateKernelIdeal.main_v6_0) = v0 c
          ∧ r.2.mem ((c.tc : Thread Cert.AdamGateKernelIdeal.nD Cert.AdamGateKernelIdeal.τ).loc Cert.AdamGateKernelIdeal.main_v6_1) = v1 c
          ∧ r.2.mem ((c.tc : Thread Cert.AdamGateKernelIdeal.nD Cert.AdamGateKernelIdeal.τ).loc Cert.AdamGateKernelIdeal.main_v6_2) = v2 c
          ∧ r.2.mem ((c.tc : Thread Cert.AdamGateKernelIdeal.nD Cert.AdamGateKernelIdeal.τ).loc Cert.AdamGateKernelIdeal.main_v6_3) = v3 c
          ∧ r.2.mem ((c.tc : Thread Cert.AdamGateKernelIdeal.nD Cert.AdamGateKernelIdeal.τ).loc Cert.AdamGateKernelIdeal.main_arg0) = m ((c.tc : Thread Cert.AdamGateKernelIdeal.nD Cert.AdamGateKernelIdeal.τ).loc Cert.AdamGateKernelIdeal.main_arg0)
          ∧ r.2.mem ((c.tc : Thread Cert.AdamGateKernelIdeal.nD Cert.AdamGateKernelIdeal.τ).loc Cert.AdamGateKernelIdeal.main_arg1) = m ((c.tc : Thread Cert.AdamGateKernelIdeal.nD Cert.AdamGateKernelIdeal.τ).loc Cert.AdamGateKernelIdeal.main_arg1)
          ∧ r.2.mem ((c.tc : Thread Cert.AdamGateKernelIdeal.nD Cert.AdamGateKernelIdeal.τ).loc Cert.AdamGateKernelIdeal.main_arg2) = m ((c.tc : Thread Cert.AdamGateKernelIdeal.nD Cert.AdamGateKernelIdeal.τ).loc Cert.AdamGateKernelIdeal.main_arg2)
          ∧ r.2.mem ((c.tc : Thread Cert.AdamGateKernelIdeal.nD Cert.AdamGateKernelIdeal.τ).loc Cert.AdamGateKernelIdeal.main_arg3) = m ((c.tc : Thread Cert.AdamGateKernelIdeal.nD Cert.AdamGateKernelIdeal.τ).loc Cert.AdamGateKernelIdeal.main_arg3))
      ∧ θ_run (Cert.AdamGateReferenceIdeal.defs (F := Ideal)) (onTc (τ := Cert.AdamGateReferenceIdeal.τ) (Cert.AdamGateReferenceIdeal.main (F := Ideal))) ⟨m', fun _ => 0, g'⟩ (fun r => ∀ c : Dev Cert.AdamGateReferenceIdeal.nD,
          r.2.mem ((c.tc : Thread Cert.AdamGateReferenceIdeal.nD Cert.AdamGateReferenceIdeal.τ).loc Cert.AdamGateReferenceIdeal.main_v1) = v0 c
          ∧ r.2.mem ((c.tc : Thread Cert.AdamGateReferenceIdeal.nD Cert.AdamGateReferenceIdeal.τ).loc Cert.AdamGateReferenceIdeal.main_v31) = v1 c
          ∧ r.2.mem ((c.tc : Thread Cert.AdamGateReferenceIdeal.nD Cert.AdamGateReferenceIdeal.τ).loc Cert.AdamGateReferenceIdeal.main_v12) = v2 c
          ∧ r.2.mem ((c.tc : Thread Cert.AdamGateReferenceIdeal.nD Cert.AdamGateReferenceIdeal.τ).loc Cert.AdamGateReferenceIdeal.main_v18) = v3 c
          ∧ r.2.mem ((c.tc : Thread Cert.AdamGateReferenceIdeal.nD Cert.AdamGateReferenceIdeal.τ).loc Cert.AdamGateReferenceIdeal.main_arg0) = m' ((c.tc : Thread Cert.AdamGateReferenceIdeal.nD Cert.AdamGateReferenceIdeal.τ).loc Cert.AdamGateReferenceIdeal.main_arg0)
          ∧ r.2.mem ((c.tc : Thread Cert.AdamGateReferenceIdeal.nD Cert.AdamGateReferenceIdeal.τ).loc Cert.AdamGateReferenceIdeal.main_arg1) = m' ((c.tc : Thread Cert.AdamGateReferenceIdeal.nD Cert.AdamGateReferenceIdeal.τ).loc Cert.AdamGateReferenceIdeal.main_arg1)
          ∧ r.2.mem ((c.tc : Thread Cert.AdamGateReferenceIdeal.nD Cert.AdamGateReferenceIdeal.τ).loc Cert.AdamGateReferenceIdeal.main_arg2) = m' ((c.tc : Thread Cert.AdamGateReferenceIdeal.nD Cert.AdamGateReferenceIdeal.τ).loc Cert.AdamGateReferenceIdeal.main_arg2)
          ∧ r.2.mem ((c.tc : Thread Cert.AdamGateReferenceIdeal.nD Cert.AdamGateReferenceIdeal.τ).loc Cert.AdamGateReferenceIdeal.main_arg3) = m' ((c.tc : Thread Cert.AdamGateReferenceIdeal.nD Cert.AdamGateReferenceIdeal.τ).loc Cert.AdamGateReferenceIdeal.main_arg3))

def preserves_AdamDownKernel_AdamDownKernelIdeal : Prop :=
  True

def algebraic_AdamDownKernelIdeal_AdamDownReferenceIdeal [hAdamDownKernelIdeal : Cert.AdamDownKernelIdeal.Facts] [hAdamDownReferenceIdeal : Cert.AdamDownReferenceIdeal.Facts] : Prop :=
  ∀ (m : (ℓ : Loc Cert.AdamDownKernelIdeal.nD Cert.AdamDownKernelIdeal.τ Cert.AdamDownKernelIdeal.sig) → Buf (Elt Ideal) ℓ) (g : Dev Cert.AdamDownKernelIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownKernelIdeal m →
    (∀ c : Dev Cert.AdamDownKernelIdeal.nD,
      m' ((c.tc : Thread Cert.AdamDownReferenceIdeal.nD Cert.AdamDownReferenceIdeal.τ).loc Cert.AdamDownReferenceIdeal.main_arg0) = m ((c.tc : Thread Cert.AdamDownKernelIdeal.nD Cert.AdamDownKernelIdeal.τ).loc Cert.AdamDownKernelIdeal.main_arg0)
      ∧ m' ((c.tc : Thread Cert.AdamDownReferenceIdeal.nD Cert.AdamDownReferenceIdeal.τ).loc Cert.AdamDownReferenceIdeal.main_arg1) = m ((c.tc : Thread Cert.AdamDownKernelIdeal.nD Cert.AdamDownKernelIdeal.τ).loc Cert.AdamDownKernelIdeal.main_arg1)
      ∧ m' ((c.tc : Thread Cert.AdamDownReferenceIdeal.nD Cert.AdamDownReferenceIdeal.τ).loc Cert.AdamDownReferenceIdeal.main_arg2) = m ((c.tc : Thread Cert.AdamDownKernelIdeal.nD Cert.AdamDownKernelIdeal.τ).loc Cert.AdamDownKernelIdeal.main_arg2)
      ∧ m' ((c.tc : Thread Cert.AdamDownReferenceIdeal.nD Cert.AdamDownReferenceIdeal.τ).loc Cert.AdamDownReferenceIdeal.main_arg3) = m ((c.tc : Thread Cert.AdamDownKernelIdeal.nD Cert.AdamDownKernelIdeal.τ).loc Cert.AdamDownKernelIdeal.main_arg3)) →
    ∃ (v0 : (c : Dev Cert.AdamDownKernelIdeal.nD) → Buf (Elt Ideal) ((c.tc : Thread Cert.AdamDownKernelIdeal.nD Cert.AdamDownKernelIdeal.τ).loc Cert.AdamDownKernelIdeal.main_v3_0)) (v1 : (c : Dev Cert.AdamDownKernelIdeal.nD) → Buf (Elt Ideal) ((c.tc : Thread Cert.AdamDownKernelIdeal.nD Cert.AdamDownKernelIdeal.τ).loc Cert.AdamDownKernelIdeal.main_v3_1)) (v2 : (c : Dev Cert.AdamDownKernelIdeal.nD) → Buf (Elt Ideal) ((c.tc : Thread Cert.AdamDownKernelIdeal.nD Cert.AdamDownKernelIdeal.τ).loc Cert.AdamDownKernelIdeal.main_v3_2)) (v3 : (c : Dev Cert.AdamDownKernelIdeal.nD) → Buf (Elt Ideal) ((c.tc : Thread Cert.AdamDownKernelIdeal.nD Cert.AdamDownKernelIdeal.τ).loc Cert.AdamDownKernelIdeal.main_v3_3)),
      θ_run (Cert.AdamDownKernelIdeal.defs (F := Ideal)) (onTc (τ := Cert.AdamDownKernelIdeal.τ) (Cert.AdamDownKernelIdeal.main (F := Ideal))) ⟨m, fun _ => 0, g⟩ (fun r => ∀ c : Dev Cert.AdamDownKernelIdeal.nD,
          r.2.mem ((c.tc : Thread Cert.AdamDownKernelIdeal.nD Cert.AdamDownKernelIdeal.τ).loc Cert.AdamDownKernelIdeal.main_v3_0) = v0 c
          ∧ r.2.mem ((c.tc : Thread Cert.AdamDownKernelIdeal.nD Cert.AdamDownKernelIdeal.τ).loc Cert.AdamDownKernelIdeal.main_v3_1) = v1 c
          ∧ r.2.mem ((c.tc : Thread Cert.AdamDownKernelIdeal.nD Cert.AdamDownKernelIdeal.τ).loc Cert.AdamDownKernelIdeal.main_v3_2) = v2 c
          ∧ r.2.mem ((c.tc : Thread Cert.AdamDownKernelIdeal.nD Cert.AdamDownKernelIdeal.τ).loc Cert.AdamDownKernelIdeal.main_v3_3) = v3 c
          ∧ r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
          ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
          ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
          ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v1) = v0 c
          ∧ r.2.mem ((c.tc : Thread Cert.AdamDownReferenceIdeal.nD Cert.AdamDownReferenceIdeal.τ).loc Cert.AdamDownReferenceIdeal.main_v28) = v1 c
          ∧ r.2.mem ((c.tc : Thread Cert.AdamDownReferenceIdeal.nD Cert.AdamDownReferenceIdeal.τ).loc Cert.AdamDownReferenceIdeal.main_v9) = v2 c
          ∧ r.2.mem ((c.tc : Thread Cert.AdamDownReferenceIdeal.nD Cert.AdamDownReferenceIdeal.τ).loc Cert.AdamDownReferenceIdeal.main_v15) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamInKernel_AdamInKernelIdeal : Prop :=
  True

def algebraic_AdamInKernelIdeal_AdamInReferenceIdeal [hAdamInKernelIdeal : Cert.AdamInKernelIdeal.Facts] [hAdamInReferenceIdeal : Cert.AdamInReferenceIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)) →
    ∃ (v0 : (c : Dev Cert.AdamInKernelIdeal.nD) → Buf (Elt Ideal) ((c.tc : Thread Cert.AdamInKernelIdeal.nD Cert.AdamInKernelIdeal.τ).loc Cert.AdamInKernelIdeal.main_v6_0)) (v1 : (c : Dev Cert.AdamInKernelIdeal.nD) → Buf (Elt Ideal) ((c.tc : Thread Cert.AdamInKernelIdeal.nD Cert.AdamInKernelIdeal.τ).loc Cert.AdamInKernelIdeal.main_v6_1)) (v2 : (c : Dev Cert.AdamInKernelIdeal.nD) → Buf (Elt Ideal) ((c.tc : Thread Cert.AdamInKernelIdeal.nD Cert.AdamInKernelIdeal.τ).loc Cert.AdamInKernelIdeal.main_v6_2)) (v3 : (c : Dev Cert.AdamInKernelIdeal.nD) → Buf (Elt Ideal) ((c.tc : Thread Cert.AdamInKernelIdeal.nD Cert.AdamInKernelIdeal.τ).loc Cert.AdamInKernelIdeal.main_v6_3)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v6_0) = v0 c
          ∧ r.2.mem ((c.tc : Thread Cert.AdamInKernelIdeal.nD Cert.AdamInKernelIdeal.τ).loc Cert.AdamInKernelIdeal.main_v6_1) = v1 c
          ∧ r.2.mem ((c.tc : Thread Cert.AdamInKernelIdeal.nD Cert.AdamInKernelIdeal.τ).loc Cert.AdamInKernelIdeal.main_v6_2) = v2 c
          ∧ r.2.mem ((c.tc : Thread Cert.AdamInKernelIdeal.nD Cert.AdamInKernelIdeal.τ).loc Cert.AdamInKernelIdeal.main_v6_3) = v3 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v1) = v0 c
          ∧ r.2.mem ((c.tc : Thread Cert.AdamInReferenceIdeal.nD Cert.AdamInReferenceIdeal.τ).loc Cert.AdamInReferenceIdeal.main_v31) = v1 c
          ∧ r.2.mem ((c.tc : Thread Cert.AdamInReferenceIdeal.nD Cert.AdamInReferenceIdeal.τ).loc Cert.AdamInReferenceIdeal.main_v12) = v2 c
          ∧ r.2.mem ((c.tc : Thread Cert.AdamInReferenceIdeal.nD Cert.AdamInReferenceIdeal.τ).loc Cert.AdamInReferenceIdeal.main_v18) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamOutKernel_AdamOutKernelIdeal : Prop :=
  True

def algebraic_AdamOutKernelIdeal_AdamOutReferenceIdeal [hAdamOutKernelIdeal : Cert.AdamOutKernelIdeal.Facts] [hAdamOutReferenceIdeal : Cert.AdamOutReferenceIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutKernelIdeal m →
    (∀ c : Dev Cert.AdamOutKernelIdeal.nD,
      m' ((c.tc : Thread Cert.AdamOutReferenceIdeal.nD Cert.AdamOutReferenceIdeal.τ).loc Cert.AdamOutReferenceIdeal.main_arg0) = m ((c.tc : Thread Cert.AdamOutKernelIdeal.nD Cert.AdamOutKernelIdeal.τ).loc Cert.AdamOutKernelIdeal.main_arg0)
      ∧ m' ((c.tc : Thread Cert.AdamOutReferenceIdeal.nD Cert.AdamOutReferenceIdeal.τ).loc Cert.AdamOutReferenceIdeal.main_arg1) = m ((c.tc : Thread Cert.AdamOutKernelIdeal.nD Cert.AdamOutKernelIdeal.τ).loc Cert.AdamOutKernelIdeal.main_arg1)
      ∧ m' ((c.tc : Thread Cert.AdamOutReferenceIdeal.nD Cert.AdamOutReferenceIdeal.τ).loc Cert.AdamOutReferenceIdeal.main_arg2) = m ((c.tc : Thread Cert.AdamOutKernelIdeal.nD Cert.AdamOutKernelIdeal.τ).loc Cert.AdamOutKernelIdeal.main_arg2)
      ∧ m' ((c.tc : Thread Cert.AdamOutReferenceIdeal.nD Cert.AdamOutReferenceIdeal.τ).loc Cert.AdamOutReferenceIdeal.main_arg3) = m ((c.tc : Thread Cert.AdamOutKernelIdeal.nD Cert.AdamOutKernelIdeal.τ).loc Cert.AdamOutKernelIdeal.main_arg3)) →
    ∃ (v0 : (c : Dev Cert.AdamOutKernelIdeal.nD) → Buf (Elt Ideal) ((c.tc : Thread Cert.AdamOutKernelIdeal.nD Cert.AdamOutKernelIdeal.τ).loc Cert.AdamOutKernelIdeal.main_v3_0)) (v1 : (c : Dev Cert.AdamOutKernelIdeal.nD) → Buf (Elt Ideal) ((c.tc : Thread Cert.AdamOutKernelIdeal.nD Cert.AdamOutKernelIdeal.τ).loc Cert.AdamOutKernelIdeal.main_v3_1)) (v2 : (c : Dev Cert.AdamOutKernelIdeal.nD) → Buf (Elt Ideal) ((c.tc : Thread Cert.AdamOutKernelIdeal.nD Cert.AdamOutKernelIdeal.τ).loc Cert.AdamOutKernelIdeal.main_v3_2)) (v3 : (c : Dev Cert.AdamOutKernelIdeal.nD) → Buf (Elt Ideal) ((c.tc : Thread Cert.AdamOutKernelIdeal.nD Cert.AdamOutKernelIdeal.τ).loc Cert.AdamOutKernelIdeal.main_v3_3)),
      θ_run (Cert.AdamOutKernelIdeal.defs (F := Ideal)) (onTc (τ := Cert.AdamOutKernelIdeal.τ) (Cert.AdamOutKernelIdeal.main (F := Ideal))) ⟨m, fun _ => 0, g⟩ (fun r => ∀ c : Dev Cert.AdamOutKernelIdeal.nD,
          r.2.mem ((c.tc : Thread Cert.AdamOutKernelIdeal.nD Cert.AdamOutKernelIdeal.τ).loc Cert.AdamOutKernelIdeal.main_v3_0) = v0 c
          ∧ r.2.mem ((c.tc : Thread Cert.AdamOutKernelIdeal.nD Cert.AdamOutKernelIdeal.τ).loc Cert.AdamOutKernelIdeal.main_v3_1) = v1 c
          ∧ r.2.mem ((c.tc : Thread Cert.AdamOutKernelIdeal.nD Cert.AdamOutKernelIdeal.τ).loc Cert.AdamOutKernelIdeal.main_v3_2) = v2 c
          ∧ r.2.mem ((c.tc : Thread Cert.AdamOutKernelIdeal.nD Cert.AdamOutKernelIdeal.τ).loc Cert.AdamOutKernelIdeal.main_v3_3) = v3 c
          ∧ r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
          ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
          ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
          ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v1) = v0 c
          ∧ r.2.mem ((c.tc : Thread Cert.AdamOutReferenceIdeal.nD Cert.AdamOutReferenceIdeal.τ).loc Cert.AdamOutReferenceIdeal.main_v28) = v1 c
          ∧ r.2.mem ((c.tc : Thread Cert.AdamOutReferenceIdeal.nD Cert.AdamOutReferenceIdeal.τ).loc Cert.AdamOutReferenceIdeal.main_v9) = v2 c
          ∧ r.2.mem ((c.tc : Thread Cert.AdamOutReferenceIdeal.nD Cert.AdamOutReferenceIdeal.τ).loc Cert.AdamOutReferenceIdeal.main_v15) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamNormKernel_AdamNormKernelIdeal : Prop :=
  True

def algebraic_AdamNormKernelIdeal_AdamNormReferenceIdeal [hAdamNormKernelIdeal : Cert.AdamNormKernelIdeal.Facts] [hAdamNormReferenceIdeal : Cert.AdamNormReferenceIdeal.Facts] : Prop :=
  ∀ (m : (ℓ : Loc Cert.AdamNormKernelIdeal.nD Cert.AdamNormKernelIdeal.τ Cert.AdamNormKernelIdeal.sig) → Buf (Elt Ideal) ℓ) (g : Dev Cert.AdamNormKernelIdeal.nD → PrngReg)
    (m' : (ℓ : Loc Cert.AdamNormReferenceIdeal.nD Cert.AdamNormReferenceIdeal.τ Cert.AdamNormReferenceIdeal.sig) → Buf (Elt Ideal) ℓ) (g' : Dev Cert.AdamNormReferenceIdeal.nD → PrngReg), Pre_AdamNormKernelIdeal m →
    (∀ c : Dev Cert.AdamNormKernelIdeal.nD,
      m' ((c.tc : Thread Cert.AdamNormReferenceIdeal.nD Cert.AdamNormReferenceIdeal.τ).loc Cert.AdamNormReferenceIdeal.main_arg0) = m ((c.tc : Thread Cert.AdamNormKernelIdeal.nD Cert.AdamNormKernelIdeal.τ).loc Cert.AdamNormKernelIdeal.main_arg0)
      ∧ m' ((c.tc : Thread Cert.AdamNormReferenceIdeal.nD Cert.AdamNormReferenceIdeal.τ).loc Cert.AdamNormReferenceIdeal.main_arg1) = m ((c.tc : Thread Cert.AdamNormKernelIdeal.nD Cert.AdamNormKernelIdeal.τ).loc Cert.AdamNormKernelIdeal.main_arg1)
      ∧ m' ((c.tc : Thread Cert.AdamNormReferenceIdeal.nD Cert.AdamNormReferenceIdeal.τ).loc Cert.AdamNormReferenceIdeal.main_arg2) = m ((c.tc : Thread Cert.AdamNormKernelIdeal.nD Cert.AdamNormKernelIdeal.τ).loc Cert.AdamNormKernelIdeal.main_arg2)
      ∧ m' ((c.tc : Thread Cert.AdamNormReferenceIdeal.nD Cert.AdamNormReferenceIdeal.τ).loc Cert.AdamNormReferenceIdeal.main_arg3) = m ((c.tc : Thread Cert.AdamNormKernelIdeal.nD Cert.AdamNormKernelIdeal.τ).loc Cert.AdamNormKernelIdeal.main_arg3)) →
    ∃ (v0 : (c : Dev Cert.AdamNormKernelIdeal.nD) → Buf (Elt Ideal) ((c.tc : Thread Cert.AdamNormKernelIdeal.nD Cert.AdamNormKernelIdeal.τ).loc Cert.AdamNormKernelIdeal.main_v0_0)) (v1 : (c : Dev Cert.AdamNormKernelIdeal.nD) → Buf (Elt Ideal) ((c.tc : Thread Cert.AdamNormKernelIdeal.nD Cert.AdamNormKernelIdeal.τ).loc Cert.AdamNormKernelIdeal.main_v0_1)) (v2 : (c : Dev Cert.AdamNormKernelIdeal.nD) → Buf (Elt Ideal) ((c.tc : Thread Cert.AdamNormKernelIdeal.nD Cert.AdamNormKernelIdeal.τ).loc Cert.AdamNormKernelIdeal.main_v0_2)) (v3 : (c : Dev Cert.AdamNormKernelIdeal.nD) → Buf (Elt Ideal) ((c.tc : Thread Cert.AdamNormKernelIdeal.nD Cert.AdamNormKernelIdeal.τ).loc Cert.AdamNormKernelIdeal.main_v0_3)),
      θ_run (Cert.AdamNormKernelIdeal.defs (F := Ideal)) (onTc (τ := Cert.AdamNormKernelIdeal.τ) (Cert.AdamNormKernelIdeal.main (F := Ideal))) ⟨m, fun _ => 0, g⟩ (fun r => ∀ c : Dev Cert.AdamNormKernelIdeal.nD,
          r.2.mem ((c.tc : Thread Cert.AdamNormKernelIdeal.nD Cert.AdamNormKernelIdeal.τ).loc Cert.AdamNormKernelIdeal.main_v0_0) = v0 c
          ∧ r.2.mem ((c.tc : Thread Cert.AdamNormKernelIdeal.nD Cert.AdamNormKernelIdeal.τ).loc Cert.AdamNormKernelIdeal.main_v0_1) = v1 c
          ∧ r.2.mem ((c.tc : Thread Cert.AdamNormKernelIdeal.nD Cert.AdamNormKernelIdeal.τ).loc Cert.AdamNormKernelIdeal.main_v0_2) = v2 c
          ∧ r.2.mem ((c.tc : Thread Cert.AdamNormKernelIdeal.nD Cert.AdamNormKernelIdeal.τ).loc Cert.AdamNormKernelIdeal.main_v0_3) = v3 c
          ∧ r.2.mem ((c.tc : Thread Cert.AdamNormKernelIdeal.nD Cert.AdamNormKernelIdeal.τ).loc Cert.AdamNormKernelIdeal.main_arg0) = m ((c.tc : Thread Cert.AdamNormKernelIdeal.nD Cert.AdamNormKernelIdeal.τ).loc Cert.AdamNormKernelIdeal.main_arg0)
          ∧ r.2.mem ((c.tc : Thread Cert.AdamNormKernelIdeal.nD Cert.AdamNormKernelIdeal.τ).loc Cert.AdamNormKernelIdeal.main_arg1) = m ((c.tc : Thread Cert.AdamNormKernelIdeal.nD Cert.AdamNormKernelIdeal.τ).loc Cert.AdamNormKernelIdeal.main_arg1)
          ∧ r.2.mem ((c.tc : Thread Cert.AdamNormKernelIdeal.nD Cert.AdamNormKernelIdeal.τ).loc Cert.AdamNormKernelIdeal.main_arg2) = m ((c.tc : Thread Cert.AdamNormKernelIdeal.nD Cert.AdamNormKernelIdeal.τ).loc Cert.AdamNormKernelIdeal.main_arg2)
          ∧ r.2.mem ((c.tc : Thread Cert.AdamNormKernelIdeal.nD Cert.AdamNormKernelIdeal.τ).loc Cert.AdamNormKernelIdeal.main_arg3) = m ((c.tc : Thread Cert.AdamNormKernelIdeal.nD Cert.AdamNormKernelIdeal.τ).loc Cert.AdamNormKernelIdeal.main_arg3))
      ∧ θ_run (Cert.AdamNormReferenceIdeal.defs (F := Ideal)) (onTc (τ := Cert.AdamNormReferenceIdeal.τ) (Cert.AdamNormReferenceIdeal.main (F := Ideal))) ⟨m', fun _ => 0, g'⟩ (fun r => ∀ c : Dev Cert.AdamNormReferenceIdeal.nD,
          r.2.mem ((c.tc : Thread Cert.AdamNormReferenceIdeal.nD Cert.AdamNormReferenceIdeal.τ).loc Cert.AdamNormReferenceIdeal.main_v0) = v0 c
          ∧ r.2.mem ((c.tc : Thread Cert.AdamNormReferenceIdeal.nD Cert.AdamNormReferenceIdeal.τ).loc Cert.AdamNormReferenceIdeal.main_v24) = v1 c
          ∧ r.2.mem ((c.tc : Thread Cert.AdamNormReferenceIdeal.nD Cert.AdamNormReferenceIdeal.τ).loc Cert.AdamNormReferenceIdeal.main_v5) = v2 c
          ∧ r.2.mem ((c.tc : Thread Cert.AdamNormReferenceIdeal.nD Cert.AdamNormReferenceIdeal.τ).loc Cert.AdamNormReferenceIdeal.main_v11) = v3 c
          ∧ r.2.mem ((c.tc : Thread Cert.AdamNormReferenceIdeal.nD Cert.AdamNormReferenceIdeal.τ).loc Cert.AdamNormReferenceIdeal.main_arg0) = m' ((c.tc : Thread Cert.AdamNormReferenceIdeal.nD Cert.AdamNormReferenceIdeal.τ).loc Cert.AdamNormReferenceIdeal.main_arg0)
          ∧ r.2.mem ((c.tc : Thread Cert.AdamNormReferenceIdeal.nD Cert.AdamNormReferenceIdeal.τ).loc Cert.AdamNormReferenceIdeal.main_arg1) = m' ((c.tc : Thread Cert.AdamNormReferenceIdeal.nD Cert.AdamNormReferenceIdeal.τ).loc Cert.AdamNormReferenceIdeal.main_arg1)
          ∧ r.2.mem ((c.tc : Thread Cert.AdamNormReferenceIdeal.nD Cert.AdamNormReferenceIdeal.τ).loc Cert.AdamNormReferenceIdeal.main_arg2) = m' ((c.tc : Thread Cert.AdamNormReferenceIdeal.nD Cert.AdamNormReferenceIdeal.τ).loc Cert.AdamNormReferenceIdeal.main_arg2)
          ∧ r.2.mem ((c.tc : Thread Cert.AdamNormReferenceIdeal.nD Cert.AdamNormReferenceIdeal.τ).loc Cert.AdamNormReferenceIdeal.main_arg3) = m' ((c.tc : Thread Cert.AdamNormReferenceIdeal.nD Cert.AdamNormReferenceIdeal.τ).loc Cert.AdamNormReferenceIdeal.main_arg3))

def Claim : Prop :=
  ∃ (hFfnKernel : Cert.FfnKernel.Facts) (hFfnKernelIdeal : Cert.FfnKernelIdeal.Facts) (hFfnReferenceIdeal : Cert.FfnReferenceIdeal.Facts) (hInKernel : Cert.InKernel.Facts) (hInKernelIdeal : Cert.InKernelIdeal.Facts) (hInReferenceIdeal : Cert.InReferenceIdeal.Facts) (hFfnFwdKernel : Cert.FfnFwdKernel.Facts) (hFfnFwdKernelIdeal : Cert.FfnFwdKernelIdeal.Facts) (hFfnFwdReferenceIdeal : Cert.FfnFwdReferenceIdeal.Facts) (hFwdInKernel : Cert.FwdInKernel.Facts) (hFwdInKernelIdeal : Cert.FwdInKernelIdeal.Facts) (hFwdInReferenceIdeal : Cert.FwdInReferenceIdeal.Facts) (hFwdOutKernel : Cert.FwdOutKernel.Facts) (hFwdOutKernelIdeal : Cert.FwdOutKernelIdeal.Facts) (hFwdOutReferenceIdeal : Cert.FwdOutReferenceIdeal.Facts) (hOutKernel : Cert.OutKernel.Facts) (hOutKernelIdeal : Cert.OutKernelIdeal.Facts) (hOutReferenceIdeal : Cert.OutReferenceIdeal.Facts) (hAdamGateKernel : Cert.AdamGateKernel.Facts) (hAdamGateKernelIdeal : Cert.AdamGateKernelIdeal.Facts) (hAdamGateReferenceIdeal : Cert.AdamGateReferenceIdeal.Facts) (hAdamDownKernel : Cert.AdamDownKernel.Facts) (hAdamDownKernelIdeal : Cert.AdamDownKernelIdeal.Facts) (hAdamDownReferenceIdeal : Cert.AdamDownReferenceIdeal.Facts) (hAdamInKernel : Cert.AdamInKernel.Facts) (hAdamInKernelIdeal : Cert.AdamInKernelIdeal.Facts) (hAdamInReferenceIdeal : Cert.AdamInReferenceIdeal.Facts) (hAdamOutKernel : Cert.AdamOutKernel.Facts) (hAdamOutKernelIdeal : Cert.AdamOutKernelIdeal.Facts) (hAdamOutReferenceIdeal : Cert.AdamOutReferenceIdeal.Facts) (hAdamNormKernel : Cert.AdamNormKernel.Facts) (hAdamNormKernelIdeal : Cert.AdamNormKernelIdeal.Facts) (hAdamNormReferenceIdeal : Cert.AdamNormReferenceIdeal.Facts) (hPre_finite : Cert.Pre_finite.Facts),
    quiescent_FfnKernel (hFfnKernel := hFfnKernel)
    ∧ quiescent_FfnKernelIdeal (hFfnKernelIdeal := hFfnKernelIdeal)
    ∧ quiescent_FfnKernelIdeal_pre_finite (hFfnKernelIdeal := hFfnKernelIdeal) (hPre_finite := hPre_finite)
    ∧ quiescent_FfnReferenceIdeal (hFfnReferenceIdeal := hFfnReferenceIdeal)
    ∧ quiescent_FfnReferenceIdeal_pre_finite (hFfnReferenceIdeal := hFfnReferenceIdeal) (hPre_finite := hPre_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_FfnFwdKernel (hFfnFwdKernel := hFfnFwdKernel)
    ∧ quiescent_FfnFwdKernelIdeal (hFfnFwdKernelIdeal := hFfnFwdKernelIdeal)
    ∧ quiescent_FfnFwdReferenceIdeal (hFfnFwdReferenceIdeal := hFfnFwdReferenceIdeal)
    ∧ quiescent_FwdInKernel (hFwdInKernel := hFwdInKernel)
    ∧ quiescent_FwdInKernelIdeal (hFwdInKernelIdeal := hFwdInKernelIdeal)
    ∧ quiescent_FwdInReferenceIdeal (hFwdInReferenceIdeal := hFwdInReferenceIdeal)
    ∧ quiescent_FwdOutKernel (hFwdOutKernel := hFwdOutKernel)
    ∧ quiescent_FwdOutKernelIdeal (hFwdOutKernelIdeal := hFwdOutKernelIdeal)
    ∧ quiescent_FwdOutReferenceIdeal (hFwdOutReferenceIdeal := hFwdOutReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_AdamGateKernel (hAdamGateKernel := hAdamGateKernel)
    ∧ quiescent_AdamGateKernelIdeal (hAdamGateKernelIdeal := hAdamGateKernelIdeal)
    ∧ quiescent_AdamGateReferenceIdeal (hAdamGateReferenceIdeal := hAdamGateReferenceIdeal)
    ∧ quiescent_AdamDownKernel (hAdamDownKernel := hAdamDownKernel)
    ∧ quiescent_AdamDownKernelIdeal (hAdamDownKernelIdeal := hAdamDownKernelIdeal)
    ∧ quiescent_AdamDownReferenceIdeal (hAdamDownReferenceIdeal := hAdamDownReferenceIdeal)
    ∧ quiescent_AdamInKernel (hAdamInKernel := hAdamInKernel)
    ∧ quiescent_AdamInKernelIdeal (hAdamInKernelIdeal := hAdamInKernelIdeal)
    ∧ quiescent_AdamInReferenceIdeal (hAdamInReferenceIdeal := hAdamInReferenceIdeal)
    ∧ quiescent_AdamOutKernel (hAdamOutKernel := hAdamOutKernel)
    ∧ quiescent_AdamOutKernelIdeal (hAdamOutKernelIdeal := hAdamOutKernelIdeal)
    ∧ quiescent_AdamOutReferenceIdeal (hAdamOutReferenceIdeal := hAdamOutReferenceIdeal)
    ∧ quiescent_AdamNormKernel (hAdamNormKernel := hAdamNormKernel)
    ∧ quiescent_AdamNormKernelIdeal (hAdamNormKernelIdeal := hAdamNormKernelIdeal)
    ∧ quiescent_AdamNormReferenceIdeal (hAdamNormReferenceIdeal := hAdamNormReferenceIdeal)
    ∧ preserves_FfnKernel_FfnKernelIdeal
    ∧ algebraic_FfnKernelIdeal_FfnReferenceIdeal_pre_finite (hFfnKernelIdeal := hFfnKernelIdeal) (hFfnReferenceIdeal := hFfnReferenceIdeal) (hPre_finite := hPre_finite)
    ∧ preserves_InKernel_InKernelIdeal
    ∧ algebraic_InKernelIdeal_InReferenceIdeal (hInKernelIdeal := hInKernelIdeal) (hInReferenceIdeal := hInReferenceIdeal)
    ∧ preserves_FfnFwdKernel_FfnFwdKernelIdeal
    ∧ algebraic_FfnFwdKernelIdeal_FfnFwdReferenceIdeal (hFfnFwdKernelIdeal := hFfnFwdKernelIdeal) (hFfnFwdReferenceIdeal := hFfnFwdReferenceIdeal)
    ∧ preserves_FwdInKernel_FwdInKernelIdeal
    ∧ algebraic_FwdInKernelIdeal_FwdInReferenceIdeal (hFwdInKernelIdeal := hFwdInKernelIdeal) (hFwdInReferenceIdeal := hFwdInReferenceIdeal)
    ∧ preserves_FwdOutKernel_FwdOutKernelIdeal
    ∧ algebraic_FwdOutKernelIdeal_FwdOutReferenceIdeal (hFwdOutKernelIdeal := hFwdOutKernelIdeal) (hFwdOutReferenceIdeal := hFwdOutReferenceIdeal)
    ∧ preserves_OutKernel_OutKernelIdeal
    ∧ algebraic_OutKernelIdeal_OutReferenceIdeal (hOutKernelIdeal := hOutKernelIdeal) (hOutReferenceIdeal := hOutReferenceIdeal)
    ∧ preserves_AdamGateKernel_AdamGateKernelIdeal
    ∧ algebraic_AdamGateKernelIdeal_AdamGateReferenceIdeal (hAdamGateKernelIdeal := hAdamGateKernelIdeal) (hAdamGateReferenceIdeal := hAdamGateReferenceIdeal)
    ∧ preserves_AdamDownKernel_AdamDownKernelIdeal
    ∧ algebraic_AdamDownKernelIdeal_AdamDownReferenceIdeal (hAdamDownKernelIdeal := hAdamDownKernelIdeal) (hAdamDownReferenceIdeal := hAdamDownReferenceIdeal)
    ∧ preserves_AdamInKernel_AdamInKernelIdeal
    ∧ algebraic_AdamInKernelIdeal_AdamInReferenceIdeal (hAdamInKernelIdeal := hAdamInKernelIdeal) (hAdamInReferenceIdeal := hAdamInReferenceIdeal)
    ∧ preserves_AdamOutKernel_AdamOutKernelIdeal
    ∧ algebraic_AdamOutKernelIdeal_AdamOutReferenceIdeal (hAdamOutKernelIdeal := hAdamOutKernelIdeal) (hAdamOutReferenceIdeal := hAdamOutReferenceIdeal)
    ∧ preserves_AdamNormKernel_AdamNormKernelIdeal
    ∧ algebraic_AdamNormKernelIdeal_AdamNormReferenceIdeal (hAdamNormKernelIdeal := hAdamNormKernelIdeal) (hAdamNormReferenceIdeal := hAdamNormReferenceIdeal)
-- ==== Pre_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== FfnKernel.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1024x256 : Shape := ⟨2, ![1024, 256]⟩
abbrev S256x1024 : Shape := ⟨2, ![256, 1024]⟩
abbrev S1024x512 : Shape := ⟨2, ![1024, 512]⟩
abbrev S512x1024 : Shape := ⟨2, ![512, 1024]⟩

abbrev nBuf : Space → Nat
  | .hbm => 20
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x1024, .bf16⟩
  | .hbm, ⟨8, _⟩ => ⟨S4096x1024, .bf16⟩
  | .hbm, ⟨9, _⟩ => ⟨S4096x2816, .bf16⟩
  | .hbm, ⟨10, _⟩ => ⟨S4096x2816, .bf16⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S2816x1024, .bf16⟩
  | .hbm, ⟨16, _⟩ => ⟨S2816x1024, .bf16⟩
  | .hbm, ⟨17, _⟩ => ⟨S2816x1024, .bf16⟩
  | .hbm, ⟨18, _⟩ => ⟨S2816x1024, .bf16⟩
  | .hbm, ⟨19, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1024x1024, .f32⟩
  | .local _ .vmem, ⟨21, _⟩ => ⟨S1024x1024, .f32⟩
  | .local _ .vmem, ⟨22, _⟩ => ⟨S4096x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![11, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v75 : Index := Scalar.indexCast v1
  let c0_39 : Index := 0#32
  ![v75.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v54 : Index := Scalar.indexCast v1
  let c0_29 : Index := 0#32
  ![v54.toNat, 0]
def k0_cond4 (i : grid0.Coords) : BitVec 1 :=
  let arg0 : BitVec 32 := BitVec.ofNat 32 (i 0).val
  let c10_i32 : BitVec 32 := 10#32
  let v71 : BitVec 1 := Scalar.cmpi .eq arg0 c10_i32
  let v72 : BitVec 32 := Scalar.extui v71
  let c0_i32_37 : BitVec 32 := 0#32
  let v73 : BitVec 1 := Scalar.cmpi .ne v72 c0_i32_37
  v73

def k0_off3 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v74 : Index := Scalar.indexCast v1
  let c0_38 : Index := 0#32
  ![v74.toNat, 0]
def k0_cond3 (i : grid0.Coords) : BitVec 1 :=
  let arg1 : BitVec 32 := BitVec.ofNat 32 (i 1).val
  let c3_i32 : BitVec 32 := 3#32
  let v68 : BitVec 1 := Scalar.cmpi .eq arg1 c3_i32
  let v69 : BitVec 32 := Scalar.extui v68
  let c0_i32_36 : BitVec 32 := 0#32
  let v70 : BitVec 1 := Scalar.cmpi .ne v69 c0_i32_36
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .eq arg0 c10_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnReferenceIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S2816x1024, .f32⟩
  | .hbm, ⟨28, _⟩ => ⟨S1024x2816, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S2816x1024, .f32⟩
  | .hbm, ⟨35, _⟩ => ⟨S1024x2816, .f32⟩
  | .hbm, ⟨36, _⟩ => ⟨S4096x1024, .f32⟩
  | .hbm, ⟨37, _⟩ => ⟨S4096x1024, .f32⟩
  | .hbm, ⟨38, _⟩ => ⟨S2816x1024, .f32⟩
  | .hbm, ⟨39, _⟩ => ⟨S2816x1024, .bf16⟩
  | .hbm, ⟨40, _⟩ => ⟨S2816x1024, .f32⟩
  | .hbm, ⟨41, _⟩ => ⟨S2816x1024, .bf16⟩
  | .hbm, ⟨42, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== InKernel.lean ====
abbrev S4096x1024 : Shape := ⟨2, ![4096, 1024]⟩
abbrev S1x1024 : Shape := ⟨2, ![1, 1024]⟩
abbrev S1024x1536 : Shape := ⟨2, ![1024, 1536]⟩
abbrev S4096x1536 : Shape := ⟨2, ![4096, 1536]⟩
abbrev S4096x512 : Shape := ⟨2, ![4096, 512]⟩
abbrev S4096x4x128 : Shape := ⟨3, ![4096, 4, 128]⟩
abbrev S4x4096x128 : Shape := ⟨3, ![4, 4096, 128]⟩
abbrev S1536x1024 : Shape := ⟨2, ![1536, 1024]⟩
abbrev S_ : Shape := ⟨0, ![]⟩
abbrev S8x128 : Shape := ⟨2, ![8, 128]⟩
abbrev S512x1024 : Shape := ⟨2, ![512, 1024]⟩
abbrev S4x512x128 : Shape := ⟨3, ![4, 512, 128]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S512x512 : Shape := ⟨2, ![512, 512]⟩
abbrev S512x1536 : Shape := ⟨2, ![512, 1536]⟩
abbrev S1024 : Shape := ⟨1, ![1024]⟩

abbrev nBuf : Space → Nat
  | .hbm => 22
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S4096x1536, .f32⟩
  | .hbm, ⟨4, _⟩ => ⟨S4096x1024, .f32⟩
  | .hbm, ⟨5, _⟩ => ⟨S4096x1536, .bf16⟩
  | .hbm, ⟨6, _⟩ => ⟨S4096x512, .bf16⟩
  | .hbm, ⟨7, _⟩ => ⟨S4096x4x128, .bf16⟩
  | .hbm, ⟨8, _⟩ => ⟨S4x4096x128, .bf16⟩
  | .hbm, ⟨9, _⟩ => ⟨S4096x512, .bf16⟩
  | .hbm, ⟨10, _⟩ => ⟨S4096x4x128, .bf16⟩
  | .hbm, ⟨11, _⟩ => ⟨S4x4096x128, .bf16⟩
  | .hbm, ⟨12, _⟩ => ⟨S4096x512, .bf16⟩
  | .hbm, ⟨13, _⟩ => ⟨S4096x4x128, .bf16⟩
  | .hbm, ⟨14, _⟩ => ⟨S4x4096x128, .bf16⟩
  | .hbm, ⟨15, _⟩ => ⟨S1536x1024, .f32⟩
  | .hbm, ⟨16, _⟩ => ⟨S1536x1024, .bf16⟩
  | .hbm, ⟨17, _⟩ => ⟨S_, .f32⟩
  | .hbm, ⟨18, _⟩ => ⟨S8x128, .f32⟩
  | .hbm, ⟨19, _⟩ => ⟨S4096x1024, .f32⟩
  | .hbm, ⟨20, _⟩ => ⟨S1536x1024, .bf16⟩
  | .hbm, ⟨21, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S4x512x128, .bf16⟩
  | .local _ .vmem, ⟨5, _⟩ => ⟨S4x512x128, .bf16⟩
  | .local _ .vmem, ⟨6, _⟩ => ⟨S4x512x128, .bf16⟩
  | .local _ .vmem, ⟨7, _⟩ => ⟨S4x512x128, .bf16⟩
  | .local _ .vmem, ⟨8, _⟩ => ⟨S4x512x128, .bf16⟩
  | .local _ .vmem, ⟨9, _⟩ => ⟨S4x512x128, .bf16⟩
  | .local _ .vmem, ⟨10, _⟩ => ⟨S1x1024, .f32⟩
  | .local _ .vmem, ⟨11, _⟩ => ⟨S1536x1024, .bf16⟩
  | .local _ .vmem, ⟨12, _⟩ => ⟨S512x1024, .f32⟩
  | .local _ .vmem, ⟨13, _⟩ => ⟨S512x1024, .f32⟩
  | .local _ .vmem, ⟨14, _⟩ => ⟨S1536x1024, .bf16⟩
  | .local _ .vmem, ⟨15, _⟩ => ⟨S1x1024, .f32⟩
  | .local _ .vmem, ⟨16, _⟩ => ⟨S1536x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v79 : BitVec 1 := Scalar.cmpi .eq arg0 c7_i32
  let v80 : BitVec 32 := Scalar.extui v79
  let c0_i32_58 : BitVec 32 := 0#32
  let v81 : BitVec 1 := Scalar.cmpi .ne v80 c0_i32_58
  v81

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1536x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InReferenceIdeal.lean ====
abbrev S4096x1024 : Shape := ⟨2, ![4096, 1024]⟩
abbrev S1x1024 : Shape := ⟨2, ![1, 1024]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1536x1024 : Shape := ⟨2, ![1536, 1024]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S4096x1536, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1536, .f32⟩
  | .hbm, ⟨25, _⟩ => ⟨S1536x1024, .f32⟩
  | .hbm, ⟨26, _⟩ => ⟨S1024x1536, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S1536x1024, .f32⟩
  | .hbm, ⟨53, _⟩ => ⟨S1536x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== FfnFwdKernel.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S3 : Shape := ⟨1, ![3]⟩
abbrev S1 : Shape := ⟨1, ![1]⟩
abbrev S_ : Shape := ⟨0, ![]⟩
abbrev S256x1024 : Shape := ⟨2, ![256, 1024]⟩
abbrev S512x256 : Shape := ⟨2, ![512, 256]⟩
abbrev S256 : Shape := ⟨1, ![256]⟩
abbrev S256x1 : Shape := ⟨2, ![256, 1]⟩
abbrev S1024 : Shape := ⟨1, ![1024]⟩

abbrev nBuf : Space → Nat
  | .hbm => 19
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .bf16⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S2816x1024, .bf16⟩
  | .hbm, ⟨13, _⟩ => ⟨S4096x2816, .bf16⟩
  | .hbm, ⟨14, _⟩ => ⟨S4096x2816, .bf16⟩
  | .hbm, ⟨15, _⟩ => ⟨S4096x1024, .f32⟩
  | .hbm, ⟨16, _⟩ => ⟨S4096x1024, .bf16⟩
  | .hbm, ⟨17, _⟩ => ⟨S1x1024, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S2816x1024, .bf16⟩
  | .local _ .vmem, ⟨18, _⟩ => ⟨S2816x1024, .bf16⟩
  | .local _ .vmem, ⟨19, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnFwdReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S4096x1, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S_, .f32⟩
  | .hbm, ⟨104, _⟩ => ⟨S1024, .f32⟩
  | .hbm, ⟨105, _⟩ => ⟨S1x1024, .f32⟩
  | .hbm, ⟨106, _⟩ => ⟨S4096x2816, .bf16⟩
  | .hbm, ⟨107, _⟩ => ⟨S4096x2816, .bf16⟩
  | .hbm, ⟨108, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_cst_8 : Ref sig .tc := ⟨.hbm, 54, rfl⟩
abbrev main_cst_9 : Ref sig .tc := ⟨.hbm, 55, rfl⟩
abbrev main_v30 : Ref sig .tc := ⟨.hbm, 56, rfl⟩
abbrev main_v31 : Ref sig .tc := ⟨.hbm, 57, rfl⟩
abbrev main_cst_10 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_11 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_12 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_13 : Ref sig .tc := ⟨.hbm, 76, rfl⟩
abbrev main_v47 : Ref sig .tc := ⟨.hbm, 77, rfl⟩
abbrev main_v48 : Ref sig .tc := ⟨.hbm, 78, rfl⟩
abbrev main_cst_14 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_15 : Ref sig .tc := ⟨.hbm, 87, rfl⟩
abbrev main_v56 : Ref sig .tc := ⟨.hbm, 88, rfl⟩
abbrev main_v57 : Ref sig .tc := ⟨.hbm, 89, rfl⟩
abbrev main_cst_16 : Ref sig .tc := ⟨.hbm, 90, rfl⟩
abbrev main_v58 : Ref sig .tc := ⟨.hbm, 91, rfl⟩
abbrev main_v59 : Ref sig .tc := ⟨.hbm, 92, rfl⟩
abbrev main_cst_17 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_18 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩

abbrev nD : Nat := 1
abbrev τ : Topo := Topo.v7x

variable {F : FTy → Type} [FloatOps F]
-- ==== FwdInKernel.lean ====
abbrev S4096x1024 : Shape := ⟨2, ![4096, 1024]⟩
abbrev S1x1024 : Shape := ⟨2, ![1, 1024]⟩
abbrev S1024x1536 : Shape := ⟨2, ![1024, 1536]⟩
abbrev S1536x1024 : Shape := ⟨2, ![1536, 1024]⟩
abbrev S4x4096x128 : Shape := ⟨3, ![4, 4096, 128]⟩
abbrev S1024x1024 : Shape := ⟨2, ![1024, 1024]⟩
abbrev S4x1024x128 : Shape := ⟨3, ![4, 1024, 128]⟩
abbrev S1024 : Shape := ⟨1, ![1024]⟩
abbrev S1024x1 : Shape := ⟨2, ![1024, 1]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S1536x1024, .f32⟩
  | .hbm, ⟨4, _⟩ => ⟨S1536x1024, .bf16⟩
  | .hbm, ⟨5, _⟩ => ⟨S4x4096x128, .f32⟩
  | .hbm, ⟨6, _⟩ => ⟨S4x4096x128, .f32⟩
  | .hbm, ⟨7, _⟩ => ⟨S4x4096x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1536x1024, .bf16⟩
  | .local _ .vmem, ⟨4, _⟩ => ⟨S4x1024x128, .f32⟩
  | .local _ .vmem, ⟨5, _⟩ => ⟨S4x1024x128, .f32⟩
  | .local _ .vmem, ⟨6, _⟩ => ⟨S4x1024x128, .f32⟩
  | .local _ .vmem, ⟨7, _⟩ => ⟨S4x1024x128, .f32⟩
  | .local _ .vmem, ⟨8, _⟩ => ⟨S4x1024x128, .f32⟩
  | .local _ .vmem, ⟨9, _⟩ => ⟨S4x1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdInReferenceIdeal.lean ====
abbrev S4096x1024 : Shape := ⟨2, ![4096, 1024]⟩
abbrev S1x1024 : Shape := ⟨2, ![1, 1024]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩
abbrev S4096x512 : Shape := ⟨2, ![4096, 512]⟩
abbrev S4096x4x128 : Shape := ⟨3, ![4096, 4, 128]⟩
abbrev S4x4096x128 : Shape := ⟨3, ![4, 4096, 128]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1536, .f32⟩
  | .hbm, ⟨19, _⟩ => ⟨S4096x512, .f32⟩
  | .hbm, ⟨20, _⟩ => ⟨S4096x4x128, .f32⟩
  | .hbm, ⟨21, _⟩ => ⟨S4x4096x128, .f32⟩
  | .hbm, ⟨22, _⟩ => ⟨S4096x512, .f32⟩
  | .hbm, ⟨23, _⟩ => ⟨S4096x4x128, .f32⟩
  | .hbm, ⟨24, _⟩ => ⟨S4x4096x128, .f32⟩
  | .hbm, ⟨25, _⟩ => ⟨S4096x512, .f32⟩
  | .hbm, ⟨26, _⟩ => ⟨S4096x4x128, .f32⟩
  | .hbm, ⟨27, _⟩ => ⟨S4x4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== FwdOutKernel.lean ====
abbrev S4096x1024 : Shape := ⟨2, ![4096, 1024]⟩
abbrev S4096x512 : Shape := ⟨2, ![4096, 512]⟩
abbrev S1x512 : Shape := ⟨2, ![1, 512]⟩
abbrev S1024x1024 : Shape := ⟨2, ![1024, 1024]⟩
abbrev S1x1024 : Shape := ⟨2, ![1, 1024]⟩
abbrev S4096x4x128 : Shape := ⟨3, ![4096, 4, 128]⟩
abbrev S4x4096x128 : Shape := ⟨3, ![4, 4096, 128]⟩
abbrev S4x1024x128 : Shape := ⟨3, ![4, 1024, 128]⟩
abbrev S1x1024x128 : Shape := ⟨3, ![1, 1024, 128]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S1x1024, .f32⟩
  | .hbm, ⟨7, _⟩ => ⟨S4096x4x128, .f32⟩
  | .hbm, ⟨8, _⟩ => ⟨S4x4096x128, .f32⟩
  | .hbm, ⟨9, _⟩ => ⟨S4096x4x128, .f32⟩
  | .hbm, ⟨10, _⟩ => ⟨S4x4096x128, .f32⟩
  | .hbm, ⟨11, _⟩ => ⟨S1024x1024, .bf16⟩
  | .hbm, ⟨12, _⟩ => ⟨S4096x1024, .f32⟩
  | .hbm, ⟨13, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S4x1024x128, .f32⟩
  | .local _ .vmem, ⟨3, _⟩ => ⟨S4x1024x128, .f32⟩
  | .local _ .vmem, ⟨4, _⟩ => ⟨S4x1024x128, .f32⟩
  | .local _ .vmem, ⟨5, _⟩ => ⟨S4x1024x128, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdOutReferenceIdeal.lean ====
abbrev S4096x1024 : Shape := ⟨2, ![4096, 1024]⟩
abbrev S4096x512 : Shape := ⟨2, ![4096, 512]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S1x1024, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== OutKernel.lean ====
abbrev S4096x1024 : Shape := ⟨2, ![4096, 1024]⟩
abbrev S4096x512 : Shape := ⟨2, ![4096, 512]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4x128 : Shape := ⟨3, ![4096, 4, 128]⟩
abbrev S4x4096x128 : Shape := ⟨3, ![4, 4096, 128]⟩
abbrev S8x128 : Shape := ⟨2, ![8, 128]⟩
abbrev S4x512x128 : Shape := ⟨3, ![4, 512, 128]⟩
abbrev S512x1024 : Shape := ⟨2, ![512, 1024]⟩
abbrev S3x512x1024 : Shape := ⟨3, ![3, 512, 1024]⟩
abbrev S9 : Shape := ⟨1, ![9]⟩
abbrev S1 : Shape := ⟨1, ![1]⟩
abbrev S1x512x1024 : Shape := ⟨3, ![1, 512, 1024]⟩
abbrev S512 : Shape := ⟨1, ![512]⟩
abbrev S512x1 : Shape := ⟨2, ![512, 1]⟩
abbrev S1024 : Shape := ⟨1, ![1024]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 71
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x512, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x4x128, .f32⟩
  | .hbm, ⟨58, _⟩ => ⟨S4x4096x128, .f32⟩
  | .hbm, ⟨59, _⟩ => ⟨S4096x4x128, .f32⟩
  | .hbm, ⟨60, _⟩ => ⟨S4x4096x128, .f32⟩
  | .hbm, ⟨61, _⟩ => ⟨S1024x1024, .bf16⟩
  | .hbm, ⟨62, _⟩ => ⟨S_, .f32⟩
  | .hbm, ⟨63, _⟩ => ⟨S8x128, .f32⟩
  | .hbm, ⟨64, _⟩ => ⟨S4096x1024, .f32⟩
  | .hbm, ⟨65, _⟩ => ⟨S4x4096x128, .f32⟩
  | .hbm, ⟨66, _⟩ => ⟨S4x4096x128, .f32⟩
  | .hbm, ⟨67, _⟩ => ⟨S1024x1024, .bf16⟩
  | .hbm, ⟨68, _⟩ => ⟨S1x1024, .f32⟩
  | .hbm, ⟨69, _⟩ => ⟨S1x512, .f32⟩
  | .hbm, ⟨70, _⟩ => ⟨S1x512, .f32⟩
  | .local _ .vmem, ⟨0, _⟩ => ⟨S4x512x128, .f32⟩
  | .local _ .vmem, ⟨1, _⟩ => ⟨S4x512x128, .f32⟩
  | .local _ .vmem, ⟨2, _⟩ => ⟨S4x512x128, .f32⟩
  | .local _ .vmem, ⟨3, _⟩ => ⟨S4x512x128, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S4x512x128, .f32⟩
  | .local _ .vmem, ⟨11, _⟩ => ⟨S4x512x128, .f32⟩
  | .local _ .vmem, ⟨12, _⟩ => ⟨S4x512x128, .f32⟩
  | .local _ .vmem, ⟨13, _⟩ => ⟨S4x512x128, .f32⟩
  | .local _ .vmem, ⟨14, _⟩ => ⟨S1024x1024, .bf16⟩
  | .local _ .vmem, ⟨15, _⟩ => ⟨S1x1024, .f32⟩
  | .local _ .vmem, ⟨16, _⟩ => ⟨S1x512, .f32⟩
  | .local _ .vmem, ⟨17, _⟩ => ⟨S1x512, .f32⟩
  | .local _ .vmem, ⟨18, _⟩ => ⟨S1024x1024, .f32⟩
  | .local _ .vmem, ⟨19, _⟩ => ⟨S3x512x1024, .f32⟩
  | .local _ .vmem, ⟨20, _⟩ => ⟨S3x512x1024, .f32⟩
  | .local _ .vmem, ⟨21, _⟩ => ⟨S3x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45_0 : Ref sig .tc := ⟨.hbm, 64, rfl⟩
abbrev main_v45_1 : Ref sig .tc := ⟨.hbm, 65, rfl⟩
abbrev main_v45_2 : Ref sig .tc := ⟨.hbm, 66, rfl⟩
abbrev main_v45_3 : Ref sig .tc := ⟨.hbm, 67, rfl⟩
abbrev main_v45_4 : Ref sig .tc := ⟨.hbm, 68, rfl⟩
abbrev main_v45_5 : Ref sig .tc := ⟨.hbm, 69, rfl⟩
abbrev main_v45_6 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_133 : BitVec 32 := 0#32
  c0_i32_133
def k0_mult2 : BitVec 32 :=
  let c512_i32_149 : BitVec 32 := 512#32
  c512_i32_149
def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c8_i32 : BitVec 32 := 8#32
  let v5 : BitVec 1 := Scalar.cmpi .slt v4 c8_i32
  let v6 : BitVec 32 := Scalar.extui v5
  let c0_i32_1 : BitVec 32 := 0#32
  let v7 : BitVec 1 := Scalar.cmpi .ne v6 c0_i32_1
  v7

def k0_mult3 (i : grid0.Coords) : BitVec 32 :=
  let arg0 : BitVec 32 := BitVec.ofNat 32 (i 0).val
  let c3_i32_133 : BitVec 32 := 3#32
  let v235 : BitVec 32 := Scalar.addi arg0 c3_i32_133
  let c1_i32_134 : BitVec 32 := 1#32
  let v236 : BitVec 32 := Scalar.subi v235 c1_i32_134
  let c512_i32_141 : BitVec 32 := 512#32
  let v247 : BitVec 32 := Scalar.muli v236 c512_i32_141
  v247
def k0_off1 (i : grid0.Coords) (c0_i32_143 : BitVec 32) : Fin 1 → Nat :=
  let c3_i32_142 : BitVec 32 := 3#32
  let arg0 : BitVec 32 := BitVec.ofNat 32 (i 0).val
  let c3_i32_133 : BitVec 32 := 3#32
  let v235 : BitVec 32 := Scalar.addi arg0 c3_i32_133
  let c1_i32_134 : BitVec 32 := 1#32
  let v236 : BitVec 32 := Scalar.subi v235 c1_i32_134
  let c3_i32_135 : BitVec 32 := 3#32
  let c0_i32_136 : BitVec 32 := 0#32
  let v237 : BitVec 1 := Scalar.cmpi .eq c3_i32_135 c0_i32_136
  let c1_i32_137 : BitVec 32 := 1#32
  let v238 : BitVec 32 := Scalar.select v237 c1_i32_137 c3_i32_135
  let v239 : BitVec 32 := Scalar.remsi v236 v238
  let c0_i32_139 : BitVec 32 := 0#32
  let v241 : BitVec 1 := Scalar.cmpi .slt v239 c0_i32_139
  let c0_i32_140 : BitVec 32 := 0#32
  let v242 : BitVec 1 := Scalar.cmpi .slt v238 c0_i32_140
  let v243 : BitVec 1 := Scalar.xori v241 v242
  let c0_i32_138 : BitVec 32 := 0#32
  let v240 : BitVec 1 := Scalar.cmpi .ne v239 c0_i32_138
  let v244 : BitVec 1 := Scalar.andi v243 v240
  let v245 : BitVec 32 := Scalar.addi v239 v238
  let v246 : BitVec 32 := Scalar.select v244 v245 v239
  let v249 : BitVec 32 := Scalar.muli c3_i32_142 v246
  let v250 : BitVec 32 := Scalar.addi v249 c0_i32_143
  ![v250.toNat]
def k0_off2 (i : grid0.Coords) : Fin 3 → Nat :=
  let arg0 : BitVec 32 := BitVec.ofNat 32 (i 0).val
  let c3_i32_133 : BitVec 32 := 3#32
  let v235 : BitVec 32 := Scalar.addi arg0 c3_i32_133
  let c1_i32_134 : BitVec 32 := 1#32
  let v236 : BitVec 32 := Scalar.subi v235 c1_i32_134
  let c3_i32_135 : BitVec 32 := 3#32
  let c0_i32_136 : BitVec 32 := 0#32
  let v237 : BitVec 1 := Scalar.cmpi .eq c3_i32_135 c0_i32_136
  let c1_i32_137 : BitVec 32 := 1#32
  let v238 : BitVec 32 := Scalar.select v237 c1_i32_137 c3_i32_135
  let v239 : BitVec 32 := Scalar.remsi v236 v238
  let c0_i32_139 : BitVec 32 := 0#32
  let v241 : BitVec 1 := Scalar.cmpi .slt v239 c0_i32_139
  let c0_i32_140 : BitVec 32 := 0#32
  let v242 : BitVec 1 := Scalar.cmpi .slt v238 c0_i32_140
  let v243 : BitVec 1 := Scalar.xori v241 v242
  let c0_i32_138 : BitVec 32 := 0#32
  let v240 : BitVec 1 := Scalar.cmpi .ne v239 c0_i32_138
  let v244 : BitVec 1 := Scalar.andi v243 v240
  let v245 : BitVec 32 := Scalar.addi v239 v238
  let v246 : BitVec 32 := Scalar.select v244 v245 v239
  let c0_i32_148 : BitVec 32 := 0#32
  let c0_i32_149 : BitVec 32 := 0#32
  ![v246.toNat, 0, 0]
def k0_off3 (i : grid0.Coords) : Fin 2 → Nat :=
  let arg0 : BitVec 32 := BitVec.ofNat 32 (i 0).val
  let c3_i32_133 : BitVec 32 := 3#32
  let v235 : BitVec 32 := Scalar.addi arg0 c3_i32_133
  let c1_i32_134 : BitVec 32 := 1#32
  let v236 : BitVec 32 := Scalar.subi v235 c1_i32_134
  let c512_i32_141 : BitVec 32 := 512#32
  let v247 : BitVec 32 := Scalar.muli v236 c512_i32_141
  let v248 : BitVec 32 := v247
  let c0_i32_150 : BitVec 32 := 0#32
  ![v248.toNat, 0]
def k0_mult4 (i : grid0.Coords) : BitVec 32 :=
  let arg0 : BitVec 32 := BitVec.ofNat 32 (i 0).val
  let c512_i32 : BitVec 32 := 512#32
  let v18 : BitVec 32 := Scalar.muli arg0 c512_i32
  v18
def k0_off4 (i : grid0.Coords) (c0_i32_9 : BitVec 32) : Fin 1 → Nat :=
  let c3_i32_8 : BitVec 32 := 3#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let v20 : BitVec 32 := Scalar.muli c3_i32_8 v17
  let v21 : BitVec 32 := Scalar.addi v20 c0_i32_9
  ![v21.toNat]
def k0_off5 (i : grid0.Coords) : Fin 3 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_13 : BitVec 32 := 0#32
  let c0_i32_14 : BitVec 32 := 0#32
  ![v17.toNat, 0, 0]
def k0_off6 (i : grid0.Coords) : Fin 2 → Nat :=
  let arg0 : BitVec 32 := BitVec.ofNat 32 (i 0).val
  let c512_i32 : BitVec 32 := 512#32
  let v18 : BitVec 32 := Scalar.muli arg0 c512_i32
  let v19 : BitVec 32 := v18
  let c0_i32_15 : BitVec 32 := 0#32
  ![v19.toNat, 0]
def k0_off7 (i : grid0.Coords) : Fin 3 → Nat :=
  let arg0 : BitVec 32 := BitVec.ofNat 32 (i 0).val
  let c3_i32_22 : BitVec 32 := 3#32
  let c0_i32_23 : BitVec 32 := 0#32
  let v41 : BitVec 1 := Scalar.cmpi .eq c3_i32_22 c0_i32_23
  let c1_i32_24 : BitVec 32 := 1#32
  let v42 : BitVec 32 := Scalar.select v41 c1_i32_24 c3_i32_22
  let v43 : BitVec 32 := Scalar.remsi arg0 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v55 : Index := Scalar.indexCast v50
  let c0_31 : Index := 0#32
  let c0_32 : Index := 0#32
  ![v55.toNat, 0, 0]
def k0_cond4 (i : grid0.Coords) : BitVec 1 :=
  let arg0 : BitVec 32 := BitVec.ofNat 32 (i 0).val
  let c7_i32 : BitVec 32 := 7#32
  let v232 : BitVec 1 := Scalar.cmpi .eq arg0 c7_i32
  let v233 : BitVec 32 := Scalar.extui v232
  let c0_i32_132 : BitVec 32 := 0#32
  let v234 : BitVec 1 := Scalar.cmpi .ne v233 c0_i32_132
  v234

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== OutReferenceIdeal.lean ====
abbrev S4096x1024 : Shape := ⟨2, ![4096, 1024]⟩
abbrev S4096x512 : Shape := ⟨2, ![4096, 512]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S512 : Shape := ⟨1, ![512]⟩
abbrev S4096x4x128 : Shape := ⟨3, ![4096, 4, 128]⟩
abbrev S4x4096x128 : Shape := ⟨3, ![4, 4096, 128]⟩

abbrev nBuf : Space → Nat
  | .hbm => 150
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S1x512, .f32⟩
  | 4 => ⟨S1x512, .f32⟩
  | 5 => ⟨S1024x1024, .f32⟩
  | 6 => ⟨S1x1024, .f32⟩
  | 7 => ⟨S4096x1024, .f32⟩
  | 8 => ⟨S4096x1024, .f32⟩
  | 9 => ⟨S4096x512, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x512, .f32⟩
  | 44 => ⟨S4096x512, .f32⟩
  | 45 => ⟨S4096x512, .f32⟩
  | 46 => ⟨S4096x512, .f32⟩
  | 47 => ⟨S4096x1024, .f32⟩
  | 48 => ⟨S4096x1024, .f32⟩
  | 49 => ⟨S4096x1024, .f32⟩
  | 50 => ⟨S4096x1024, .f32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S_, .f32⟩
  | 71 => ⟨S1024, .f32⟩
  | 72 => ⟨S1x1024, .f32⟩
  | 73 => ⟨S4096x1024, .f32⟩
  | 74 => ⟨S4096x1024, .f32⟩
  | 75 => ⟨S4096x1024, .f32⟩
  | 76 => ⟨S_, .f32⟩
  | 77 => ⟨S4096, .f32⟩
  | 78 => ⟨S4096x1, .f32⟩
  | 79 => ⟨S4096x1024, .f32⟩
  | 80 => ⟨S4096x1024, .f32⟩
  | 81 => ⟨S4096x1024, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S1024x1024, .f32⟩
  | 95 => ⟨S1024x1024, .f32⟩
  | 96 => ⟨S4096x1024, .f32⟩
  | 97 => ⟨S4096x512, .f32⟩
  | 98 => ⟨S4096x512, .f32⟩
  | 99 => ⟨S4096x512, .f32⟩
  | 100 => ⟨S_, .f32⟩
  | 101 => ⟨S512, .f32⟩
  | 102 => ⟨S1x512, .f32⟩
  | 103 => ⟨S4096x512, .f32⟩
  | 104 => ⟨S4096x512, .f32⟩
  | 105 => ⟨S4096x512, .f32⟩
  | 106 => ⟨S_, .f32⟩
  | 107 => ⟨S4096, .f32⟩
  | 108 => ⟨S4096x1, .f32⟩
  | 109 => ⟨S4096x512, .f32⟩
  | 110 => ⟨S4096x512, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x512, .f32⟩
  | 118 => ⟨S4096x512, .f32⟩
  | 119 => ⟨S4096x512, .f32⟩
  | 120 => ⟨S4096x512, .f32⟩
  | 121 => ⟨S4096x512, .f32⟩
  | 122 => ⟨S4096x512, .f32⟩
  | 123 => ⟨S_, .f32⟩
  | 124 => ⟨S512, .f32⟩
  | 125 => ⟨S1x512, .f32⟩
  | 126 => ⟨S4096x512, .f32⟩
  | 127 => ⟨S4096x512, .f32⟩
  | _ => ⟨S4096x1024, .f32⟩

abbrev hbmTy0_1 (i : Nat) : BufTy := match i % 128 with
  | 0 => ⟨S4096x512, .f32⟩
  | 1 => ⟨S_, .f32⟩
  | 2 => ⟨S4096, .f32⟩
  | 3 => ⟨S4096x1, .f32⟩
  | 4 => ⟨S4096x512, .f32⟩
  | 5 => ⟨S4096x512, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096, .f32⟩
  | 12 => ⟨S4096x512, .f32⟩
  | 13 => ⟨S4096x512, .f32⟩
  | 14 => ⟨S4096x512, .f32⟩
  | 15 => ⟨S4096x512, .f32⟩
  | 16 => ⟨S4096x512, .f32⟩
  | 17 => ⟨S4096x4x128, .f32⟩
  | 18 => ⟨S4x4096x128, .f32⟩
  | 19 => ⟨S4096x4x128, .f32⟩
  | 20 => ⟨S4x4096x128, .f32⟩
  | 21 => ⟨S1024x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_cst_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_cst_18 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_19 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_20 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_21 : Ref sig .tc := ⟨.hbm, 135, rfl⟩
abbrev main_v104 : Ref sig .tc := ⟨.hbm, 136, rfl⟩
abbrev main_v105 : Ref sig .tc := ⟨.hbm, 137, rfl⟩
abbrev main_cst_22 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩

abbrev nD : Nat := 1
abbrev τ : Topo := Topo.v7x

variable {F : FTy → Type} [FloatOps F]
-- ==== AdamGateKernel.lean ====
abbrev S4x352x1024 : Shape := ⟨3, ![4, 352, 1024]⟩
abbrev S1x1024x352 : Shape := ⟨3, ![1, 1024, 352]⟩
abbrev S1024x352 : Shape := ⟨2, ![1024, 352]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 14
  | .vmem => 16
  | .smem => 0
  | _ => 0

abbrev bufTy : (tb : Table) → Fin (tcTables nBuf tb) → BufTy
  | .hbm, ⟨0, _⟩ => ⟨S4x352x1024, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1024x352, .f32⟩
  | .hbm, ⟨5, _⟩ => ⟨S352x1024, .f32⟩
  | .hbm, ⟨6, _⟩ => ⟨S1024x352, .f32⟩
  | .hbm, ⟨7, _⟩ => ⟨S352x1024, .f32⟩
  | .hbm, ⟨8, _⟩ => ⟨S1024x352, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateKernelIdeal.lean ====
abbrev S4x352x1024 : Shape := ⟨3, ![4, 352, 1024]⟩
abbrev S1x1024x352 : Shape := ⟨3, ![1, 1024, 352]⟩
abbrev S1024x352 : Shape := ⟨2, ![1024, 352]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 14
  | .vmem => 16
  | .smem => 0
  | _ => 0

abbrev bufTy : (tb : Table) → Fin (tcTables nBuf tb) → BufTy
  | .hbm, ⟨0, _⟩ => ⟨S4x352x1024, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1024x352, .f32⟩
  | .hbm, ⟨5, _⟩ => ⟨S352x1024, .f32⟩
  | .hbm, ⟨6, _⟩ => ⟨S1024x352, .f32⟩
  | .hbm, ⟨7, _⟩ => ⟨S352x1024, .f32⟩
  | .hbm, ⟨8, _⟩ => ⟨S1024x352, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateReferenceIdeal.lean ====
abbrev S4x352x1024 : Shape := ⟨3, ![4, 352, 1024]⟩
abbrev S1x1024x352 : Shape := ⟨3, ![1, 1024, 352]⟩
abbrev S_ : Shape := ⟨0, ![]⟩
abbrev S352x1024 : Shape := ⟨2, ![352, 1024]⟩
abbrev S1024x352 : Shape := ⟨2, ![1024, 352]⟩

abbrev nBuf : Space → Nat
  | .hbm => 46
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S4x352x1024, .f32⟩
  | .hbm, ⟨5, _⟩ => ⟨S_, .f32⟩
  | .hbm, ⟨6, _⟩ => ⟨S352x1024, .f32⟩
  | .hbm, ⟨7, _⟩ => ⟨S1024x352, .f32⟩
  | .hbm, ⟨8, _⟩ => ⟨S352x1024, .f32⟩
  | .hbm, ⟨9, _⟩ => ⟨S1024x352, .f32⟩
  | .hbm, ⟨10, _⟩ => ⟨S352x1024, .f32⟩
  | .hbm, ⟨11, _⟩ => ⟨S1024x352, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | .hbm, ⟨42, _⟩ => ⟨S352x1024, .f32⟩
  | .hbm, ⟨43, _⟩ => ⟨S_, .f32⟩
  | .hbm, ⟨44, _⟩ => ⟨S352x1024, .f32⟩
  | .hbm, ⟨45, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamDownKernel.lean ====
abbrev S8x352x1024 : Shape := ⟨3, ![8, 352, 1024]⟩
abbrev S1x352x1024 : Shape := ⟨3, ![1, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownKernelIdeal.lean ====
abbrev S8x352x1024 : Shape := ⟨3, ![8, 352, 1024]⟩
abbrev S1x352x1024 : Shape := ⟨3, ![1, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownReferenceIdeal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamInKernel.lean ====
abbrev S4x192x1024 : Shape := ⟨3, ![4, 192, 1024]⟩
abbrev S1x1024x192 : Shape := ⟨3, ![1, 1024, 192]⟩
abbrev S1024x192 : Shape := ⟨2, ![1024, 192]⟩
abbrev S192x1024 : Shape := ⟨2, ![192, 1024]⟩
abbrev S1x192x1024 : Shape := ⟨3, ![1, 192, 1024]⟩

abbrev nBuf : Space → Nat
  | .hbm => 14
  | .vmem => 8
  | .smem => 0
  | _ => 0

abbrev bufTy : (tb : Table) → Fin (tcTables nBuf tb) → BufTy
  | .hbm, ⟨0, _⟩ => ⟨S4x192x1024, .bf16⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S1024x192, .f32⟩
  | .hbm, ⟨5, _⟩ => ⟨S192x1024, .f32⟩
  | .hbm, ⟨6, _⟩ => ⟨S1024x192, .f32⟩
  | .hbm, ⟨7, _⟩ => ⟨S192x1024, .f32⟩
  | .hbm, ⟨8, _⟩ => ⟨S1024x192, .f32⟩
  | .hbm, ⟨9, _⟩ => ⟨S192x1024, .f32⟩
  | .hbm, ⟨10, _⟩ => ⟨S192x1024, .f32⟩
  | .hbm, ⟨11, _⟩ => ⟨S192x1024, .f32⟩
  | .hbm, ⟨12, _⟩ => ⟨S192x1024, .f32⟩
  | .hbm, ⟨13, _⟩ => ⟨S192x1024, .f32⟩
  | .local _ .vmem, ⟨0, _⟩ => ⟨S4x192x1024, .bf16⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | _, _ => ⟨S4x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamInReferenceIdeal.lean ====
abbrev S4x192x1024 : Shape := ⟨3, ![4, 192, 1024]⟩
abbrev S1x1024x192 : Shape := ⟨3, ![1, 1024, 192]⟩
abbrev S_ : Shape := ⟨0, ![]⟩
abbrev S192x1024 : Shape := ⟨2, ![192, 1024]⟩
abbrev S1024x192 : Shape := ⟨2, ![1024, 192]⟩

abbrev nBuf : Space → Nat
  | .hbm => 46
  | .vmem => 0
  | .smem => 0
  | _ => 0

abbrev bufTy : (tb : Table) → Fin (tcTables nBuf tb) → BufTy
  | .hbm, ⟨0, _⟩ => ⟨S4x192x1024, .bf16⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S4x192x1024, .f32⟩
  | .hbm, ⟨5, _⟩ => ⟨S_, .f32⟩
  | .hbm, ⟨6, _⟩ => ⟨S192x1024, .f32⟩
  | .hbm, ⟨7, _⟩ => ⟨S1024x192, .f32⟩
  | .hbm, ⟨8, _⟩ => ⟨S192x1024, .f32⟩
  | .hbm, ⟨9, _⟩ => ⟨S1024x192, .f32⟩
  | .hbm, ⟨10, _⟩ => ⟨S192x1024, .f32⟩
  | .hbm, ⟨11, _⟩ => ⟨S1024x192, .f32⟩
  | .hbm, ⟨12, _⟩ => ⟨S192x1024, .f32⟩
  | .hbm, ⟨13, _⟩ => ⟨S_, .f32⟩
  | .hbm, ⟨14, _⟩ => ⟨S192x1024, .f32⟩
  | .hbm, ⟨15, _⟩ => ⟨S192x1024, .f32⟩
  | .hbm, ⟨16, _⟩ => ⟨S_, .f32⟩
  | .hbm, ⟨17, _⟩ => ⟨S192x1024, .f32⟩
  | .hbm, ⟨18, _⟩ => ⟨S192x1024, .f32⟩
  | .hbm, ⟨19, _⟩ => ⟨S192x1024, .f32⟩
  | .hbm, ⟨20, _⟩ => ⟨S_, .f32⟩
  | .hbm, ⟨21, _⟩ => ⟨S192x1024, .f32⟩
  | .hbm, ⟨22, _⟩ => ⟨S192x1024, .f32⟩
  | .hbm, ⟨23, _⟩ => ⟨S192x1024, .f32⟩
  | .hbm, ⟨24, _⟩ => ⟨S_, .f32⟩
  | .hbm, ⟨25, _⟩ => ⟨S192x1024, .f32⟩
  | .hbm, ⟨26, _⟩ => ⟨S192x1024, .f32⟩
  | .hbm, ⟨27, _⟩ => ⟨S192x1024, .f32⟩
  | .hbm, ⟨28, _⟩ => ⟨S_, .f32⟩
  | .hbm, ⟨29, _⟩ => ⟨S192x1024, .f32⟩
  | .hbm, ⟨30, _⟩ => ⟨S192x1024, .f32⟩
  | .hbm, ⟨31, _⟩ => ⟨S_, .f32⟩
  | .hbm, ⟨32, _⟩ => ⟨S192x1024, .f32⟩
  | .hbm, ⟨33, _⟩ => ⟨S192x1024, .f32⟩
  | .hbm, ⟨34, _⟩ => ⟨S192x1024, .f32⟩
  | .hbm, ⟨35, _⟩ => ⟨S_, .f32⟩
  | .hbm, ⟨36, _⟩ => ⟨S192x1024, .f32⟩
  | .hbm, ⟨37, _⟩ => ⟨S192x1024, .f32⟩
  | .hbm, ⟨38, _⟩ => ⟨S192x1024, .f32⟩
  | .hbm, ⟨39, _⟩ => ⟨S_, .f32⟩
  | .hbm, ⟨40, _⟩ => ⟨S192x1024, .f32⟩
  | .hbm, ⟨41, _⟩ => ⟨S192x1024, .f32⟩
  | .hbm, ⟨42, _⟩ => ⟨S192x1024, .f32⟩
  | .hbm, ⟨43, _⟩ => ⟨S_, .f32⟩
  | .hbm, ⟨44, _⟩ => ⟨S192x1024, .f32⟩
  | .hbm, ⟨45, _⟩ => ⟨S192x1024, .f32⟩
  | _, _ => ⟨S4x192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamOutKernel.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutReferenceIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamNormKernel.lean ====
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S8x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormReferenceIdeal.lean ====
abbrev S8x1x1024 : Shape := ⟨3, ![8, 1, 1024]⟩
abbrev S1x1024 : Shape := ⟨2, ![1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.FfnMath.lean ====
module

public import Idealize.ShloMosaic.Lib.Pointwise

@[expose] public section

noncomputable section

/-!
# The gradient of the SwiGLU mixer, entry by entry

The mixer is `(silu (x·Wg) ⊙ (x·Wu)) · Wd`. Here are the entries of the intermediate arrays of its gradient over the extended reals, the two
spellings of the gradient of `silu` with the proof that they agree on real numbers, and the regrouping of long sums into blocks.
-/

namespace Cert.Ffn

open Idealize.ShloMosaic

variable (x : Fin 4096 → Fin 1024 → EReal) (wg wu : Fin 1024 → Fin 2816 → EReal) (wd : Fin 2816 → Fin 1024 → EReal) (ct : Fin 4096 → Fin 1024 → EReal)

/-- The product of the input and one of the two input weights. -/
def proj (w : Fin 1024 → Fin 2816 → EReal) (r : Fin 4096) (h : Fin 2816) : EReal := ∑ k, x r k * w k h
/-- The gradient that reaches the hidden layer. -/
def back (r : Fin 4096) (h : Fin 2816) : EReal := ∑ k, ct r k * wd h k

/-- The hidden layer from the gate's and the other branch's entry. -/
def hidden (g u : EReal) : EReal := g * Ideal.logistic g * u
/-- The gradient at the other branch. -/
def upGrad (g a : EReal) : EReal := a * (g * Ideal.logistic g)
/-- The gradient at the gate. -/
def gateGrad (g u a : EReal) : EReal := a * u * (Ideal.logistic g * (1 + g * (1 - Ideal.logistic g)))

/-! The four results. -/

/-- The gradient of the gate's weight, transposed. -/
def dGate (h : Fin 2816) (d : Fin 1024) : EReal := ∑ r, gateGrad (proj x wg r h) (proj x wu r h) (back wd ct r h) * x r d
/-- The gradient of the other input weight, transposed. -/
def dUp (h : Fin 2816) (d : Fin 1024) : EReal := ∑ r, upGrad (proj x wg r h) (back wd ct r h) * x r d
/-- The gradient of the output weight. -/
def dDown (h : Fin 2816) (d : Fin 1024) : EReal := ∑ r, hidden (proj x wg r h) (proj x wu r h) * ct r d
/-- The gradient of the input. -/
def dInput (r : Fin 4096) (d : Fin 1024) : EReal :=
  (∑ h, gateGrad (proj x wg r h) (proj x wu r h) (back wd ct r h) * wg d h) + ∑ h, upGrad (proj x wg r h) (back wd ct r h) * wu d h

/-- The gradient at the gate in the form that the derivative of a product gives. -/
theorem gateGrad_eq (g u a : EReal) (hg : g ≠ ⊤ ∧ g ≠ ⊥) (ha : a * u ≠ ⊤ ∧ a * u ≠ ⊥) :
    a * u * Ideal.logistic g + g * (a * u) * (Ideal.logistic g * (1 - Ideal.logistic g)) = gateGrad g u a := by
  unfold gateGrad
  lift g to ℝ using hg
  generalize a * u = p at *
  lift p to ℝ using ha
  rw [Ideal.logistic_coe]
  generalize (1 + Real.exp (-g))⁻¹ = s
  norm_cast
  ring_nf

/-! ## Sums -/

theorem real_sum {n : ℕ} (f : Fin n → EReal) (h : ∀ i, f i ≠ ⊤ ∧ f i ≠ ⊥) : (∑ i, f i) ≠ ⊤ ∧ (∑ i, f i) ≠ ⊥ := by
  refine Finset.sum_induction f (fun x => x ≠ ⊤ ∧ x ≠ ⊥) (fun a b ha hb => ?_) ⟨EReal.zero_ne_top, EReal.zero_ne_bot⟩ fun i _ => h i
  lift a to ℝ using ha
  lift b to ℝ using hb
  rw [← EReal.coe_add]
  exact ⟨EReal.coe_ne_top _, EReal.coe_ne_bot _⟩

theorem real_mul {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

/-- Both products that a real input enters are real. -/
theorem real_proj {x : Fin 4096 → Fin 1024 → EReal} {w : Fin 1024 → Fin 2816 → EReal} (hx : ∀ i j, x i j ≠ ⊤ ∧ x i j ≠ ⊥)
    (hw : ∀ i j, w i j ≠ ⊤ ∧ w i j ≠ ⊥) (r : Fin 4096) (h : Fin 2816) : proj x w r h ≠ ⊤ ∧ proj x w r h ≠ ⊥ :=
  real_sum _ fun k => real_mul (hx r k) (hw k h)
theorem real_back {wd : Fin 2816 → Fin 1024 → EReal} {ct : Fin 4096 → Fin 1024 → EReal} (hd : ∀ i j, wd i j ≠ ⊤ ∧ wd i j ≠ ⊥)
    (hc : ∀ i j, ct i j ≠ ⊤ ∧ ct i j ≠ ⊥) (r : Fin 4096) (h : Fin 2816) : back wd ct r h ≠ ⊤ ∧ back wd ct r h ≠ ⊥ :=
  real_sum _ fun k => real_mul (hc r k) (hd h k)

/-- A sum over the tokens, block after block of 1024. -/
theorem sum_tokens (f : Fin 4096 → EReal) (row : ℕ → Fin 1024 → Fin 4096) (hrow : ∀ t < 4, ∀ r, (row t r).val = 1024 * t + r.val) :
    (∑ t ∈ Finset.range 4, ∑ r, f (row t r)) = ∑ i, f i := by
  rw [Fin.sum_univ_tiles 4 1024 rfl, Finset.sum_range]
  exact Finset.sum_congr rfl fun t _ => Finset.sum_congr rfl fun r _ => congrArg f (Fin.ext ((hrow _ t.isLt r).trans (by rw [Nat.mul_comm])))

/-- A sum over the hidden units, block after block of 256. -/
theorem sum_units (f : Fin 2816 → EReal) (unit : ℕ → Fin 256 → Fin 2816) (hunit : ∀ j < 11, ∀ h, (unit j h).val = 256 * j + h.val) :
    (∑ j ∈ Finset.range 11, ∑ h, f (unit j h)) = ∑ i, f i := by
  rw [Fin.sum_univ_tiles 11 256 rfl, Finset.sum_range]
  exact Finset.sum_congr rfl fun t _ => Finset.sum_congr rfl fun r _ => congrArg f (Fin.ext ((hunit _ t.isLt r).trans (by rw [Nat.mul_comm])))

end Cert.Ffn

end
-- ==== Proof.FfnBody.lean ====
module

public import proofs.«01_k».proof.Proof.Gen.FfnKernelIdeal.Frame
public import proofs.«01_k».proof.Proof.Gen.FfnKernelIdeal.Skeleton
public import Idealize.ShloMosaic.Lib.Pipeline.Frame
public import Idealize.ShloMosaic.Lib.Pipeline.FrameBody
public import Idealize.ShloMosaic.Lib.Tactic
public import Idealize.ShloMosaic.Lib.VecWindow

@[expose] public section

set_option maxRecDepth 16384

noncomputable section

namespace Cert.FfnKernelIdeal.Hand

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What one grid point does to the four running sums -/

/-- The sum of `d_gate` blocks, one block of tokens further. -/
def stepG (n2 dh : Vec F S1024x1024 .bf16) (g u : Vec F S1024x256 .bf16) (wd : Vec F S256x1024 .bf16) (a : Vec F S256x1024 .f32) : Vec F S256x1024 .f32 :=
  k0_pay20 (k0_pay9 n2) (k0_pay17 dh g u wd) a
/-- The sum of `d_up` blocks, one block of tokens further. -/
def stepU (n2 dh : Vec F S1024x1024 .bf16) (g : Vec F S1024x256 .bf16) (wd : Vec F S256x1024 .bf16) (a : Vec F S256x1024 .f32) : Vec F S256x1024 .f32 :=
  k0_pay21 (k0_pay9 n2) (k0_pay16 dh g wd) a
/-- The sum of `d_down` blocks, one block of tokens further. -/
def stepD (dh : Vec F S1024x1024 .bf16) (g u : Vec F S1024x256 .bf16) (a : Vec F S256x1024 .f32) : Vec F S256x1024 .f32 :=
  k0_pay19 (k0_pay10 dh) a (k0_pay18 g u)
/-- The sum of a row block of `dn2`, one block of hidden columns further. -/
def stepN (dh : Vec F S1024x1024 .bf16) (g u : Vec F S1024x256 .bf16) (wg wu wd : Vec F S256x1024 .bf16) (a : Vec F S1024x1024 .f32) : Vec F S1024x1024 .f32 :=
  k0_pay22 (k0_pay16 dh g wd) (k0_pay17 dh g u wd) a wg wu

/-! ## The conditions of the body, in grid coordinates -/

theorem rows_inb (t : Fin 4) : ∀ a : Fin 2, (![1024 * t.val, 0] : Fin 2 → ℕ) a + S1024x1024.size a ≤ S4096x1024.size a := by
  revert t; decide

/-- Row block `t` of the running sum of `dn2`. -/
abbrev rows (a : Vec F S4096x1024 .f32) (t : Fin 4) : Vec F S1024x1024 .f32 :=
  VecWindow.window (s := S4096x1024) a ![1024 * t.val, 0] S1024x1024.size (rows_inb t)

/-- `a` with its row block `t` replaced by `w`. -/
abbrev putRows (a : Vec F S4096x1024 .f32) (t : Fin 4) (w : Vec F S1024x1024 .f32) : Vec F S4096x1024 .f32 :=
  VecWindow.put (s := S4096x1024) a ![1024 * t.val, 0] S1024x1024.size w

theorem cond1_iff : ∀ i : grid0.Coords,
    Scalar.cmpi .ne (Scalar.extui (Scalar.cmpi .eq (BitVec.ofNat 32 (i 1).val) 0#32) : BitVec 32) 0#32 = 1#1 ↔ (i 1).val = 0 := by decide +kernel
theorem cond2_iff : ∀ i : grid0.Coords, k0_cond2 i = 1#1 ↔ (i 0).val = 0 := by decide +kernel
theorem cond3_iff : ∀ i : grid0.Coords, k0_cond3 i = 1#1 ↔ (i 1).val = 3 := by decide +kernel
theorem cond4_iff : ∀ i : grid0.Coords, k0_cond4 i = 1#1 ↔ (i 0).val = 10 := by decide +kernel

/-! ## The body, run -/

/-- The place of the rows of a token block. -/
theorem place_eq (i : grid0.Coords) : (![BitVec.toNat (Scalar.indexCast (Scalar.muli (BitVec.ofNat 32 ↑(i 1)) 1024#32)), 0] : Fin 2 → ℕ) =
    ![1024 * (i 1).val, 0] :=
  k0_off2_eq i

/-- A load at the place of a token block reads its rows. -/
theorem read_rows (v : View sig .tc .vmem S4096x1024 .f32) (f : v.ty.Contents (Elt F)) (i : grid0.Coords)
    (inb : ∀ a : Fin 2, (![BitVec.toNat (Scalar.indexCast (Scalar.muli (BitVec.ofNat 32 ↑(i 1)) 1024#32)), 0] : Fin 2 → ℕ) a + (![1024, 1024] : Fin 2 → ℕ) a ≤ S4096x1024.size a) :
    v.readAt (Elt F) (Rect.unit (s := S4096x1024) ![BitVec.toNat (Scalar.indexCast (Scalar.muli (BitVec.ofNat 32 ↑(i 1)) 1024#32)), 0] ![1024, 1024] inb).toLoadRect f = rows (v.read (Elt F) f) (i 1) :=
  View.readAt_unit (s := S4096x1024) v f inb (place_eq i) (rows_inb (i 1))

/-- A store at the place of a token block replaces its rows. -/
theorem read_putRows (v : View sig .tc .vmem S4096x1024 .f32) (f : v.ty.Contents (Elt F)) (i : grid0.Coords)
    (inb : ∀ a : Fin 2, (![BitVec.toNat (Scalar.indexCast (Scalar.muli (BitVec.ofNat 32 ↑(i 1)) 1024#32)), 0] : Fin 2 → ℕ) a + (![1024, 1024] : Fin 2 → ℕ) a ≤ S4096x1024.size a)
    (w : Vec F S1024x1024 .f32) (L : List (View.Piece (Elt F) S4096x1024 .f32)) :
    v.read (Elt F) (v.writes (Elt F) f (⟨Rect.unit (s := S4096x1024) ![BitVec.toNat (Scalar.indexCast (Scalar.muli (BitVec.ofNat 32 ↑(i 1)) 1024#32)), 0] ![1024, 1024] inb, w⟩ :: L)) =
      putRows (v.read (Elt F) (v.writes (Elt F) f L)) (i 1) w :=
  View.read_writes_cons_put (s := S4096x1024) v f inb w L (place_eq i)

/-- Of two replacements of the same rows the later one stands. -/
theorem putRows_putRows (a : Vec F S4096x1024 .f32) (t : Fin 4) (w w' : Vec F S1024x1024 .f32) : putRows (putRows a t w) t w' = putRows a t w' :=
  VecWindow.put_put_same (s := S4096x1024) a ![1024 * t.val, 0] S1024x1024.size w w'

/-! Loads and stores of a whole buffer. -/

theorem load_a {e : EltTy} (v : View sig .tc .vmem S1024x1024 e) (f : v.ty.Contents (Elt F)) (inb : ∀ a : Fin 2, (![0, 0] : Fin 2 → ℕ) a + (![1024, 1024] : Fin 2 → ℕ) a ≤ S1024x1024.size a) :
    v.readAt (Elt F) (Rect.unit (s := S1024x1024) ![0, 0] ![1024, 1024] inb).toLoadRect f = v.read (Elt F) f := View.readAt_full v f inb
theorem store_a {e : EltTy} (v : View sig .tc .vmem S1024x1024 e) (f : v.ty.Contents (Elt F)) (inb : ∀ a : Fin 2, (![0, 0] : Fin 2 → ℕ) a + (![1024, 1024] : Fin 2 → ℕ) a ≤ S1024x1024.size a) (w : Vec F S1024x1024 e) (L : List (View.Piece (Elt F) S1024x1024 e)) :
    v.read (Elt F) (v.writes (Elt F) f (⟨Rect.unit (s := S1024x1024) ![0, 0] ![1024, 1024] inb, w⟩ :: L)) = w := View.read_writes_full v f inb w L
theorem load_b {e : EltTy} (v : View sig .tc .vmem S1024x256 e) (f : v.ty.Contents (Elt F)) (inb : ∀ a : Fin 2, (![0, 0] : Fin 2 → ℕ) a + (![1024, 256] : Fin 2 → ℕ) a ≤ S1024x256.size a) :
    v.readAt (Elt F) (Rect.unit (s := S1024x256) ![0, 0] ![1024, 256] inb).toLoadRect f = v.read (Elt F) f := View.readAt_full v f inb
theorem load_c {e : EltTy} (v : View sig .tc .vmem S256x1024 e) (f : v.ty.Contents (Elt F)) (inb : ∀ a : Fin 2, (![0, 0] : Fin 2 → ℕ) a + (![256, 1024] : Fin 2 → ℕ) a ≤ S256x1024.size a) :
    v.readAt (Elt F) (Rect.unit (s := S256x1024) ![0, 0] ![256, 1024] inb).toLoadRect f = v.read (Elt F) f := View.readAt_full v f inb
theorem store_c {e : EltTy} (v : View sig .tc .vmem S256x1024 e) (f : v.ty.Contents (Elt F)) (inb : ∀ a : Fin 2, (![0, 0] : Fin 2 → ℕ) a + (![256, 1024] : Fin 2 → ℕ) a ≤ S256x1024.size a) (w : Vec F S256x1024 e) (L : List (View.Piece (Elt F) S256x1024 e)) :
    v.read (Elt F) (v.writes (Elt F) f (⟨Rect.unit (s := S256x1024) ![0, 0] ![256, 1024] inb, w⟩ :: L)) = w := View.read_writes_full v f inb w L
theorem reload_c (v : View sig .tc .vmem S256x1024 .f32) (inb : ∀ a : Fin 2, (![0, 0] : Fin 2 → ℕ) a + (![256, 1024] : Fin 2 → ℕ) a ≤ S256x1024.size a) (w : Vec F S256x1024 .f32) (L : List (View.Piece (Elt F) S256x1024 .f32)) :
    v.readCov (Val := Elt F) (⟨Rect.unit (s := S256x1024) ![0, 0] ![256, 1024] inb, w⟩ :: L) (Rect.unit (s := S256x1024) ![0, 0] ![256, 1024] inb).toLoadRect = w :=
  View.readCov_cons_toLoadRect (Val := Elt F) v (Rect.unit (s := S256x1024) ![0, 0] ![256, 1024] inb) w L

/-- A load at the place of the newest store reads what that stored. -/
theorem reload_rows (v : View sig .tc .vmem S4096x1024 .f32) (i : grid0.Coords)
    (inb : ∀ a : Fin 2, (![BitVec.toNat (Scalar.indexCast (Scalar.muli (BitVec.ofNat 32 ↑(i 1)) 1024#32)), 0] : Fin 2 → ℕ) a + (![1024, 1024] : Fin 2 → ℕ) a ≤ S4096x1024.size a)
    (w : Vec F S1024x1024 .f32) (L : List (View.Piece (Elt F) S4096x1024 .f32)) :
    v.readCov (Val := Elt F) (⟨Rect.unit (s := S4096x1024) ![BitVec.toNat (Scalar.indexCast (Scalar.muli (BitVec.ofNat 32 ↑(i 1)) 1024#32)), 0] ![1024, 1024] inb, w⟩ :: L) (Rect.unit (s := S4096x1024) ![BitVec.toNat (Scalar.indexCast (Scalar.muli (BitVec.ofNat 32 ↑(i 1)) 1024#32)), 0] ![1024, 1024] inb).toLoadRect = w :=
  View.readCov_cons_toLoadRect (Val := Elt F) v (Rect.unit (s := S4096x1024) ![BitVec.toNat (Scalar.indexCast (Scalar.muli (BitVec.ofNat 32 ↑(i 1)) 1024#32)), 0] ![1024, 1024] inb) w L

set_option backward.isDefEq.respectTransparency.types false in
set_option maxHeartbeats 4000000 in
/-- The body at a grid point, for any continuation: from its fifteen buffers at any contents it runs to its return; the inputs are as they
    were, the running sums are one step further (from zeros at their first step), and an output block is stored at its sum's last step. -/
theorem bodyRun (c : Dev nD) (i : grid0.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x256 .bf16) (harg4 : arg4.IsWhole)
    (arg5 : Memref sig .tc .vmem S1024x256 .bf16) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S256x1024 .bf16) (harg8 : arg8.IsWhole)
    (arg9 : Memref sig .tc .vmem S256x1024 .bf16) (harg9 : arg9.IsWhole)
    (arg10 : Memref sig .tc .vmem S256x1024 .bf16) (harg10 : arg10.IsWhole)
    (arg11 : Memref sig .tc .vmem S256x1024 .bf16) (harg11 : arg11.IsWhole)
    (arg12 : Memref sig .tc .vmem S1024x1024 .f32) (harg12 : arg12.IsWhole)
    (arg13 : Memref sig .tc .vmem S4096x1024 .f32) (harg13 : arg13.IsWhole)
    (arg14 : Memref sig .tc .vmem S256x1024 .f32) (harg14 : arg14.IsWhole)
    (arg15 : Memref sig .tc .vmem S256x1024 .f32) (harg15 : arg15.IsWhole)
    (arg16 : Memref sig .tc .vmem S256x1024 .f32) (harg16 : arg16.IsWhole)
    (n2 dh : Vec F S1024x1024 .bf16) (g u : Vec F S1024x256 .bf16) (wg wu wd y7 y8 y9 : Vec F S256x1024 .bf16)
    (y10 : Vec F S1024x1024 .f32) (aN : Vec F S4096x1024 .f32) (aG aU aD : Vec F S256x1024 .f32) (K : PUnit → sProp 𝕄) :
    iprop(owns (c : Thread nD τ) arg2 fullShare n2
        ∗ owns (c : Thread nD τ) arg3 fullShare dh
        ∗ owns (c : Thread nD τ) arg4 fullShare g
        ∗ owns (c : Thread nD τ) arg5 fullShare u
        ∗ owns (c : Thread nD τ) arg6 fullShare wg
        ∗ owns (c : Thread nD τ) arg7 fullShare wu
        ∗ owns (c : Thread nD τ) arg8 fullShare wd
        ∗ owns (c : Thread nD τ) arg9 fullShare y7
        ∗ owns (c : Thread nD τ) arg10 fullShare y8
        ∗ owns (c : Thread nD τ) arg11 fullShare y9
        ∗ owns (c : Thread nD τ) arg12 fullShare y10
        ∗ owns (c : Thread nD τ) arg13 fullShare aN
        ∗ owns (c : Thread nD τ) arg14 fullShare aG
        ∗ owns (c : Thread nD τ) arg15 fullShare aU
        ∗ owns (c : Thread nD τ) arg16 fullShare aD
        ∗ (iprop(owns (c : Thread nD τ) arg2 fullShare n2
            ∗ owns (c : Thread nD τ) arg3 fullShare dh
            ∗ owns (c : Thread nD τ) arg4 fullShare g
            ∗ owns (c : Thread nD τ) arg5 fullShare u
            ∗ owns (c : Thread nD τ) arg6 fullShare wg
            ∗ owns (c : Thread nD τ) arg7 fullShare wu
            ∗ owns (c : Thread nD τ) arg8 fullShare wd
            ∗ owns (c : Thread nD τ) arg9 fullShare (if (i 1).val = 3 then k0_pay1 (stepG n2 dh g u wd (if (i 1).val = 0 then k0_pay5 else aG)) else y7)
            ∗ owns (c : Thread nD τ) arg10 fullShare (if (i 1).val = 3 then k0_pay2 (stepU n2 dh g wd (if (i 1).val = 0 then k0_pay6 else aU)) else y8)
            ∗ owns (c : Thread nD τ) arg11 fullShare (if (i 1).val = 3 then k0_pay3 (stepD dh g u (if (i 1).val = 0 then k0_pay7 else aD)) else y9)
            ∗ owns (c : Thread nD τ) arg12 fullShare (if (i 0).val = 10 then k0_pay4 (stepN dh g u wg wu wd (if (i 0).val = 0 then k0_pay8 else rows aN (i 1))) else y10)
            ∗ owns (c : Thread nD τ) arg13 fullShare (putRows aN (i 1) (stepN dh g u wg wu wd (if (i 0).val = 0 then k0_pay8 else rows aN (i 1))))
            ∗ owns (c : Thread nD τ) arg14 fullShare (stepG n2 dh g u wd (if (i 1).val = 0 then k0_pay5 else aG))
            ∗ owns (c : Thread nD τ) arg15 fullShare (stepU n2 dh g wd (if (i 1).val = 0 then k0_pay6 else aU))
            ∗ owns (c : Thread nD τ) arg16 fullShare (stepD dh g u (if (i 1).val = 0 then k0_pay7 else aD))) -∗ K ⟨⟩))
      ⊢ wp frame (wpE (defs₀ (F := F)) Variants.none c none) Set.univ
          (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_eq_skeleton]; unfold cc0_ffn_bwd_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, HK⟩
  subst e2 e3 e4 e5 e6 e7 e8 e9 e10 e11 e12 e13 e14 e15 e16
  by_cases h1 : Scalar.cmpi .ne (Scalar.extui (Scalar.cmpi .eq (BitVec.ofNat 32 (i 1).val) 0#32) : BitVec 32) 0#32 = 1#1 <;>
  by_cases h2 : k0_cond2 i = 1#1 <;> by_cases h3 : k0_cond3 i = 1#1 <;> by_cases h4 : k0_cond4 i = 1#1 <;>
  ( have p1 := h1; have p2 := h2; have p3 := h3; have p4 := h4
    rw [cond1_iff] at p1; rw [cond2_iff] at p2; rw [cond3_iff] at p3; rw [cond4_iff] at p4
    first | (exfalso; omega) | skip) <;>
  (
    sl_exec (disch := first | exact h1 | exact h2 | exact h3 | exact h4)
    sl_step
    iapply HK
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    isplitl [H7]; iexists _; isplitr; swap; iexact H7; rotate_left
    isplitl [H8]; iexists _; isplitr; swap; iexact H8; rotate_left
    isplitl [H9]; iexists _; isplitr; swap; iexact H9; rotate_left
    isplitl [H10]; iexists _; isplitr; swap; iexact H10; rotate_left
    isplitl [H11]; iexists _; isplitr; swap; iexact H11; rotate_left
    isplitl [H12]; iexists _; isplitr; swap; iexact H12; rotate_left
    isplitl [H13]; iexists _; isplitr; swap; iexact H13; rotate_left
    isplitl [H14]; iexists _; isplitr; swap; iexact H14; rotate_left
    isplitl [H15]; iexists _; isplitr; swap; iexact H15; rotate_left
    iexists _; isplitr; swap; iexact H16
    all_goals ipureintro
    all_goals first
      | with_reducible rfl
      | (sl_unfold_words
         simp only [stepG, stepU, stepD, stepN, p1, p2, p3, p4, ↓reduceIte, Nat.reduceEqDiff, load_a, load_b, load_c, store_a, store_c,
           reload_c, read_rows, read_putRows, reload_rows, putRows_putRows]
         first | done | rfl | exact putRows_putRows (F := F) _ (i 1) _ _))

end Cert.FfnKernelIdeal.Hand

end
-- ==== Proof.FfnRun.lean ====
module

public import proofs.«01_k».proof.Proof.FfnBody
public import Idealize.ShloMosaic.Lib.Pipeline.ArrRel

@[expose] public section

set_option maxRecDepth 16384

noncomputable section

/-!
# The run of the feed-forward gradient kernel

Between two grid points the kernel carries four running sums. The invariant here names them: before point `n` (hidden block `n / 4`, token
block `n % 4`) the three weight sums are those of the token blocks already seen, and each row block of the sum of `dn2` is that of the hidden
blocks already seen by it.
-/

namespace Cert.FfnKernelIdeal.Hand

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Grid points -/

theorem coord0 : ∀ t : Fin grid0.N, (grid0.coords t 0).val = t.val / 4 := by decide +kernel
theorem coord1 : ∀ t : Fin grid0.N, (grid0.coords t 1).val = t.val % 4 := by decide +kernel

/-- Grid point number `n`. -/
def point (n : ℕ) : Fin cfg0.N := ⟨n % 44, Nat.mod_lt _ (by decide)⟩
theorem point_val (t : Fin cfg0.N) : point t.val = t := Fin.ext (Nat.mod_eq_of_lt t.isLt)

/-! ## The blocks of the inputs, and the sums over them -/

variable (c : Dev nD)

def bN2 (n : ℕ) : Vec F S1024x1024 .bf16 := iblk m c 0 (point n)
def bDh (n : ℕ) : Vec F S1024x1024 .bf16 := iblk m c 1 (point n)
def bG (n : ℕ) : Vec F S1024x256 .bf16 := iblk m c 2 (point n)
def bU (n : ℕ) : Vec F S1024x256 .bf16 := iblk m c 3 (point n)
def bWg (n : ℕ) : Vec F S256x1024 .bf16 := iblk m c 4 (point n)
def bWu (n : ℕ) : Vec F S256x1024 .bf16 := iblk m c 5 (point n)
def bWd (n : ℕ) : Vec F S256x1024 .bf16 := iblk m c 6 (point n)

/-- The sum of `d_gate` for hidden block `j` over its first `k` token blocks. -/
def accG (j : ℕ) : ℕ → Vec F S256x1024 .f32
  | 0 => k0_pay5
  | k + 1 => stepG (bN2 m c (4 * j + k)) (bDh m c (4 * j + k)) (bG m c (4 * j + k)) (bU m c (4 * j + k)) (bWd m c (4 * j + k)) (accG j k)
/-- The sum of `d_up` for hidden block `j` over its first `k` token blocks. -/
def accU (j : ℕ) : ℕ → Vec F S256x1024 .f32
  | 0 => k0_pay6
  | k + 1 => stepU (bN2 m c (4 * j + k)) (bDh m c (4 * j + k)) (bG m c (4 * j + k)) (bWd m c (4 * j + k)) (accU j k)
/-- The sum of `d_down` for hidden block `j` over its first `k` token blocks. -/
def accD (j : ℕ) : ℕ → Vec F S256x1024 .f32
  | 0 => k0_pay7
  | k + 1 => stepD (bDh m c (4 * j + k)) (bG m c (4 * j + k)) (bU m c (4 * j + k)) (accD j k)
/-- The sum of `dn2` for token block `t` over its first `k` hidden blocks. -/
def accN (t : ℕ) : ℕ → Vec F S1024x1024 .f32
  | 0 => k0_pay8
  | k + 1 => stepN (bDh m c (4 * k + t)) (bG m c (4 * k + t)) (bU m c (4 * k + t)) (bWg m c (4 * k + t)) (bWu m c (4 * k + t)) (bWd m c (4 * k + t)) (accN t k)

/-- How many hidden blocks row block `t` has seen before point `n`. -/
def seen (n t : ℕ) : ℕ := if t < n % 4 then n / 4 + 1 else n / 4

/-- What the four running sums are before point `n`. -/
structure Sums (n : ℕ) (aN : Vec F S4096x1024 .f32) (aG aU aD : Vec F S256x1024 .f32) : Prop where
  g : n % 4 ≠ 0 → aG = accG m c (n / 4) (n % 4)
  u : n % 4 ≠ 0 → aU = accU m c (n / 4) (n % 4)
  d : n % 4 ≠ 0 → aD = accD m c (n / 4) (n % 4)
  r : ∀ t : Fin 4, 0 < seen n t.val → rows aN t = accN m c t.val (seen n t.val)

/-! ## Row blocks -/

theorem rows_putRows (a : Vec F S4096x1024 .f32) (t : Fin 4) (w : Vec F S1024x1024 .f32) : rows (putRows a t w) t = w :=
  VecWindow.window_put_same (s := S4096x1024) a ![1024 * t.val, 0] S1024x1024.size (rows_inb t) w

theorem rows_putRows_of_ne (a : Vec F S4096x1024 .f32) (t t' : Fin 4) (h : t' ≠ t) (w : Vec F S1024x1024 .f32) :
    rows (putRows a t w) t' = rows a t' := by
  refine VecWindow.window_put_of_disjoint (s := S4096x1024) a ![1024 * t.val, 0] S1024x1024.size ![1024 * t'.val, 0] S1024x1024.size (rows_inb t') w 0 ?_
  have h' : t'.val ≠ t.val := fun e => h (Fin.ext e)
  show 1024 * t'.val + 1024 ≤ 1024 * t.val ∨ 1024 * t.val + 1024 ≤ 1024 * t'.val
  omega

/-- One point further the sums are one step further. -/
theorem Sums.step {n : ℕ} (i1 : Fin 4) (h1 : i1.val = n % 4) {aN : Vec F S4096x1024 .f32} {aG aU aD : Vec F S256x1024 .f32} (h : Sums m c n aN aG aU aD) :
    stepG (bN2 m c n) (bDh m c n) (bG m c n) (bU m c n) (bWd m c n) (if i1.val = 0 then k0_pay5 else aG) = accG m c (n / 4) (n % 4 + 1)
    ∧ stepU (bN2 m c n) (bDh m c n) (bG m c n) (bWd m c n) (if i1.val = 0 then k0_pay6 else aU) = accU m c (n / 4) (n % 4 + 1)
    ∧ stepD (bDh m c n) (bG m c n) (bU m c n) (if i1.val = 0 then k0_pay7 else aD) = accD m c (n / 4) (n % 4 + 1)
    ∧ stepN (bDh m c n) (bG m c n) (bU m c n) (bWg m c n) (bWu m c n) (bWd m c n) (if n / 4 = 0 then k0_pay8 else rows aN i1)
        = accN m c (n % 4) (n / 4 + 1) := by
  have e : 4 * (n / 4) + n % 4 = n := Nat.div_add_mod n 4
  simp only [accG, accU, accD, accN, e]
  have hr := h.r i1
  simp only [seen, h1, lt_irrefl, if_false] at hr
  refine ⟨?_, ?_, ?_, ?_⟩
  · congr 1
    by_cases hz : n % 4 = 0
    · rw [if_pos (h1.trans hz), hz]; rfl
    · rw [if_neg (fun q => hz (h1.symm.trans q)), h.g hz]
  · congr 1
    by_cases hz : n % 4 = 0
    · rw [if_pos (h1.trans hz), hz]; rfl
    · rw [if_neg (fun q => hz (h1.symm.trans q)), h.u hz]
  · congr 1
    by_cases hz : n % 4 = 0
    · rw [if_pos (h1.trans hz), hz]; rfl
    · rw [if_neg (fun q => hz (h1.symm.trans q)), h.d hz]
  · congr 1
    by_cases hz : n / 4 = 0
    · rw [if_pos hz, hz]; rfl
    · rw [if_neg hz, hr (Nat.pos_of_ne_zero hz)]

/-- The sums named before a point are, after it, those named before the next. -/
theorem Sums.next {n : ℕ} (i1 : Fin 4) (h1 : i1.val = n % 4) {aN : Vec F S4096x1024 .f32} {aG aU aD : Vec F S256x1024 .f32} (h : Sums m c n aN aG aU aD) :
    Sums m c (n + 1) (putRows aN i1 (accN m c (n % 4) (n / 4 + 1))) (accG m c (n / 4) (n % 4 + 1)) (accU m c (n / 4) (n % 4 + 1))
      (accD m c (n / 4) (n % 4 + 1)) := by
  have key : (n + 1) % 4 ≠ 0 → (n + 1) / 4 = n / 4 ∧ (n + 1) % 4 = n % 4 + 1 := fun h => by omega
  refine ⟨fun h => by rw [(key h).1, (key h).2], fun h => by rw [(key h).1, (key h).2], fun h => by rw [(key h).1, (key h).2], fun t ht => ?_⟩
  by_cases e : t = i1
  · subst e
    rw [rows_putRows, ← h1]
    congr 1
    unfold seen; split_ifs <;> omega
  · have e' : t.val ≠ n % 4 := fun q => e (Fin.ext (q.trans h1.symm))
    have hs : seen (n + 1) t.val = seen n t.val := by unfold seen; have := t.isLt; split_ifs <;> omega
    rw [rows_putRows_of_ne _ _ _ e, hs]
    exact h.r t (hs ▸ ht)

/-! ## The proof data -/

/-- The four scratch buffers, with sums as named before point `n`. -/
def carried (n : ℕ) : sProp 𝕄 :=
  iprop(∃ aN aG aU aD, ⌜Sums m c n aN aG aU aD⌝
    ∗ owns (c : Thread nD τ) (Memref.whole cc0_scratch0) fullShare aN
    ∗ owns (c : Thread nD τ) (Memref.whole cc0_scratch1) fullShare aG
    ∗ owns (c : Thread nD τ) (Memref.whole cc0_scratch2) fullShare aU
    ∗ owns (c : Thread nD τ) (Memref.whole cc0_scratch3) fullShare aD)

/-- What the body leaves in a window's buffer: an input as it was; an output, where its sum is complete, that sum. -/
def left (t : Fin cfg0.N) : (w : Fin cfg0.W) → (Y X : (cfg0.win w).block.Idx → Elt F (cfg0.win w).elt) → Prop
  | ⟨7, _⟩ => fun _ X => t.val % 4 = 3 → X = k0_pay1 (accG m c (t.val / 4) 4)
  | ⟨8, _⟩ => fun _ X => t.val % 4 = 3 → X = k0_pay2 (accU m c (t.val / 4) 4)
  | ⟨9, _⟩ => fun _ X => t.val % 4 = 3 → X = k0_pay3 (accD m c (t.val / 4) 4)
  | ⟨10, _⟩ => fun _ X => t.val / 4 = 10 → X = k0_pay4 (accN m c (t.val % 4) 11)
  | ⟨0, _⟩ => fun Y X => X = Y
  | ⟨1, _⟩ => fun Y X => X = Y
  | ⟨2, _⟩ => fun Y X => X = Y
  | ⟨3, _⟩ => fun Y X => X = Y
  | ⟨4, _⟩ => fun Y X => X = Y
  | ⟨5, _⟩ => fun Y X => X = Y
  | ⟨6, _⟩ => fun Y X => X = Y

/-- The proof data: the arrays as the region finds them, what the body leaves, the carried sums and the generator register. -/
def rdat : RDat τ (Elt F) Unit ℕ (UR sig nD τ) ℕ cfg0 c where
  A w := V m c (Pipeline.arrRef spec0 w)
  after w t := left m c t w
  Φ n := iprop(carried m c n.val ∗ ∃ r, prngReg c r)
  q _ := fullShare
  owed _ := 0

theorem A_eq (w : Fin cfg0.W) : (rdat m c).A w = V m c (Pipeline.arrRef spec0 w) := by dsimp only [rdat]

/-- An input window that keeps what it is handed holds its block. -/
theorem finds_input (w : Fin cfg0.W) (hw : (cfg0.win w).isOut = false) (hclip : ∀ t t' : Fin cfg0.N, (cfg0.win w).index t = (cfg0.win w).index t' →
      (cfg0.win w).clip (cfg0.grid.coords t) = (cfg0.win w).clip (cfg0.grid.coords t'))
    (hkeep : ∀ t Y X, (rdat m c).after w t Y X → X = Y) (t : Fin cfg0.N) (Y) (h : (rdat m c).Finds w t Y) :
    ∃ d, Y = (rdat m c).fetched w t d := (rdat m c).finds_in_eq_fetched w hw hclip hkeep t Y h

theorem find0 (t : Fin cfg0.N) (Y) (h : (rdat m c).Finds 0 t Y) : Y = bN2 m c t.val := by
  obtain ⟨d, rfl⟩ := finds_input m c 0 rfl (fun _ _ _ => rfl) (fun _ _ _ h => h) t Y h
  unfold bN2; rw [point_val]; unfold RDat.fetched RDat.blockOf iblk; rw [A_eq]; try rfl
theorem find1 (t : Fin cfg0.N) (Y) (h : (rdat m c).Finds 1 t Y) : Y = bDh m c t.val := by
  obtain ⟨d, rfl⟩ := finds_input m c 1 rfl (fun _ _ _ => rfl) (fun _ _ _ h => h) t Y h
  unfold bDh; rw [point_val]; unfold RDat.fetched RDat.blockOf iblk; rw [A_eq]; try rfl
theorem find2 (t : Fin cfg0.N) (Y) (h : (rdat m c).Finds 2 t Y) : Y = bG m c t.val := by
  obtain ⟨d, rfl⟩ := finds_input m c 2 rfl (fun _ _ _ => rfl) (fun _ _ _ h => h) t Y h
  unfold bG; rw [point_val]; unfold RDat.fetched RDat.blockOf iblk; rw [A_eq]; try rfl
theorem find3 (t : Fin cfg0.N) (Y) (h : (rdat m c).Finds 3 t Y) : Y = bU m c t.val := by
  obtain ⟨d, rfl⟩ := finds_input m c 3 rfl (fun _ _ _ => rfl) (fun _ _ _ h => h) t Y h
  unfold bU; rw [point_val]; unfold RDat.fetched RDat.blockOf iblk; rw [A_eq]; try rfl
theorem find4 (t : Fin cfg0.N) (Y) (h : (rdat m c).Finds 4 t Y) : Y = bWg m c t.val := by
  obtain ⟨d, rfl⟩ := finds_input m c 4 rfl (fun _ _ _ => rfl) (fun _ _ _ h => h) t Y h
  unfold bWg; rw [point_val]; unfold RDat.fetched RDat.blockOf iblk; rw [A_eq]; try rfl
theorem find5 (t : Fin cfg0.N) (Y) (h : (rdat m c).Finds 5 t Y) : Y = bWu m c t.val := by
  obtain ⟨d, rfl⟩ := finds_input m c 5 rfl (fun _ _ _ => rfl) (fun _ _ _ h => h) t Y h
  unfold bWu; rw [point_val]; unfold RDat.fetched RDat.blockOf iblk; rw [A_eq]; try rfl
theorem find6 (t : Fin cfg0.N) (Y) (h : (rdat m c).Finds 6 t Y) : Y = bWd m c t.val := by
  obtain ⟨d, rfl⟩ := finds_input m c 6 rfl (fun _ _ _ => rfl) (fun _ _ _ h => h) t Y h
  unfold bWd; rw [point_val]; unfold RDat.fetched RDat.blockOf iblk; rw [A_eq]; try rfl

/-! ## The body obligation -/

theorem defs₀_row (t : Fin cfg0.N) : defs₀ (F := F) .tc cfg0.body (cfg0.bodyArgs t (cfg0.slots t)) = bodyAt0 t := by
  unfold defs₀; rw [Defs.onTc_tc]

theorem body_obligation : (rdat (F := F) m c).BodyObligation (defs₀ (F := F)) Variants.none () Set.univ := fun t Y hY => by
  have e0 := find0 m c t _ (hY 0)
  have e1 := find1 m c t _ (hY 1)
  have e2 := find2 m c t _ (hY 2)
  have e3 := find3 m c t _ (hY 3)
  have e4 := find4 m c t _ (hY 4)
  have e5 := find5 m c t _ (hY 5)
  have e6 := find6 m c t _ (hY 6)
  have c0 : (grid0.coords t 0).val = t.val / 4 := coord0 t
  have c1 : (grid0.coords t 1).val = t.val % 4 := coord1 t
  rw [bigSep_W0, bigSep_W0, defs₀_row]
  rw [show (rdat m c).Φ t.castSucc = iprop(carried m c t.val ∗ ∃ r, prngReg c r) from rfl,
    show (rdat m c).Φ t.succ = iprop(carried m c (t.val + 1) ∗ ∃ r, prngReg c r) from rfl,
    show (rdat m c).owesAt () t.succ = (rdat m c).owesAt () t.castSucc from rfl]
  unfold carried
  iintro ⟨⟨⟨%aN, %aG, %aU, %aD, %hS, HN, HG, HU, HD⟩, Hg⟩, HO, H0, H1, H2, H3, H4, H5, H6, H7, H8, H9, H10⟩
  obtain ⟨sG, sU, sD, sN⟩ := hS.step m c (grid0.coords t 1) c1
  have nx := hS.next m c (grid0.coords t 1) c1
  iapply (bodyRun c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4))
    _ (hstage0_5 ((cfg0.slots t 5).cast nbuf0_5)) _ (hstage0_6 ((cfg0.slots t 6).cast nbuf0_6)) _ (hstage0_7 ((cfg0.slots t 7).cast nbuf0_7))
    _ (hstage0_8 ((cfg0.slots t 8).cast nbuf0_8)) _ (hstage0_9 ((cfg0.slots t 9).cast nbuf0_9)) _ (hstage0_10 ((cfg0.slots t 10).cast nbuf0_10))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Y 0) (Y 1) (Y 2) (Y 3) (Y 4) (Y 5) (Y 6) (Y 7) (Y 8) (Y 9) (Y 10) aN aG aU aD _)
  isplitl [H0]; iexact H0
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [HN]; iexact HN
  isplitl [HG]; iexact HG
  isplitl [HU]; iexact HU
  isplitl [HD]; iexact HD
  iintro ⟨H0, H1, H2, H3, H4, H5, H6, H7, H8, H9, H10, HN, HG, HU, HD⟩
  isplitl [HN HG HU HD Hg]
  · isplitr [Hg]
    · iexists _, _, _, _
      isplitr
      swap
      · isplitl [HN]; iexact HN
        isplitl [HG]; iexact HG
        isplitl [HU]; iexact HU
        iexact HD
      ipureintro
      rw [e0, e1, e2, e3, e4, e5, e6, c0, sG, sU, sD, sN]
      exact nx
    · iexact Hg
  isplitl [HO]; iexact HO
  isplitl [H0]; iexists _; isplitr; swap; iexact H0; ipureintro; exact rfl
  isplitl [H1]; iexists _; isplitr; swap; iexact H1; ipureintro; exact rfl
  isplitl [H2]; iexists _; isplitr; swap; iexact H2; ipureintro; exact rfl
  isplitl [H3]; iexists _; isplitr; swap; iexact H3; ipureintro; exact rfl
  isplitl [H4]; iexists _; isplitr; swap; iexact H4; ipureintro; exact rfl
  isplitl [H5]; iexists _; isplitr; swap; iexact H5; ipureintro; exact rfl
  isplitl [H6]; iexists _; isplitr; swap; iexact H6; ipureintro; exact rfl
  isplitl [H7]; iexists _; isplitr; swap; iexact H7; ipureintro
  · intro h3
    rw [if_pos (c1.trans h3), e0, e1, e2, e3, e6, sG, h3]
  isplitl [H8]; iexists _; isplitr; swap; iexact H8; ipureintro
  · intro h3
    rw [if_pos (c1.trans h3), e0, e1, e2, e6, sU, h3]
  isplitl [H9]; iexists _; isplitr; swap; iexact H9; ipureintro
  · intro h3
    rw [if_pos (c1.trans h3), e1, e2, e3, sD, h3]
  iexists _; isplitr; swap; iexact H10; ipureintro
  intro h3
  rw [c0, if_pos h3, e1, e2, e3, e4, e5, e6, sN, h3]

/-! ## The launch -/

/-- The class invariant, conjunct by conjunct: the four scratch buffers at some contents, the generator register at some state. -/
theorem PhiA_eq : (Pipeline.ΦA spec0 c : sProp 𝕄) =
    iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d))
      ∗ ∃ r, prngReg c r) := by
  unfold Pipeline.ΦA; rw [scopedRest0_eq]; simp only [owns_whole]; try rfl

theorem enter : (Pipeline.ΦA spec0 c : sProp 𝕄) ⊢ (rdat m c).Φ 0 := by
  rw [PhiA_eq, show (rdat m c).Φ 0 = iprop(carried m c 0 ∗ ∃ r, prngReg c r) from rfl]
  unfold carried
  iintro ⟨⟨⟨%aN, HN⟩, ⟨%aG, HG⟩, ⟨%aU, HU⟩, ⟨%aD, HD⟩⟩, Hg⟩
  isplitr [Hg]
  · iexists aN, aG, aU, aD
    isplitr
    · ipureintro
      exact ⟨fun h => absurd rfl h, fun h => absurd rfl h, fun h => absurd rfl h, fun t h => by simp [seen] at h⟩
    isplitl [HN]; iexact HN
    isplitl [HG]; iexact HG
    isplitl [HU]; iexact HU
    iexact HD
  · iexact Hg

theorem leave : (rdat m c).Φ (Fin.last cfg0.N) ⊢ (Pipeline.ΦA spec0 c : sProp 𝕄) := by
  rw [PhiA_eq, show (rdat m c).Φ (Fin.last cfg0.N) = iprop(carried m c cfg0.N ∗ ∃ r, prngReg c r) from rfl]
  unfold carried
  iintro ⟨⟨%aN, %aG, %aU, %aD, -, HN, HG, HU, HD⟩, Hg⟩
  isplitr [Hg]
  · isplitl [HN]; iexists aN; iexact HN
    isplitl [HG]; iexists aG; iexact HG
    isplitl [HU]; iexists aU; iexact HU
    iexists aD; iexact HD
  · iexact Hg

set_option backward.isDefEq.respectTransparency.types false in
/-- From any memory with zero counters every weakly fair execution terminates, every output array being what its write-backs leave, every
    other buffer as the region found it, and every counter at zero. -/
theorem run_main :
    θ_run defs (onTc (τ := τ) (main (F := F))) (s₀ m ρ)
      (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m)
    (hin := enter m) (hout := leave m) (hQ' := fun _ h => h)

variable {m}

/-- After the run the arguments hold what they held at launch. -/
theorem args_kept {r : PUnit × MemSt nD τ sig (Elt F)} (h : Pipeline.RDat.FramePost (cfgs 0) (fun c => rdat m c) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.FfnKernelIdeal.Hand

end
-- ==== Proof.FfnValue.lean ====
module

public import proofs.«01_k».proof.Proof.FfnMath
public import proofs.«01_k».proof.Proof.FfnRun
public import Idealize.ShloMosaic.Lib.Pointwise
public import Idealize.ShloMosaic.Lib.StableHlo.ReadAt
public import Idealize.ShloMosaic.Lib.Pipeline.ValueKit

@[expose] public section

set_option maxRecDepth 16384

noncomputable section

/-!
# What the feed-forward gradient kernel leaves in its results
-/

namespace Cert.FfnKernelIdeal.Hand

open Cert.FfnKernelIdeal Cert.FfnKernelIdeal.Gen Cert.Ffn
open Idealize.ShloMosaic Idealize.ShloMosaic.TcCoe Idealize.ShloMosaic.Tactic
open Idealize.ShloMosaic.Pipeline (RDat)

variable (m : (ℓ : Loc nD τ sig) → Buf (Elt Ideal) ℓ) (c : Dev nD)

/-! ## The arguments, and the rows and hidden units of a grid point -/

def aX (r : Fin 4096) (k : Fin 1024) : EReal := m ((c : Thread nD τ).loc main_arg0) (ix2 r k)
def aWg (k : Fin 1024) (h : Fin 2816) : EReal := m ((c : Thread nD τ).loc main_arg1) (ix2 k h)
def aWu (k : Fin 1024) (h : Fin 2816) : EReal := m ((c : Thread nD τ).loc main_arg2) (ix2 k h)
def aWd (h : Fin 2816) (k : Fin 1024) : EReal := m ((c : Thread nD τ).loc main_arg3) (ix2 h k)
def aCt (r : Fin 4096) (k : Fin 1024) : EReal := m ((c : Thread nD τ).loc main_arg4) (ix2 r k)

/-- Row `r` of the token block of point `n`. -/
def row (n : ℕ) (r : Fin 1024) : Fin 4096 := ⟨1024 * (n % 4) + r.val, by omega⟩
/-- Unit `h` of the hidden block of point `n`. -/
def unit (n : ℕ) (h : Fin 256) : Fin 2816 := ⟨256 * (n / 4 % 11) + h.val, by omega⟩

/-! ## The blocks the kernel reads -/

theorem V_v2 (r : Fin 4096) (k : Fin 1024) : V m c main_v2 (ix2 r k) = aX m c r k := by
  unfold V; after_reads_at; rfl
theorem V_v3 (r : Fin 4096) (k : Fin 1024) : V m c main_v3 (ix2 r k) = aCt m c r k := by
  unfold V; after_reads_at; rfl
theorem V_v4 (r : Fin 4096) (h : Fin 2816) : V m c main_v4 (ix2 r h) = proj (aX m c) (aWg m c) r h := by
  unfold V; after_reads_at; rfl
theorem V_v5 (r : Fin 4096) (h : Fin 2816) : V m c main_v5 (ix2 r h) = proj (aX m c) (aWu m c) r h := by
  unfold V; after_reads_at; rfl
theorem V_v7 (h : Fin 2816) (k : Fin 1024) : V m c main_v7 (ix2 h k) = aWg m c k h := by
  unfold V; after_reads_at; rfl
theorem V_v9 (h : Fin 2816) (k : Fin 1024) : V m c main_v9 (ix2 h k) = aWu m c k h := by
  unfold V; after_reads_at; rfl
theorem V_v10 (h : Fin 2816) (k : Fin 1024) : V m c main_v10 (ix2 h k) = aWd m c h k := by
  unfold V; after_reads_at; rfl

theorem index_rows : ∀ t : Fin grid0.N, win0_0.index t = ![t.val % 4, 0] ∧ win0_1.index t = ![t.val % 4, 0] := by decide +kernel
theorem index_acts : ∀ t : Fin grid0.N, win0_2.index t = ![t.val % 4, t.val / 4] ∧ win0_3.index t = ![t.val % 4, t.val / 4] := by decide +kernel
theorem index_units : ∀ t : Fin grid0.N, win0_4.index t = ![t.val / 4, 0] ∧ win0_5.index t = ![t.val / 4, 0] ∧ win0_6.index t = ![t.val / 4, 0] := by
  decide +kernel
theorem index_outs : ∀ t : Fin grid0.N, win0_7.index t = ![t.val / 4, 0] ∧ win0_8.index t = ![t.val / 4, 0] ∧ win0_9.index t = ![t.val / 4, 0] := by
  decide +kernel

theorem point_mod (n : ℕ) : (point n).val % 4 = n % 4 := by show n % 44 % 4 = n % 4; omega
theorem point_div (n : ℕ) : (point n).val / 4 = n / 4 % 11 := by show n % 44 / 4 = n / 4 % 11; omega

theorem bN2_at (n : ℕ) (r : Fin 1024) (k : Fin 1024) : bN2 m c n (ix2 r k) = aX m c (row n r) k := by
  rw [← V_v2]
  unfold bN2 row
  blk_ext [iblk, (index_rows (point n)).1, point_mod]
theorem bDh_at (n : ℕ) (r : Fin 1024) (k : Fin 1024) : bDh m c n (ix2 r k) = aCt m c (row n r) k := by
  rw [← V_v3]
  unfold bDh row
  blk_ext [iblk, (index_rows (point n)).2, point_mod]
theorem bG_at (n : ℕ) (r : Fin 1024) (h : Fin 256) : bG m c n (ix2 r h) = proj (aX m c) (aWg m c) (row n r) (unit n h) := by
  rw [← V_v4]
  unfold bG row unit
  blk_ext [iblk, (index_acts (point n)).1, point_mod, point_div]
theorem bU_at (n : ℕ) (r : Fin 1024) (h : Fin 256) : bU m c n (ix2 r h) = proj (aX m c) (aWu m c) (row n r) (unit n h) := by
  rw [← V_v5]
  unfold bU row unit
  blk_ext [iblk, (index_acts (point n)).2, point_mod, point_div]
theorem bWg_at (n : ℕ) (h : Fin 256) (k : Fin 1024) : bWg m c n (ix2 h k) = aWg m c k (unit n h) := by
  rw [← V_v7]
  unfold bWg unit
  blk_ext [iblk, (index_units (point n)).1, point_div]
theorem bWu_at (n : ℕ) (h : Fin 256) (k : Fin 1024) : bWu m c n (ix2 h k) = aWu m c k (unit n h) := by
  rw [← V_v9]
  unfold bWu unit
  blk_ext [iblk, (index_units (point n)).2.1, point_div]
theorem bWd_at (n : ℕ) (h : Fin 256) (k : Fin 1024) : bWd m c n (ix2 h k) = aWd m c (unit n h) k := by
  rw [← V_v10]
  unfold bWd unit
  blk_ext [iblk, (index_units (point n)).2.2, point_div]

/-! ## One step of each sum -/

/-- The gradient that reaches the hidden layer, the gate's product and the other branch's, at row `r` and unit `h`. -/
def Bk (r : Fin 4096) (h : Fin 2816) : EReal := back (aWd m c) (aCt m c) r h
def Gt (r : Fin 4096) (h : Fin 2816) : EReal := proj (aX m c) (aWg m c) r h
def Up (r : Fin 4096) (h : Fin 2816) : EReal := proj (aX m c) (aWu m c) r h

theorem stepG_at (n : ℕ) (w : Vec Ideal S256x1024 .f32) (h : Fin 256) (k : Fin 1024) :
    stepG (bN2 m c n) (bDh m c n) (bG m c n) (bU m c n) (bWd m c n) w (ix2 h k)
      = w (ix2 h k) + ∑ r, gateGrad (Gt m c (row n r) (unit n h)) (Up m c (row n r) (unit n h)) (Bk m c (row n r) (unit n h)) * aX m c (row n r) k := by
  unfold stepG
  unfold_payloads
  pointwise
  simp only [bN2_at, bDh_at, bG_at, bU_at, bWd_at]
  rfl
theorem stepU_at (n : ℕ) (w : Vec Ideal S256x1024 .f32) (h : Fin 256) (k : Fin 1024) :
    stepU (bN2 m c n) (bDh m c n) (bG m c n) (bWd m c n) w (ix2 h k)
      = w (ix2 h k) + ∑ r, upGrad (Gt m c (row n r) (unit n h)) (Bk m c (row n r) (unit n h)) * aX m c (row n r) k := by
  unfold stepU
  unfold_payloads
  pointwise
  simp only [bN2_at, bDh_at, bG_at, bWd_at]
  rfl
theorem stepD_at (n : ℕ) (w : Vec Ideal S256x1024 .f32) (h : Fin 256) (k : Fin 1024) :
    stepD (bDh m c n) (bG m c n) (bU m c n) w (ix2 h k)
      = w (ix2 h k) + ∑ r, hidden (Gt m c (row n r) (unit n h)) (Up m c (row n r) (unit n h)) * aCt m c (row n r) k := by
  unfold stepD
  unfold_payloads
  pointwise
  simp only [bDh_at, bG_at, bU_at]
  rfl
theorem dgb_at (n : ℕ) (r : Fin 1024) (h : Fin 256) :
    k0_pay17 (bDh m c n) (bG m c n) (bU m c n) (bWd m c n) (ix2 r h)
      = gateGrad (Gt m c (row n r) (unit n h)) (Up m c (row n r) (unit n h)) (Bk m c (row n r) (unit n h)) := by
  unfold_payloads
  pointwise
  simp only [bDh_at, bG_at, bU_at, bWd_at]
  rfl
theorem dub_at (n : ℕ) (r : Fin 1024) (h : Fin 256) :
    k0_pay16 (bDh m c n) (bG m c n) (bWd m c n) (ix2 r h) = upGrad (Gt m c (row n r) (unit n h)) (Bk m c (row n r) (unit n h)) := by
  unfold_payloads
  pointwise
  simp only [bDh_at, bG_at, bWd_at]
  rfl
/-- The product of two blocks side by side and two blocks one above the other is the sum of the two products. -/
theorem pair_at (u g : FVec Ideal S1024x256 .bf16) (w : Vec Ideal S1024x1024 .f32) (wg wu : Vec Ideal S256x1024 .bf16) (r k : Fin 1024) :
    k0_pay22 u g w wg wu (ix2 r k) = w (ix2 r k) + ((∑ h, g (ix2 r h) * wg (ix2 h k)) + ∑ h, u (ix2 r h) * wu (ix2 h k)) := by
  unfold_payloads
  pointwise

theorem stepN_at (n : ℕ) (w : Vec Ideal S1024x1024 .f32) (r : Fin 1024) (k : Fin 1024) :
    stepN (bDh m c n) (bG m c n) (bU m c n) (bWg m c n) (bWu m c n) (bWd m c n) w (ix2 r k)
      = w (ix2 r k)
        + ((∑ h, gateGrad (Gt m c (row n r) (unit n h)) (Up m c (row n r) (unit n h)) (Bk m c (row n r) (unit n h)) * aWg m c k (unit n h))
          + ∑ h, upGrad (Gt m c (row n r) (unit n h)) (Bk m c (row n r) (unit n h)) * aWu m c k (unit n h)) := by
  unfold stepN
  rw [pair_at]
  simp only [dgb_at, dub_at, bWg_at, bWu_at]

/-! ## The sums -/

theorem accG_at (j k : ℕ) (h : Fin 256) (d : Fin 1024) :
    accG m c j k (ix2 h d) = ∑ t ∈ Finset.range k, ∑ r, gateGrad (Gt m c (row (4 * j + t) r) (unit (4 * j + t) h))
      (Up m c (row (4 * j + t) r) (unit (4 * j + t) h)) (Bk m c (row (4 * j + t) r) (unit (4 * j + t) h)) * aX m c (row (4 * j + t) r) d := by
  induction k with
  | zero => unfold accG; unfold_payloads; pointwise; simp
  | succ k ih => rw [Finset.sum_range_succ, ← ih, accG, stepG_at]
theorem accU_at (j k : ℕ) (h : Fin 256) (d : Fin 1024) :
    accU m c j k (ix2 h d) = ∑ t ∈ Finset.range k, ∑ r, upGrad (Gt m c (row (4 * j + t) r) (unit (4 * j + t) h))
      (Bk m c (row (4 * j + t) r) (unit (4 * j + t) h)) * aX m c (row (4 * j + t) r) d := by
  induction k with
  | zero => unfold accU; unfold_payloads; pointwise; simp
  | succ k ih => rw [Finset.sum_range_succ, ← ih, accU, stepU_at]
theorem accD_at (j k : ℕ) (h : Fin 256) (d : Fin 1024) :
    accD m c j k (ix2 h d) = ∑ t ∈ Finset.range k, ∑ r, hidden (Gt m c (row (4 * j + t) r) (unit (4 * j + t) h))
      (Up m c (row (4 * j + t) r) (unit (4 * j + t) h)) * aCt m c (row (4 * j + t) r) d := by
  induction k with
  | zero => unfold accD; unfold_payloads; pointwise; simp
  | succ k ih => rw [Finset.sum_range_succ, ← ih, accD, stepD_at]
theorem accN_at (t k : ℕ) (r : Fin 1024) (d : Fin 1024) :
    accN m c t k (ix2 r d) = ∑ j ∈ Finset.range k,
      ((∑ h, gateGrad (Gt m c (row (4 * j + t) r) (unit (4 * j + t) h)) (Up m c (row (4 * j + t) r) (unit (4 * j + t) h))
            (Bk m c (row (4 * j + t) r) (unit (4 * j + t) h)) * aWg m c d (unit (4 * j + t) h))
        + ∑ h, upGrad (Gt m c (row (4 * j + t) r) (unit (4 * j + t) h)) (Bk m c (row (4 * j + t) r) (unit (4 * j + t) h))
            * aWu m c d (unit (4 * j + t) h)) := by
  induction k with
  | zero => unfold accN; unfold_payloads; pointwise; simp
  | succ k ih => rw [Finset.sum_range_succ, ← ih, accN, stepN_at]

/-! ## The results, entry by entry -/

/-- The gradient of the gate's weight, of the other input weight, of the output weight and of the input, of this launch's arguments. -/
abbrev outG : Fin 2816 → Fin 1024 → EReal := dGate (aX m c) (aWg m c) (aWu m c) (aWd m c) (aCt m c)
abbrev outU : Fin 2816 → Fin 1024 → EReal := dUp (aX m c) (aWg m c) (aWd m c) (aCt m c)
abbrev outD : Fin 2816 → Fin 1024 → EReal := dDown (aX m c) (aWg m c) (aWu m c) (aCt m c)
abbrev outN : Fin 4096 → Fin 1024 → EReal := dInput (aX m c) (aWg m c) (aWu m c) (aWd m c) (aCt m c)

theorem row_add (j t : ℕ) : row (4 * j + t) = row t := funext fun r => Fin.ext (by show 1024 * ((4 * j + t) % 4) + _ = 1024 * (t % 4) + _; omega)
theorem unit_add (j : ℕ) {t : ℕ} (ht : t < 4) : unit (4 * j + t) = unit (4 * j) :=
  funext fun r => Fin.ext (by show 256 * ((4 * j + t) / 4 % 11) + _ = 256 * (4 * j / 4 % 11) + _; rw [show (4 * j + t) / 4 = 4 * j / 4 by omega])

theorem sum_rows (f : Fin 4096 → Fin 2816 → EReal) (j : ℕ) (h : Fin 256) :
    (∑ t ∈ Finset.range 4, ∑ r, f (row (4 * j + t) r) (unit (4 * j + t) h)) = ∑ r, f r (unit (4 * j) h) := by
  rw [← sum_tokens (fun r => f r (unit (4 * j) h)) row fun t ht r => by show 1024 * (t % 4) + _ = _; omega]
  refine Finset.sum_congr rfl fun t ht => ?_
  rw [row_add, unit_add j (Finset.mem_range.1 ht)]

theorem sum_hidden (f : Fin 4096 → Fin 2816 → EReal) {t : ℕ} (ht : t < 4) (r : Fin 1024) :
    (∑ j ∈ Finset.range 11, ∑ h, f (row (4 * j + t) r) (unit (4 * j + t) h)) = ∑ h, f (row t r) h := by
  rw [← sum_units (f (row t r)) (fun j => unit (4 * j)) fun j hj h => by show 256 * (4 * j / 4 % 11) + _ = _; omega]
  refine Finset.sum_congr rfl fun j _ => ?_
  rw [row_add, unit_add j ht]

theorem accG_out (j : ℕ) (h : Fin 256) (d : Fin 1024) : accG m c j 4 (ix2 h d) = outG m c (unit (4 * j) h) d :=
  (accG_at m c j 4 h d).trans (sum_rows (fun r h => gateGrad (Gt m c r h) (Up m c r h) (Bk m c r h) * aX m c r d) j h)
theorem accU_out (j : ℕ) (h : Fin 256) (d : Fin 1024) : accU m c j 4 (ix2 h d) = outU m c (unit (4 * j) h) d :=
  (accU_at m c j 4 h d).trans (sum_rows (fun r h => upGrad (Gt m c r h) (Bk m c r h) * aX m c r d) j h)
theorem accD_out (j : ℕ) (h : Fin 256) (d : Fin 1024) : accD m c j 4 (ix2 h d) = outD m c (unit (4 * j) h) d :=
  (accD_at m c j 4 h d).trans (sum_rows (fun r h => hidden (Gt m c r h) (Up m c r h) * aCt m c r d) j h)
theorem accN_out {t : ℕ} (ht : t < 4) (r : Fin 1024) (d : Fin 1024) : accN m c t 11 (ix2 r d) = outN m c (row t r) d := by
  rw [accN_at, Finset.sum_add_distrib]
  exact congrArg₂ (· + ·) (sum_hidden (fun r h => gateGrad (Gt m c r h) (Up m c r h) (Bk m c r h) * aWg m c d h) ht r)
    (sum_hidden (fun r h => upGrad (Gt m c r h) (Bk m c r h) * aWu m c d h) ht r)

/-! ## The arrays after the run -/

theorem unit_val (t : Fin grid0.N) (h : Fin 256) : (unit (4 * (t.val / 4)) h).val = t.val / 4 * 256 + h.val := by
  have : t.val < 44 := t.isLt
  show 256 * (4 * (t.val / 4) / 4 % 11) + h.val = _
  omega
theorem last_flush : ∀ t : Fin grid0.N, win0_10.flush t = true → t.val / 4 = 10 ∧ win0_10.index t = ![t.val % 4, 0] := by decide +kernel

theorem out_gate {r} (hr : RDat.FramePost (cfgs 0) (fun c => rdat m c) (V m) r) :
    r.2.mem ((c : Thread nD τ).loc main_v11_0) = fun i => outG m c (i 0) (i 1) := by
  obtain ⟨after, hl, he⟩ := RDat.FramePost.exists_exact hr c
  refine (he 7).trans (Pipeline.Dat.arrAt_eq_of_covers _ 7 _ (by decide +kernel) fun t hf y => ?_)
  obtain ⟨Y, hY, hX⟩ := hl 7 t hf
  refine (congrFun (hX ((flush0_7 t).1 hf)) _).trans ?_
  idx_vars y
  have e : k0_pay1 (accG m c (t.val / 4) 4) (ix2 y0 y1) = accG m c (t.val / 4) 4 (ix2 y0 y1) := by unfold_payloads; pointwise
  refine e.trans ((accG_out m c _ _ _).trans (congrArg₂ (outG m c) (Fin.ext ?_) (Fin.ext ?_)))
  · blk_simp [(index_outs t).1]
    exact unit_val t y0
  · blk_simp [(index_outs t).1]

theorem out_up {r} (hr : RDat.FramePost (cfgs 0) (fun c => rdat m c) (V m) r) :
    r.2.mem ((c : Thread nD τ).loc main_v11_1) = fun i => outU m c (i 0) (i 1) := by
  obtain ⟨after, hl, he⟩ := RDat.FramePost.exists_exact hr c
  refine (he 8).trans (Pipeline.Dat.arrAt_eq_of_covers _ 8 _ (by decide +kernel) fun t hf y => ?_)
  obtain ⟨Y, hY, hX⟩ := hl 8 t hf
  refine (congrFun (hX ((flush0_8 t).1 hf)) _).trans ?_
  idx_vars y
  have e : k0_pay2 (accU m c (t.val / 4) 4) (ix2 y0 y1) = accU m c (t.val / 4) 4 (ix2 y0 y1) := by unfold_payloads; pointwise
  refine e.trans ((accU_out m c _ _ _).trans (congrArg₂ (outU m c) (Fin.ext ?_) (Fin.ext ?_)))
  · blk_simp [(index_outs t).2.1]
    exact unit_val t y0
  · blk_simp [(index_outs t).2.1]

theorem out_down {r} (hr : RDat.FramePost (cfgs 0) (fun c => rdat m c) (V m) r) :
    r.2.mem ((c : Thread nD τ).loc main_v11_2) = fun i => outD m c (i 0) (i 1) := by
  obtain ⟨after, hl, he⟩ := RDat.FramePost.exists_exact hr c
  refine (he 9).trans (Pipeline.Dat.arrAt_eq_of_covers _ 9 _ (by decide +kernel) fun t hf y => ?_)
  obtain ⟨Y, hY, hX⟩ := hl 9 t hf
  refine (congrFun (hX ((flush0_9 t).1 hf)) _).trans ?_
  idx_vars y
  have e : k0_pay3 (accD m c (t.val / 4) 4) (ix2 y0 y1) = accD m c (t.val / 4) 4 (ix2 y0 y1) := by unfold_payloads; pointwise
  refine e.trans ((accD_out m c _ _ _).trans (congrArg₂ (outD m c) (Fin.ext ?_) (Fin.ext ?_)))
  · blk_simp [(index_outs t).2.2]
    exact unit_val t y0
  · blk_simp [(index_outs t).2.2]

theorem out_input {r} (hr : RDat.FramePost (cfgs 0) (fun c => rdat m c) (V m) r) :
    r.2.mem ((c : Thread nD τ).loc main_v11_3) = fun i => outN m c (i 0) (i 1) := by
  obtain ⟨after, hl, he⟩ := RDat.FramePost.exists_exact hr c
  refine (he 10).trans (Pipeline.Dat.arrAt_eq_of_covers _ 10 _ (by decide +kernel) fun t hf y => ?_)
  obtain ⟨Y, hY, hX⟩ := hl 10 t hf
  refine (congrFun (hX ((last_flush t hf).1)) _).trans ?_
  idx_vars y
  have e : k0_pay4 (accN m c (t.val % 4) 11) (ix2 y0 y1) = accN m c (t.val % 4) 11 (ix2 y0 y1) := by unfold_payloads; pointwise
  refine e.trans ((accN_out m c (Nat.mod_lt _ (by decide)) _ _).trans (congrArg₂ (outN m c) (Fin.ext ?_) (Fin.ext ?_)))
  · blk_simp [(last_flush t hf).2]
    show 1024 * (t.val % 4 % 4) + y0.val = t.val % 4 * 1024 + y0.val
    omega
  · blk_simp [(last_flush t hf).2]

end Cert.FfnKernelIdeal.Hand

end
-- ==== Proof.FfnRef.lean ====
module

public import proofs.«01_k».proof.Defs
public import proofs.«01_k».proof.Proof.FfnMath
public import proofs.«01_k».proof.Proof.Gen.FfnReferenceIdeal.Run
public import Idealize.ShloMosaic.Lib.IdealHost
public import Idealize.ShloMosaic.Lib.ReduceAll

@[expose] public section

set_option maxRecDepth 16384

noncomputable section

/-!
# What the reference leaves in its results
-/

namespace Cert.Pre_finite

open Idealize.ShloMosaic

/-- A number whose absolute value lies below the infinity constant is neither infinity. -/
theorem real_of_lt (x : EReal) (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  constructor <;> rintro rfl <;> simp [Ideal.cmp] at h

/-- The precondition says that every entry of the five arrays is real. -/
theorem real_of_fn [Facts] (x : FVec Ideal S4096x1024 .f32) (wg wu : FVec Ideal S1024x2816 .f32) (wd : FVec Ideal S2816x1024 .f32) (ct : FVec Ideal S4096x1024 .f32)
    (h : fn (F := Ideal) x wg wu wd ct = fun _ => 1#1) :
    (∀ i, x i ≠ ⊤ ∧ x i ≠ ⊥) ∧ (∀ i, wg i ≠ ⊤ ∧ wg i ≠ ⊥) ∧ (∀ i, wu i ≠ ⊤ ∧ wu i ≠ ⊥) ∧ (∀ i, wd i ≠ ⊤ ∧ wd i ≠ ⊥) ∧ ∀ i, ct i ≠ ⊤ ∧ ct i ≠ ⊥ := by
  have h := congrFun h (fun a => a.elim0)
  dsimp only [fn, fn_part1] at h
  have split : ∀ a b : BitVec 1, a &&& b = 1#1 → a = 1#1 ∧ b = 1#1 := by decide
  obtain ⟨h, h5⟩ := split _ _ h
  obtain ⟨h, h4⟩ := split _ _ h
  obtain ⟨h, h3⟩ := split _ _ h
  obtain ⟨h1, h2⟩ := split _ _ h
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i), fun i => real_of_lt _ (Host.reduce_andi_all _ _ _ _ _ h4 i),
    fun i => real_of_lt _ (Host.reduce_andi_all _ _ _ _ _ h5 i)⟩

end Cert.Pre_finite

namespace Cert.FfnReferenceIdeal.Hand

open Cert.FfnReferenceIdeal Cert.FfnReferenceIdeal.Gen Cert.Ffn
open Idealize.ShloMosaic Idealize.ShloMosaic.TcCoe Idealize.SL.Sem

variable (m : (ℓ : Loc nD τ sig) → Buf (Elt Ideal) ℓ) (ρ : Dev nD → PrngReg) (c : Dev nD)

def aX (r : Fin 4096) (k : Fin 1024) : EReal := m ((c : Thread nD τ).loc main_arg0) (ix2 r k)
def aWg (k : Fin 1024) (h : Fin 2816) : EReal := m ((c : Thread nD τ).loc main_arg1) (ix2 k h)
def aWu (k : Fin 1024) (h : Fin 2816) : EReal := m ((c : Thread nD τ).loc main_arg2) (ix2 k h)
def aWd (h : Fin 2816) (k : Fin 1024) : EReal := m ((c : Thread nD τ).loc main_arg3) (ix2 h k)
def aCt (r : Fin 4096) (k : Fin 1024) : EReal := m ((c : Thread nD τ).loc main_arg4) (ix2 r k)

/-- Every argument's entries are real. -/
structure Real : Prop where
  x : ∀ i j, aX m c i j ≠ ⊤ ∧ aX m c i j ≠ ⊥
  wg : ∀ i j, aWg m c i j ≠ ⊤ ∧ aWg m c i j ≠ ⊥
  wu : ∀ i j, aWu m c i j ≠ ⊤ ∧ aWu m c i j ≠ ⊥
  wd : ∀ i j, aWd m c i j ≠ ⊤ ∧ aWd m c i j ≠ ⊥
  ct : ∀ i j, aCt m c i j ≠ ⊤ ∧ aCt m c i j ≠ ⊥

theorem results (hm : ∀ c, Real m c) :
    θ_run defs (onTc (τ := τ) (main (F := Ideal))) ⟨m, fun _ => 0, ρ⟩ fun r => ∀ c : Dev nD,
      r.2.mem ((c : Thread nD τ).loc main_v19) = (fun i => dGate (aX m c) (aWg m c) (aWu m c) (aWd m c) (aCt m c) (i 0) (i 1))
      ∧ r.2.mem ((c : Thread nD τ).loc main_v21) = (fun i => dUp (aX m c) (aWg m c) (aWd m c) (aCt m c) (i 0) (i 1))
      ∧ r.2.mem ((c : Thread nD τ).loc main_v22) = (fun i => dDown (aX m c) (aWg m c) (aWu m c) (aCt m c) (i 0) (i 1))
      ∧ r.2.mem ((c : Thread nD τ).loc main_v17) = (fun i => dInput (aX m c) (aWg m c) (aWu m c) (aWd m c) (aCt m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Value.run m ρ)
  obtain ⟨h0, h1, h2, h3, hrest⟩ := h c
  have key : ∀ i j, _ := fun i j => gateGrad_eq (proj (aX m c) (aWg m c) i j) (proj (aX m c) (aWu m c) i j) (back (aWd m c) (aCt m c) i j)
    (real_proj (hm c).x (hm c).wg i j) (real_mul (real_back (hm c).wd (hm c).ct i j) (real_proj (hm c).x (hm c).wu i j))
  refine ⟨h0.trans (funext fun i => ?_), h1.trans (funext fun i => ?_), h2.trans (funext fun i => ?_), h3.trans (funext fun i => ?_), hrest⟩ <;>
    clear h0 h1 h2 h3 hrest <;> pointwise
  · exact Finset.sum_congr rfl fun r _ => congrArg (· * aX m c r (i 1)) (key r (i 0))
  · exact Finset.sum_congr rfl fun r _ => congrArg (· * aX m c r (i 1)) (mul_comm _ _)
  · exact Finset.sum_congr rfl fun r _ => mul_comm _ _
  · refine (add_comm _ _).trans (congrArg₂ (· + ·) ?_ ?_)
    · exact Finset.sum_congr rfl fun h _ => congrArg (· * aWg m c (i 1) h) (key (i 0) h)
    · exact Finset.sum_congr rfl fun h _ => congrArg (· * aWu m c (i 1) h) (mul_comm _ _)

end Cert.FfnReferenceIdeal.Hand

end
-- ==== Proof.RmsMath.lean ====
module

public import Idealize.ShloMosaic.Lib.Pointwise

@[expose] public section

noncomputable section

/-! # The gradient of an RMS norm over the extended reals

A row `x` is divided by the root of its mean square and scaled by a gain. The gradient of that is
written in two ways: by the chain rule through the reciprocal root, and in the closed form
`r * (gy - xhat * mean(gy * xhat))` with `xhat = x * r`. The two agree for every row of extended
reals: the mean square plus a positive constant is either a positive real, so that `r` is a positive
real and may be moved through sums, or it is infinite, and then `r = 0` and both forms are `0`. -/

namespace Cert.Rms

open Idealize.ShloMosaic

/-- The constant the mean square is shifted by. -/
def eps : ℝ := 8796093 / 2 ^ 43
theorem eps_pos : 0 < eps := by unfold eps; positivity
theorem lit_eps : Ideal.ofBits .f32 0x358637BD#32 = (eps : EReal) := by
  unfold eps
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_512 : Ideal.ofBits .f32 0x44000000#32 = ((512 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul, -EReal.coe_neg]; norm_num

/-- a square is never negative -/
theorem sq_nonneg (a : EReal) : 0 ≤ a * a := by
  rcases le_total 0 a with h | h
  · exact EReal.mul_nonneg h h
  · have h' : 0 ≤ -a := by simpa using EReal.neg_le_neg_iff.2 h
    simpa using EReal.mul_nonneg h' h'

/-- a sum times a nonnegative real, term by term -/
theorem sum_mul_coe {ι : Type*} (s : Finset ι) (f : ι → EReal) {ρ : ℝ} (h : 0 ≤ ρ) :
    (∑ i ∈ s, f i) * (ρ : EReal) = ∑ i ∈ s, f i * (ρ : EReal) := by
  classical
  induction s using Finset.induction_on with
  | empty => simp
  | insert a s ha ih =>
    rw [Finset.sum_insert ha, Finset.sum_insert ha, ← ih]
    exact EReal.right_distrib_of_nonneg_of_ne_top (by exact_mod_cast h) (EReal.coe_ne_top _) _ _

/-- twice the product with a negative real -/
theorem twice_neg (q : EReal) {a : ℝ} (ha : a < 0) :
    q * (a : EReal) + q * (a : EReal) = q * ((2 * a : ℝ) : EReal) := by
  have h2 : 2 * a < 0 := by linarith
  induction q with
  | bot => rw [EReal.bot_mul_coe_of_neg ha, EReal.bot_mul_coe_of_neg h2]; rfl
  | top => rw [EReal.top_mul_coe_of_neg ha, EReal.top_mul_coe_of_neg h2]; rfl
  | coe q => norm_cast; ring

/-- the reciprocal root of a positive extended real: `0` at the top, else a positive real -/
theorem rsqrt_cases (s : EReal) (hs : 0 < s) :
    (s = ⊤ ∧ Ideal.rsqrt s = 0) ∨
      ∃ σ ρ : ℝ, 0 < σ ∧ 0 < ρ ∧ s = (σ : EReal) ∧ Ideal.rsqrt s = (ρ : EReal) := by
  induction s with
  | bot => exact absurd hs (by simp)
  | top => exact Or.inl ⟨rfl, rfl⟩
  | coe σ =>
    have h : 0 < σ := by exact_mod_cast hs
    refine Or.inr ⟨σ, (Real.sqrt σ)⁻¹, h, inv_pos.2 (Real.sqrt_pos.2 h), rfl, ?_⟩
    rw [Ideal.rsqrt_coe, if_neg (not_lt.2 h.le), if_neg h.ne']

/-- the mean square of a row plus the constant -/
def ms {n : Nat} (N ε : ℝ) (x : Fin n → EReal) : EReal :=
  Ideal.div (∑ k, x k * x k) (N : EReal) + (ε : EReal)

theorem ms_pos {n : Nat} {N ε : ℝ} (hN : 0 < N) (hε : 0 < ε) (x : Fin n → EReal) :
    0 < ms N ε x := by
  unfold ms
  rw [Ideal.div_coe hN.ne']
  have h : 0 ≤ (∑ k, x k * x k) * ((1 / N : ℝ) : EReal) :=
    EReal.mul_nonneg (Finset.sum_nonneg fun k _ => sq_nonneg (x k))
      (by exact_mod_cast (one_div_pos.2 hN).le)
  have h' : (0 : EReal) < (ε : EReal) := by exact_mod_cast hε
  calc (0 : EReal) < (ε : EReal) := h'
    _ = 0 + (ε : EReal) := (zero_add _).symm
    _ ≤ _ := add_le_add_left h _

/-- THE GRADIENT: the closed form against the chain rule. `x` is the row, `gy` the gradient of the
output times the gain. -/
theorem back {n : Nat} {N ε : ℝ} (hN : 0 < N) (hε : 0 < ε) (x gy : Fin n → EReal) (k : Fin n) :
    Ideal.rsqrt (ms N ε x) * (gy k - (x k * Ideal.rsqrt (ms N ε x))
        * Ideal.div (∑ j, gy j * (x j * Ideal.rsqrt (ms N ε x))) (N : EReal))
      = gy k * Ideal.rsqrt (ms N ε x)
        + (x k * Ideal.div ((∑ j, x j * gy j) * (((-(1/2) : ℝ) : EReal)
            * Ideal.div (Ideal.rsqrt (ms N ε x)) (ms N ε x))) (N : EReal)
          + x k * Ideal.div ((∑ j, x j * gy j) * (((-(1/2) : ℝ) : EReal)
            * Ideal.div (Ideal.rsqrt (ms N ε x)) (ms N ε x))) (N : EReal)) := by
  rcases rsqrt_cases _ (ms_pos hN hε x) with ⟨hs, hr⟩ | ⟨σ, ρ, hσ, hρ, hs, hr⟩
  · rw [hr, hs, Ideal.div_coe hN.ne', Ideal.div_coe hN.ne']
    simp [Ideal.div]
  · have hroot : ρ = (Real.sqrt σ)⁻¹ := by
      have := hr
      rw [hs, Ideal.rsqrt_coe, if_neg (not_lt.2 hσ.le), if_neg hσ.ne'] at this
      exact_mod_cast this.symm
    have hρσ : ρ * ρ * σ = 1 := by
      rw [hroot]
      have h := Real.mul_self_sqrt hσ.le
      have h0 : Real.sqrt σ ≠ 0 := (Real.sqrt_pos.2 hσ).ne'
      field_simp
      nlinarith [h]
    rw [hr, hs, Ideal.div_coe hN.ne', Ideal.div_coe hN.ne', Ideal.div_coe hσ.ne']
    have hsum : (∑ j, gy j * (x j * (ρ : EReal))) = (∑ j, x j * gy j) * (ρ : EReal) := by
      rw [sum_mul_coe _ _ hρ.le]
      exact Finset.sum_congr rfl fun j _ => by rw [← mul_assoc, mul_comm (gy j)]
    rw [hsum]
    generalize (∑ j, x j * gy j) = T
    have ha : -(1/2) * (ρ * (1 / σ)) * (1 / N) < 0 := by
      have : 0 < (1/2) * (ρ * (1 / σ)) * (1 / N) := by positivity
      linarith
    have e1 : x k * (T * (((-(1/2) : ℝ) : EReal) * ((ρ : EReal) * ((1 / σ : ℝ) : EReal)))
        * ((1 / N : ℝ) : EReal)) = (x k * T) * ((-(1/2) * (ρ * (1 / σ)) * (1 / N) : ℝ) : EReal) := by
      rw [EReal.coe_mul, EReal.coe_mul, EReal.coe_mul]
      ac_rfl
    rw [e1, twice_neg _ ha, sub_eq_add_neg,
      EReal.left_distrib_of_nonneg_of_ne_top (by exact_mod_cast hρ.le) (EReal.coe_ne_top _),
      mul_comm (ρ : EReal) (gy k)]
    congr 1
    have e2 : (ρ : EReal) * -(x k * (ρ : EReal) * (T * (ρ : EReal) * ((1 / N : ℝ) : EReal)))
        = (x k * T) * -((ρ * ρ * ρ * (1 / N) : ℝ) : EReal) := by
      rw [mul_neg, mul_neg, EReal.coe_mul, EReal.coe_mul, EReal.coe_mul]
      congr 1
      ac_rfl
    rw [e2, ← EReal.coe_neg]
    congr 2
    have : 1 / σ = ρ * ρ := by
      field_simp
      linarith [hρσ]
    rw [this]
    ring

/-- Row `r` of the token block of point `n`, blocks of 512 rows. -/
def rowOf (n : ℕ) (r : Fin 512) : Fin 4096 := ⟨512 * (n % 8) + r.val, by omega⟩

/-- A sum over the rows, block by block. -/
theorem sum_rowOf (f : Fin 4096 → EReal) : (∑ i ∈ Finset.range 8, ∑ r, f (rowOf i r)) = ∑ r, f r := by
  rw [Fin.sum_univ_tiles 8 512 rfl, Finset.sum_range]
  exact Finset.sum_congr rfl fun t _ => Finset.sum_congr rfl fun r _ => congrArg f (Fin.ext (by
    show 512 * (t.val % 8) + r.val = t.val * 512 + r.val
    have := t.isLt
    omega))

end Cert.Rms
-- ==== Proof.InMath.lean ====
module

public import proofs.«01_k».proof.Proof.RmsMath

@[expose] public section

noncomputable section

/-!
# The gradient of the input projection, entry by entry

The step's input goes through an RMS norm and one matrix. From the gradient `dp` at the projection and the gradient `dh` that reaches the
input past the projection, here are the entries of the gradients of the input, of the norm's gain and of the matrix.
-/

namespace Cert.In

open Idealize.ShloMosaic

variable (x : Fin 4096 → Fin 1024 → EReal) (g : Fin 1024 → EReal) (w : Fin 1024 → Fin 1536 → EReal) (dp : Fin 4096 → Fin 1536 → EReal)
  (dh : Fin 4096 → Fin 1024 → EReal)

/-- The reciprocal root of a row. -/
def rs (r : Fin 4096) : EReal := Ideal.rsqrt (Rms.ms 1024 Rms.eps (x r))
/-- The gradient at the norm's output. -/
def dn (r : Fin 4096) (k : Fin 1024) : EReal := ∑ j, dp r j * w k j
/-- The gradient at the norm's output times the gain. -/
def gy (r : Fin 4096) (k : Fin 1024) : EReal := dn w dp r k * g k
/-- The gradient of the input in its closed form. -/
def dx (r : Fin 4096) (k : Fin 1024) : EReal :=
  dh r k + rs x r * (gy g w dp r k - (x r k * rs x r) * Ideal.div (∑ j, gy g w dp r j * (x r j * rs x r)) ((1024 : ℝ) : EReal))
/-- One row's addend of the gain's gradient. -/
def dG (k : Fin 1024) (r : Fin 4096) : EReal := dn w dp r k * (x r k * rs x r)
/-- One row's addend of the weight's gradient. -/
def dW (j : Fin 1536) (k : Fin 1024) (r : Fin 4096) : EReal := dp r j * (x r k * rs x r * g k)

/-- The gradient through the mean square, once: the chain rule's factor of the row. -/
def viaMean (r : Fin 4096) : EReal :=
  Ideal.div ((∑ j, x r j * gy g w dp r j) * (((-(1 / 2) : ℝ) : EReal) * Ideal.div (rs x r) (Rms.ms 1024 Rms.eps (x r)))) ((1024 : ℝ) : EReal)

/-- The closed form is the chain rule. -/
theorem dx_chain (r : Fin 4096) (k : Fin 1024) :
    dx x g w dp dh r k = dh r k + gy g w dp r k * rs x r + x r k * viaMean x g w dp r + viaMean x g w dp r * x r k := by
  unfold dx
  rw [rs, Rms.back (by norm_num) Rms.eps_pos (x r) (gy g w dp r) k, mul_comm (viaMean x g w dp r), add_assoc, add_assoc]
  rfl

end Cert.In
-- ==== Proof.InValue.lean ====
module

public import proofs.«01_k».proof.Proof.InMath
public import proofs.«01_k».proof.Proof.Gen.InKernelIdeal.Value
public import Idealize.ShloMosaic.Lib.Pointwise
public import Idealize.ShloMosaic.Lib.StableHlo.ReadAt
public import Idealize.ShloMosaic.Lib.Pipeline.ValueKit

@[expose] public section

set_option maxRecDepth 16384

noncomputable section

/-!
# What the input-projection gradient kernel leaves in its results
-/

namespace Cert.InKernelIdeal.Hand

open Cert.InKernelIdeal Cert.InKernelIdeal.Gen
open Idealize.ShloMosaic Idealize.ShloMosaic.TcCoe Idealize.ShloMosaic.Tactic
open Idealize.ShloMosaic.Pipeline (RDat)

variable (m : (ℓ : Loc nD τ sig) → Buf (Elt Ideal) ℓ) (c : Dev nD)

theorem hz : (![0, 0] : Fin 2 → Nat) = fun _ => 0 := funext fun a => by fin_cases a <;> rfl

/-! ## The arguments -/

def aX (r : Fin 4096) (k : Fin 1024) : EReal := m ((c : Thread nD τ).loc main_arg0) (ix2 r k)
def aG (k : Fin 1024) : EReal := m ((c : Thread nD τ).loc main_arg1) (ix2 0 k)
def aW (k : Fin 1024) (j : Fin 1536) : EReal := m ((c : Thread nD τ).loc main_arg2) (ix2 k j)
def aDp (r : Fin 4096) (j : Fin 1536) : EReal := m ((c : Thread nD τ).loc main_arg3) (ix2 r j)
def aDh (r : Fin 4096) (k : Fin 1024) : EReal := m ((c : Thread nD τ).loc main_arg4) (ix2 r k)

/-- Row `r` of the token block of point `n`. -/
def row (n : Fin 8) (r : Fin 512) : Fin 4096 := ⟨512 * n.val + r.val, by omega⟩

theorem V_x (r : Fin 4096) (k : Fin 1024) : V m c main_arg0 (ix2 r k) = aX m c r k := by
  unfold V; after_reads_at; rfl
theorem V_g (k : Fin 1024) : V m c main_arg1 (ix2 0 k) = aG m c k := by
  unfold V; after_reads_at; rfl
theorem V_dh (r : Fin 4096) (k : Fin 1024) : V m c main_arg4 (ix2 r k) = aDh m c r k := by
  unfold V; after_reads_at; rfl
theorem V_w (k : Fin 1024) (j : Fin 1536) : V m c main_v11 (ix2 j k) = aW m c k j := by
  unfold V; after_reads_at; rfl
theorem V_dp0 (s : Fin 4) (r : Fin 4096) (l : Fin 128) : V m c main_v3 (ix3 s r l) = aDp m c r ⟨0 + 128 * s.val + l.val, by omega⟩ := by
  unfold V; after_reads_at
  pointwise
  exact congrArg (fun j => aDp m c r j) (Fin.ext (by dsimp; omega))
theorem V_dp1 (s : Fin 4) (r : Fin 4096) (l : Fin 128) : V m c main_v6 (ix3 s r l) = aDp m c r ⟨512 + 128 * s.val + l.val, by omega⟩ := by
  unfold V; after_reads_at
  pointwise
  exact congrArg (fun j => aDp m c r j) (Fin.ext (by dsimp; omega))
theorem V_dp2 (s : Fin 4) (r : Fin 4096) (l : Fin 128) : V m c main_v9 (ix3 s r l) = aDp m c r ⟨1024 + 128 * s.val + l.val, by omega⟩ := by
  unfold V; after_reads_at
  pointwise
  exact congrArg (fun j => aDp m c r j) (Fin.ext (by dsimp; omega))

theorem index_rows : ∀ t : Fin grid0.N, win0_0.index t = ![t.val, 0] ∧ win0_1.index t = ![t.val, 0] := by decide +kernel
theorem index_slabs : ∀ t : Fin grid0.N, win0_2.index t = ![0, t.val, 0] ∧ win0_3.index t = ![0, t.val, 0] ∧ win0_4.index t = ![0, t.val, 0] := by decide +kernel
theorem index_fixed : ∀ t : Fin grid0.N, win0_5.index t = ![0, 0] ∧ win0_6.index t = ![0, 0] := by decide +kernel

/-! ## The blocks the kernel reads -/

theorem bX_at (t : Fin cfg0.N) (r : Fin 512) (k : Fin 1024) : iblk m c 0 t (ix2 r k) = aX m c (row t r) k := by
  rw [← V_x]; unfold row
  blk_ext [iblk, (index_rows t).1]
theorem bDh_at (t : Fin cfg0.N) (r : Fin 512) (k : Fin 1024) : iblk m c 1 t (ix2 r k) = aDh m c (row t r) k := by
  rw [← V_dh]; unfold row
  blk_ext [iblk, (index_rows t).2]
theorem bG_at (t : Fin cfg0.N) (k : Fin 1024) : iblk m c 5 t (ix2 0 k) = aG m c k := by
  rw [← V_g]
  blk_ext [iblk, (index_fixed t).1]
theorem bW_at (t : Fin cfg0.N) (k : Fin 1024) (j : Fin 1536) : iblk m c 6 t (ix2 j k) = aW m c k j := by
  rw [← V_w]
  blk_ext [iblk, (index_fixed t).2]
theorem bP0_at (t : Fin cfg0.N) (s : Fin 4) (r : Fin 512) (l : Fin 128) :
    iblk m c 2 t (ix3 s r l) = aDp m c (row t r) ⟨0 + 128 * s.val + l.val, by omega⟩ := by
  rw [← V_dp0]; unfold row
  blk_ext [iblk, (index_slabs t).1]
theorem bP1_at (t : Fin cfg0.N) (s : Fin 4) (r : Fin 512) (l : Fin 128) :
    iblk m c 3 t (ix3 s r l) = aDp m c (row t r) ⟨512 + 128 * s.val + l.val, by omega⟩ := by
  rw [← V_dp1]; unfold row
  blk_ext [iblk, (index_slabs t).2.1]
theorem bP2_at (t : Fin cfg0.N) (s : Fin 4) (r : Fin 512) (l : Fin 128) :
    iblk m c 4 t (ix3 s r l) = aDp m c (row t r) ⟨1024 + 128 * s.val + l.val, by omega⟩ := by
  rw [← V_dp2]; unfold row
  blk_ext [iblk, (index_slabs t).2.2]

/-- The gradient of the projection, the block of point `t`, its twelve slabs side by side. -/
def DB (t : Fin cfg0.N) : FVec Ideal S512x1536 .bf16 :=
  k0_pay12 (k0_pay9 (View.ld (iblk m c 2 t) (Rect.unit ![0, 0, 0] ![1, 512, 128] inb_S4x512x128_S1x512x128_0_0_0))
          (View.ld (iblk m c 2 t) (Rect.unit ![1, 0, 0] ![1, 512, 128] inb_S4x512x128_S1x512x128_1_0_0))
          (View.ld (iblk m c 2 t) (Rect.unit ![2, 0, 0] ![1, 512, 128] inb_S4x512x128_S1x512x128_2_0_0))
          (View.ld (iblk m c 2 t) (Rect.unit ![3, 0, 0] ![1, 512, 128] inb_S4x512x128_S1x512x128_3_0_0)))
        (k0_pay10 (View.ld (iblk m c 3 t) (Rect.unit ![0, 0, 0] ![1, 512, 128] inb_S4x512x128_S1x512x128_0_0_0)))
        (k0_pay11 (View.ld (iblk m c 3 t) (Rect.unit ![1, 0, 0] ![1, 512, 128] inb_S4x512x128_S1x512x128_1_0_0)))
        (View.ld (iblk m c 3 t) (Rect.unit ![2, 0, 0] ![1, 512, 128] inb_S4x512x128_S1x512x128_2_0_0))
        (View.ld (iblk m c 3 t) (Rect.unit ![3, 0, 0] ![1, 512, 128] inb_S4x512x128_S1x512x128_3_0_0))
        (View.ld (iblk m c 4 t) (Rect.unit ![0, 0, 0] ![1, 512, 128] inb_S4x512x128_S1x512x128_0_0_0))
        (View.ld (iblk m c 4 t) (Rect.unit ![1, 0, 0] ![1, 512, 128] inb_S4x512x128_S1x512x128_1_0_0))
        (View.ld (iblk m c 4 t) (Rect.unit ![2, 0, 0] ![1, 512, 128] inb_S4x512x128_S1x512x128_2_0_0))
        (View.ld (iblk m c 4 t) (Rect.unit ![3, 0, 0] ![1, 512, 128] inb_S4x512x128_S1x512x128_3_0_0))

theorem DB_at (t : Fin cfg0.N) (r : Fin 512) (j : Fin 1536) : DB m c t (ix2 r j) = aDp m c (row t r) j := by
  unfold DB
  unfold_payloads
  pointwise
  simp only [bP0_at, bP1_at, bP2_at]
  split_ifs <;> exact congrArg (fun j => aDp m c (row t r) j) (Fin.ext (by dsimp; omega))

/-! ## One point's contribution -/

def Rs (r : Fin 4096) : EReal := In.rs (aX m c) r
def Dn (r : Fin 4096) (k : Fin 1024) : EReal := In.dn (aW m c) (aDp m c) r k
def Gy (r : Fin 4096) (k : Fin 1024) : EReal := In.gy (aG m c) (aW m c) (aDp m c) r k

theorem rs_at (t : Fin cfg0.N) (r : Fin 512) : k0_pay6 (F := Ideal) (iblk m c 0 t) (ix2 r 0) = Rs m c (row t r) := by
  unfold_payloads
  pointwise
  simp only [bX_at, Rms.lit_eps, Rms.lit_1024]
  rfl
theorem xhat_at (t : Fin cfg0.N) (r : Fin 512) (k : Fin 1024) :
    k0_pay7 (F := Ideal) (iblk m c 0 t) (ix2 r k) = aX m c (row t r) k * Rs m c (row t r) := by
  unfold k0_pay7
  pointwise
  simp only [bX_at, rs_at]
theorem n1_at (t : Fin cfg0.N) (r : Fin 512) (k : Fin 1024) :
    k0_pay8 (F := Ideal) (iblk m c 5 t) (iblk m c 0 t) (ix2 r k) = aX m c (row t r) k * Rs m c (row t r) * aG m c k := by
  unfold k0_pay8
  pointwise
  simp only [xhat_at, bG_at]

def DNv (db : FVec Ideal S512x1536 .bf16) (w : FVec Ideal S1536x1024 .bf16) : FVec Ideal S512x1024 .f32 :=
  matmul dot_S512x1536_S1536x1024_S512x1024_1_0_0_1_n_n none db (shapeCast S1536x1024 w shapeCasts_S1536x1024_S1536x1024) (constant S512x1024 .f32 0x00000000#32)
theorem dn_at (t : Fin cfg0.N) (r : Fin 512) (k : Fin 1024) : DNv (DB m c t) (iblk m c 6 t) (ix2 r k) = Dn m c (row t r) k := by
  unfold DNv
  pointwise
  simp only [DB_at, bW_at]
  rfl
def GYv (dn : FVec Ideal S512x1024 .f32) (g : FVec Ideal S1x1024 .f32) : FVec Ideal S512x1024 .f32 :=
  mulf dn (broadcastTo S512x1024 g broadcasts_S1x1024_S512x1024)
theorem gy_at (t : Fin cfg0.N) (r : Fin 512) (k : Fin 1024) :
    GYv (DNv (DB m c t) (iblk m c 6 t)) (iblk m c 5 t) (ix2 r k) = Gy m c (row t r) k := by
  unfold GYv
  pointwise
  simp only [dn_at, bG_at]
  rfl

def MNv (gy xh : FVec Ideal S512x1024 .f32) : FVec Ideal S512x1 .f32 :=
  divf (shapeCast S512x1 (multiReduction .add [1] S512 (mulf gy xh) 0x00000000#32 reduces_S512x1024_S512 (.inl rfl) rfl) shapeCasts_S512_S512x1)
    (broadcast S512x1 (Scalar.ofBits .f32 0x44800000#32))

/-- The block of the gradient of the input that point `t` writes. -/
def DXv (t : Fin cfg0.N) : FVec Ideal S512x1024 .f32 :=
  k0_pay1 (k0_pay6 (iblk m c 0 t)) (k0_pay7 (iblk m c 0 t)) (GYv (DNv (DB m c t) (iblk m c 6 t)) (iblk m c 5 t))
    (MNv (GYv (DNv (DB m c t) (iblk m c 6 t)) (iblk m c 5 t)) (k0_pay7 (iblk m c 0 t))) (iblk m c 1 t)
/-- The gain's gradient after point `t`, over what it held before. -/
def DGv (t : Fin cfg0.N) (a : FVec Ideal S1x1024 .f32) : FVec Ideal S1x1024 .f32 :=
  k0_pay2 (k0_pay7 (iblk m c 0 t)) (DNv (DB m c t) (iblk m c 6 t)) a
/-- The weight's gradient after point `t`, over what it held before. -/
def DWv (t : Fin cfg0.N) (a : FVec Ideal S1536x1024 .f32) : FVec Ideal S1536x1024 .f32 :=
  shapeCast S1536x1024 (addf a (matmul dot_S512x1536_S512x1024_S1536x1024_0_0_1_1_n_n none (DB m c t)
    (k0_pay8 (iblk m c 5 t) (iblk m c 0 t)) (constant S1536x1024 .f32 0x00000000#32))) shapeCasts_S1536x1024_S1536x1024

theorem sc_read (x : Vec Ideal S1536x1024 .f32) :
    View.read (Elt Ideal) (View.whole cc0_scratch0) ((Memref.isWhole_whole cc0_scratch0).unread x) = x :=
  (Memref.isWhole_whole cc0_scratch0).read_unread x

theorem dx_A (t : Fin cfg0.N) (h0 : t.val % 8 = 0) (h1 : ¬t.val % 8 = 7) : (outsAt0 m c t.val t.isLt).1 = DXv m c t := by
  rw [outsAt0_A m c t h0 h1]
  dsimp only
  unfold out0_A_7
  refine (View.read_writes_eq_canon _ _ _ (fun y => cover0_A_7 ..)).trans ?_
  unfold kernelRun0_A
  dsimp only
  sl_unfold_words
  rw [View.canon_unit_zero hz]
  try rw [View.readCov_unit_zero (S := S512x1024) _ hz]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, sc_read, View.ld_unit_zero (S := S512x1024) hz, View.ld_unit_zero (S := S1x1024) hz, View.ld_unit_zero (S := S1536x1024) hz]
  rfl
theorem dg_A (t : Fin cfg0.N) (h0 : t.val % 8 = 0) (h1 : ¬t.val % 8 = 7) : (outsAt0 m c t.val t.isLt).2.2.1 = DGv m c t k0_pay5 := by
  rw [outsAt0_A m c t h0 h1]
  dsimp only
  unfold out0_A_9
  refine (View.read_writes_eq_canon _ _ _ (fun y => cover0_A_9 ..)).trans ?_
  unfold kernelRun0_A
  dsimp only
  sl_unfold_words
  rw [View.canon_cons_unit_zero (S := S1x1024) hz]
  try rw [View.readCov_unit_zero (S := S1x1024) _ hz]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, sc_read, View.ld_unit_zero (S := S512x1024) hz, View.ld_unit_zero (S := S1x1024) hz, View.ld_unit_zero (S := S1536x1024) hz]
  rfl
theorem dw_A (t : Fin cfg0.N) (h0 : t.val % 8 = 0) (h1 : ¬t.val % 8 = 7) : (outsAt0 m c t.val t.isLt).2.2.2 = DWv m c t k0_pay4 := by
  rw [outsAt0_A m c t h0 h1]
  dsimp only
  unfold sout0_A_0
  refine (View.read_writes_eq_canon _ _ _ (fun y => scover0_A_0 ..)).trans ?_
  unfold kernelRun0_A
  dsimp only
  sl_unfold_words
  rw [View.canon_cons_unit_zero (S := S1536x1024) hz]
  try rw [View.readCov_unit_zero (S := S1536x1024) _ hz]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, sc_read, View.ld_unit_zero (S := S512x1024) hz, View.ld_unit_zero (S := S1x1024) hz, View.ld_unit_zero (S := S1536x1024) hz]
  rfl
theorem dx_B (t : Fin cfg0.N) (h0 : ¬t.val % 8 = 0) (h1 : ¬t.val % 8 = 7) : (outsAt0 m c t.val t.isLt).1 = DXv m c t := by
  rw [outsAt0_B m c t h0 h1]
  dsimp only
  unfold out0_B_7
  refine (View.read_writes_eq_canon _ _ _ (fun y => cover0_B_7 ..)).trans ?_
  unfold kernelRun0_B
  dsimp only
  sl_unfold_words
  rw [View.canon_unit_zero hz]
  try rw [View.readCov_unit_zero (S := S512x1024) _ hz]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, sc_read, View.ld_unit_zero (S := S512x1024) hz, View.ld_unit_zero (S := S1x1024) hz, View.ld_unit_zero (S := S1536x1024) hz]
  rfl
theorem dg_B (t : Fin cfg0.N) (h0 : ¬t.val % 8 = 0) (h1 : ¬t.val % 8 = 7) : (outsAt0 m c t.val t.isLt).2.2.1 = DGv m c t (outsAt0 m c (t.val - 1) (Nat.lt_of_le_of_lt (Nat.sub_le _ _) t.isLt)).2.2.1 := by
  rw [outsAt0_B m c t h0 h1]
  dsimp only
  unfold out0_B_9
  refine (View.read_writes_eq_canon _ _ _ (fun y => cover0_B_9 ..)).trans ?_
  unfold kernelRun0_B
  dsimp only
  sl_unfold_words
  rw [View.canon_unit_zero hz]
  try rw [View.readCov_unit_zero (S := S1x1024) _ hz]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, sc_read, View.ld_unit_zero (S := S512x1024) hz, View.ld_unit_zero (S := S1x1024) hz, View.ld_unit_zero (S := S1536x1024) hz]
  rfl
theorem dw_B (t : Fin cfg0.N) (h0 : ¬t.val % 8 = 0) (h1 : ¬t.val % 8 = 7) : (outsAt0 m c t.val t.isLt).2.2.2 = DWv m c t (outsAt0 m c (t.val - 1) (Nat.lt_of_le_of_lt (Nat.sub_le _ _) t.isLt)).2.2.2 := by
  rw [outsAt0_B m c t h0 h1]
  dsimp only
  unfold sout0_B_0
  refine (View.read_writes_eq_canon _ _ _ (fun y => scover0_B_0 ..)).trans ?_
  unfold kernelRun0_B
  dsimp only
  sl_unfold_words
  rw [View.canon_unit_zero hz]
  try rw [View.readCov_unit_zero (S := S1536x1024) _ hz]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, sc_read, View.ld_unit_zero (S := S512x1024) hz, View.ld_unit_zero (S := S1x1024) hz, View.ld_unit_zero (S := S1536x1024) hz]
  rfl
theorem dx_C (t : Fin cfg0.N) (h0 : ¬t.val % 8 = 0) (h1 : t.val % 8 = 7) : (outsAt0 m c t.val t.isLt).1 = DXv m c t := by
  rw [outsAt0_C m c t h0 h1]
  dsimp only
  unfold out0_C_7
  refine (View.read_writes_eq_canon _ _ _ (fun y => cover0_C_7 ..)).trans ?_
  unfold kernelRun0_C
  dsimp only
  sl_unfold_words
  rw [View.canon_unit_zero hz]
  try rw [View.readCov_unit_zero (S := S512x1024) _ hz]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, sc_read, View.ld_unit_zero (S := S512x1024) hz, View.ld_unit_zero (S := S1x1024) hz, View.ld_unit_zero (S := S1536x1024) hz]
  rfl
theorem dg_C (t : Fin cfg0.N) (h0 : ¬t.val % 8 = 0) (h1 : t.val % 8 = 7) : (outsAt0 m c t.val t.isLt).2.2.1 = DGv m c t (outsAt0 m c (t.val - 1) (Nat.lt_of_le_of_lt (Nat.sub_le _ _) t.isLt)).2.2.1 := by
  rw [outsAt0_C m c t h0 h1]
  dsimp only
  unfold out0_C_9
  refine (View.read_writes_eq_canon _ _ _ (fun y => cover0_C_9 ..)).trans ?_
  unfold kernelRun0_C
  dsimp only
  sl_unfold_words
  rw [View.canon_unit_zero hz]
  try rw [View.readCov_unit_zero (S := S1x1024) _ hz]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, sc_read, View.ld_unit_zero (S := S512x1024) hz, View.ld_unit_zero (S := S1x1024) hz, View.ld_unit_zero (S := S1536x1024) hz]
  rfl
theorem dw_C (t : Fin cfg0.N) (h0 : ¬t.val % 8 = 0) (h1 : t.val % 8 = 7) : (outsAt0 m c t.val t.isLt).2.2.2 = DWv m c t (outsAt0 m c (t.val - 1) (Nat.lt_of_le_of_lt (Nat.sub_le _ _) t.isLt)).2.2.2 := by
  rw [outsAt0_C m c t h0 h1]
  dsimp only
  unfold sout0_C_0
  refine (View.read_writes_eq_canon _ _ _ (fun y => scover0_C_0 ..)).trans ?_
  unfold kernelRun0_C
  dsimp only
  sl_unfold_words
  rw [View.canon_unit_zero hz]
  try rw [View.readCov_unit_zero (S := S1536x1024) _ hz]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, sc_read, View.ld_unit_zero (S := S512x1024) hz, View.ld_unit_zero (S := S1x1024) hz, View.ld_unit_zero (S := S1536x1024) hz]
  rfl
theorem db_C (t : Fin cfg0.N) (h0 : ¬t.val % 8 = 0) (h1 : t.val % 8 = 7) : (outsAt0 m c t.val t.isLt).2.1 = k0_pay3 (F := Ideal) (DWv m c t (outsAt0 m c (t.val - 1) (Nat.lt_of_le_of_lt (Nat.sub_le _ _) t.isLt)).2.2.2) := by
  rw [outsAt0_C m c t h0 h1]
  dsimp only
  unfold out0_C_8
  refine (View.read_writes_eq_canon _ _ _ (fun y => cover0_C_8 ..)).trans ?_
  unfold kernelRun0_C
  dsimp only
  sl_unfold_words
  rw [View.canon_unit_zero hz]
  try rw [View.readCov_unit_zero (S := S1536x1024) _ hz]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, sc_read, View.ld_unit_zero (S := S512x1024) hz, View.ld_unit_zero (S := S1x1024) hz, View.ld_unit_zero (S := S1536x1024) hz]
  rfl

/-! ## The entries of one point's contribution -/

def Dx (r : Fin 4096) (k : Fin 1024) : EReal := In.dx (aX m c) (aG m c) (aW m c) (aDp m c) (aDh m c) r k
def dG (k : Fin 1024) (r : Fin 4096) : EReal := In.dG (aX m c) (aW m c) (aDp m c) k r
def dW (j : Fin 1536) (k : Fin 1024) (r : Fin 4096) : EReal := In.dW (aX m c) (aG m c) (aDp m c) j k r

theorem DXv_at (t : Fin cfg0.N) (r : Fin 512) (k : Fin 1024) : DXv m c t (ix2 r k) = Dx m c (row t r) k := by
  unfold DXv k0_pay1 MNv
  pointwise
  simp only [gy_at, xhat_at, rs_at, bDh_at, Rms.lit_1024]
  rfl
theorem DGv_at (t : Fin cfg0.N) (a : FVec Ideal S1x1024 .f32) (k : Fin 1024) :
    DGv m c t a (ix2 0 k) = a (ix2 0 k) + ∑ r, dG m c k (row t r) := by
  unfold DGv k0_pay2
  pointwise
  simp only [dn_at, xhat_at]
  rfl
theorem DWv_at (t : Fin cfg0.N) (a : FVec Ideal S1536x1024 .f32) (j : Fin 1536) (k : Fin 1024) :
    DWv m c t a (ix2 j k) = a (ix2 j k) + ∑ r, dW m c j k (row t r) := by
  unfold DWv
  pointwise
  simp only [DB_at, n1_at]
  rfl

/-! ## The sums over the points -/

theorem row_eq (n : ℕ) (h : n < 8) : Rms.rowOf n = row ⟨n, h⟩ :=
  funext fun r => Fin.ext (by show 512 * (n % 8) + _ = 512 * n + _; omega)

theorem dg_acc (k : Fin 1024) : ∀ (n : ℕ) (h : n < cfg0.N),
    (outsAt0 m c n h).2.2.1 (ix2 0 k) = ∑ i ∈ Finset.range (n + 1), ∑ r, dG m c k (Rms.rowOf i r)
  | 0, h => by
    rw [dg_A m c ⟨0, h⟩ (Nat.zero_mod 8) (by show ¬(0 % 8 = 7); decide), DGv_at, Finset.sum_range_one, row_eq 0 h]
    unfold k0_pay5
    pointwise
  | n + 1, h => by
    have hN : n + 1 < 8 := h
    have e : (outsAt0 m c (n + 1) h).2.2.1 = DGv m c ⟨n + 1, h⟩ (outsAt0 m c n (Nat.lt_of_succ_lt h)).2.2.1 := by
      by_cases h1 : (n + 1) % 8 = 7
      · exact dg_C m c ⟨n + 1, h⟩ (by show ¬(n + 1) % 8 = 0; omega) h1
      · exact dg_B m c ⟨n + 1, h⟩ (by show ¬(n + 1) % 8 = 0; omega) h1
    rw [e, DGv_at, dg_acc k n, Finset.sum_range_succ _ (n + 1), row_eq (n + 1) h]; rfl

theorem dw_acc (j : Fin 1536) (k : Fin 1024) : ∀ (n : ℕ) (h : n < cfg0.N),
    (outsAt0 m c n h).2.2.2 (ix2 j k) = ∑ i ∈ Finset.range (n + 1), ∑ r, dW m c j k (Rms.rowOf i r)
  | 0, h => by
    rw [dw_A m c ⟨0, h⟩ (Nat.zero_mod 8) (by show ¬(0 % 8 = 7); decide), DWv_at, Finset.sum_range_one, row_eq 0 h]
    unfold k0_pay4
    pointwise
  | n + 1, h => by
    have hN : n + 1 < 8 := h
    have e : (outsAt0 m c (n + 1) h).2.2.2 = DWv m c ⟨n + 1, h⟩ (outsAt0 m c n (Nat.lt_of_succ_lt h)).2.2.2 := by
      by_cases h1 : (n + 1) % 8 = 7
      · exact dw_C m c ⟨n + 1, h⟩ (by show ¬(n + 1) % 8 = 0; omega) h1
      · exact dw_B m c ⟨n + 1, h⟩ (by show ¬(n + 1) % 8 = 0; omega) h1
    rw [e, DWv_at, dw_acc j k n, Finset.sum_range_succ _ (n + 1), row_eq (n + 1) h]; rfl

/-! ## The arrays after the run -/

theorem index_outs : ∀ t : Fin grid0.N, win0_7.index t = ![t.val, 0] ∧ win0_8.index t = ![0, 0] ∧ win0_9.index t = ![0, 0] := by decide +kernel

theorem out_dx : (dats m 0 c).arrAt 7 cfg0.N = fun i => Dx m c (i 0) (i 1) := by
  refine Pipeline.Dat.arrAt_eq_of_covers _ 7 _ (by decide +kernel) fun t hf y => ?_
  refine (congrFun (after0_7 m c t) _).trans ?_
  have e : (outsAt0 m c t.val t.isLt).1 = DXv m c t := by
    have hN : t.val < 8 := t.isLt
    by_cases h0 : t.val % 8 = 0
    · exact dx_A m c t h0 (by omega)
    · by_cases h1 : t.val % 8 = 7
      · exact dx_C m c t h0 h1
      · exact dx_B m c t h0 h1
  idx_vars y
  rw [e]
  refine (DXv_at m c t _ _).trans (congrArg₂ (Dx m c) (Fin.ext ?_) (Fin.ext ?_))
  · blk_simp [(index_outs t).1]
    show 512 * t.val + y0.val = t.val * 512 + y0.val
    omega
  · blk_simp [(index_outs t).1]

theorem dg_last (t : Fin cfg0.N) (h1 : t.val % 8 = 7) (z : Fin 1) (k : Fin 1024) :
    (outsAt0 m c t.val t.isLt).2.2.1 (ix2 z k) = ∑ r, dG m c k r := by
  obtain rfl : z = 0 := Subsingleton.elim _ _
  have hN : t.val < 8 := t.isLt
  rw [dg_acc, show t.val + 1 = 8 by omega, Rms.sum_rowOf]
theorem db_last (t : Fin cfg0.N) (h1 : t.val % 8 = 7) (j : Fin 1536) (k : Fin 1024) :
    (outsAt0 m c t.val t.isLt).2.1 (ix2 j k) = ∑ r, dW m c j k r := by
  have hN : t.val < 8 := t.isLt
  rw [db_C m c t (by omega) h1, ← dw_C m c t (by omega) h1]
  have e : k0_pay3 (F := Ideal) (outsAt0 m c t.val t.isLt).2.2.2 (ix2 j k) = (outsAt0 m c t.val t.isLt).2.2.2 (ix2 j k) := by
    unfold k0_pay3
    pointwise
  rw [e, dw_acc, show t.val + 1 = 8 by omega, Rms.sum_rowOf]

theorem out_dw : (dats m 0 c).arrAt 8 cfg0.N = fun i => ∑ r, dW m c (i 0) (i 1) r := by
  refine Pipeline.Dat.arrAt_eq_of_covers _ 8 _ (by decide +kernel) fun t hf y => ?_
  refine (congrFun (after0_8 m c t) _).trans ?_
  idx_vars y
  refine (db_last m c t ((flush0_8 t).1 hf) _ _).trans (congrArg₂ (fun a b => ∑ r, dW m c a b r) (Fin.ext ?_) (Fin.ext ?_))
  · blk_simp [(index_outs t).2.1]
  · blk_simp [(index_outs t).2.1]

theorem out_dg : (dats m 0 c).arrAt 9 cfg0.N = fun i => ∑ r, dG m c (i 1) r := by
  refine Pipeline.Dat.arrAt_eq_of_covers _ 9 _ (by decide +kernel) fun t hf y => ?_
  refine (congrFun (after0_9 m c t) _).trans ?_
  idx_vars y
  refine (dg_last m c t ((flush0_9 t).1 hf) _ _).trans (congrArg (fun b => ∑ r, dG m c b r) (Fin.ext ?_))
  blk_simp [(index_outs t).2.2]

end Cert.InKernelIdeal.Hand
-- ==== Proof.InRef.lean ====
module

public import proofs.«01_k».proof.Proof.InMath
public import proofs.«01_k».proof.Proof.Gen.InReferenceIdeal.Run
public import Idealize.ShloMosaic.Lib.IdealHost

@[expose] public section

set_option maxRecDepth 16384

noncomputable section

/-!
# What the reference of the input-projection gradient leaves in its results
-/

namespace Cert.InReferenceIdeal.Hand

open Cert.InReferenceIdeal Cert.InReferenceIdeal.Gen
open Idealize.ShloMosaic Idealize.ShloMosaic.TcCoe Idealize.SL.Sem

variable (m : (ℓ : Loc nD τ sig) → Buf (Elt Ideal) ℓ) (ρ : Dev nD → PrngReg) (c : Dev nD)

def aX (r : Fin 4096) (k : Fin 1024) : EReal := m ((c : Thread nD τ).loc main_arg0) (ix2 r k)
def aG (k : Fin 1024) : EReal := m ((c : Thread nD τ).loc main_arg1) (ix2 0 k)
def aW (k : Fin 1024) (j : Fin 1536) : EReal := m ((c : Thread nD τ).loc main_arg2) (ix2 k j)
def aDp (r : Fin 4096) (j : Fin 1536) : EReal := m ((c : Thread nD τ).loc main_arg3) (ix2 r j)
def aDh (r : Fin 4096) (k : Fin 1024) : EReal := m ((c : Thread nD τ).loc main_arg4) (ix2 r k)

theorem results :
    θ_run defs (onTc (τ := τ) (main (F := Ideal))) ⟨m, fun _ => 0, ρ⟩ fun r => ∀ c : Dev nD,
      r.2.mem ((c : Thread nD τ).loc main_v38) = (fun i => In.dx (aX m c) (aG m c) (aW m c) (aDp m c) (aDh m c) (i 0) (i 1))
      ∧ r.2.mem ((c : Thread nD τ).loc main_v40) = (fun i => ∑ r, In.dW (aX m c) (aG m c) (aDp m c) (i 0) (i 1) r)
      ∧ r.2.mem ((c : Thread nD τ).loc main_v21) = (fun i => ∑ r, In.dG (aX m c) (aW m c) (aDp m c) (i 1) r)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Value.run m ρ)
  obtain ⟨h0, h1, h2, hrest⟩ := h c
  refine ⟨h0.trans (funext fun i => ?_), h1.trans (funext fun i => ?_), h2.trans (funext fun i => ?_), hrest⟩ <;>
    clear h0 h1 h2 hrest h
  · unfold Value.res_main_v38
    idx_vars i
    pointwise
    simp only [Rms.lit_1024, Rms.lit_eps, Rms.lit_neg_half, Finset.univ_unique, Finset.sum_singleton]
    exact (In.dx_chain (aX m c) (aG m c) (aW m c) (aDp m c) (aDh m c) i0 i1).symm
  · pointwise
    simp only [Rms.lit_1024, Rms.lit_eps]
    rfl
  · pointwise
    simp only [Rms.lit_1024, Rms.lit_eps]
    exact Finset.sum_congr rfl fun r _ => mul_comm _ _

end Cert.InReferenceIdeal.Hand
-- ==== Proof.ProjMath.lean ====
module

public import proofs.«01_k».proof.Proof.RmsMath

@[expose] public section

noncomputable section

/-!
# The two forward projections, entry by entry

The input projection is the product of the normed tokens with its weight. The output projection is the product of the two mixers' outputs, each
normed on its own and set side by side, with its weight; it is added to the residual, and the sum is normed again.
-/

namespace Cert.Proj

open Idealize.ShloMosaic

/-- One entry of a row's RMS norm with a gain. -/
def nrm {n : Nat} (N : ℝ) (x g : Fin n → EReal) (k : Fin n) : EReal := x k * Ideal.rsqrt (Rms.ms N Rms.eps x) * g k

/-- The input projection. -/
def inp (x : Fin 4096 → Fin 1024 → EReal) (g : Fin 1024 → EReal) (w : Fin 1024 → Fin 1536 → EReal) (r : Fin 4096) (j : Fin 1536) : EReal :=
  ∑ k, nrm 1024 (x r) g k * w k j

section Out
variable (x : Fin 4096 → Fin 1024 → EReal) (yp yl : Fin 4096 → Fin 512 → EReal) (gp gl : Fin 512 → EReal)
  (w : Fin 1024 → Fin 1024 → EReal) (g2 : Fin 1024 → EReal)

/-- The lower and the upper half of the weight's rows. -/
def lo (j : Fin 512) : Fin 1024 := ⟨j.val, by omega⟩
def hi (j : Fin 512) : Fin 1024 := ⟨512 + j.val, by omega⟩

/-- The residual after the output projection. -/
def h1 (r : Fin 4096) (k : Fin 1024) : EReal :=
  x r k + ∑ j, nrm 512 (yp r) gp j * w (lo j) k + ∑ j, nrm 512 (yl r) gl j * w (hi j) k
/-- Its norm. -/
def n2 (r : Fin 4096) (k : Fin 1024) : EReal := nrm 1024 (h1 x yp yl gp gl w r) g2 k
end Out

end Cert.Proj
-- ==== Proof.FwdInValue.lean ====
module

public import proofs.«01_k».proof.Proof.ProjMath
public import proofs.«01_k».proof.Proof.Gen.FwdInKernelIdeal.Value
public import Idealize.ShloMosaic.Lib.Pointwise
public import Idealize.ShloMosaic.Lib.StableHlo.ReadAt
public import Idealize.ShloMosaic.Lib.Pipeline.ValueKit

@[expose] public section

set_option maxRecDepth 16384
set_option maxHeartbeats 1000000

noncomputable section

/-!
# What the input projection kernel leaves in its results
-/

namespace Cert.FwdInKernelIdeal.Hand

open Cert.FwdInKernelIdeal Cert.FwdInKernelIdeal.Gen
open Idealize.ShloMosaic Idealize.ShloMosaic.TcCoe Idealize.ShloMosaic.Tactic

variable (m : (ℓ : Loc nD τ sig) → Buf (Elt Ideal) ℓ) (c : Dev nD)

theorem hz : (![0, 0] : Fin 2 → Nat) = fun _ => 0 := funext fun a => by fin_cases a <;> rfl

def aX (r : Fin 4096) (k : Fin 1024) : EReal := m ((c : Thread nD τ).loc main_arg0) (ix2 r k)
def aG (k : Fin 1024) : EReal := m ((c : Thread nD τ).loc main_arg1) (ix2 0 k)
def aW (k : Fin 1024) (j : Fin 1536) : EReal := m ((c : Thread nD τ).loc main_arg2) (ix2 k j)
/-- The input projection. -/
def Pr (r : Fin 4096) (j : Fin 1536) : EReal := Proj.inp (aX m c) (aG m c) (aW m c) r j

/-- Row `r` of the token block of point `n`. -/
def row (n : Fin 4) (r : Fin 1024) : Fin 4096 := ⟨1024 * n.val + r.val, by omega⟩

theorem V_x (r : Fin 4096) (k : Fin 1024) : V m c main_arg0 (ix2 r k) = aX m c r k := by
  unfold V; after_reads_at; rfl
theorem V_g (k : Fin 1024) : V m c main_arg1 (ix2 0 k) = aG m c k := by
  unfold V; after_reads_at; rfl
theorem V_w (k : Fin 1024) (j : Fin 1536) : V m c main_v1 (ix2 j k) = aW m c k j := by
  unfold V; after_reads_at; rfl

theorem index_rows : ∀ t : Fin grid0.N, win0_0.index t = ![t.val, 0] := by decide +kernel
theorem index_fixed : ∀ t : Fin grid0.N, win0_1.index t = ![0, 0] ∧ win0_2.index t = ![0, 0] := by decide +kernel
theorem index_outs : ∀ t : Fin grid0.N, win0_3.index t = ![0, t.val, 0] ∧ win0_4.index t = ![0, t.val, 0] ∧ win0_5.index t = ![0, t.val, 0] := by
  decide +kernel

theorem bX_at (t : Fin cfg0.N) (r : Fin 1024) (k : Fin 1024) : iblk m c 0 t (ix2 r k) = aX m c (row t r) k := by
  rw [← V_x]; unfold row
  blk_ext [iblk, index_rows t]
theorem bG_at (t : Fin cfg0.N) (k : Fin 1024) : iblk m c 1 t (ix2 0 k) = aG m c k := by
  rw [← V_g]
  blk_ext [iblk, (index_fixed t).1]
theorem bW_at (t : Fin cfg0.N) (k : Fin 1024) (j : Fin 1536) : iblk m c 2 t (ix2 j k) = aW m c k j := by
  rw [← V_w]
  blk_ext [iblk, (index_fixed t).2]

/-- The product that point `t` forms. -/
theorem proj_at (t : Fin cfg0.N) (r : Fin 1024) (j : Fin 1536) :
    k0_pay2 (F := Ideal) (iblk m c 0 t) (iblk m c 1 t) (iblk m c 2 t) (ix2 r j) = Pr m c (row t r) j := by
  unfold k0_pay2
  pointwise
  simp only [bX_at, bG_at, bW_at, Rms.lit_eps, Rms.lit_1024]
  rfl

theorem l0 (x : Vec Ideal S1024x1024 .f32) : View.ld (Val := Elt Ideal) (e' := .f32) x r0_0 = x := View.ld_unit_zero hz _ x
theorem l1 (x : Vec Ideal S1x1024 .f32) : View.ld (Val := Elt Ideal) (e' := .f32) x r0_1 = x := View.ld_unit_zero hz _ x
theorem l2 (x : Vec Ideal S1536x1024 .bf16) : View.ld (Val := Elt Ideal) (e' := .bf16) x r0_2 = x := View.ld_unit_zero hz _ x

/-- Column `l` of slab `s`, `o` columns on. -/
def col (o : Nat) (h : o + 512 ≤ 1536) (s : Fin 4) (l : Fin 128) : Fin 1536 := ⟨o + 128 * s.val + l.val, by omega⟩

theorem e3 (a : Vec Ideal S1024x1024 .f32) (b : Vec Ideal S1x1024 .f32) (d : Vec Ideal S1536x1024 .bf16) (y : S4x1024x128.Idx) :
    out0_3 (F := Ideal) a b d y = Value.E3 (F := Ideal) a b d y := by
  rw [← Value.canon3_eq]
  unfold_out out0_3
  simp only [l0, l1, l2]

theorem o3_at (t : Fin cfg0.N) (s : Fin 4) (r : Fin 1024) (l : Fin 128) :
    out0_3 (F := Ideal) (iblk m c 0 t) (iblk m c 1 t) (iblk m c 2 t) (ix3 s r l) = Pr m c (row t r) (col 0 (by omega) s l) := by
  rw [e3]
  refine Eq.trans (congrArg (k0_pay2 (F := Ideal) (iblk m c 0 t) (iblk m c 1 t) (iblk m c 2 t)) (?_ : _ = ix2 r (col 0 (by omega) s l))) (proj_at m c t r _)
  funext a
  fin_cases a
  · rfl
  · exact Fin.ext (by show s.val * 128 + l.val = 0 + 128 * s.val + l.val; omega)

theorem out_3 : (dats m 0 c).arrAt 3 cfg0.N = fun i => Pr m c (i 1) (col 0 (by omega) (i 0) (i 2)) := by
  refine Pipeline.Dat.arrAt_eq_of_covers _ 3 _ (by decide +kernel) fun t hf y => ?_
  refine (congrFun (after0_3 m c t) _).trans ?_
  idx_vars y
  refine (o3_at m c t _ _ _).trans (congrArg₂ (Pr m c) (Fin.ext ?_) (Fin.ext ?_))
  · blk_simp [(index_outs t).1]
    show 1024 * t.val + y1.val = t.val * 1024 + y1.val
    omega
  · blk_simp [(index_outs t).1, col]

theorem e4 (a : Vec Ideal S1024x1024 .f32) (b : Vec Ideal S1x1024 .f32) (d : Vec Ideal S1536x1024 .bf16) (y : S4x1024x128.Idx) :
    out0_4 (F := Ideal) a b d y = Value.E4 (F := Ideal) a b d y := by
  rw [← Value.canon4_eq]
  unfold_out out0_4
  simp only [l0, l1, l2]

theorem o4_at (t : Fin cfg0.N) (s : Fin 4) (r : Fin 1024) (l : Fin 128) :
    out0_4 (F := Ideal) (iblk m c 0 t) (iblk m c 1 t) (iblk m c 2 t) (ix3 s r l) = Pr m c (row t r) (col 512 (by omega) s l) := by
  rw [e4]
  refine Eq.trans (congrArg (k0_pay2 (F := Ideal) (iblk m c 0 t) (iblk m c 1 t) (iblk m c 2 t)) (?_ : _ = ix2 r (col 512 (by omega) s l))) (proj_at m c t r _)
  funext a
  fin_cases a
  · rfl
  · exact Fin.ext (by show s.val * 128 + l.val + 512 = 512 + 128 * s.val + l.val; omega)

theorem out_4 : (dats m 0 c).arrAt 4 cfg0.N = fun i => Pr m c (i 1) (col 512 (by omega) (i 0) (i 2)) := by
  refine Pipeline.Dat.arrAt_eq_of_covers _ 4 _ (by decide +kernel) fun t hf y => ?_
  refine (congrFun (after0_4 m c t) _).trans ?_
  idx_vars y
  refine (o4_at m c t _ _ _).trans (congrArg₂ (Pr m c) (Fin.ext ?_) (Fin.ext ?_))
  · blk_simp [(index_outs t).2.1]
    show 1024 * t.val + y1.val = t.val * 1024 + y1.val
    omega
  · blk_simp [(index_outs t).2.1, col]

theorem e5 (a : Vec Ideal S1024x1024 .f32) (b : Vec Ideal S1x1024 .f32) (d : Vec Ideal S1536x1024 .bf16) (y : S4x1024x128.Idx) :
    out0_5 (F := Ideal) a b d y = Value.E5 (F := Ideal) a b d y := by
  rw [← Value.canon5_eq]
  unfold_out out0_5
  simp only [l0, l1, l2]

theorem o5_at (t : Fin cfg0.N) (s : Fin 4) (r : Fin 1024) (l : Fin 128) :
    out0_5 (F := Ideal) (iblk m c 0 t) (iblk m c 1 t) (iblk m c 2 t) (ix3 s r l) = Pr m c (row t r) (col 1024 (by omega) s l) := by
  rw [e5]
  refine Eq.trans (congrArg (k0_pay2 (F := Ideal) (iblk m c 0 t) (iblk m c 1 t) (iblk m c 2 t)) (?_ : _ = ix2 r (col 1024 (by omega) s l))) (proj_at m c t r _)
  funext a
  fin_cases a
  · rfl
  · exact Fin.ext (by show s.val * 128 + l.val + 1024 = 1024 + 128 * s.val + l.val; omega)

theorem out_5 : (dats m 0 c).arrAt 5 cfg0.N = fun i => Pr m c (i 1) (col 1024 (by omega) (i 0) (i 2)) := by
  refine Pipeline.Dat.arrAt_eq_of_covers _ 5 _ (by decide +kernel) fun t hf y => ?_
  refine (congrFun (after0_5 m c t) _).trans ?_
  idx_vars y
  refine (o5_at m c t _ _ _).trans (congrArg₂ (Pr m c) (Fin.ext ?_) (Fin.ext ?_))
  · blk_simp [(index_outs t).2.2]
    show 1024 * t.val + y1.val = t.val * 1024 + y1.val
    omega
  · blk_simp [(index_outs t).2.2, col]

end Cert.FwdInKernelIdeal.Hand
-- ==== Proof.FwdInRef.lean ====
module

public import proofs.«01_k».proof.Proof.ProjMath
public import proofs.«01_k».proof.Proof.Gen.FwdInReferenceIdeal.Run
public import Idealize.ShloMosaic.Lib.IdealHost

@[expose] public section

set_option maxRecDepth 16384
set_option maxHeartbeats 1000000

noncomputable section

/-!
# What the reference of the input projection leaves in its results
-/

namespace Cert.FwdInReferenceIdeal.Hand

open Cert.FwdInReferenceIdeal Cert.FwdInReferenceIdeal.Gen
open Idealize.ShloMosaic Idealize.ShloMosaic.TcCoe Idealize.SL.Sem

variable (m : (ℓ : Loc nD τ sig) → Buf (Elt Ideal) ℓ) (ρ : Dev nD → PrngReg) (c : Dev nD)

def aX (r : Fin 4096) (k : Fin 1024) : EReal := m ((c : Thread nD τ).loc main_arg0) (ix2 r k)
def aG (k : Fin 1024) : EReal := m ((c : Thread nD τ).loc main_arg1) (ix2 0 k)
def aW (k : Fin 1024) (j : Fin 1536) : EReal := m ((c : Thread nD τ).loc main_arg2) (ix2 k j)
/-- The input projection. -/
def Pr (r : Fin 4096) (j : Fin 1536) : EReal := Proj.inp (aX m c) (aG m c) (aW m c) r j

/-- Column `l` of slab `s`, `o` columns on. -/
def col (o : Nat) (h : o + 512 ≤ 1536) (s : Fin 4) (l : Fin 128) : Fin 1536 := ⟨o + 128 * s.val + l.val, by omega⟩

theorem results :
    θ_run defs (onTc (τ := τ) (main (F := Ideal))) ⟨m, fun _ => 0, ρ⟩ fun r => ∀ c : Dev nD,
      r.2.mem ((c : Thread nD τ).loc main_v15) = (fun i => Pr m c (i 1) (col 0 (by omega) (i 0) (i 2)))
      ∧ r.2.mem ((c : Thread nD τ).loc main_v18) = (fun i => Pr m c (i 1) (col 512 (by omega) (i 0) (i 2)))
      ∧ r.2.mem ((c : Thread nD τ).loc main_v21) = (fun i => Pr m c (i 1) (col 1024 (by omega) (i 0) (i 2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run m ρ)
  obtain ⟨h0, h1, h2, hrest⟩ := h c
  refine ⟨h0.trans (funext fun i => ?_), h1.trans (funext fun i => ?_), h2.trans (funext fun i => ?_), hrest⟩ <;>
    clear h0 h1 h2 hrest h
  · idx_vars i
    pointwise
    simp only [Rms.lit_1024, Rms.lit_eps]
    exact congrArg (fun j => Pr m c i1 j) (Fin.ext (by show i0.val * 128 + i2.val = 0 + 128 * i0.val + i2.val; omega) :
      (⟨i0.val * 128 + i2.val, by omega⟩ : Fin 1536) = col 0 (by omega) i0 i2)
  · idx_vars i
    pointwise
    simp only [Rms.lit_1024, Rms.lit_eps]
    exact congrArg (fun j => Pr m c i1 j) (Fin.ext (by show 512 + (i0.val * 128 + i2.val) = 512 + 128 * i0.val + i2.val; omega) :
      (⟨512 + (i0.val * 128 + i2.val), by omega⟩ : Fin 1536) = col 512 (by omega) i0 i2)
  · idx_vars i
    pointwise
    simp only [Rms.lit_1024, Rms.lit_eps]
    exact congrArg (fun j => Pr m c i1 j) (Fin.ext (by show 1024 + (i0.val * 128 + i2.val) = 1024 + 128 * i0.val + i2.val; omega) :
      (⟨1024 + (i0.val * 128 + i2.val), by omega⟩ : Fin 1536) = col 1024 (by omega) i0 i2)

end Cert.FwdInReferenceIdeal.Hand
-- ==== Proof.FwdOutValue.lean ====
module

public import proofs.«01_k».proof.Proof.ProjMath
public import proofs.«01_k».proof.Proof.Gen.FwdOutKernelIdeal.Value
public import Idealize.ShloMosaic.Lib.Pointwise
public import Idealize.ShloMosaic.Lib.StableHlo.ReadAt
public import Idealize.ShloMosaic.Lib.Pipeline.ValueKit

@[expose] public section

set_option maxRecDepth 16384
set_option maxHeartbeats 1000000

noncomputable section

/-!
# What the output projection's kernel leaves in its results
-/

namespace Cert.FwdOutKernelIdeal.Hand

open Cert.FwdOutKernelIdeal Cert.FwdOutKernelIdeal.Gen
open Idealize.ShloMosaic Idealize.ShloMosaic.TcCoe Idealize.ShloMosaic.Tactic

variable (m : (ℓ : Loc nD τ sig) → Buf (Elt Ideal) ℓ) (c : Dev nD)

theorem hz : (![0, 0] : Fin 2 → Nat) = fun _ => 0 := funext fun a => by fin_cases a <;> rfl

def aX (r : Fin 4096) (k : Fin 1024) : EReal := m ((c : Thread nD τ).loc main_arg0) (ix2 r k)
def aYp (r : Fin 4096) (j : Fin 512) : EReal := m ((c : Thread nD τ).loc main_arg1) (ix2 r j)
def aYl (r : Fin 4096) (j : Fin 512) : EReal := m ((c : Thread nD τ).loc main_arg2) (ix2 r j)
def aGp (j : Fin 512) : EReal := m ((c : Thread nD τ).loc main_arg3) (ix2 0 j)
def aGl (j : Fin 512) : EReal := m ((c : Thread nD τ).loc main_arg4) (ix2 0 j)
def aW (j : Fin 1024) (k : Fin 1024) : EReal := m ((c : Thread nD τ).loc main_arg5) (ix2 j k)
def aG2 (k : Fin 1024) : EReal := m ((c : Thread nD τ).loc main_arg6) (ix2 0 k)
/-- The residual after the projection, and its norm. -/
def H1 (r : Fin 4096) (k : Fin 1024) : EReal := Proj.h1 (aX m c) (aYp m c) (aYl m c) (aGp m c) (aGl m c) (aW m c) r k
def N2 (r : Fin 4096) (k : Fin 1024) : EReal := Proj.n2 (aX m c) (aYp m c) (aYl m c) (aGp m c) (aGl m c) (aW m c) (aG2 m c) r k

/-- Row `r` of the token block of point `n`. -/
def row (n : Fin 4) (r : Fin 1024) : Fin 4096 := ⟨1024 * n.val + r.val, by omega⟩

theorem V_x (r : Fin 4096) (k : Fin 1024) : V m c main_arg0 (ix2 r k) = aX m c r k := by
  unfold V; after_reads_at; rfl
theorem V_gp (k : Fin 512) : V m c main_arg3 (ix2 0 k) = aGp m c k := by
  unfold V; after_reads_at; rfl
theorem V_gl (k : Fin 512) : V m c main_arg4 (ix2 0 k) = aGl m c k := by
  unfold V; after_reads_at; rfl
theorem V_g2 (k : Fin 1024) : V m c main_arg6 (ix2 0 k) = aG2 m c k := by
  unfold V; after_reads_at; rfl
theorem V_w (j : Fin 1024) (k : Fin 1024) : V m c main_v4 (ix2 j k) = aW m c j k := by
  unfold V; after_reads_at; rfl
theorem V_yp (s : Fin 4) (r : Fin 4096) (l : Fin 128) : V m c main_v1 (ix3 s r l) = aYp m c r ⟨128 * s.val + l.val, by omega⟩ := by
  unfold V; after_reads_at
  pointwise
  exact congrArg (fun j => aYp m c r j) (Fin.ext (by dsimp; omega))
theorem V_yl (s : Fin 4) (r : Fin 4096) (l : Fin 128) : V m c main_v3 (ix3 s r l) = aYl m c r ⟨128 * s.val + l.val, by omega⟩ := by
  unfold V; after_reads_at
  pointwise
  exact congrArg (fun j => aYl m c r j) (Fin.ext (by dsimp; omega))

theorem index_rows : ∀ t : Fin grid0.N, win0_0.index t = ![t.val, 0] ∧ win0_7.index t = ![t.val, 0] ∧ win0_8.index t = ![t.val, 0] := by decide +kernel
theorem index_slabs : ∀ t : Fin grid0.N, win0_1.index t = ![0, t.val, 0] ∧ win0_2.index t = ![0, t.val, 0] := by decide +kernel
theorem index_fixed : ∀ t : Fin grid0.N, win0_3.index t = ![0, 0] ∧ win0_4.index t = ![0, 0] ∧ win0_5.index t = ![0, 0] ∧ win0_6.index t = ![0, 0] := by
  decide +kernel

theorem bX_at (t : Fin cfg0.N) (r : Fin 1024) (k : Fin 1024) : iblk m c 0 t (ix2 r k) = aX m c (row t r) k := by
  rw [← V_x]; unfold row
  blk_ext [iblk, (index_rows t).1]
theorem bYp_at (t : Fin cfg0.N) (s : Fin 4) (r : Fin 1024) (l : Fin 128) :
    iblk m c 1 t (ix3 s r l) = aYp m c (row t r) ⟨128 * s.val + l.val, by omega⟩ := by
  rw [← V_yp]; unfold row
  blk_ext [iblk, (index_slabs t).1]
theorem bYl_at (t : Fin cfg0.N) (s : Fin 4) (r : Fin 1024) (l : Fin 128) :
    iblk m c 2 t (ix3 s r l) = aYl m c (row t r) ⟨128 * s.val + l.val, by omega⟩ := by
  rw [← V_yl]; unfold row
  blk_ext [iblk, (index_slabs t).2]
theorem bGp_at (t : Fin cfg0.N) (k : Fin 512) : iblk m c 3 t (ix2 0 k) = aGp m c k := by
  rw [← V_gp]
  blk_ext [iblk, (index_fixed t).1]
theorem bGl_at (t : Fin cfg0.N) (k : Fin 512) : iblk m c 4 t (ix2 0 k) = aGl m c k := by
  rw [← V_gl]
  blk_ext [iblk, (index_fixed t).2.1]
theorem bW_at (t : Fin cfg0.N) (j : Fin 1024) (k : Fin 1024) : iblk m c 5 t (ix2 j k) = aW m c j k := by
  rw [← V_w]
  blk_ext [iblk, (index_fixed t).2.2.1]
theorem bG2_at (t : Fin cfg0.N) (k : Fin 1024) : iblk m c 6 t (ix2 0 k) = aG2 m c k := by
  rw [← V_g2]
  blk_ext [iblk, (index_fixed t).2.2.2]

/-! ## The stages of one block -/

/-- Four slabs side by side. -/
def Cat (b : Vec Ideal S4x1024x128 .f32) : FVec Ideal S1024x512 .f32 :=
  concatenate S1024x512 1 [⟨S1024x128, shapeCast S1024x128 (View.ld b r0_0) shapeCasts_S1x1024x128_S1024x128⟩,
    ⟨S1024x128, shapeCast S1024x128 (View.ld b r0_1) shapeCasts_S1x1024x128_S1024x128⟩,
    ⟨S1024x128, shapeCast S1024x128 (View.ld b r0_2) shapeCasts_S1x1024x128_S1024x128⟩,
    ⟨S1024x128, shapeCast S1024x128 (View.ld b r0_3) shapeCasts_S1x1024x128_S1024x128⟩]
    concatenates_S1024x128_S1024x128_S1024x128_S1024x128_S1024x512_d1

theorem cat_at (b : Vec Ideal S4x1024x128 .f32) (Y : Fin 1024 → Fin 512 → EReal)
    (hb : ∀ (s : Fin 4) (r : Fin 1024) (l : Fin 128), b (ix3 s r l) = Y r ⟨128 * s.val + l.val, by omega⟩) (r : Fin 1024) (j : Fin 512) :
    Cat b (ix2 r j) = Y r j := by
  unfold Cat
  pointwise
  simp only [hb]
  split_ifs <;> exact congrArg (fun j => Y r j) (Fin.ext (by dsimp; omega))

/-- A half's norm with its gain. -/
def Nv (v : FVec Ideal S1024x512 .f32) (g : Vec Ideal S1x512 .f32) : FVec Ideal S1024x512 .f32 :=
  mulf (mulf v (broadcastTo S1024x512 (rsqrt (addf (divf (shapeCast S1024x1 (multiReduction .add [1] S1024 (mulf v v) 0x00000000#32 reduces_S1024x512_S1024 (.inl rfl) rfl) shapeCasts_S1024_S1024x1)
    (broadcast S1024x1 (Scalar.ofBits .f32 0x44000000#32))) (broadcast S1024x1 (Scalar.ofBits .f32 0x358637BD#32)))) broadcasts_S1024x1_S1024x512))
    (broadcastTo S1024x512 g broadcasts_S1x512_S1024x512)

theorem nv_at (v : FVec Ideal S1024x512 .f32) (g : Vec Ideal S1x512 .f32) (Y : Fin 1024 → Fin 512 → EReal) (G : Fin 512 → EReal)
    (hv : ∀ r j, v (ix2 r j) = Y r j) (hg : ∀ j, g (ix2 0 j) = G j) (r : Fin 1024) (j : Fin 512) :
    Nv v g (ix2 r j) = Proj.nrm 512 (Y r) G j := by
  unfold Nv
  pointwise
  simp only [hv, hg, Rms.lit_eps, Rms.lit_512]
  rfl

/-- The residual and the two products on it. -/
def Rv (x : Vec Ideal S1024x1024 .f32) (p l : FVec Ideal S1024x512 .f32) (wl wh : Vec Ideal S512x1024 .bf16) : FVec Ideal S1024x1024 .f32 :=
  addf (addf x (matmul dot_S1024x512_S512x1024_S1024x1024_1_0_0_1_n_n none (truncf .bf16 p bitsLt_bf16_f32)
      (shapeCast S512x1024 wl shapeCasts_S512x1024_S512x1024 : FVec Ideal S512x1024 .bf16) (constant S1024x1024 .f32 0x00000000#32)))
    (matmul dot_S1024x512_S512x1024_S1024x1024_1_0_0_1_n_n none (truncf .bf16 l bitsLt_bf16_f32)
      (shapeCast S512x1024 wh shapeCasts_S512x1024_S512x1024 : FVec Ideal S512x1024 .bf16) (constant S1024x1024 .f32 0x00000000#32))

theorem rv_at (x : Vec Ideal S1024x1024 .f32) (p l : FVec Ideal S1024x512 .f32) (w : Vec Ideal S1024x1024 .bf16)
    (X : Fin 1024 → Fin 1024 → EReal) (P L : Fin 1024 → Fin 512 → EReal) (W : Fin 1024 → Fin 1024 → EReal)
    (hx : ∀ r k, x (ix2 r k) = X r k) (hp : ∀ r j, p (ix2 r j) = P r j) (hl : ∀ r j, l (ix2 r j) = L r j) (hw : ∀ j k, w (ix2 j k) = W j k)
    (r k : Fin 1024) :
    Rv x p l (View.ld w r0_6) (View.ld w r0_7) (ix2 r k)
      = X r k + ∑ j, P r j * W (Proj.lo j) k + ∑ j, L r j * W (Proj.hi j) k := by
  unfold Rv
  pointwise
  simp only [hx, hp, hl, hw]
  rfl

/-- The residual of point `t`. -/
def Hv (t : Fin cfg0.N) : FVec Ideal S1024x1024 .f32 :=
  Rv (iblk m c 0 t) (Nv (Cat (iblk m c 1 t)) (iblk m c 3 t)) (Nv (Cat (iblk m c 2 t)) (iblk m c 4 t))
    (View.ld (iblk m c 5 t) r0_6) (View.ld (iblk m c 5 t) r0_7)

theorem hv_at (t : Fin cfg0.N) (r k : Fin 1024) : Hv m c t (ix2 r k) = H1 m c (row t r) k :=
  rv_at (iblk m c 0 t) _ _ (iblk m c 5 t) (fun r k => aX m c (row t r) k) (fun r => Proj.nrm 512 (aYp m c (row t r)) (aGp m c))
    (fun r => Proj.nrm 512 (aYl m c (row t r)) (aGl m c)) (aW m c) (bX_at m c t)
    (nv_at _ _ (fun r => aYp m c (row t r)) _ (cat_at _ _ (bYp_at m c t)) (bGp_at m c t))
    (nv_at _ _ (fun r => aYl m c (row t r)) _ (cat_at _ _ (bYl_at m c t)) (bGl_at m c t)) (bW_at m c t) r k

/-- The norm of a block of residuals. -/
def Qv (h : FVec Ideal S1024x1024 .f32) (g : Vec Ideal S1x1024 .f32) : FVec Ideal S1024x1024 .f32 :=
  mulf (mulf h (broadcastTo S1024x1024 (rsqrt (addf (divf (shapeCast S1024x1 (multiReduction .add [1] S1024 (mulf h h) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))) broadcasts_S1024x1_S1024x1024))
    (broadcastTo S1024x1024 g broadcasts_S1x1024_S1024x1024)

theorem qv_at (t : Fin cfg0.N) (r k : Fin 1024) : Qv (Hv m c t) (iblk m c 6 t) (ix2 r k) = N2 m c (row t r) k := by
  unfold Qv
  pointwise
  simp only [hv_at, bG2_at, Rms.lit_eps, Rms.lit_1024]
  rfl

theorem l4 (x : Vec Ideal S1x512 .f32) : View.ld (Val := Elt Ideal) (e' := .f32) x r0_4 = x := View.ld_unit_zero hz _ x
theorem l5 (x : Vec Ideal S1024x1024 .f32) : View.ld (Val := Elt Ideal) (e' := .f32) x r0_5 = x := View.ld_unit_zero hz _ x
theorem l8 (x : Vec Ideal S1x1024 .f32) : View.ld (Val := Elt Ideal) (e' := .f32) x r0_8 = x := View.ld_unit_zero hz _ x

theorem w7 (x0 : Vec Ideal S1024x1024 .f32) (x1 x2 : Vec Ideal S4x1024x128 .f32) (x3 x4 : Vec Ideal S1x512 .f32) (x5 : Vec Ideal S1024x1024 .bf16) (x6 : Vec Ideal S1x1024 .f32) :
    out0_7 (F := Ideal) x0 x1 x2 x3 x4 x5 x6
      = shapeCast S1024x1024 (Rv x0 (Nv (Cat x1) x3) (Nv (Cat x2) x4) (View.ld x5 r0_6) (View.ld x5 r0_7)) shapeCasts_S1024x1024_S1024x1024 := by
  unfold_out out0_7
  rw [View.canon_unit_zero hz]
  simp only [l4, l5]
  rfl
theorem w8 (x0 : Vec Ideal S1024x1024 .f32) (x1 x2 : Vec Ideal S4x1024x128 .f32) (x3 x4 : Vec Ideal S1x512 .f32) (x5 : Vec Ideal S1024x1024 .bf16) (x6 : Vec Ideal S1x1024 .f32) :
    out0_8 (F := Ideal) x0 x1 x2 x3 x4 x5 x6
      = shapeCast S1024x1024 (truncf .bf16 (Qv (Rv x0 (Nv (Cat x1) x3) (Nv (Cat x2) x4) (View.ld x5 r0_6) (View.ld x5 r0_7)) x6) bitsLt_bf16_f32) shapeCasts_S1024x1024_S1024x1024 := by
  unfold_out out0_8
  rw [View.canon_unit_zero hz]
  simp only [l4, l5, l8]
  rfl

theorem o7_at (t : Fin cfg0.N) (r k : Fin 1024) :
    out0_7 (F := Ideal) (iblk m c 0 t) (iblk m c 1 t) (iblk m c 2 t) (iblk m c 3 t) (iblk m c 4 t) (iblk m c 5 t) (iblk m c 6 t) (ix2 r k) = H1 m c (row t r) k := by
  rw [w7]
  refine Eq.trans (?_ : _ = Hv m c t (ix2 r k)) (hv_at m c t r k)
  unfold Hv
  generalize Rv _ _ _ _ _ = h
  pointwise
theorem o8_at (t : Fin cfg0.N) (r k : Fin 1024) :
    out0_8 (F := Ideal) (iblk m c 0 t) (iblk m c 1 t) (iblk m c 2 t) (iblk m c 3 t) (iblk m c 4 t) (iblk m c 5 t) (iblk m c 6 t) (ix2 r k) = N2 m c (row t r) k := by
  rw [w8]
  refine Eq.trans (?_ : _ = Qv (Hv m c t) (iblk m c 6 t) (ix2 r k)) (qv_at m c t r k)
  unfold Hv
  generalize Qv _ _ = h
  pointwise

theorem out_7 : (dats m 0 c).arrAt 7 cfg0.N = fun i => H1 m c (i 0) (i 1) := by
  refine Pipeline.Dat.arrAt_eq_of_covers _ 7 _ (by decide +kernel) fun t hf y => ?_
  refine (congrFun (after0_7 m c t) _).trans ?_
  idx_vars y
  refine (o7_at m c t _ _).trans (congrArg₂ (H1 m c) (Fin.ext ?_) (Fin.ext ?_))
  · blk_simp [(index_rows t).2.1]
    show 1024 * t.val + y0.val = t.val * 1024 + y0.val
    omega
  · blk_simp [(index_rows t).2.1]
theorem out_8 : (dats m 0 c).arrAt 8 cfg0.N = fun i => N2 m c (i 0) (i 1) := by
  refine Pipeline.Dat.arrAt_eq_of_covers _ 8 _ (by decide +kernel) fun t hf y => ?_
  refine (congrFun (after0_8 m c t) _).trans ?_
  idx_vars y
  refine (o8_at m c t _ _).trans (congrArg₂ (N2 m c) (Fin.ext ?_) (Fin.ext ?_))
  · blk_simp [(index_rows t).2.2]
    show 1024 * t.val + y0.val = t.val * 1024 + y0.val
    omega
  · blk_simp [(index_rows t).2.2]

end Cert.FwdOutKernelIdeal.Hand
-- ==== Proof.FwdOutRef.lean ====
module

public import proofs.«01_k».proof.Proof.ProjMath
public import proofs.«01_k».proof.Proof.Gen.FwdOutReferenceIdeal.Run
public import Idealize.ShloMosaic.Lib.IdealHost

@[expose] public section

set_option maxRecDepth 16384
set_option maxHeartbeats 1000000

noncomputable section

/-!
# What the reference of the output projection leaves in its results
-/

namespace Cert.FwdOutReferenceIdeal.Hand

open Cert.FwdOutReferenceIdeal Cert.FwdOutReferenceIdeal.Gen
open Idealize.ShloMosaic Idealize.ShloMosaic.TcCoe Idealize.SL.Sem

variable (m : (ℓ : Loc nD τ sig) → Buf (Elt Ideal) ℓ) (ρ : Dev nD → PrngReg) (c : Dev nD)

def aX (r : Fin 4096) (k : Fin 1024) : EReal := m ((c : Thread nD τ).loc main_arg0) (ix2 r k)
def aYp (r : Fin 4096) (j : Fin 512) : EReal := m ((c : Thread nD τ).loc main_arg1) (ix2 r j)
def aYl (r : Fin 4096) (j : Fin 512) : EReal := m ((c : Thread nD τ).loc main_arg2) (ix2 r j)
def aGp (j : Fin 512) : EReal := m ((c : Thread nD τ).loc main_arg3) (ix2 0 j)
def aGl (j : Fin 512) : EReal := m ((c : Thread nD τ).loc main_arg4) (ix2 0 j)
def aW (j : Fin 1024) (k : Fin 1024) : EReal := m ((c : Thread nD τ).loc main_arg5) (ix2 j k)
def aG2 (k : Fin 1024) : EReal := m ((c : Thread nD τ).loc main_arg6) (ix2 0 k)
/-- The residual after the projection, and its norm. -/
def H1 (r : Fin 4096) (k : Fin 1024) : EReal := Proj.h1 (aX m c) (aYp m c) (aYl m c) (aGp m c) (aGl m c) (aW m c) r k
def N2 (r : Fin 4096) (k : Fin 1024) : EReal := Proj.n2 (aX m c) (aYp m c) (aYl m c) (aGp m c) (aGl m c) (aW m c) (aG2 m c) r k

theorem results :
    θ_run defs (onTc (τ := τ) (main (F := Ideal))) ⟨m, fun _ => 0, ρ⟩ fun r => ∀ c : Dev nD,
      r.2.mem ((c : Thread nD τ).loc main_v26) = (fun i => H1 m c (i 0) (i 1))
      ∧ r.2.mem ((c : Thread nD τ).loc main_v39) = (fun i => N2 m c (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (Value.run m ρ)
  obtain ⟨h0, h1, hrest⟩ := h c
  refine ⟨h0.trans (funext fun i => ?_), h1.trans (funext fun i => ?_), hrest⟩ <;>
    clear h0 h1 hrest h
  · idx_vars i
    pointwise
    simp only [Rms.lit_1024, Rms.lit_eps, Rms.lit_512]
    exact (add_assoc (G := EReal) _ _ _).symm
  · unfold Value.res_main_v39
    idx_vars i
    pointwise
    simp only [Rms.lit_1024, Rms.lit_eps, Rms.lit_512]
    exact congrArg (fun h => Proj.nrm 1024 h (aG2 m c) i1) (funext fun k => (add_assoc (G := EReal) _ _ _).symm :
      (fun k => aX m c i0 k + (∑ j, Proj.nrm 512 (aYp m c i0) (aGp m c) j * aW m c (Proj.lo j) k
        + ∑ j, Proj.nrm 512 (aYl m c i0) (aGl m c) j * aW m c (Proj.hi j) k : EReal)) = H1 m c i0)

end Cert.FwdOutReferenceIdeal.Hand
-- ==== Proof.OutMath.lean ====
module

public import proofs.«01_k».proof.Proof.ProjMath

@[expose] public section

noncomputable section

/-!
# The gradient of the output projection, entry by entry

The two mixers' outputs are normed each on its own, set side by side, and multiplied by one matrix; the product joins the residual, and the
sum is normed for the channel mixer. From the gradient `dn` at that last norm's output and the gradient `dh` that reaches the residual past it,
here are the entries of the gradients of the residual, of the mixers' outputs, of the three gains and of the matrix.
-/

namespace Cert.Out

open Idealize.ShloMosaic

section Row
variable {n : Nat} (N : ℝ) (x gy : Fin n → EReal)

/-- The reciprocal root of a row. -/
def rs : EReal := Ideal.rsqrt (Rms.ms N Rms.eps x)
/-- The gradient of a row from the gradient at its norm's output times the gain, in its closed form. -/
def back (k : Fin n) : EReal := rs N x * (gy k - x k * rs N x * Ideal.div (∑ j, gy j * (x j * rs N x)) (N : EReal))
/-- The gradient through the mean square, once: the chain rule's factor of the row. -/
def via : EReal := Ideal.div ((∑ j, x j * gy j) * (((-(1 / 2) : ℝ) : EReal) * Ideal.div (rs N x) (Rms.ms N Rms.eps x))) (N : EReal)

/-- The closed form is the chain rule. -/
theorem back_chain (hN : 0 < N) (k : Fin n) : back N x gy k = gy k * rs N x + x k * via N x gy + via N x gy * x k := by
  unfold back
  rw [rs, Rms.back hN Rms.eps_pos x gy k, mul_comm (via N x gy), add_assoc]
  rfl
end Row

variable (h : Fin 4096 → Fin 1024 → EReal) (g2 : Fin 1024 → EReal) (dn dh d : Fin 4096 → Fin 1024 → EReal)
  (w : Fin 1024 → Fin 1024 → EReal) (yp yl y u : Fin 4096 → Fin 512 → EReal) (gp gl g : Fin 512 → EReal)

/-- The gradient of the residual. -/
def dh1 (r : Fin 4096) (k : Fin 1024) : EReal := dh r k + back 1024 (h r) (fun j => dn r j * g2 j) k
/-- One row's addend of the last gain's gradient. -/
def dG2 (k : Fin 1024) (r : Fin 4096) : EReal := dn r k * (h r k * rs 1024 (h r))

/-- The gradient at the normed halves, from the gradient of the residual and the rows `s` of the weight. -/
def dm (s : Fin 512 → Fin 1024) (r : Fin 4096) (j : Fin 512) : EReal := ∑ k, d r k * w (s j) k
/-- The gradient of one mixer's output, from the gradient `u` at its normed half. -/
def dy (r : Fin 4096) (j : Fin 512) : EReal := back 512 (y r) (fun i => u r i * g i) j
/-- One row's addend of its gain's gradient. -/
def dG (j : Fin 512) (r : Fin 4096) : EReal := u r j * (y r j * rs 512 (y r))

/-- The two normed halves side by side. -/
def mix (r : Fin 4096) (j : Fin 1024) : EReal :=
  if h : j.val < 512 then Proj.nrm 512 (yp r) gp ⟨j.val, h⟩ else Proj.nrm 512 (yl r) gl ⟨j.val - 512, by omega⟩
/-- One row's addend of the weight's gradient. -/
def dW (j k : Fin 1024) (r : Fin 4096) : EReal := mix yp yl gp gl r j * d r k

/-- Channel `l` of group `s`, of the four groups of 128. -/
def lane (s : Fin 4) (l : Fin 128) : Fin 512 := ⟨128 * s.val + l.val, by omega⟩

end Cert.Out
-- ==== Proof.OutRing.lean ====
module

public import proofs.«01_k».proof.Proof.Gen.OutKernelIdeal.Frame
public import proofs.«01_k».proof.Proof.Gen.OutKernelIdeal.Skeleton
public import Idealize.ShloMosaic.Lib.Ring
public import Idealize.ShloMosaic.Lib.Tactic
public import Idealize.ShloMosaic.Lib.WordCmp

/-!
The three streams of the output-projection gradient kernel. Each carries an array of 4096 rows in eight blocks of
512 rows through a scratch of three slots, two blocks ahead of the block the body works on. The streams differ only in
the array, the scratch and the three completion cells (slot `s` of stream `k` completes on cell `3 s + k`), so everything
here is said once, of a scratch `M`, an array `H` and a stream number `k`.
-/

@[expose] public section

set_option maxRecDepth 16384

noncomputable section

namespace Cert.OutKernelIdeal.Hand

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ### The scratch of the streams, the arrays streamed, the completion cells -/

abbrev rM0 : Memref sig .tc .vmem S3x512x1024 .f32 := Memref.whole cc0_scratch1
abbrev rM1 : Memref sig .tc .vmem S3x512x1024 .f32 := Memref.whole cc0_scratch2
abbrev rM2 : Memref sig .tc .vmem S3x512x1024 .f32 := Memref.whole cc0_scratch3
abbrev hM0 : Memref sig .tc .hbm S4096x1024 .f32 := Memref.whole main_arg7
abbrev hM1 : Memref sig .tc .hbm S4096x1024 .f32 := Memref.whole main_arg8
abbrev hM2 : Memref sig .tc .hbm S4096x1024 .f32 := Memref.whole main_v26
abbrev hM3 : Memref sig .tc .hbm S8x128 .f32 := Memref.whole main_v44
abbrev dwM : Memref sig .tc .vmem S1024x1024 .f32 := Memref.whole cc0_scratch0

abbrev HB (c : Dev nD) {sp : Space} {S : Shape} {e : EltTy} (M : Memref sig .tc sp S e) : Type := Buf (Elt F) (M.view.loc (c : Thread nD τ))
abbrev hPt (c : Dev nD) {sp : Space} {S : Shape} {e : EltTy} (M : Memref sig .tc sp S e) (f : HB (F := F) c M) : sProp 𝕄 :=
  M.view.loc (c : Thread nD τ) ↦{fullShare} f

instance : NeZero grid0.N := ⟨by rw [N_0]; decide⟩

theorem inb_slot (s : Fin 3) : ∀ a, (![s.val, 0, 0] : Fin 3 → Nat) a + S1x512x1024.size a ≤ S3x512x1024.size a := by
  have := s.isLt; intro a; fin_cases a <;> simp <;> omega
theorem inb_src (b : Fin 8) : ∀ a, (![512 * b.val, 0] : Fin 2 → Nat) a + S512x1024.size a ≤ S4096x1024.size a := by
  have := b.isLt; intro a; fin_cases a <;> simp <;> omega
theorem inb_cell (k s : Fin 3) : ∀ a, (![3 * s.val + k.val] : Fin 1 → Nat) a + S1.size a ≤ S9.size a := by
  have := s.isLt; have := k.isLt; intro a; fin_cases a; simp; omega

/-- Slot `s` of a scratch, block `b` of an array, and the completion cell of slot `s` of stream `k`. -/
def rslot (M : Memref sig .tc .vmem S3x512x1024 .f32) (s : Fin 3) : Memref sig .tc .vmem S512x1024 .f32 :=
  (M.slice (Rect.unit (s := S3x512x1024) ![s.val, 0, 0] S1x512x1024.size (inb_slot s)) (fun _ => rfl)).squeeze S512x1024 squeezes_S1x512x1024_S512x1024
def srcB (H : Memref sig .tc .hbm S4096x1024 .f32) (b : Fin 8) : Memref sig .tc .hbm S512x1024 .f32 :=
  H.slice (Rect.unit (s := S4096x1024) ![512 * b.val, 0] S512x1024.size (inb_src b)) (fun _ => rfl)
def cellA (k s : Fin 3) : DmaSems sig S_ := (cc0_scratch4.slice (Rect.unit (s := S9) ![3 * s.val + k.val] S1.size (inb_cell k s))).squeeze S_ squeezes_S1_S_
abbrev cellR (k s : Fin 3) : SemLoc sig := SemLoc.dma (cellA k s).sem

section Ring
variable (c : Dev nD) (k : Fin 3) (M : Memref sig .tc .vmem S3x512x1024 .f32) (H : Memref sig .tc .hbm S4096x1024 .f32) (W : HB (F := F) c H)

/-- A third of the array, one for each slot: a transfer into slot `s` borrows its block from that slot's third. -/
abbrev qs (s : Fin 3) : PosShare TreeShare := if s.val = 0 then fullShare.left else if s.val = 1 then fullShare.right.left else fullShare.right.right

abbrev slotP (s : Fin 3) (f : HB (F := F) c (rslot M s)) : sProp 𝕄 := (rslot M s).view.loc (c : Thread nD τ) ↦[(rslot M s).view.set]{fullShare} f
abbrev cellP (s : Fin 3) : sProp 𝕄 := semVal ((c : Thread nD τ), cellR k s) 0
abbrev srcP (s : Fin 3) (b : Fin 8) : sProp 𝕄 := (srcB H b).view.loc (c : Thread nD τ) ↦[(srcB H b).view.set]{qs s} W
def restP (s : Fin 3) (b : Fin 8) : sProp 𝕄 := (H.view.loc (c : Thread nD τ)) ↦[Finset.univ \ (srcB H b).view.set]{qs s} W
abbrev wholeP (s : Fin 3) : sProp 𝕄 := (H.view.loc (c : Thread nD τ)) ↦[Finset.univ]{qs s} W

/-- What a slot holds once block `b` has landed in it, and the transfer of block `b` into it. -/
abbrev landed (s : Fin 3) (b : Fin 8) (f : HB (F := F) c (rslot M s)) : HB (F := F) c (rslot M s) :=
  (rslot M s).view.writes (Elt F) f [⟨Rect.whole S512x1024, ReadAs.same.apply ((srcB H b).view.read (Elt F) W)⟩]
abbrev flightP (s : Fin 3) (b : Fin 8) (f : HB (F := F) c (rslot M s)) : sProp 𝕄 :=
  Transfers.Flight countersEmb (c : Thread nD τ) (cellR k s) default ((rslot M s).view.amount (cellR k s))
    iprop(slotP c M s (landed c M H W s b f) ∗ srcP c H W s b)

abbrev slotW (s : Fin 3) (f : HB (F := F) c (rslot M s)) : sProp 𝕄 := iprop(slotP c M s f ∗ wholeP c H W s)
abbrev flightW (s : Fin 3) (b : Fin 8) (f : HB (F := F) c (rslot M s)) : sProp 𝕄 := iprop(flightP c k M H W s b f ∗ restP c H W s b)
abbrev noHome (b : Fin 8) : sProp 𝕄 := iprop(emp)

/-- The stream before point `n`: the blocks of points `n` and `n + 1` on their way, the third slot free. -/
def ringAt (n : ℕ) : sProp 𝕄 :=
  if n = 0 then Ring.At₀ (cellP c k) (slotW c M H W) noHome
  else Ring.At 2 (cellP c k) (slotW c M H W) noHome (flightW c k M H W) n

/-- The array is its three thirds, and a third is the block lent and the rest. -/
theorem src_split (s : Fin 3) (b : Fin 8) : wholeP c H W s ⊣⊢ iprop(srcP c H W s b ∗ restP c H W s b) := by
  unfold restP; exact pointsTo_split_subset (Finset.subset_univ _)
theorem whole_split : (hPt c H W : sProp 𝕄) ⊣⊢ iprop(wholeP c H W 0 ∗ wholeP c H W 1 ∗ wholeP c H W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

abbrev Slots : sProp 𝕄 := iprop((∃ f, slotP (F := F) c M 0 f) ∗ (∃ f, slotP (F := F) c M 1 f) ∗ ∃ f, slotP (F := F) c M 2 f)

/-- What the launch hands a stream, and takes back from it. -/
theorem ring_in (hs : iprop(∃ d, owns (c : Thread nD τ) M fullShare d) ⊢ Slots (F := F) c M) :
    iprop((∃ d, owns (c : Thread nD τ) M fullShare d) ∗ (cellP c k 0 ∗ cellP c k 1 ∗ cellP c k 2) ∗ hPt c H W) ⊢ ringAt c k M H W 0 := by
  unfold ringAt; rw [if_pos rfl]; unfold Ring.At₀
  rw [Ring.bigSep_fin3]
  simp only [Ring.free]
  iintro ⟨HS, Hc, HW⟩
  iapply Ring.with_homes₀
  icases Hc with ⟨H0, H1, H2⟩
  ihave HS' := hs $$ HS
  icases HS' with ⟨⟨%d0, HS0⟩, ⟨%d1, HS1⟩, ⟨%d2, HS2⟩⟩
  ihave HW' := (whole_split (F := F) c H W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem ring_out (hs : Slots (F := F) c M ⊢ iprop(∃ d, owns (c : Thread nD τ) M fullShare d)) :
    ringAt c k M H W 8 ⊢ iprop((∃ d, owns (c : Thread nD τ) M fullShare d) ∗ (cellP c k 0 ∗ cellP c k 1 ∗ cellP c k 2) ∗ hPt c H W) := by
  unfold ringAt; rw [if_neg (by decide)]
  iintro H
  ihave H' := (Ring.free3_of_At_last _ _ _ _) $$ H
  simp only [Ring.free]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply hs; isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole_split (F := F) c H W).2; isplitl [HW0]; · iexact HW0
    isplitl [HW1]; · iexact HW1
    iexact HW2
end Ring

/-! ### The slots of a scratch are disjoint and make it up -/

abbrev slotSet (s : Fin 3) : Finset S3x512x1024.Idx := (Rect.unit (s := S3x512x1024) ![s.val, 0, 0] S1x512x1024.size (inb_slot s)).set
theorem slots_disjoint (s s' : Fin 3) (h : s ≠ s') : Disjoint (slotSet s) (slotSet s') :=
  Ring.lead_disjoint (s := S3x512x1024) (0 : Fin 3) 1 (fun s : Fin 3 => (![s.val, 0, 0] : Fin 3 → Nat)) S1x512x1024.size inb_slot (fun s => by simp) rfl s s' h
theorem slots_cover : Finset.univ.biUnion slotSet = Finset.univ :=
  Ring.lead_cover (s := S3x512x1024) (0 : Fin 3) 1 (fun s : Fin 3 => (![s.val, 0, 0] : Fin 3 → Nat)) S1x512x1024.size inb_slot (fun s => by simp)
    (fun s a ha => by fin_cases a <;> first | exact absurd rfl ha | rfl) rfl (fun a ha => by fin_cases a <;> first | exact absurd rfl ha | rfl) rfl

section InOut
variable (c : Dev nD)
theorem slotP0_eq (s : Fin 3) (f) : slotP (F := F) c rM0 s f = (((c : Thread nD τ).loc cc0_scratch1) ↦[slotSet s]{fullShare} f : sProp 𝕄) := by
  have h : (rslot rM0 s).view.set = slotSet s := by simp only [rslot, Memref.view_squeeze, View.set_reshape]; exact View.set_slice_whole _ _
  unfold slotP; rw [h]; rfl
theorem slotP1_eq (s : Fin 3) (f) : slotP (F := F) c rM1 s f = (((c : Thread nD τ).loc cc0_scratch2) ↦[slotSet s]{fullShare} f : sProp 𝕄) := by
  have h : (rslot rM1 s).view.set = slotSet s := by simp only [rslot, Memref.view_squeeze, View.set_reshape]; exact View.set_slice_whole _ _
  unfold slotP; rw [h]; rfl
theorem slotP2_eq (s : Fin 3) (f) : slotP (F := F) c rM2 s f = (((c : Thread nD τ).loc cc0_scratch3) ↦[slotSet s]{fullShare} f : sProp 𝕄) := by
  have h : (rslot rM2 s).view.set = slotSet s := by simp only [rslot, Memref.view_squeeze, View.set_reshape]; exact View.set_slice_whole _ _
  unfold slotP; rw [h]; rfl
theorem slots0_in : iprop(∃ d, owns (c : Thread nD τ) rM0 fullShare d) ⊢ Slots (F := F) c rM0 := by
  simp only [rM0, owns_whole]
  exact Ring.slots3_split (U := Pipeline.UD sig nD τ) (ℓ := (c : Thread nD τ).loc cc0_scratch1) (q := fullShare) slotSet slots_disjoint slots_cover
    (slotP c rM0 0) (slotP c rM0 1) (slotP c rM0 2) (slotP0_eq c 0) (slotP0_eq c 1) (slotP0_eq c 2)
theorem slots0_out : Slots (F := F) c rM0 ⊢ iprop(∃ d, owns (c : Thread nD τ) rM0 fullShare d) := by
  simp only [rM0, owns_whole]
  exact Ring.slots3_join (U := Pipeline.UD sig nD τ) (ℓ := (c : Thread nD τ).loc cc0_scratch1) (q := fullShare) slotSet slots_disjoint slots_cover
    (slotP c rM0 0) (slotP c rM0 1) (slotP c rM0 2) (slotP0_eq c 0) (slotP0_eq c 1) (slotP0_eq c 2)
theorem slots1_in : iprop(∃ d, owns (c : Thread nD τ) rM1 fullShare d) ⊢ Slots (F := F) c rM1 := by
  simp only [rM1, owns_whole]
  exact Ring.slots3_split (U := Pipeline.UD sig nD τ) (ℓ := (c : Thread nD τ).loc cc0_scratch2) (q := fullShare) slotSet slots_disjoint slots_cover
    (slotP c rM1 0) (slotP c rM1 1) (slotP c rM1 2) (slotP1_eq c 0) (slotP1_eq c 1) (slotP1_eq c 2)
theorem slots1_out : Slots (F := F) c rM1 ⊢ iprop(∃ d, owns (c : Thread nD τ) rM1 fullShare d) := by
  simp only [rM1, owns_whole]
  exact Ring.slots3_join (U := Pipeline.UD sig nD τ) (ℓ := (c : Thread nD τ).loc cc0_scratch2) (q := fullShare) slotSet slots_disjoint slots_cover
    (slotP c rM1 0) (slotP c rM1 1) (slotP c rM1 2) (slotP1_eq c 0) (slotP1_eq c 1) (slotP1_eq c 2)
theorem slots2_in : iprop(∃ d, owns (c : Thread nD τ) rM2 fullShare d) ⊢ Slots (F := F) c rM2 := by
  simp only [rM2, owns_whole]
  exact Ring.slots3_split (U := Pipeline.UD sig nD τ) (ℓ := (c : Thread nD τ).loc cc0_scratch3) (q := fullShare) slotSet slots_disjoint slots_cover
    (slotP c rM2 0) (slotP c rM2 1) (slotP c rM2 2) (slotP2_eq c 0) (slotP2_eq c 1) (slotP2_eq c 2)
theorem slots2_out : Slots (F := F) c rM2 ⊢ iprop(∃ d, owns (c : Thread nD τ) rM2 fullShare d) := by
  simp only [rM2, owns_whole]
  exact Ring.slots3_join (U := Pipeline.UD sig nD τ) (ℓ := (c : Thread nD τ).loc cc0_scratch3) (q := fullShare) slotSet slots_disjoint slots_cover
    (slotP c rM2 0) (slotP c rM2 1) (slotP c rM2 2) (slotP2_eq c 0) (slotP2_eq c 1) (slotP2_eq c 2)
end InOut

/-! ### The body's operands at a point are the slots, blocks and cells above -/

section Canon
omit [FloatOps F]

theorem slot_eq (M : Memref sig .tc .vmem S3x512x1024 .f32) {o : Fin 3 → Nat} (s : Fin 3) (h : o = ![s.val, 0, 0]) (p) :
    (M.slice (Rect.unit (s := S3x512x1024) o S1x512x1024.size p) (fun _ => rfl)).squeeze S512x1024 squeezes_S1x512x1024_S512x1024 = rslot M s :=
  congrArg (fun M : Memref sig .tc .vmem S1x512x1024 .f32 => M.squeeze S512x1024 squeezes_S1x512x1024_S512x1024) (Memref.slice_unit_congr _ h _ _ (fun _ => rfl) (fun _ => rfl))
theorem src_eq (H : Memref sig .tc .hbm S4096x1024 .f32) {o : Fin 2 → Nat} (b : Fin 8) (h : o = ![512 * b.val, 0]) (p) :
    H.slice (Rect.unit (s := S4096x1024) o S512x1024.size p) (fun _ => rfl) = srcB H b :=
  Memref.slice_unit_congr _ h _ _ (fun _ => rfl) (fun _ => rfl)
theorem cell_eq {o : Fin 1 → Nat} (k s : Fin 3) (h : o = ![3 * s.val + k.val]) (p) :
    (cc0_scratch4.slice (Rect.unit (s := S9) o S1.size p)).squeeze S_ squeezes_S1_S_ = cellA k s :=
  congrArg (fun A : DmaSems sig S1 => A.squeeze S_ squeezes_S1_S_) (SemArray.slice_unit_congr _ h _ _)

theorem sl_zero {n j : ℕ} (h : n = 0) : (Ring.sl 3 (n + j)).val = j % 3 := by subst h; simp [Ring.sl]
theorem bk_zero {n j : ℕ} (h : n = 0) : (Ring.bk 8 (n + j)).val = j % 8 := by subst h; simp [Ring.bk]

variable (M : Memref sig .tc .vmem S3x512x1024 .f32) (H : Memref sig .tc .hbm S4096x1024 .f32) (t : Fin grid0.N)

@[sl_canon] theorem canon_s0 (h0 : t.val = 0) (p) :
    (M.slice (Rect.unit (s := S3x512x1024) ![0, 0, 0] S1x512x1024.size p) (fun _ => rfl)).squeeze S512x1024 squeezes_S1x512x1024_S512x1024 = rslot M (Ring.sl 3 t.val) :=
  slot_eq M _ (by rw [h0]; rfl) p
@[sl_canon] theorem canon_s1 (h0 : t.val = 0) (p) :
    (M.slice (Rect.unit (s := S3x512x1024) ![1, 0, 0] S1x512x1024.size p) (fun _ => rfl)).squeeze S512x1024 squeezes_S1x512x1024_S512x1024 = rslot M (Ring.sl 3 (t.val + 1)) :=
  slot_eq M _ (by rw [h0]; rfl) p
@[sl_canon] theorem canon_b0 (h0 : t.val = 0) (p) :
    H.slice (Rect.unit (s := S4096x1024) ![0, 0] S512x1024.size p) (fun _ => rfl) = srcB H (Ring.bk 8 t.val) :=
  src_eq H _ (by rw [h0]; rfl) p
@[sl_canon] theorem canon_b1 (h0 : t.val = 0) (p) :
    H.slice (Rect.unit (s := S4096x1024) ![512, 0] S512x1024.size p) (fun _ => rfl) = srcB H (Ring.bk 8 (t.val + 1)) :=
  src_eq H _ (by rw [h0]; rfl) p
@[sl_canon] theorem canon_c00 (h0 : t.val = 0) (p) :
    (cc0_scratch4.slice (Rect.unit (s := S9) ![0] S1.size p)).squeeze S_ squeezes_S1_S_ = cellA 0 (Ring.sl 3 t.val) :=
  cell_eq 0 _ (by rw [h0]; rfl) p
@[sl_canon] theorem canon_c10 (h0 : t.val = 0) (p) :
    (cc0_scratch4.slice (Rect.unit (s := S9) ![1] S1.size p)).squeeze S_ squeezes_S1_S_ = cellA 1 (Ring.sl 3 t.val) :=
  cell_eq 1 _ (by rw [h0]; rfl) p
@[sl_canon] theorem canon_c20 (h0 : t.val = 0) (p) :
    (cc0_scratch4.slice (Rect.unit (s := S9) ![2] S1.size p)).squeeze S_ squeezes_S1_S_ = cellA 2 (Ring.sl 3 t.val) :=
  cell_eq 2 _ (by rw [h0]; rfl) p
@[sl_canon] theorem canon_c01 (h0 : t.val = 0) (p) :
    (cc0_scratch4.slice (Rect.unit (s := S9) ![3] S1.size p)).squeeze S_ squeezes_S1_S_ = cellA 0 (Ring.sl 3 (t.val + 1)) :=
  cell_eq 0 _ (by rw [h0]; rfl) p
@[sl_canon] theorem canon_c11 (h0 : t.val = 0) (p) :
    (cc0_scratch4.slice (Rect.unit (s := S9) ![4] S1.size p)).squeeze S_ squeezes_S1_S_ = cellA 1 (Ring.sl 3 (t.val + 1)) :=
  cell_eq 1 _ (by rw [h0]; rfl) p
@[sl_canon] theorem canon_c21 (h0 : t.val = 0) (p) :
    (cc0_scratch4.slice (Rect.unit (s := S9) ![5] S1.size p)).squeeze S_ squeezes_S1_S_ = cellA 2 (Ring.sl 3 (t.val + 1)) :=
  cell_eq 2 _ (by rw [h0]; rfl) p

set_option synthInstance.maxSize 4096 in
theorem off1_0 : ∀ t : Fin grid0.N, k0_off1 (grid0.coords t) 0#32 = ![3 * (Ring.sl 3 (t.val + 2)).val + (0 : Fin 3).val] := by decide +kernel
set_option synthInstance.maxSize 4096 in
theorem off1_1 : ∀ t : Fin grid0.N, k0_off1 (grid0.coords t) 1#32 = ![3 * (Ring.sl 3 (t.val + 2)).val + (1 : Fin 3).val] := by decide +kernel
set_option synthInstance.maxSize 4096 in
theorem off1_2 : ∀ t : Fin grid0.N, k0_off1 (grid0.coords t) 2#32 = ![3 * (Ring.sl 3 (t.val + 2)).val + (2 : Fin 3).val] := by decide +kernel
set_option synthInstance.maxSize 4096 in
theorem off2 : ∀ t : Fin grid0.N, k0_off2 (grid0.coords t) = ![(Ring.sl 3 (t.val + 2)).val, 0, 0] := by decide +kernel
set_option synthInstance.maxSize 4096 in
theorem off3 : ∀ t : Fin grid0.N, t.val + 2 < 8 → k0_off3 (grid0.coords t) = ![512 * (Ring.bk 8 (t.val + 2)).val, 0] := by decide +kernel
set_option synthInstance.maxSize 4096 in
theorem off4_0 : ∀ t : Fin grid0.N, k0_off4 (grid0.coords t) 0#32 = ![3 * (Ring.sl 3 t.val).val + (0 : Fin 3).val] := by decide +kernel
set_option synthInstance.maxSize 4096 in
theorem off4_1 : ∀ t : Fin grid0.N, k0_off4 (grid0.coords t) 1#32 = ![3 * (Ring.sl 3 t.val).val + (1 : Fin 3).val] := by decide +kernel
set_option synthInstance.maxSize 4096 in
theorem off4_2 : ∀ t : Fin grid0.N, k0_off4 (grid0.coords t) 2#32 = ![3 * (Ring.sl 3 t.val).val + (2 : Fin 3).val] := by decide +kernel
set_option synthInstance.maxSize 4096 in
theorem off5 : ∀ t : Fin grid0.N, k0_off5 (grid0.coords t) = ![(Ring.sl 3 t.val).val, 0, 0] := by decide +kernel
set_option synthInstance.maxSize 4096 in
theorem off6 : ∀ t : Fin grid0.N, k0_off6 (grid0.coords t) = ![512 * (Ring.bk 8 t.val).val, 0] := by decide +kernel
set_option synthInstance.maxSize 4096 in
theorem off7 : ∀ t : Fin grid0.N, k0_off7 (grid0.coords t) = ![(Ring.sl 3 t.val).val, 0, 0] := by decide +kernel
instance (priority := high) closedOff7 (t : Fin grid0.N) : ClosedOff (k0_off7 (grid0.coords t)) := ⟨![(Ring.sl 3 t.val).val, 0, 0], off7 t⟩

@[sl_canon] theorem canon_s2 (p) :
    (M.slice (Rect.unit (s := S3x512x1024) (k0_off2 (grid0.coords t)) S1x512x1024.size p) (fun _ => rfl)).squeeze S512x1024 squeezes_S1x512x1024_S512x1024 = rslot M (Ring.sl 3 (t.val + 2)) :=
  slot_eq M _ (off2 t) p
@[sl_canon] theorem canon_b2 (h2 : t.val + 2 < 8) (p) :
    H.slice (Rect.unit (s := S4096x1024) (k0_off3 (grid0.coords t)) S512x1024.size p) (fun _ => rfl) = srcB H (Ring.bk 8 (t.val + 2)) :=
  src_eq H _ (off3 t h2) p
@[sl_canon] theorem canon_c02 (p) :
    (cc0_scratch4.slice (Rect.unit (s := S9) (k0_off1 (grid0.coords t) 0#32) S1.size p)).squeeze S_ squeezes_S1_S_ = cellA 0 (Ring.sl 3 (t.val + 2)) :=
  cell_eq 0 _ (off1_0 t) p
@[sl_canon] theorem canon_c12 (p) :
    (cc0_scratch4.slice (Rect.unit (s := S9) (k0_off1 (grid0.coords t) 1#32) S1.size p)).squeeze S_ squeezes_S1_S_ = cellA 1 (Ring.sl 3 (t.val + 2)) :=
  cell_eq 1 _ (off1_1 t) p
@[sl_canon] theorem canon_c22 (p) :
    (cc0_scratch4.slice (Rect.unit (s := S9) (k0_off1 (grid0.coords t) 2#32) S1.size p)).squeeze S_ squeezes_S1_S_ = cellA 2 (Ring.sl 3 (t.val + 2)) :=
  cell_eq 2 _ (off1_2 t) p
@[sl_canon] theorem canon_w (p) :
    (M.slice (Rect.unit (s := S3x512x1024) (k0_off5 (grid0.coords t)) S1x512x1024.size p) (fun _ => rfl)).squeeze S512x1024 squeezes_S1x512x1024_S512x1024 = rslot M (Ring.sl 3 t.val) :=
  slot_eq M _ (off5 t) p
@[sl_canon] theorem canon_wb (p) :
    H.slice (Rect.unit (s := S4096x1024) (k0_off6 (grid0.coords t)) S512x1024.size p) (fun _ => rfl) = srcB H (Ring.bk 8 t.val) :=
  src_eq H _ (off6 t) p
@[sl_canon] theorem canon_w0 (p) :
    (cc0_scratch4.slice (Rect.unit (s := S9) (k0_off4 (grid0.coords t) 0#32) S1.size p)).squeeze S_ squeezes_S1_S_ = cellA 0 (Ring.sl 3 t.val) :=
  cell_eq 0 _ (off4_0 t) p
@[sl_canon] theorem canon_w1 (p) :
    (cc0_scratch4.slice (Rect.unit (s := S9) (k0_off4 (grid0.coords t) 1#32) S1.size p)).squeeze S_ squeezes_S1_S_ = cellA 1 (Ring.sl 3 t.val) :=
  cell_eq 1 _ (off4_1 t) p
@[sl_canon] theorem canon_w2 (p) :
    (cc0_scratch4.slice (Rect.unit (s := S9) (k0_off4 (grid0.coords t) 2#32) S1.size p)).squeeze S_ squeezes_S1_S_ = cellA 2 (Ring.sl 3 t.val) :=
  cell_eq 2 _ (off4_2 t) p
end Canon

/-! ### The launch's cells and arrays -/

variable (m : (ℓ : Loc nD τ sig) → Buf (Elt F) ℓ)

abbrev osem0 : Fin 9 → SemLoc sig := fun j => (![SemLoc.dma 18, SemLoc.dma 19, SemLoc.dma 20, SemLoc.dma 21, SemLoc.dma 22, SemLoc.dma 23, SemLoc.dma 24, SemLoc.dma 25, SemLoc.dma 26] : Fin 9 → SemLoc sig) j
theorem ownSemFacts0 : Pipeline.OwnSemFacts spec0 osem0 := by decide
theorem osem_cell : osem0 = ![cellR 0 0, cellR 1 0, cellR 2 0, cellR 0 1, cellR 1 1, cellR 2 1, cellR 0 2, cellR 1 2, cellR 2 2] := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 0 ∗ cellP c 1 0 ∗ cellP c 2 0 ∗ cellP c 0 1 ∗ cellP c 1 1 ∗ cellP c 2 1 ∗ cellP c 0 2 ∗ cellP c 1 2 ∗ cellP c 2 2) := by
  rw [osem_cell, Pipeline.ownSems0_eq_of_list c _ [0, 1, 2, 3, 4, 5, 6, 7, 8] (by decide) (by decide)]; rfl
def H0 : Finset (Ref sig .tc) := {main_arg7, main_arg8, main_v26, main_v44}
theorem H0_sub : H0 ⊆ Pipeline.restRefs sig spec0 := by decide
theorem hbmPts0_eq (c : Dev nD) :
    (bigSep H0 (fun b => ((c : Thread nD τ).loc b) ↦{fullShare} V m c b) : sProp 𝕄) = iprop(hPt c hM0 (V m c main_arg7) ∗ hPt c hM1 (V m c main_arg8) ∗ hPt c hM2 (V m c main_v26) ∗ hPt c hM3 (V m c main_v44)) := by
  rw [BI.bigSep_eq_bigSepL_of_eq [main_arg7, main_arg8, main_v26, main_v44] (by decide) (by decide)]; rfl

/-- What the launch hands the body's invariant: the four scratch arrays at some contents, the generator's register, the
    cells at zero, and the four arrays the pipeline does not carry. -/
theorem PhiD0_eq (c : Dev nD) :
    (Pipeline.ΦD osem0 spec0 H0 (V m) c : sProp 𝕄)
      = iprop(iprop((∃ d, owns (c : Thread nD τ) dwM fullShare d) ∗ (∃ d, owns (c : Thread nD τ) rM0 fullShare d) ∗ (∃ d, owns (c : Thread nD τ) rM1 fullShare d) ∗ (∃ d, owns (c : Thread nD τ) rM2 fullShare d)) ∗ (∃ r, prngReg c r)
          ∗ iprop(cellP c 0 0 ∗ cellP c 1 0 ∗ cellP c 2 0 ∗ cellP c 0 1 ∗ cellP c 1 1 ∗ cellP c 2 1 ∗ cellP c 0 2 ∗ cellP c 1 2 ∗ cellP c 2 2)
          ∗ iprop(hPt c hM0 (V m c main_arg7) ∗ hPt c hM1 (V m c main_arg8) ∗ hPt c hM2 (V m c main_v26) ∗ hPt c hM3 (V m c main_v44))) := by
  rw [Pipeline.ΦD_eq, scopedRest0_eq, ownSems00_eq, hbmPts0_eq]; simp only [dwM, rM0, rM1, rM2, owns_whole]; try rfl

end Cert.OutKernelIdeal.Hand
-- ==== Proof.OutBody.lean ====
module

public import proofs.«01_k».proof.Proof.OutRing
public import Idealize.ShloMosaic.Lib.VecWindow
public import Idealize.ShloMosaic.Lib.Pipeline.ReadBack
public import Idealize.ShloMosaic.Lib.Pipeline.Value

@[expose] public section

set_option maxRecDepth 16384

noncomputable section

namespace Cert.OutKernelIdeal.Hand

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What one point of the grid does -/

/-- The rows of block `t` of a streamed array, as a slot holds them. -/
def rb {c : Dev nD} (H : Memref sig .tc .hbm S4096x1024 .f32) (W : HB (F := F) c H) (t : Fin cfg0.N) : Vec F S1x512x1024 .f32 :=
  shapeCast S1x512x1024 ((srcB H (Ring.bk 8 t.val)).view.read (Elt F) W : Vec F S512x1024 .f32) (by decide)

theorem slab_inb (j : Fin 4) : ∀ a : Fin 3, (![j.val, 0, 0] : Fin 3 → ℕ) a + S1x512x128.size a ≤ S4x512x128.size a := by
  revert j; decide
/-- Group `j` of the four groups of 128 channels. -/
abbrev slab (x : Vec F S4x512x128 .f32) (j : Fin 4) : Vec F S1x512x128 .f32 :=
  VecWindow.window (s := S4x512x128) x ![j.val, 0, 0] S1x512x128.size (slab_inb j)
theorem half_inb (j : Fin 2) : ∀ a : Fin 2, (![512 * j.val, 0] : Fin 2 → ℕ) a + S512x1024.size a ≤ S1024x1024.size a := by
  revert j; decide
/-- The upper or lower half of the rows. -/
abbrev half {e : EltTy} (x : Vec F S1024x1024 e) (j : Fin 2) : Vec F S512x1024 e :=
  VecWindow.window (s := S1024x1024) x ![512 * j.val, 0] S512x1024.size (half_inb j)
abbrev putHalf (x : Vec F S1024x1024 .f32) (j : Fin 2) (w : Vec F S512x1024 .f32) : Vec F S1024x1024 .f32 :=
  VecWindow.put (s := S1024x1024) x ![512 * j.val, 0] S512x1024.size w
abbrev putSlab (x : Vec F S4x512x128 .f32) (j : Fin 4) (w : Vec F S1x512x128 .f32) : Vec F S4x512x128 .f32 :=
  VecWindow.put (s := S4x512x128) x ![j.val, 0, 0] S1x512x128.size w

section Steps
variable (x0 x1 : Vec F S4x512x128 .f32) (x2 x3 : Vec F S1x512 .f32) (x4 : Vec F S1024x1024 .bf16) (x5 : Vec F S1x1024 .f32)
  (dn dh h1 : Vec F S1x512x1024 .f32)

/-- The gradient of the first half's output at the block, in full and as the products read it. -/
def outD : Vec F S512x1024 .f32 := k0_pay17 x5 (k0_pay12 h1) (k0_pay13 h1) dn dh
def dhb : FVec F S512x1024 .bf16 := k0_pay18 x5 (k0_pay12 h1) (k0_pay13 h1) dn dh

/-- The sum of the gradient of the normalisation before the channel mixer, one block further. -/
def stepG (a : Vec F S1x1024 .f32) : Vec F S1x1024 .f32 := k0_pay15 (k0_pay13 h1) dn a

/-- The reciprocal root mean squares and the normalised rows of the two mixers' outputs. -/
def rsP : FVec F S512x1 .f32 := k0_pay22 (k0_pay19 (slab x0 0)) (k0_pay20 (slab x0 1)) (slab x0 2) (slab x0 3)
def nrP : FVec F S512x512 .f32 := k0_pay23 (k0_pay19 (slab x0 0)) (k0_pay20 (slab x0 1)) (slab x0 2) (slab x0 3)
def mxP : FVec F S512x512 .f32 := k0_pay24 x2 (k0_pay19 (slab x0 0)) (k0_pay20 (slab x0 1)) (slab x0 2) (slab x0 3)
def rsL : FVec F S512x1 .f32 := k0_pay26 (slab x1 0) (slab x1 1) (slab x1 2) (slab x1 3)
def nrL : FVec F S512x512 .f32 := k0_pay27 (slab x1 0) (slab x1 1) (slab x1 2) (slab x1 3)

/-- The sum of the weight's gradient, one block further. -/
def stepW (a : Vec F S1024x1024 .f32) : Vec F S1024x1024 .f32 :=
  putHalf (putHalf a 0 (k0_pay29 (dhb x5 dn dh h1) (mxP x0 x2) (half a 0))) 1 (k0_pay30 (dhb x5 dn dh h1) (nrL x1) (k0_pay28 x3) (half a 1))

/-- The sums of the gradients of the mixers' gains, one block further. -/
def stepP (a : Vec F S1x512 .f32) : Vec F S1x512 .f32 := k0_pay4 (k0_pay33 (dhb x5 dn dh h1) (nrP x0) (half x4 0)) a
def stepL (a : Vec F S1x512 .f32) : Vec F S1x512 .f32 := k0_pay5 (k0_pay38 (nrL x1) (k0_pay34 (dhb x5 dn dh h1) (half x4 1))) a

/-- The gradients of the two mixers' outputs at the block, as 512 channels. -/
def rowP : FVec F S512x512 .f32 := k0_pay32 (dhb x5 dn dh h1) x2 (rsP x0) (nrP x0) (half x4 0)
def a78 : FVec F S512x512 .f32 := k0_pay35 (dhb x5 dn dh h1) x3 (half x4 1)
def a79 : FVec F S512x512 .f32 := k0_pay36 (dhb x5 dn dh h1) x3 (nrL x1) (half x4 1)
def rowL : FVec F S512x512 .f32 := k0_pay37 (rsL x1) (nrL x1) (a78 x3 x4 x5 dn dh h1) (a79 x1 x3 x4 x5 dn dh h1)

/-- Four groups of 128 channels side by side. -/
def glue (p : Fin 4 → Vec F S1x512x128 .f32) : Vec F S4x512x128 .f32 := fun y => p (y 0) (fun a : Fin 3 => match a with | 0 => (0 : Fin 1) | 1 => y 1 | 2 => y 2)

def outP : Vec F S4x512x128 .f32 :=
  glue ![k0_pay39 (rowP x0 x2 x4 x5 dn dh h1), k0_pay40 (rowP x0 x2 x4 x5 dn dh h1), k0_pay41 (rowP x0 x2 x4 x5 dn dh h1), k0_pay42 (rowP x0 x2 x4 x5 dn dh h1)]
def outL : Vec F S4x512x128 .f32 :=
  glue ![k0_pay43 (rsL x1) (nrL x1) (a78 x3 x4 x5 dn dh h1) (a79 x1 x3 x4 x5 dn dh h1),
    k0_pay1 (k0_pay44 (rsL x1) (nrL x1) (a78 x3 x4 x5 dn dh h1) (a79 x1 x3 x4 x5 dn dh h1)),
    k0_pay2 (rowL x1 x3 x4 x5 dn dh h1), k0_pay3 (rowL x1 x3 x4 x5 dn dh h1)]
end Steps

/-! ## Loads and stores as the body makes them -/

/-- A load at the slot of a point, once its block has landed there, reads the block's rows. -/
theorem load_ring {c : Dev nD} (M : Memref sig .tc .vmem S3x512x1024 .f32) (H : Memref sig .tc .hbm S4096x1024 .f32) (W : HB (F := F) c H) (t : Fin cfg0.N)
    (o : Fin 3 → ℕ) (ho : o = ![(Ring.sl 3 t.val).val, 0, 0]) (inb : ∀ a : Fin 3, o a + S1x512x1024.size a ≤ S3x512x1024.size a)
    (f : (rslot M (Ring.sl 3 t.val)).view.ty.Contents (Elt F)) :
    M.view.readAt (Elt F) (Rect.unit (s := S3x512x1024) o S1x512x1024.size inb).toLoadRect
      ((rslot M (Ring.sl 3 t.val)).view.writes (Elt F) f [⟨Rect.whole S512x1024, ReadAs.same.apply ((srcB H (Ring.bk 8 t.val)).view.read (Elt F) W)⟩]) = rb H W t := by
  subst ho
  have h := View.read_writes_whole (rslot M (Ring.sl 3 t.val)).view f (ReadAs.same.apply ((srcB H (Ring.bk 8 t.val)).view.read (Elt F) W))
  have hr := Memref.read_squeeze_slice (Val := Elt F) M (Rect.unit (s := S3x512x1024) ![(Ring.sl 3 t.val).val, 0, 0] S1x512x1024.size (inb_slot _)) (fun _ => rfl)
    squeezes_S1x512x1024_S512x1024 (show S1x512x1024.ShapeCasts S512x1024 by decide)
    ((rslot M (Ring.sl 3 t.val)).view.writes (Elt F) f [⟨Rect.whole S512x1024, ReadAs.same.apply ((srcB H (Ring.bk 8 t.val)).view.read (Elt F) W)⟩])
  have h' := congrArg (fun x : Vec F S512x1024 .f32 => shapeCast S1x512x1024 x (by decide)) (hr.symm.trans h)
  exact (shapeCast_shapeCast _ _ _).symm.trans h'

theorem load_ring0 {c : Dev nD} (W : HB (F := F) c hM0) (t : Fin cfg0.N) (o : Fin 3 → ℕ) (ho : o = ![(Ring.sl 3 t.val).val, 0, 0]) (inb) (f : (rslot rM0 (Ring.sl 3 t.val)).view.ty.Contents (Elt F)) :
    (View.whole cc0_scratch1).readAt (Elt F) (Rect.unit (s := S3x512x1024) o ![1, 512, 1024] inb).toLoadRect
      ((rslot rM0 (Ring.sl 3 t.val)).view.writes (Elt F) f [⟨Rect.whole S512x1024, ReadAs.same.apply ((srcB hM0 (Ring.bk 8 t.val)).view.read (Elt F) W)⟩]) = rb hM0 W t :=
  load_ring rM0 hM0 W t o ho inb f
theorem load_ring1 {c : Dev nD} (W : HB (F := F) c hM1) (t : Fin cfg0.N) (o : Fin 3 → ℕ) (ho : o = ![(Ring.sl 3 t.val).val, 0, 0]) (inb) (f : (rslot rM1 (Ring.sl 3 t.val)).view.ty.Contents (Elt F)) :
    (View.whole cc0_scratch2).readAt (Elt F) (Rect.unit (s := S3x512x1024) o ![1, 512, 1024] inb).toLoadRect
      ((rslot rM1 (Ring.sl 3 t.val)).view.writes (Elt F) f [⟨Rect.whole S512x1024, ReadAs.same.apply ((srcB hM1 (Ring.bk 8 t.val)).view.read (Elt F) W)⟩]) = rb hM1 W t :=
  load_ring rM1 hM1 W t o ho inb f
theorem load_ring2 {c : Dev nD} (W : HB (F := F) c hM2) (t : Fin cfg0.N) (o : Fin 3 → ℕ) (ho : o = ![(Ring.sl 3 t.val).val, 0, 0]) (inb) (f : (rslot rM2 (Ring.sl 3 t.val)).view.ty.Contents (Elt F)) :
    (View.whole cc0_scratch3).readAt (Elt F) (Rect.unit (s := S3x512x1024) o ![1, 512, 1024] inb).toLoadRect
      ((rslot rM2 (Ring.sl 3 t.val)).view.writes (Elt F) f [⟨Rect.whole S512x1024, ReadAs.same.apply ((srcB hM2 (Ring.bk 8 t.val)).view.read (Elt F) W)⟩]) = rb hM2 W t :=
  load_ring rM2 hM2 W t o ho inb f

section Mem
variable {e : EltTy}

theorem load_slab0 (v : View sig .tc .vmem S4x512x128 e) (f : v.ty.Contents (Elt F)) (inb) :
    v.readAt (Elt F) (Rect.unit (s := S4x512x128) ![0, 0, 0] ![1, 512, 128] inb).toLoadRect f = VecWindow.window (s := S4x512x128) (v.read (Elt F) f) ![(0 : Fin 4).val, 0, 0] S1x512x128.size (slab_inb 0) := rfl
theorem load_slab1 (v : View sig .tc .vmem S4x512x128 e) (f : v.ty.Contents (Elt F)) (inb) :
    v.readAt (Elt F) (Rect.unit (s := S4x512x128) ![1, 0, 0] ![1, 512, 128] inb).toLoadRect f = VecWindow.window (s := S4x512x128) (v.read (Elt F) f) ![(1 : Fin 4).val, 0, 0] S1x512x128.size (slab_inb 1) := rfl
theorem load_slab2 (v : View sig .tc .vmem S4x512x128 e) (f : v.ty.Contents (Elt F)) (inb) :
    v.readAt (Elt F) (Rect.unit (s := S4x512x128) ![2, 0, 0] ![1, 512, 128] inb).toLoadRect f = VecWindow.window (s := S4x512x128) (v.read (Elt F) f) ![(2 : Fin 4).val, 0, 0] S1x512x128.size (slab_inb 2) := rfl
theorem load_slab3 (v : View sig .tc .vmem S4x512x128 e) (f : v.ty.Contents (Elt F)) (inb) :
    v.readAt (Elt F) (Rect.unit (s := S4x512x128) ![3, 0, 0] ![1, 512, 128] inb).toLoadRect f = VecWindow.window (s := S4x512x128) (v.read (Elt F) f) ![(3 : Fin 4).val, 0, 0] S1x512x128.size (slab_inb 3) := rfl
theorem load_half0 (v : View sig .tc .vmem S1024x1024 e) (f : v.ty.Contents (Elt F)) (inb) :
    v.readAt (Elt F) (Rect.unit (s := S1024x1024) ![0, 0] ![512, 1024] inb).toLoadRect f = half (v.read (Elt F) f) 0 := rfl
theorem load_half1 (v : View sig .tc .vmem S1024x1024 e) (f : v.ty.Contents (Elt F)) (inb) :
    v.readAt (Elt F) (Rect.unit (s := S1024x1024) ![512, 0] ![512, 1024] inb).toLoadRect f = half (v.read (Elt F) f) 1 := rfl
theorem load_g (v : View sig .tc .vmem S1x1024 e) (f : v.ty.Contents (Elt F)) (inb) :
    v.readAt (Elt F) (Rect.unit (s := S1x1024) ![0, 0] ![1, 1024] inb).toLoadRect f = v.read (Elt F) f := View.readAt_full v f inb
theorem load_p (v : View sig .tc .vmem S1x512 e) (f : v.ty.Contents (Elt F)) (inb) :
    v.readAt (Elt F) (Rect.unit (s := S1x512) ![0, 0] ![1, 512] inb).toLoadRect f = v.read (Elt F) f := View.readAt_full v f inb
theorem load_w (v : View sig .tc .vmem S1024x1024 e) (f : v.ty.Contents (Elt F)) (inb) :
    v.readAt (Elt F) (Rect.unit (s := S1024x1024) ![0, 0] ![1024, 1024] inb).toLoadRect f = v.read (Elt F) f := View.readAt_full v f inb
theorem store_g (v : View sig .tc .vmem S1x1024 e) (f : v.ty.Contents (Elt F)) (inb) (w : Vec F S1x1024 e) (L : List (View.Piece (Elt F) S1x1024 e)) :
    v.read (Elt F) (v.writes (Elt F) f (⟨Rect.unit (s := S1x1024) ![0, 0] ![1, 1024] inb, w⟩ :: L)) = w := View.read_writes_full v f inb w L
theorem store_p (v : View sig .tc .vmem S1x512 e) (f : v.ty.Contents (Elt F)) (inb) (w : Vec F S1x512 e) (L : List (View.Piece (Elt F) S1x512 e)) :
    v.read (Elt F) (v.writes (Elt F) f (⟨Rect.unit (s := S1x512) ![0, 0] ![1, 512] inb, w⟩ :: L)) = w := View.read_writes_full v f inb w L
theorem store_d (v : View sig .tc .vmem S512x1024 e) (f : v.ty.Contents (Elt F)) (inb) (w : Vec F S512x1024 e) (L : List (View.Piece (Elt F) S512x1024 e)) :
    v.read (Elt F) (v.writes (Elt F) f (⟨Rect.unit (s := S512x1024) ![0, 0] ![512, 1024] inb, w⟩ :: L)) = w := View.read_writes_full v f inb w L
theorem store_w (v : View sig .tc .vmem S1024x1024 e) (f : v.ty.Contents (Elt F)) (inb) (w : Vec F S1024x1024 e) (L : List (View.Piece (Elt F) S1024x1024 e)) :
    v.read (Elt F) (v.writes (Elt F) f (⟨Rect.unit (s := S1024x1024) ![0, 0] ![1024, 1024] inb, w⟩ :: L)) = w := View.read_writes_full v f inb w L
end Mem

/-- The two stores of a half of the rows, one after the other. -/
theorem store_halves (v : View sig .tc .vmem S1024x1024 .f32) (f : v.ty.Contents (Elt F)) (inb inb') (w0 w1 : Vec F S512x1024 .f32) (L : List (View.Piece (Elt F) S1024x1024 .f32)) :
    v.read (Elt F) (v.writes (Elt F) f (⟨Rect.unit (s := S1024x1024) ![512, 0] ![512, 1024] inb, w1⟩ :: ⟨Rect.unit (s := S1024x1024) ![0, 0] ![512, 1024] inb', w0⟩ :: L)) =
      putHalf (putHalf (v.read (Elt F) (v.writes (Elt F) f L)) 0 w0) 1 w1 := by
  rw [View.read_writes_cons_put (s := S1024x1024) v f inb w1 _ (off' := ![512 * (1 : Fin 2).val, 0]) rfl,
    View.read_writes_cons_put (s := S1024x1024) v f inb' w0 L (off' := ![512 * (0 : Fin 2).val, 0]) rfl]

/-- The four stores of a group of channels, whatever was there before. -/
theorem store_glue (v : View sig .tc .vmem S4x512x128 .f32) (f : v.ty.Contents (Elt F)) (i0 i1 i2 i3) (p0 p1 p2 p3 : Vec F S1x512x128 .f32) (L : List (View.Piece (Elt F) S4x512x128 .f32)) :
    v.read (Elt F) (v.writes (Elt F) f (⟨Rect.unit (s := S4x512x128) ![3, 0, 0] ![1, 512, 128] i3, p3⟩ :: ⟨Rect.unit (s := S4x512x128) ![2, 0, 0] ![1, 512, 128] i2, p2⟩
      :: ⟨Rect.unit (s := S4x512x128) ![1, 0, 0] ![1, 512, 128] i1, p1⟩ :: ⟨Rect.unit (s := S4x512x128) ![0, 0, 0] ![1, 512, 128] i0, p0⟩ :: L)) = glue ![p0, p1, p2, p3] := by
  rw [View.read_writes_cons_put (s := S4x512x128) v f i3 p3 _ rfl, View.read_writes_cons_put (s := S4x512x128) v f i2 p2 _ rfl,
    View.read_writes_cons_put (s := S4x512x128) v f i1 p1 _ rfl, View.read_writes_cons_put (s := S4x512x128) v f i0 p0 _ rfl]
  funext y
  have key : ∀ (o : ℕ) (x : Vec F S4x512x128 .f32) (p : Vec F S1x512x128 .f32), VecWindow.put (s := S4x512x128) x ![o, 0, 0] S1x512x128.size p y =
      if (y 0).val = o then p (fun a : Fin 3 => match a with | 0 => (0 : Fin 1) | 1 => y 1 | 2 => y 2) else x y := by
    intro o x p
    unfold VecWindow.put
    have hb1 := (y 1).isLt; have hb2 := (y 2).isLt
    by_cases h : (y 0).val = o
    · rw [if_pos h, dif_pos (fun a => by fin_cases a <;> simp [h] <;> first | exact hb1 | exact hb2)]
      refine congrArg p (funext fun a => Fin.ext ?_)
      fin_cases a
      · show (y 0).val - o = 0; omega
      · show (y 1).val - 0 = _; rfl
      · show (y 2).val - 0 = _; rfl
    · rw [if_neg h, dif_neg (fun hh => h (by have := hh 0; simp at this; omega))]
  rw [key, key, key, key]
  unfold glue
  have h0 : (y 0).val < 4 := (y 0).isLt
  generalize (fun a : Fin 3 => match a with | 0 => (0 : Fin 1) | 1 => y 1 | 2 => y 2 : S1x512x128.Idx) = z
  generalize y 0 = j at h0 ⊢
  change Fin 4 at j
  fin_cases j <;> rfl

/-- Loads of stores made at the same point. -/
theorem cov_halves (v : View sig .tc .vmem S1024x1024 .f32) (a : Vec F S1024x1024 .f32) (inb inb' i) (w0 w1 : Vec F S512x1024 .f32) :
    v.readCov (Val := Elt F) [⟨Rect.unit (s := S1024x1024) ![512, 0] ![512, 1024] inb, w1⟩, ⟨Rect.unit (s := S1024x1024) ![0, 0] ![512, 1024] inb', w0⟩]
      (Rect.unit (s := S1024x1024) ![0, 0] ![1024, 1024] i).toLoadRect = putHalf (putHalf a 0 w0) 1 w1 := by
  unfold View.readCov
  rw [load_w, store_halves]
  funext y
  unfold putHalf VecWindow.put
  have h0 : (y 0).val < 1024 := (y 0).isLt
  have h1 : (y 1).val < 1024 := (y 1).isLt
  by_cases h : 512 ≤ (y 0).val
  · have hc : ∀ a : Fin S1024x1024.rank, (![512 * (1 : Fin 2).val, 0] : Fin 2 → ℕ) a ≤ (y a).val ∧ (y a).val < (![512 * (1 : Fin 2).val, 0] : Fin 2 → ℕ) a + S512x1024.size a := by
      intro a; fin_cases a
      · exact ⟨h, h0⟩
      · exact ⟨Nat.zero_le _, by show (y 1).val < 0 + 1024; omega⟩
    rw [dif_pos hc, dif_pos hc]
  · have hn : ¬ ∀ a : Fin S1024x1024.rank, (![512 * (1 : Fin 2).val, 0] : Fin 2 → ℕ) a ≤ (y a).val ∧ (y a).val < (![512 * (1 : Fin 2).val, 0] : Fin 2 → ℕ) a + S512x1024.size a :=
      fun hh => h (hh 0).1
    have hc : ∀ a : Fin S1024x1024.rank, (![512 * (0 : Fin 2).val, 0] : Fin 2 → ℕ) a ≤ (y a).val ∧ (y a).val < (![512 * (0 : Fin 2).val, 0] : Fin 2 → ℕ) a + S512x1024.size a := by
      intro a; fin_cases a
      · exact ⟨Nat.zero_le _, by show (y 0).val < 0 + 512; omega⟩
      · exact ⟨Nat.zero_le _, by show (y 1).val < 0 + 1024; omega⟩
    rw [dif_neg hn, dif_neg hn, dif_pos hc, dif_pos hc]
theorem cov_first (v : View sig .tc .vmem S1024x1024 .f32) (a : Vec F S1024x1024 .f32) (inb i) (L : List (View.Piece (Elt F) S1024x1024 .f32)) :
    v.readCov (Val := Elt F) (⟨Rect.unit (s := S1024x1024) ![0, 0] ![1024, 1024] inb, a⟩ :: L) (Rect.unit (s := S1024x1024) ![0, 0] ![512, 1024] i).toLoadRect = half a 0 := by
  unfold View.readCov
  rw [load_half0, store_w]
theorem cov_second (v : View sig .tc .vmem S1024x1024 .f32) (a : Vec F S1024x1024 .f32) (w0 : Vec F S512x1024 .f32) (inb inb' i) (L : List (View.Piece (Elt F) S1024x1024 .f32)) :
    v.readCov (Val := Elt F) (⟨Rect.unit (s := S1024x1024) ![0, 0] ![512, 1024] inb', w0⟩ :: ⟨Rect.unit (s := S1024x1024) ![0, 0] ![1024, 1024] inb, a⟩ :: L)
      (Rect.unit (s := S1024x1024) ![512, 0] ![512, 1024] i).toLoadRect = half a 1 := by
  refine (View.readCov_skip v (Rect.unit (s := S1024x1024) ![0, 0] ![512, 1024] inb') w0 _ _ (by rfl)).trans ?_
  unfold View.readCov
  rw [load_half1, store_w]
theorem cov_g (v : View sig .tc .vmem S1x1024 .f32) (a : Vec F S1x1024 .f32) (inb i) (L : List (View.Piece (Elt F) S1x1024 .f32)) :
    v.readCov (Val := Elt F) (⟨Rect.unit (s := S1x1024) ![0, 0] ![1, 1024] inb, a⟩ :: L) (Rect.unit (s := S1x1024) ![0, 0] ![1, 1024] i).toLoadRect = a :=
  View.readCov_full v i inb a L
theorem cov_p (v : View sig .tc .vmem S1x512 .f32) (a : Vec F S1x512 .f32) (inb i) (L : List (View.Piece (Elt F) S1x512 .f32)) :
    v.readCov (Val := Elt F) (⟨Rect.unit (s := S1x512) ![0, 0] ![1, 512] inb, a⟩ :: L) (Rect.unit (s := S1x512) ![0, 0] ![1, 512] i).toLoadRect = a :=
  View.readCov_full v i inb a L

end Cert.OutKernelIdeal.Hand
-- ==== Proof.OutRunA.lean ====
module

public import proofs.«01_k».proof.Proof.OutBody
public import Idealize.ShloMosaic.Lib.VecWindow
public import Idealize.ShloMosaic.Lib.Pipeline.ReadBack
public import Idealize.ShloMosaic.Lib.Pipeline.Value

@[expose] public section

set_option maxRecDepth 16384

noncomputable section

namespace Cert.OutKernelIdeal.Hand

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option backward.isDefEq.respectTransparency.types false in
set_option maxHeartbeats 4000000 in
/-- The body at the first point, for any continuation. -/
theorem runA (c : Dev nD) (t : Fin cfg0.N)
    (arg4 : Memref sig .tc .vmem S4x512x128 .f32) (harg4 : arg4.IsWhole)
    (arg5 : Memref sig .tc .vmem S4x512x128 .f32) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S1024x1024 .bf16) (harg8 : arg8.IsWhole)
    (arg9 : Memref sig .tc .vmem S1x1024 .f32) (harg9 : arg9.IsWhole)
    (arg11 : Memref sig .tc .vmem S512x1024 .f32) (harg11 : arg11.IsWhole)
    (arg12 : Memref sig .tc .vmem S4x512x128 .f32) (harg12 : arg12.IsWhole)
    (arg13 : Memref sig .tc .vmem S4x512x128 .f32) (harg13 : arg13.IsWhole)
    (arg14 : Memref sig .tc .vmem S1024x1024 .bf16) (harg14 : arg14.IsWhole)
    (arg15 : Memref sig .tc .vmem S1x1024 .f32) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S1024x1024 .f32) (harg18 : arg18.IsWhole)
    (hc1 : (k0_cond1 (grid0.coords t) = 1#1)) (hc2 : (k0_cond2 (grid0.coords t) = 1#1)) (hc3 : (Scalar.cmpi .ne (Scalar.extui (Scalar.cmpi .eq (BitVec.ofNat 32 ((grid0.coords t) 0).val) 0#32) : BitVec 32) 0#32 = 1#1)) (hc4 : ¬ (k0_cond4 (grid0.coords t) = 1#1)) (ht : t.val = 0) (ht2 : t.val + 2 < 8)
    (x0 x1 : Vec F S4x512x128 .f32) (x2 x3 : Vec F S1x512 .f32) (x4 : Vec F S1024x1024 .bf16) (x5 : Vec F S1x1024 .f32)
    (y9 : Vec F S1024x1024 .bf16)
    (W0 : HB (F := F) c hM0) (W1 : HB (F := F) c hM1) (W2 : HB (F := F) c hM2) (W : Waits sig Unit) (K : PUnit → sProp 𝕄) :
    iprop(owns (c : Thread nD τ) arg4 fullShare x0
        ∗ owns (c : Thread nD τ) arg5 fullShare x1
        ∗ owns (c : Thread nD τ) arg6 fullShare x2
        ∗ owns (c : Thread nD τ) arg7 fullShare x3
        ∗ owns (c : Thread nD τ) arg8 fullShare x4
        ∗ owns (c : Thread nD τ) arg9 fullShare x5
        ∗ (∃ d, owns (c : Thread nD τ) arg11 fullShare d)
        ∗ (∃ d, owns (c : Thread nD τ) arg12 fullShare d)
        ∗ (∃ d, owns (c : Thread nD τ) arg13 fullShare d)
        ∗ owns (c : Thread nD τ) arg14 fullShare y9
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ Ring.free (cellP c 0) (slotW c rM0 hM0 W0) (Ring.sl 3 t.val) ∗ Ring.free (cellP c 0) (slotW c rM0 hM0 W0) (Ring.sl 3 (t.val + 1)) ∗ Ring.free (cellP c 0) (slotW c rM0 hM0 W0) (Ring.sl 3 (t.val + 2))
        ∗ Ring.free (cellP c 1) (slotW c rM1 hM1 W1) (Ring.sl 3 t.val) ∗ Ring.free (cellP c 1) (slotW c rM1 hM1 W1) (Ring.sl 3 (t.val + 1)) ∗ Ring.free (cellP c 1) (slotW c rM1 hM1 W1) (Ring.sl 3 (t.val + 2))
        ∗ Ring.free (cellP c 2) (slotW c rM2 hM2 W2) (Ring.sl 3 t.val) ∗ Ring.free (cellP c 2) (slotW c rM2 hM2 W2) (Ring.sl 3 (t.val + 1)) ∗ Ring.free (cellP c 2) (slotW c rM2 hM2 W2) (Ring.sl 3 (t.val + 2))
        ∗ owes (c : Thread nD τ) 0 W
        ∗ (iprop(owns (c : Thread nD τ) arg4 fullShare x0
            ∗ owns (c : Thread nD τ) arg5 fullShare x1
            ∗ owns (c : Thread nD τ) arg6 fullShare x2
            ∗ owns (c : Thread nD τ) arg7 fullShare x3
            ∗ owns (c : Thread nD τ) arg8 fullShare x4
            ∗ owns (c : Thread nD τ) arg9 fullShare x5
            ∗ owns (c : Thread nD τ) arg11 fullShare (outD x5 (rb hM0 W0 t) (rb hM1 W1 t) (rb hM2 W2 t))
            ∗ owns (c : Thread nD τ) arg12 fullShare (outP x0 x2 x4 x5 (rb hM0 W0 t) (rb hM1 W1 t) (rb hM2 W2 t))
            ∗ owns (c : Thread nD τ) arg13 fullShare (outL x1 x3 x4 x5 (rb hM0 W0 t) (rb hM1 W1 t) (rb hM2 W2 t))
            ∗ owns (c : Thread nD τ) arg14 fullShare y9
            ∗ owns (c : Thread nD τ) arg15 fullShare (stepG (rb hM0 W0 t) (rb hM2 W2 t) k0_pay8)
            ∗ owns (c : Thread nD τ) arg16 fullShare (stepP x0 x4 x5 (rb hM0 W0 t) (rb hM1 W1 t) (rb hM2 W2 t) k0_pay9)
            ∗ owns (c : Thread nD τ) arg17 fullShare (stepL x1 x4 x5 (rb hM0 W0 t) (rb hM1 W1 t) (rb hM2 W2 t) k0_pay10)
            ∗ owns (c : Thread nD τ) arg18 fullShare (stepW x0 x1 x2 x3 x5 (rb hM0 W0 t) (rb hM1 W1 t) (rb hM2 W2 t) k0_pay7)
            ∗ Ring.inflight (flightW c 0 rM0 hM0 W0) (Ring.sl 3 (t.val + 1)) (Ring.bk 8 (t.val + 1)) ∗ Ring.inflight (flightW c 0 rM0 hM0 W0) (Ring.sl 3 (t.val + 2)) (Ring.bk 8 (t.val + 2)) ∗ Ring.free (cellP c 0) (slotW c rM0 hM0 W0) (Ring.sl 3 t.val)
            ∗ Ring.inflight (flightW c 1 rM1 hM1 W1) (Ring.sl 3 (t.val + 1)) (Ring.bk 8 (t.val + 1)) ∗ Ring.inflight (flightW c 1 rM1 hM1 W1) (Ring.sl 3 (t.val + 2)) (Ring.bk 8 (t.val + 2)) ∗ Ring.free (cellP c 1) (slotW c rM1 hM1 W1) (Ring.sl 3 t.val)
            ∗ Ring.inflight (flightW c 2 rM2 hM2 W2) (Ring.sl 3 (t.val + 1)) (Ring.bk 8 (t.val + 1)) ∗ Ring.inflight (flightW c 2 rM2 hM2 W2) (Ring.sl 3 (t.val + 2)) (Ring.bk 8 (t.val + 2)) ∗ Ring.free (cellP c 2) (slotW c rM2 hM2 W2) (Ring.sl 3 t.val)
            ∗ (∃ W', owes (c : Thread nD τ) 0 W')) -∗ K ⟨⟩))
      ⊢ wp frame (wpE (defs₀ (F := F)) Variants.none c none) Set.univ
          (cc0_bwd_out (grid0.coords t) hM0 (Memref.isWhole_whole _) hM1 (Memref.isWhole_whole _) hM2 (Memref.isWhole_whole _) arg4 harg4 arg5 harg5 arg6 harg6 arg7 harg7 arg8 harg8 arg9 harg9 hM3 (Memref.isWhole_whole _) arg11 harg11 arg12 harg12 arg13 harg13 arg14 harg14 arg15 harg15 arg16 harg16 arg17 harg17 arg18 harg18 rM0 (Memref.isWhole_whole _) rM1 (Memref.isWhole_whole _) rM2 (Memref.isWhole_whole _) cc0_scratch4) K := by
  haveI : Fact ((k0_cond1 (grid0.coords t) = 1#1)) := ⟨hc1⟩
  haveI : Fact ((k0_cond2 (grid0.coords t) = 1#1)) := ⟨hc2⟩
  haveI : Fact ((Scalar.cmpi .ne (Scalar.extui (Scalar.cmpi .eq (BitVec.ofNat 32 ((grid0.coords t) 0).val) 0#32) : BitVec 32) 0#32 = 1#1)) := ⟨hc3⟩
  haveI : Fact (¬ (k0_cond4 (grid0.coords t) = 1#1)) := ⟨hc4⟩
  simp only [cc0_bwd_out_eq_skeleton]; unfold cc0_bwd_out_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns Ring.free Ring.inflight
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%d10, %f10, -, H10⟩, ⟨%d11, %f11, -, H11⟩, ⟨%d12, %f12, -, H12⟩, ⟨%d13, %f13, -, H13⟩, ⟨Hc0_0, ⟨%fs0_0, Hs0_0, Hw0_0⟩⟩, ⟨Hc0_1, ⟨%fs0_1, Hs0_1, Hw0_1⟩⟩, ⟨Hc0_2, ⟨%fs0_2, Hs0_2, Hw0_2⟩⟩, ⟨Hc1_0, ⟨%fs1_0, Hs1_0, Hw1_0⟩⟩, ⟨Hc1_1, ⟨%fs1_1, Hs1_1, Hw1_1⟩⟩, ⟨Hc1_2, ⟨%fs1_2, Hs1_2, Hw1_2⟩⟩, ⟨Hc2_0, ⟨%fs2_0, Hs2_0, Hw2_0⟩⟩, ⟨Hc2_1, ⟨%fs2_1, Hs2_1, Hw2_1⟩⟩, ⟨Hc2_2, ⟨%fs2_2, Hs2_2, Hw2_2⟩⟩, HW, Hk⟩
  ihave Hsp0_0 := (src_split c hM0 W0 (Ring.sl 3 t.val) (Ring.bk 8 t.val)).1 $$ Hw0_0
  icases Hsp0_0 with ⟨Hh0_0, Hr0_0⟩
  ihave Hsp0_1 := (src_split c hM0 W0 (Ring.sl 3 (t.val + 1)) (Ring.bk 8 (t.val + 1))).1 $$ Hw0_1
  icases Hsp0_1 with ⟨Hh0_1, Hr0_1⟩
  ihave Hsp0_2 := (src_split c hM0 W0 (Ring.sl 3 (t.val + 2)) (Ring.bk 8 (t.val + 2))).1 $$ Hw0_2
  icases Hsp0_2 with ⟨Hh0_2, Hr0_2⟩
  ihave Hsp1_0 := (src_split c hM1 W1 (Ring.sl 3 t.val) (Ring.bk 8 t.val)).1 $$ Hw1_0
  icases Hsp1_0 with ⟨Hh1_0, Hr1_0⟩
  ihave Hsp1_1 := (src_split c hM1 W1 (Ring.sl 3 (t.val + 1)) (Ring.bk 8 (t.val + 1))).1 $$ Hw1_1
  icases Hsp1_1 with ⟨Hh1_1, Hr1_1⟩
  ihave Hsp1_2 := (src_split c hM1 W1 (Ring.sl 3 (t.val + 2)) (Ring.bk 8 (t.val + 2))).1 $$ Hw1_2
  icases Hsp1_2 with ⟨Hh1_2, Hr1_2⟩
  ihave Hsp2_0 := (src_split c hM2 W2 (Ring.sl 3 t.val) (Ring.bk 8 t.val)).1 $$ Hw2_0
  icases Hsp2_0 with ⟨Hh2_0, Hr2_0⟩
  ihave Hsp2_1 := (src_split c hM2 W2 (Ring.sl 3 (t.val + 1)) (Ring.bk 8 (t.val + 1))).1 $$ Hw2_1
  icases Hsp2_1 with ⟨Hh2_1, Hr2_1⟩
  ihave Hsp2_2 := (src_split c hM2 W2 (Ring.sl 3 (t.val + 2)) (Ring.bk 8 (t.val + 2))).1 $$ Hw2_2
  icases Hsp2_2 with ⟨Hh2_2, Hr2_2⟩
  subst hf0; subst hf1; subst hf2; subst hf3; subst hf4; subst hf5; subst hf9
  sl_exec (disch := first | sl_exact hc1 | sl_exact hc2 | sl_exact hc3 | sl_exact hc4 | sl_exact ht | sl_exact ht2)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [Hc0_1 Hr0_1]
  · iexists _; isplitl [Hc0_1]; · iexact Hc0_1
    iexact Hr0_1
  isplitl [Hc0_2 Hr0_2]
  · iexists _; isplitl [Hc0_2]; · iexact Hc0_2
    iexact Hr0_2
  isplitl [Hc0_0 Hs0_0 Hh0_0 Hr0_0]
  · isplitl [Hc0_0]; · iexact Hc0_0
    iexists _; isplitl [Hs0_0]; · iexact Hs0_0
    iapply (src_split c hM0 W0 (Ring.sl 3 t.val) (Ring.bk 8 t.val)).2; isplitl [Hh0_0]; · iexact Hh0_0
    iexact Hr0_0
  isplitl [Hc1_1 Hr1_1]
  · iexists _; isplitl [Hc1_1]; · iexact Hc1_1
    iexact Hr1_1
  isplitl [Hc1_2 Hr1_2]
  · iexists _; isplitl [Hc1_2]; · iexact Hc1_2
    iexact Hr1_2
  isplitl [Hc1_0 Hs1_0 Hh1_0 Hr1_0]
  · isplitl [Hc1_0]; · iexact Hc1_0
    iexists _; isplitl [Hs1_0]; · iexact Hs1_0
    iapply (src_split c hM1 W1 (Ring.sl 3 t.val) (Ring.bk 8 t.val)).2; isplitl [Hh1_0]; · iexact Hh1_0
    iexact Hr1_0
  isplitl [Hc2_1 Hr2_1]
  · iexists _; isplitl [Hc2_1]; · iexact Hc2_1
    iexact Hr2_1
  isplitl [Hc2_2 Hr2_2]
  · iexists _; isplitl [Hc2_2]; · iexact Hc2_2
    iexact Hr2_2
  isplitl [Hc2_0 Hs2_0 Hh2_0 Hr2_0]
  · isplitl [Hc2_0]; · iexact Hc2_0
    iexists _; isplitl [Hs2_0]; · iexact Hs2_0
    iapply (src_split c hM2 W2 (Ring.sl 3 t.val) (Ring.bk 8 t.val)).2; isplitl [Hh2_0]; · iexact Hh2_0
    iexact Hr2_0
  iexists _; iexact HW
  all_goals ipureintro
  all_goals first
    | with_reducible rfl
    | (sl_unfold_words
       try (rw [load_ring0 W0 t]; rotate_left 1; exact off7 t)
       try (rw [load_ring1 W1 t]; rotate_left 1; exact off7 t)
       try (rw [load_ring2 W2 t]; rotate_left 1; exact off7 t)
       simp only [outD, outP, outL, dhb, stepG, stepP, stepL, stepW, rowP, rowL, a78, a79, rsP, nrP, mxP, rsL, nrL, slab,
         cov_first, cov_second, cov_g, cov_p, load_slab0, load_slab1, load_slab2, load_slab3, load_half0, load_half1, load_g, load_p, load_w,
         store_g, store_p, store_d, store_w, store_halves, store_glue, View.writes_nil]
       try exact congrArg k0_pay6 (cov_halves _ _ _ _ _ _ _))
    | skip

end Cert.OutKernelIdeal.Hand
-- ==== Proof.OutRunB.lean ====
module

public import proofs.«01_k».proof.Proof.OutBody
public import Idealize.ShloMosaic.Lib.VecWindow
public import Idealize.ShloMosaic.Lib.Pipeline.ReadBack
public import Idealize.ShloMosaic.Lib.Pipeline.Value

@[expose] public section

set_option maxRecDepth 16384

noncomputable section

namespace Cert.OutKernelIdeal.Hand

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option backward.isDefEq.respectTransparency.types false in
set_option maxHeartbeats 4000000 in
/-- The body at a point after the first whose block two ahead exists, for any continuation. -/
theorem runB (c : Dev nD) (t : Fin cfg0.N)
    (arg4 : Memref sig .tc .vmem S4x512x128 .f32) (harg4 : arg4.IsWhole)
    (arg5 : Memref sig .tc .vmem S4x512x128 .f32) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S1024x1024 .bf16) (harg8 : arg8.IsWhole)
    (arg9 : Memref sig .tc .vmem S1x1024 .f32) (harg9 : arg9.IsWhole)
    (arg11 : Memref sig .tc .vmem S512x1024 .f32) (harg11 : arg11.IsWhole)
    (arg12 : Memref sig .tc .vmem S4x512x128 .f32) (harg12 : arg12.IsWhole)
    (arg13 : Memref sig .tc .vmem S4x512x128 .f32) (harg13 : arg13.IsWhole)
    (arg14 : Memref sig .tc .vmem S1024x1024 .bf16) (harg14 : arg14.IsWhole)
    (arg15 : Memref sig .tc .vmem S1x1024 .f32) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S1024x1024 .f32) (harg18 : arg18.IsWhole)
    (hc1 : ¬ (k0_cond1 (grid0.coords t) = 1#1)) (hc2 : (k0_cond2 (grid0.coords t) = 1#1)) (hc3 : ¬ (Scalar.cmpi .ne (Scalar.extui (Scalar.cmpi .eq (BitVec.ofNat 32 ((grid0.coords t) 0).val) 0#32) : BitVec 32) 0#32 = 1#1)) (hc4 : ¬ (k0_cond4 (grid0.coords t) = 1#1)) (ht2 : t.val + 2 < 8)
    (x0 x1 : Vec F S4x512x128 .f32) (x2 x3 : Vec F S1x512 .f32) (x4 : Vec F S1024x1024 .bf16) (x5 : Vec F S1x1024 .f32)
    (y9 : Vec F S1024x1024 .bf16) (y10 : Vec F S1x1024 .f32) (y11 y12 : Vec F S1x512 .f32) (y13 : Vec F S1024x1024 .f32)
    (W0 : HB (F := F) c hM0) (W1 : HB (F := F) c hM1) (W2 : HB (F := F) c hM2) (W : Waits sig Unit) (K : PUnit → sProp 𝕄) :
    iprop(owns (c : Thread nD τ) arg4 fullShare x0
        ∗ owns (c : Thread nD τ) arg5 fullShare x1
        ∗ owns (c : Thread nD τ) arg6 fullShare x2
        ∗ owns (c : Thread nD τ) arg7 fullShare x3
        ∗ owns (c : Thread nD τ) arg8 fullShare x4
        ∗ owns (c : Thread nD τ) arg9 fullShare x5
        ∗ (∃ d, owns (c : Thread nD τ) arg11 fullShare d)
        ∗ (∃ d, owns (c : Thread nD τ) arg12 fullShare d)
        ∗ (∃ d, owns (c : Thread nD τ) arg13 fullShare d)
        ∗ owns (c : Thread nD τ) arg14 fullShare y9
        ∗ owns (c : Thread nD τ) arg15 fullShare y10
        ∗ owns (c : Thread nD τ) arg16 fullShare y11
        ∗ owns (c : Thread nD τ) arg17 fullShare y12
        ∗ owns (c : Thread nD τ) arg18 fullShare y13
        ∗ Ring.inflight (flightW c 0 rM0 hM0 W0) (Ring.sl 3 t.val) (Ring.bk 8 t.val) ∗ Ring.inflight (flightW c 0 rM0 hM0 W0) (Ring.sl 3 (t.val + 1)) (Ring.bk 8 (t.val + 1)) ∗ Ring.free (cellP c 0) (slotW c rM0 hM0 W0) (Ring.sl 3 (t.val + 2))
        ∗ Ring.inflight (flightW c 1 rM1 hM1 W1) (Ring.sl 3 t.val) (Ring.bk 8 t.val) ∗ Ring.inflight (flightW c 1 rM1 hM1 W1) (Ring.sl 3 (t.val + 1)) (Ring.bk 8 (t.val + 1)) ∗ Ring.free (cellP c 1) (slotW c rM1 hM1 W1) (Ring.sl 3 (t.val + 2))
        ∗ Ring.inflight (flightW c 2 rM2 hM2 W2) (Ring.sl 3 t.val) (Ring.bk 8 t.val) ∗ Ring.inflight (flightW c 2 rM2 hM2 W2) (Ring.sl 3 (t.val + 1)) (Ring.bk 8 (t.val + 1)) ∗ Ring.free (cellP c 2) (slotW c rM2 hM2 W2) (Ring.sl 3 (t.val + 2))
        ∗ owes (c : Thread nD τ) 0 W
        ∗ (iprop(owns (c : Thread nD τ) arg4 fullShare x0
            ∗ owns (c : Thread nD τ) arg5 fullShare x1
            ∗ owns (c : Thread nD τ) arg6 fullShare x2
            ∗ owns (c : Thread nD τ) arg7 fullShare x3
            ∗ owns (c : Thread nD τ) arg8 fullShare x4
            ∗ owns (c : Thread nD τ) arg9 fullShare x5
            ∗ owns (c : Thread nD τ) arg11 fullShare (outD x5 (rb hM0 W0 t) (rb hM1 W1 t) (rb hM2 W2 t))
            ∗ owns (c : Thread nD τ) arg12 fullShare (outP x0 x2 x4 x5 (rb hM0 W0 t) (rb hM1 W1 t) (rb hM2 W2 t))
            ∗ owns (c : Thread nD τ) arg13 fullShare (outL x1 x3 x4 x5 (rb hM0 W0 t) (rb hM1 W1 t) (rb hM2 W2 t))
            ∗ owns (c : Thread nD τ) arg14 fullShare y9
            ∗ owns (c : Thread nD τ) arg15 fullShare (stepG (rb hM0 W0 t) (rb hM2 W2 t) y10)
            ∗ owns (c : Thread nD τ) arg16 fullShare (stepP x0 x4 x5 (rb hM0 W0 t) (rb hM1 W1 t) (rb hM2 W2 t) y11)
            ∗ owns (c : Thread nD τ) arg17 fullShare (stepL x1 x4 x5 (rb hM0 W0 t) (rb hM1 W1 t) (rb hM2 W2 t) y12)
            ∗ owns (c : Thread nD τ) arg18 fullShare (stepW x0 x1 x2 x3 x5 (rb hM0 W0 t) (rb hM1 W1 t) (rb hM2 W2 t) y13)
            ∗ Ring.inflight (flightW c 0 rM0 hM0 W0) (Ring.sl 3 (t.val + 1)) (Ring.bk 8 (t.val + 1)) ∗ Ring.inflight (flightW c 0 rM0 hM0 W0) (Ring.sl 3 (t.val + 2)) (Ring.bk 8 (t.val + 2)) ∗ Ring.free (cellP c 0) (slotW c rM0 hM0 W0) (Ring.sl 3 t.val)
            ∗ Ring.inflight (flightW c 1 rM1 hM1 W1) (Ring.sl 3 (t.val + 1)) (Ring.bk 8 (t.val + 1)) ∗ Ring.inflight (flightW c 1 rM1 hM1 W1) (Ring.sl 3 (t.val + 2)) (Ring.bk 8 (t.val + 2)) ∗ Ring.free (cellP c 1) (slotW c rM1 hM1 W1) (Ring.sl 3 t.val)
            ∗ Ring.inflight (flightW c 2 rM2 hM2 W2) (Ring.sl 3 (t.val + 1)) (Ring.bk 8 (t.val + 1)) ∗ Ring.inflight (flightW c 2 rM2 hM2 W2) (Ring.sl 3 (t.val + 2)) (Ring.bk 8 (t.val + 2)) ∗ Ring.free (cellP c 2) (slotW c rM2 hM2 W2) (Ring.sl 3 t.val)
            ∗ (∃ W', owes (c : Thread nD τ) 0 W')) -∗ K ⟨⟩))
      ⊢ wp frame (wpE (defs₀ (F := F)) Variants.none c none) Set.univ
          (cc0_bwd_out (grid0.coords t) hM0 (Memref.isWhole_whole _) hM1 (Memref.isWhole_whole _) hM2 (Memref.isWhole_whole _) arg4 harg4 arg5 harg5 arg6 harg6 arg7 harg7 arg8 harg8 arg9 harg9 hM3 (Memref.isWhole_whole _) arg11 harg11 arg12 harg12 arg13 harg13 arg14 harg14 arg15 harg15 arg16 harg16 arg17 harg17 arg18 harg18 rM0 (Memref.isWhole_whole _) rM1 (Memref.isWhole_whole _) rM2 (Memref.isWhole_whole _) cc0_scratch4) K := by
  haveI : Fact (¬ (k0_cond1 (grid0.coords t) = 1#1)) := ⟨hc1⟩
  haveI : Fact ((k0_cond2 (grid0.coords t) = 1#1)) := ⟨hc2⟩
  haveI : Fact (¬ (Scalar.cmpi .ne (Scalar.extui (Scalar.cmpi .eq (BitVec.ofNat 32 ((grid0.coords t) 0).val) 0#32) : BitVec 32) 0#32 = 1#1)) := ⟨hc3⟩
  haveI : Fact (¬ (k0_cond4 (grid0.coords t) = 1#1)) := ⟨hc4⟩
  simp only [cc0_bwd_out_eq_skeleton]; unfold cc0_bwd_out_skel
  simp only [k0_part2_eq_skeleton, k0_part3_eq_skeleton, k0_part4_eq_skeleton, k0_part5_eq_skeleton, k0_part6_eq_skeleton, k0_part7_eq_skeleton, k0_part8_eq_skeleton]
  unfold owns Ring.free Ring.inflight
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%ff0_0, Hf0_0, Hrf0_0⟩, ⟨%ff0_1, Hf0_1, Hrf0_1⟩, ⟨Hc0_2, ⟨%fs0_2, Hs0_2, Hw0_2⟩⟩, ⟨%ff1_0, Hf1_0, Hrf1_0⟩, ⟨%ff1_1, Hf1_1, Hrf1_1⟩, ⟨Hc1_2, ⟨%fs1_2, Hs1_2, Hw1_2⟩⟩, ⟨%ff2_0, Hf2_0, Hrf2_0⟩, ⟨%ff2_1, Hf2_1, Hrf2_1⟩, ⟨Hc2_2, ⟨%fs2_2, Hs2_2, Hw2_2⟩⟩, HW, Hk⟩
  ihave Hsp0_2 := (src_split c hM0 W0 (Ring.sl 3 (t.val + 2)) (Ring.bk 8 (t.val + 2))).1 $$ Hw0_2
  icases Hsp0_2 with ⟨Hh0_2, Hr0_2⟩
  ihave Hsp1_2 := (src_split c hM1 W1 (Ring.sl 3 (t.val + 2)) (Ring.bk 8 (t.val + 2))).1 $$ Hw1_2
  icases Hsp1_2 with ⟨Hh1_2, Hr1_2⟩
  ihave Hsp2_2 := (src_split c hM2 W2 (Ring.sl 3 (t.val + 2)) (Ring.bk 8 (t.val + 2))).1 $$ Hw2_2
  icases Hsp2_2 with ⟨Hh2_2, Hr2_2⟩
  subst hf0; subst hf1; subst hf2; subst hf3; subst hf4; subst hf5; subst hf9; subst hf10; subst hf11; subst hf12; subst hf13
  sl_exec (disch := first | sl_exact hc1 | sl_exact hc2 | sl_exact hc3 | sl_exact hc4 | sl_exact ht2)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [Hf0_1 Hrf0_1]
  · iexists ff0_1; isplitl [Hf0_1]; · iexact Hf0_1
    iexact Hrf0_1
  isplitl [Hc0_2 Hr0_2]
  · iexists _; isplitl [Hc0_2]; · iexact Hc0_2
    iexact Hr0_2
  isplitl [Hf0_0 Hf0_0_dst Hf0_0_src Hrf0_0]
  · isplitl [Hf0_0]; · iexact Hf0_0
    iexists _; isplitl [Hf0_0_dst]; · iexact Hf0_0_dst
    iapply (src_split c hM0 W0 (Ring.sl 3 t.val) (Ring.bk 8 t.val)).2; isplitl [Hf0_0_src]; · iexact Hf0_0_src
    iexact Hrf0_0
  isplitl [Hf1_1 Hrf1_1]
  · iexists ff1_1; isplitl [Hf1_1]; · iexact Hf1_1
    iexact Hrf1_1
  isplitl [Hc1_2 Hr1_2]
  · iexists _; isplitl [Hc1_2]; · iexact Hc1_2
    iexact Hr1_2
  isplitl [Hf1_0 Hf1_0_dst Hf1_0_src Hrf1_0]
  · isplitl [Hf1_0]; · iexact Hf1_0
    iexists _; isplitl [Hf1_0_dst]; · iexact Hf1_0_dst
    iapply (src_split c hM1 W1 (Ring.sl 3 t.val) (Ring.bk 8 t.val)).2; isplitl [Hf1_0_src]; · iexact Hf1_0_src
    iexact Hrf1_0
  isplitl [Hf2_1 Hrf2_1]
  · iexists ff2_1; isplitl [Hf2_1]; · iexact Hf2_1
    iexact Hrf2_1
  isplitl [Hc2_2 Hr2_2]
  · iexists _; isplitl [Hc2_2]; · iexact Hc2_2
    iexact Hr2_2
  isplitl [Hf2_0 Hf2_0_dst Hf2_0_src Hrf2_0]
  · isplitl [Hf2_0]; · iexact Hf2_0
    iexists _; isplitl [Hf2_0_dst]; · iexact Hf2_0_dst
    iapply (src_split c hM2 W2 (Ring.sl 3 t.val) (Ring.bk 8 t.val)).2; isplitl [Hf2_0_src]; · iexact Hf2_0_src
    iexact Hrf2_0
  iexists _; iexact HW
  all_goals ipureintro
  all_goals first
    | with_reducible rfl
    | (sl_unfold_words
       try (rw [load_ring0 W0 t]; rotate_left 1; exact off7 t)
       try (rw [load_ring1 W1 t]; rotate_left 1; exact off7 t)
       try (rw [load_ring2 W2 t]; rotate_left 1; exact off7 t)
       simp only [outD, outP, outL, dhb, stepG, stepP, stepL, stepW, rowP, rowL, a78, a79, rsP, nrP, mxP, rsL, nrL, slab,
         cov_first, cov_second, cov_g, cov_p, load_slab0, load_slab1, load_slab2, load_slab3, load_half0, load_half1, load_g, load_p, load_w,
         store_g, store_p, store_d, store_w, store_halves, store_glue, View.writes_nil]
       try exact congrArg k0_pay6 (cov_halves _ _ _ _ _ _ _))
    | skip

end Cert.OutKernelIdeal.Hand
-- ==== Proof.OutRunC.lean ====
module

public import proofs.«01_k».proof.Proof.OutBody
public import Idealize.ShloMosaic.Lib.VecWindow
public import Idealize.ShloMosaic.Lib.Pipeline.ReadBack
public import Idealize.ShloMosaic.Lib.Pipeline.Value

@[expose] public section

set_option maxRecDepth 16384

noncomputable section

namespace Cert.OutKernelIdeal.Hand

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option backward.isDefEq.respectTransparency.types false in
set_option maxHeartbeats 4000000 in
/-- The body at a point whose block two ahead does not exist, not the last, for any continuation. -/
theorem runC (c : Dev nD) (t : Fin cfg0.N)
    (arg4 : Memref sig .tc .vmem S4x512x128 .f32) (harg4 : arg4.IsWhole)
    (arg5 : Memref sig .tc .vmem S4x512x128 .f32) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S1024x1024 .bf16) (harg8 : arg8.IsWhole)
    (arg9 : Memref sig .tc .vmem S1x1024 .f32) (harg9 : arg9.IsWhole)
    (arg11 : Memref sig .tc .vmem S512x1024 .f32) (harg11 : arg11.IsWhole)
    (arg12 : Memref sig .tc .vmem S4x512x128 .f32) (harg12 : arg12.IsWhole)
    (arg13 : Memref sig .tc .vmem S4x512x128 .f32) (harg13 : arg13.IsWhole)
    (arg14 : Memref sig .tc .vmem S1024x1024 .bf16) (harg14 : arg14.IsWhole)
    (arg15 : Memref sig .tc .vmem S1x1024 .f32) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S1024x1024 .f32) (harg18 : arg18.IsWhole)
    (hc1 : ¬ (k0_cond1 (grid0.coords t) = 1#1)) (hc2 : ¬ (k0_cond2 (grid0.coords t) = 1#1)) (hc3 : ¬ (Scalar.cmpi .ne (Scalar.extui (Scalar.cmpi .eq (BitVec.ofNat 32 ((grid0.coords t) 0).val) 0#32) : BitVec 32) 0#32 = 1#1)) (hc4 : ¬ (k0_cond4 (grid0.coords t) = 1#1))
    (x0 x1 : Vec F S4x512x128 .f32) (x2 x3 : Vec F S1x512 .f32) (x4 : Vec F S1024x1024 .bf16) (x5 : Vec F S1x1024 .f32)
    (y9 : Vec F S1024x1024 .bf16) (y10 : Vec F S1x1024 .f32) (y11 y12 : Vec F S1x512 .f32) (y13 : Vec F S1024x1024 .f32)
    (W0 : HB (F := F) c hM0) (W1 : HB (F := F) c hM1) (W2 : HB (F := F) c hM2) (W : Waits sig Unit) (K : PUnit → sProp 𝕄) :
    iprop(owns (c : Thread nD τ) arg4 fullShare x0
        ∗ owns (c : Thread nD τ) arg5 fullShare x1
        ∗ owns (c : Thread nD τ) arg6 fullShare x2
        ∗ owns (c : Thread nD τ) arg7 fullShare x3
        ∗ owns (c : Thread nD τ) arg8 fullShare x4
        ∗ owns (c : Thread nD τ) arg9 fullShare x5
        ∗ (∃ d, owns (c : Thread nD τ) arg11 fullShare d)
        ∗ (∃ d, owns (c : Thread nD τ) arg12 fullShare d)
        ∗ (∃ d, owns (c : Thread nD τ) arg13 fullShare d)
        ∗ owns (c : Thread nD τ) arg14 fullShare y9
        ∗ owns (c : Thread nD τ) arg15 fullShare y10
        ∗ owns (c : Thread nD τ) arg16 fullShare y11
        ∗ owns (c : Thread nD τ) arg17 fullShare y12
        ∗ owns (c : Thread nD τ) arg18 fullShare y13
        ∗ Ring.inflight (flightW c 0 rM0 hM0 W0) (Ring.sl 3 t.val) (Ring.bk 8 t.val) ∗ Ring.slotAt 2 (cellP c 0) (slotW c rM0 hM0 W0) (flightW c 0 rM0 hM0 W0) t.val 1 ∗ Ring.free (cellP c 0) (slotW c rM0 hM0 W0) (Ring.sl 3 (t.val + 2))
        ∗ Ring.inflight (flightW c 1 rM1 hM1 W1) (Ring.sl 3 t.val) (Ring.bk 8 t.val) ∗ Ring.slotAt 2 (cellP c 1) (slotW c rM1 hM1 W1) (flightW c 1 rM1 hM1 W1) t.val 1 ∗ Ring.free (cellP c 1) (slotW c rM1 hM1 W1) (Ring.sl 3 (t.val + 2))
        ∗ Ring.inflight (flightW c 2 rM2 hM2 W2) (Ring.sl 3 t.val) (Ring.bk 8 t.val) ∗ Ring.slotAt 2 (cellP c 2) (slotW c rM2 hM2 W2) (flightW c 2 rM2 hM2 W2) t.val 1 ∗ Ring.free (cellP c 2) (slotW c rM2 hM2 W2) (Ring.sl 3 (t.val + 2))
        ∗ owes (c : Thread nD τ) 0 W
        ∗ (iprop(owns (c : Thread nD τ) arg4 fullShare x0
            ∗ owns (c : Thread nD τ) arg5 fullShare x1
            ∗ owns (c : Thread nD τ) arg6 fullShare x2
            ∗ owns (c : Thread nD τ) arg7 fullShare x3
            ∗ owns (c : Thread nD τ) arg8 fullShare x4
            ∗ owns (c : Thread nD τ) arg9 fullShare x5
            ∗ owns (c : Thread nD τ) arg11 fullShare (outD x5 (rb hM0 W0 t) (rb hM1 W1 t) (rb hM2 W2 t))
            ∗ owns (c : Thread nD τ) arg12 fullShare (outP x0 x2 x4 x5 (rb hM0 W0 t) (rb hM1 W1 t) (rb hM2 W2 t))
            ∗ owns (c : Thread nD τ) arg13 fullShare (outL x1 x3 x4 x5 (rb hM0 W0 t) (rb hM1 W1 t) (rb hM2 W2 t))
            ∗ owns (c : Thread nD τ) arg14 fullShare y9
            ∗ owns (c : Thread nD τ) arg15 fullShare (stepG (rb hM0 W0 t) (rb hM2 W2 t) y10)
            ∗ owns (c : Thread nD τ) arg16 fullShare (stepP x0 x4 x5 (rb hM0 W0 t) (rb hM1 W1 t) (rb hM2 W2 t) y11)
            ∗ owns (c : Thread nD τ) arg17 fullShare (stepL x1 x4 x5 (rb hM0 W0 t) (rb hM1 W1 t) (rb hM2 W2 t) y12)
            ∗ owns (c : Thread nD τ) arg18 fullShare (stepW x0 x1 x2 x3 x5 (rb hM0 W0 t) (rb hM1 W1 t) (rb hM2 W2 t) y13)
            ∗ Ring.slotAt 2 (cellP c 0) (slotW c rM0 hM0 W0) (flightW c 0 rM0 hM0 W0) t.val 1 ∗ Ring.free (cellP c 0) (slotW c rM0 hM0 W0) (Ring.sl 3 (t.val + 2)) ∗ Ring.free (cellP c 0) (slotW c rM0 hM0 W0) (Ring.sl 3 t.val)
            ∗ Ring.slotAt 2 (cellP c 1) (slotW c rM1 hM1 W1) (flightW c 1 rM1 hM1 W1) t.val 1 ∗ Ring.free (cellP c 1) (slotW c rM1 hM1 W1) (Ring.sl 3 (t.val + 2)) ∗ Ring.free (cellP c 1) (slotW c rM1 hM1 W1) (Ring.sl 3 t.val)
            ∗ Ring.slotAt 2 (cellP c 2) (slotW c rM2 hM2 W2) (flightW c 2 rM2 hM2 W2) t.val 1 ∗ Ring.free (cellP c 2) (slotW c rM2 hM2 W2) (Ring.sl 3 (t.val + 2)) ∗ Ring.free (cellP c 2) (slotW c rM2 hM2 W2) (Ring.sl 3 t.val)
            ∗ (∃ W', owes (c : Thread nD τ) 0 W')) -∗ K ⟨⟩))
      ⊢ wp frame (wpE (defs₀ (F := F)) Variants.none c none) Set.univ
          (cc0_bwd_out (grid0.coords t) hM0 (Memref.isWhole_whole _) hM1 (Memref.isWhole_whole _) hM2 (Memref.isWhole_whole _) arg4 harg4 arg5 harg5 arg6 harg6 arg7 harg7 arg8 harg8 arg9 harg9 hM3 (Memref.isWhole_whole _) arg11 harg11 arg12 harg12 arg13 harg13 arg14 harg14 arg15 harg15 arg16 harg16 arg17 harg17 arg18 harg18 rM0 (Memref.isWhole_whole _) rM1 (Memref.isWhole_whole _) rM2 (Memref.isWhole_whole _) cc0_scratch4) K := by
  haveI : Fact (¬ (k0_cond1 (grid0.coords t) = 1#1)) := ⟨hc1⟩
  haveI : Fact (¬ (k0_cond2 (grid0.coords t) = 1#1)) := ⟨hc2⟩
  haveI : Fact (¬ (Scalar.cmpi .ne (Scalar.extui (Scalar.cmpi .eq (BitVec.ofNat 32 ((grid0.coords t) 0).val) 0#32) : BitVec 32) 0#32 = 1#1)) := ⟨hc3⟩
  haveI : Fact (¬ (k0_cond4 (grid0.coords t) = 1#1)) := ⟨hc4⟩
  simp only [cc0_bwd_out_eq_skeleton]; unfold cc0_bwd_out_skel
  simp only [k0_part3_eq_skeleton, k0_part4_eq_skeleton, k0_part5_eq_skeleton, k0_part6_eq_skeleton, k0_part7_eq_skeleton, k0_part8_eq_skeleton]
  unfold owns Ring.free Ring.inflight
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%ff0_0, Hf0_0, Hrf0_0⟩, Hro0_1, ⟨Hc0_2, ⟨%fs0_2, Hs0_2, Hw0_2⟩⟩, ⟨%ff1_0, Hf1_0, Hrf1_0⟩, Hro1_1, ⟨Hc1_2, ⟨%fs1_2, Hs1_2, Hw1_2⟩⟩, ⟨%ff2_0, Hf2_0, Hrf2_0⟩, Hro2_1, ⟨Hc2_2, ⟨%fs2_2, Hs2_2, Hw2_2⟩⟩, HW, Hk⟩
  subst hf0; subst hf1; subst hf2; subst hf3; subst hf4; subst hf5; subst hf9; subst hf10; subst hf11; subst hf12; subst hf13
  sl_exec (disch := first | sl_exact hc1 | sl_exact hc2 | sl_exact hc3 | sl_exact hc4)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [Hro0_1]; · iexact Hro0_1
  isplitl [Hc0_2 Hs0_2 Hw0_2]
  · isplitl [Hc0_2]; · iexact Hc0_2
    iexists _; isplitl [Hs0_2]; · iexact Hs0_2
    iexact Hw0_2
  isplitl [Hf0_0 Hf0_0_dst Hf0_0_src Hrf0_0]
  · isplitl [Hf0_0]; · iexact Hf0_0
    iexists _; isplitl [Hf0_0_dst]; · iexact Hf0_0_dst
    iapply (src_split c hM0 W0 (Ring.sl 3 t.val) (Ring.bk 8 t.val)).2; isplitl [Hf0_0_src]; · iexact Hf0_0_src
    iexact Hrf0_0
  isplitl [Hro1_1]; · iexact Hro1_1
  isplitl [Hc1_2 Hs1_2 Hw1_2]
  · isplitl [Hc1_2]; · iexact Hc1_2
    iexists _; isplitl [Hs1_2]; · iexact Hs1_2
    iexact Hw1_2
  isplitl [Hf1_0 Hf1_0_dst Hf1_0_src Hrf1_0]
  · isplitl [Hf1_0]; · iexact Hf1_0
    iexists _; isplitl [Hf1_0_dst]; · iexact Hf1_0_dst
    iapply (src_split c hM1 W1 (Ring.sl 3 t.val) (Ring.bk 8 t.val)).2; isplitl [Hf1_0_src]; · iexact Hf1_0_src
    iexact Hrf1_0
  isplitl [Hro2_1]; · iexact Hro2_1
  isplitl [Hc2_2 Hs2_2 Hw2_2]
  · isplitl [Hc2_2]; · iexact Hc2_2
    iexists _; isplitl [Hs2_2]; · iexact Hs2_2
    iexact Hw2_2
  isplitl [Hf2_0 Hf2_0_dst Hf2_0_src Hrf2_0]
  · isplitl [Hf2_0]; · iexact Hf2_0
    iexists _; isplitl [Hf2_0_dst]; · iexact Hf2_0_dst
    iapply (src_split c hM2 W2 (Ring.sl 3 t.val) (Ring.bk 8 t.val)).2; isplitl [Hf2_0_src]; · iexact Hf2_0_src
    iexact Hrf2_0
  iexists _; iexact HW
  all_goals ipureintro
  all_goals first
    | with_reducible rfl
    | (sl_unfold_words
       try (rw [load_ring0 W0 t]; rotate_left 1; exact off7 t)
       try (rw [load_ring1 W1 t]; rotate_left 1; exact off7 t)
       try (rw [load_ring2 W2 t]; rotate_left 1; exact off7 t)
       simp only [outD, outP, outL, dhb, stepG, stepP, stepL, stepW, rowP, rowL, a78, a79, rsP, nrP, mxP, rsL, nrL, slab,
         cov_first, cov_second, cov_g, cov_p, load_slab0, load_slab1, load_slab2, load_slab3, load_half0, load_half1, load_g, load_p, load_w,
         store_g, store_p, store_d, store_w, store_halves, store_glue, View.writes_nil]
       try exact congrArg k0_pay6 (cov_halves _ _ _ _ _ _ _))
    | skip

end Cert.OutKernelIdeal.Hand
-- ==== Proof.OutRunD.lean ====
module

public import proofs.«01_k».proof.Proof.OutBody
public import Idealize.ShloMosaic.Lib.VecWindow
public import Idealize.ShloMosaic.Lib.Pipeline.ReadBack
public import Idealize.ShloMosaic.Lib.Pipeline.Value

@[expose] public section

set_option maxRecDepth 16384

noncomputable section

namespace Cert.OutKernelIdeal.Hand

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option backward.isDefEq.respectTransparency.types false in
set_option maxHeartbeats 4000000 in
/-- The body at the last point, for any continuation. -/
theorem runD (c : Dev nD) (t : Fin cfg0.N)
    (arg4 : Memref sig .tc .vmem S4x512x128 .f32) (harg4 : arg4.IsWhole)
    (arg5 : Memref sig .tc .vmem S4x512x128 .f32) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S1024x1024 .bf16) (harg8 : arg8.IsWhole)
    (arg9 : Memref sig .tc .vmem S1x1024 .f32) (harg9 : arg9.IsWhole)
    (arg11 : Memref sig .tc .vmem S512x1024 .f32) (harg11 : arg11.IsWhole)
    (arg12 : Memref sig .tc .vmem S4x512x128 .f32) (harg12 : arg12.IsWhole)
    (arg13 : Memref sig .tc .vmem S4x512x128 .f32) (harg13 : arg13.IsWhole)
    (arg14 : Memref sig .tc .vmem S1024x1024 .bf16) (harg14 : arg14.IsWhole)
    (arg15 : Memref sig .tc .vmem S1x1024 .f32) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S1024x1024 .f32) (harg18 : arg18.IsWhole)
    (hc1 : ¬ (k0_cond1 (grid0.coords t) = 1#1)) (hc2 : ¬ (k0_cond2 (grid0.coords t) = 1#1)) (hc3 : ¬ (Scalar.cmpi .ne (Scalar.extui (Scalar.cmpi .eq (BitVec.ofNat 32 ((grid0.coords t) 0).val) 0#32) : BitVec 32) 0#32 = 1#1)) (hc4 : (k0_cond4 (grid0.coords t) = 1#1))
    (x0 x1 : Vec F S4x512x128 .f32) (x2 x3 : Vec F S1x512 .f32) (x4 : Vec F S1024x1024 .bf16) (x5 : Vec F S1x1024 .f32)
    (y10 : Vec F S1x1024 .f32) (y11 y12 : Vec F S1x512 .f32) (y13 : Vec F S1024x1024 .f32)
    (W0 : HB (F := F) c hM0) (W1 : HB (F := F) c hM1) (W2 : HB (F := F) c hM2) (W : Waits sig Unit) (K : PUnit → sProp 𝕄) :
    iprop(owns (c : Thread nD τ) arg4 fullShare x0
        ∗ owns (c : Thread nD τ) arg5 fullShare x1
        ∗ owns (c : Thread nD τ) arg6 fullShare x2
        ∗ owns (c : Thread nD τ) arg7 fullShare x3
        ∗ owns (c : Thread nD τ) arg8 fullShare x4
        ∗ owns (c : Thread nD τ) arg9 fullShare x5
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ owns (c : Thread nD τ) arg15 fullShare y10
        ∗ owns (c : Thread nD τ) arg16 fullShare y11
        ∗ owns (c : Thread nD τ) arg17 fullShare y12
        ∗ owns (c : Thread nD τ) arg18 fullShare y13
        ∗ Ring.inflight (flightW c 0 rM0 hM0 W0) (Ring.sl 3 t.val) (Ring.bk 8 t.val) ∗ Ring.slotAt 2 (cellP c 0) (slotW c rM0 hM0 W0) (flightW c 0 rM0 hM0 W0) t.val 1 ∗ Ring.free (cellP c 0) (slotW c rM0 hM0 W0) (Ring.sl 3 (t.val + 2))
        ∗ Ring.inflight (flightW c 1 rM1 hM1 W1) (Ring.sl 3 t.val) (Ring.bk 8 t.val) ∗ Ring.slotAt 2 (cellP c 1) (slotW c rM1 hM1 W1) (flightW c 1 rM1 hM1 W1) t.val 1 ∗ Ring.free (cellP c 1) (slotW c rM1 hM1 W1) (Ring.sl 3 (t.val + 2))
        ∗ Ring.inflight (flightW c 2 rM2 hM2 W2) (Ring.sl 3 t.val) (Ring.bk 8 t.val) ∗ Ring.slotAt 2 (cellP c 2) (slotW c rM2 hM2 W2) (flightW c 2 rM2 hM2 W2) t.val 1 ∗ Ring.free (cellP c 2) (slotW c rM2 hM2 W2) (Ring.sl 3 (t.val + 2))
        ∗ owes (c : Thread nD τ) 0 W
        ∗ (iprop(owns (c : Thread nD τ) arg4 fullShare x0
            ∗ owns (c : Thread nD τ) arg5 fullShare x1
            ∗ owns (c : Thread nD τ) arg6 fullShare x2
            ∗ owns (c : Thread nD τ) arg7 fullShare x3
            ∗ owns (c : Thread nD τ) arg8 fullShare x4
            ∗ owns (c : Thread nD τ) arg9 fullShare x5
            ∗ owns (c : Thread nD τ) arg11 fullShare (outD x5 (rb hM0 W0 t) (rb hM1 W1 t) (rb hM2 W2 t))
            ∗ owns (c : Thread nD τ) arg12 fullShare (outP x0 x2 x4 x5 (rb hM0 W0 t) (rb hM1 W1 t) (rb hM2 W2 t))
            ∗ owns (c : Thread nD τ) arg13 fullShare (outL x1 x3 x4 x5 (rb hM0 W0 t) (rb hM1 W1 t) (rb hM2 W2 t))
            ∗ owns (c : Thread nD τ) arg14 fullShare (k0_pay6 (stepW x0 x1 x2 x3 x5 (rb hM0 W0 t) (rb hM1 W1 t) (rb hM2 W2 t) y13))
            ∗ owns (c : Thread nD τ) arg15 fullShare (stepG (rb hM0 W0 t) (rb hM2 W2 t) y10)
            ∗ owns (c : Thread nD τ) arg16 fullShare (stepP x0 x4 x5 (rb hM0 W0 t) (rb hM1 W1 t) (rb hM2 W2 t) y11)
            ∗ owns (c : Thread nD τ) arg17 fullShare (stepL x1 x4 x5 (rb hM0 W0 t) (rb hM1 W1 t) (rb hM2 W2 t) y12)
            ∗ owns (c : Thread nD τ) arg18 fullShare (stepW x0 x1 x2 x3 x5 (rb hM0 W0 t) (rb hM1 W1 t) (rb hM2 W2 t) y13)
            ∗ Ring.slotAt 2 (cellP c 0) (slotW c rM0 hM0 W0) (flightW c 0 rM0 hM0 W0) t.val 1 ∗ Ring.free (cellP c 0) (slotW c rM0 hM0 W0) (Ring.sl 3 (t.val + 2)) ∗ Ring.free (cellP c 0) (slotW c rM0 hM0 W0) (Ring.sl 3 t.val)
            ∗ Ring.slotAt 2 (cellP c 1) (slotW c rM1 hM1 W1) (flightW c 1 rM1 hM1 W1) t.val 1 ∗ Ring.free (cellP c 1) (slotW c rM1 hM1 W1) (Ring.sl 3 (t.val + 2)) ∗ Ring.free (cellP c 1) (slotW c rM1 hM1 W1) (Ring.sl 3 t.val)
            ∗ Ring.slotAt 2 (cellP c 2) (slotW c rM2 hM2 W2) (flightW c 2 rM2 hM2 W2) t.val 1 ∗ Ring.free (cellP c 2) (slotW c rM2 hM2 W2) (Ring.sl 3 (t.val + 2)) ∗ Ring.free (cellP c 2) (slotW c rM2 hM2 W2) (Ring.sl 3 t.val)
            ∗ (∃ W', owes (c : Thread nD τ) 0 W')) -∗ K ⟨⟩))
      ⊢ wp frame (wpE (defs₀ (F := F)) Variants.none c none) Set.univ
          (cc0_bwd_out (grid0.coords t) hM0 (Memref.isWhole_whole _) hM1 (Memref.isWhole_whole _) hM2 (Memref.isWhole_whole _) arg4 harg4 arg5 harg5 arg6 harg6 arg7 harg7 arg8 harg8 arg9 harg9 hM3 (Memref.isWhole_whole _) arg11 harg11 arg12 harg12 arg13 harg13 arg14 harg14 arg15 harg15 arg16 harg16 arg17 harg17 arg18 harg18 rM0 (Memref.isWhole_whole _) rM1 (Memref.isWhole_whole _) rM2 (Memref.isWhole_whole _) cc0_scratch4) K := by
  haveI : Fact (¬ (k0_cond1 (grid0.coords t) = 1#1)) := ⟨hc1⟩
  haveI : Fact (¬ (k0_cond2 (grid0.coords t) = 1#1)) := ⟨hc2⟩
  haveI : Fact (¬ (Scalar.cmpi .ne (Scalar.extui (Scalar.cmpi .eq (BitVec.ofNat 32 ((grid0.coords t) 0).val) 0#32) : BitVec 32) 0#32 = 1#1)) := ⟨hc3⟩
  haveI : Fact ((k0_cond4 (grid0.coords t) = 1#1)) := ⟨hc4⟩
  simp only [cc0_bwd_out_eq_skeleton]; unfold cc0_bwd_out_skel
  simp only [k0_part3_eq_skeleton, k0_part4_eq_skeleton, k0_part5_eq_skeleton, k0_part6_eq_skeleton, k0_part7_eq_skeleton, k0_part8_eq_skeleton]
  unfold owns Ring.free Ring.inflight
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, ⟨%f12, %hf12, H12⟩, ⟨%f13, %hf13, H13⟩, ⟨%ff0_0, Hf0_0, Hrf0_0⟩, Hro0_1, ⟨Hc0_2, ⟨%fs0_2, Hs0_2, Hw0_2⟩⟩, ⟨%ff1_0, Hf1_0, Hrf1_0⟩, Hro1_1, ⟨Hc1_2, ⟨%fs1_2, Hs1_2, Hw1_2⟩⟩, ⟨%ff2_0, Hf2_0, Hrf2_0⟩, Hro2_1, ⟨Hc2_2, ⟨%fs2_2, Hs2_2, Hw2_2⟩⟩, HW, Hk⟩
  subst hf0; subst hf1; subst hf2; subst hf3; subst hf4; subst hf5; subst hf10; subst hf11; subst hf12; subst hf13
  sl_exec (disch := first | sl_exact hc1 | sl_exact hc2 | sl_exact hc3 | sl_exact hc4)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [Hro0_1]; · iexact Hro0_1
  isplitl [Hc0_2 Hs0_2 Hw0_2]
  · isplitl [Hc0_2]; · iexact Hc0_2
    iexists _; isplitl [Hs0_2]; · iexact Hs0_2
    iexact Hw0_2
  isplitl [Hf0_0 Hf0_0_dst Hf0_0_src Hrf0_0]
  · isplitl [Hf0_0]; · iexact Hf0_0
    iexists _; isplitl [Hf0_0_dst]; · iexact Hf0_0_dst
    iapply (src_split c hM0 W0 (Ring.sl 3 t.val) (Ring.bk 8 t.val)).2; isplitl [Hf0_0_src]; · iexact Hf0_0_src
    iexact Hrf0_0
  isplitl [Hro1_1]; · iexact Hro1_1
  isplitl [Hc1_2 Hs1_2 Hw1_2]
  · isplitl [Hc1_2]; · iexact Hc1_2
    iexists _; isplitl [Hs1_2]; · iexact Hs1_2
    iexact Hw1_2
  isplitl [Hf1_0 Hf1_0_dst Hf1_0_src Hrf1_0]
  · isplitl [Hf1_0]; · iexact Hf1_0
    iexists _; isplitl [Hf1_0_dst]; · iexact Hf1_0_dst
    iapply (src_split c hM1 W1 (Ring.sl 3 t.val) (Ring.bk 8 t.val)).2; isplitl [Hf1_0_src]; · iexact Hf1_0_src
    iexact Hrf1_0
  isplitl [Hro2_1]; · iexact Hro2_1
  isplitl [Hc2_2 Hs2_2 Hw2_2]
  · isplitl [Hc2_2]; · iexact Hc2_2
    iexists _; isplitl [Hs2_2]; · iexact Hs2_2
    iexact Hw2_2
  isplitl [Hf2_0 Hf2_0_dst Hf2_0_src Hrf2_0]
  · isplitl [Hf2_0]; · iexact Hf2_0
    iexists _; isplitl [Hf2_0_dst]; · iexact Hf2_0_dst
    iapply (src_split c hM2 W2 (Ring.sl 3 t.val) (Ring.bk 8 t.val)).2; isplitl [Hf2_0_src]; · iexact Hf2_0_src
    iexact Hrf2_0
  iexists _; iexact HW
  all_goals ipureintro
  all_goals first
    | with_reducible rfl
    | (sl_unfold_words
       try (rw [load_ring0 W0 t]; rotate_left 1; exact off7 t)
       try (rw [load_ring1 W1 t]; rotate_left 1; exact off7 t)
       try (rw [load_ring2 W2 t]; rotate_left 1; exact off7 t)
       simp only [outD, outP, outL, dhb, stepG, stepP, stepL, stepW, rowP, rowL, a78, a79, rsP, nrP, mxP, rsL, nrL, slab,
         cov_first, cov_second, cov_g, cov_p, load_slab0, load_slab1, load_slab2, load_slab3, load_half0, load_half1, load_g, load_p, load_w,
         store_g, store_p, store_d, store_w, store_halves, store_glue, View.writes_nil]
       try exact congrArg k0_pay6 (cov_halves _ _ _ _ _ _ _))
    | skip

end Cert.OutKernelIdeal.Hand
-- ==== Proof.OutStep.lean ====
module

public import proofs.«01_k».proof.Proof.OutRunA
public import proofs.«01_k».proof.Proof.OutRunB
public import proofs.«01_k».proof.Proof.OutRunC
public import proofs.«01_k».proof.Proof.OutRunD
public import Idealize.ShloMosaic.Lib.Pipeline.ArrRel

@[expose] public section

set_option maxRecDepth 16384

noncomputable section

namespace Cert.OutKernelIdeal.Hand

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)

variable {F : FTy → Type} [FloatOps F]

local notation "𝕄" => MT nD τ sig Unit (Elt F) ℕ (Pipeline.UD sig nD τ) ℕ

/-! ## The body at any point -/

theorem cond_iff : ∀ t : Fin grid0.N, (k0_cond1 (grid0.coords t) = 1#1 ↔ t.val = 0) ∧ (k0_cond2 (grid0.coords t) = 1#1 ↔ t.val < 6)
    ∧ (Scalar.cmpi .ne (Scalar.extui (Scalar.cmpi .eq (BitVec.ofNat 32 ((grid0.coords t) 0).val) 0#32) : BitVec 32) 0#32 = 1#1 ↔ t.val = 0)
    ∧ (k0_cond4 (grid0.coords t) = 1#1 ↔ t.val = 7) := by decide +kernel

/-- The body at any point, for any continuation: the running sums start anew at the first point, and the weight's gradient is written at the last. -/
theorem bodyRun (c : Dev nD) (t : Fin cfg0.N)
    (arg4 : Memref sig .tc .vmem S4x512x128 .f32) (harg4 : arg4.IsWhole)
    (arg5 : Memref sig .tc .vmem S4x512x128 .f32) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S1024x1024 .bf16) (harg8 : arg8.IsWhole)
    (arg9 : Memref sig .tc .vmem S1x1024 .f32) (harg9 : arg9.IsWhole)
    (arg11 : Memref sig .tc .vmem S512x1024 .f32) (harg11 : arg11.IsWhole)
    (arg12 : Memref sig .tc .vmem S4x512x128 .f32) (harg12 : arg12.IsWhole)
    (arg13 : Memref sig .tc .vmem S4x512x128 .f32) (harg13 : arg13.IsWhole)
    (arg14 : Memref sig .tc .vmem S1024x1024 .bf16) (harg14 : arg14.IsWhole)
    (arg15 : Memref sig .tc .vmem S1x1024 .f32) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S1024x1024 .f32) (harg18 : arg18.IsWhole)
    (x0 x1 : Vec F S4x512x128 .f32) (x2 x3 : Vec F S1x512 .f32) (x4 : Vec F S1024x1024 .bf16) (x5 : Vec F S1x1024 .f32)
    (y6 : Vec F S512x1024 .f32) (y7 y8 : Vec F S4x512x128 .f32) (y9 : Vec F S1024x1024 .bf16)
    (y10 : Vec F S1x1024 .f32) (y11 y12 : Vec F S1x512 .f32) (y13 : Vec F S1024x1024 .f32)
    (W0 : HB (F := F) c hM0) (W1 : HB (F := F) c hM1) (W2 : HB (F := F) c hM2) (W : Waits sig Unit) (K : PUnit → sProp 𝕄) :
    iprop(owns (c : Thread nD τ) arg4 fullShare x0
        ∗ owns (c : Thread nD τ) arg5 fullShare x1
        ∗ owns (c : Thread nD τ) arg6 fullShare x2
        ∗ owns (c : Thread nD τ) arg7 fullShare x3
        ∗ owns (c : Thread nD τ) arg8 fullShare x4
        ∗ owns (c : Thread nD τ) arg9 fullShare x5
        ∗ owns (c : Thread nD τ) arg11 fullShare y6
        ∗ owns (c : Thread nD τ) arg12 fullShare y7
        ∗ owns (c : Thread nD τ) arg13 fullShare y8
        ∗ owns (c : Thread nD τ) arg14 fullShare y9
        ∗ owns (c : Thread nD τ) arg15 fullShare y10
        ∗ owns (c : Thread nD τ) arg16 fullShare y11
        ∗ owns (c : Thread nD τ) arg17 fullShare y12
        ∗ owns (c : Thread nD τ) arg18 fullShare y13
        ∗ ringAt c 0 rM0 hM0 W0 t.val
        ∗ ringAt c 1 rM1 hM1 W1 t.val
        ∗ ringAt c 2 rM2 hM2 W2 t.val
        ∗ owes (c : Thread nD τ) 0 W
        ∗ (iprop(owns (c : Thread nD τ) arg4 fullShare x0
            ∗ owns (c : Thread nD τ) arg5 fullShare x1
            ∗ owns (c : Thread nD τ) arg6 fullShare x2
            ∗ owns (c : Thread nD τ) arg7 fullShare x3
            ∗ owns (c : Thread nD τ) arg8 fullShare x4
            ∗ owns (c : Thread nD τ) arg9 fullShare x5
            ∗ owns (c : Thread nD τ) arg11 fullShare (outD x5 (rb hM0 W0 t) (rb hM1 W1 t) (rb hM2 W2 t))
            ∗ owns (c : Thread nD τ) arg12 fullShare (outP x0 x2 x4 x5 (rb hM0 W0 t) (rb hM1 W1 t) (rb hM2 W2 t))
            ∗ owns (c : Thread nD τ) arg13 fullShare (outL x1 x3 x4 x5 (rb hM0 W0 t) (rb hM1 W1 t) (rb hM2 W2 t))
            ∗ owns (c : Thread nD τ) arg14 fullShare (if t.val = 7 then k0_pay6 (stepW x0 x1 x2 x3 x5 (rb hM0 W0 t) (rb hM1 W1 t) (rb hM2 W2 t) (if t.val = 0 then k0_pay7 else y13)) else y9)
            ∗ owns (c : Thread nD τ) arg15 fullShare (stepG (rb hM0 W0 t) (rb hM2 W2 t) (if t.val = 0 then k0_pay8 else y10))
            ∗ owns (c : Thread nD τ) arg16 fullShare (stepP x0 x4 x5 (rb hM0 W0 t) (rb hM1 W1 t) (rb hM2 W2 t) (if t.val = 0 then k0_pay9 else y11))
            ∗ owns (c : Thread nD τ) arg17 fullShare (stepL x1 x4 x5 (rb hM0 W0 t) (rb hM1 W1 t) (rb hM2 W2 t) (if t.val = 0 then k0_pay10 else y12))
            ∗ owns (c : Thread nD τ) arg18 fullShare (stepW x0 x1 x2 x3 x5 (rb hM0 W0 t) (rb hM1 W1 t) (rb hM2 W2 t) (if t.val = 0 then k0_pay7 else y13))
            ∗ ringAt c 0 rM0 hM0 W0 (t.val + 1)
            ∗ ringAt c 1 rM1 hM1 W1 (t.val + 1)
            ∗ ringAt c 2 rM2 hM2 W2 (t.val + 1)
            ∗ (∃ W', owes (c : Thread nD τ) 0 W')) -∗ K ⟨⟩))
      ⊢ wp frame (wpE (defs₀ (F := F)) Variants.none c none) Set.univ
          (cc0_bwd_out (grid0.coords t) hM0 (Memref.isWhole_whole _) hM1 (Memref.isWhole_whole _) hM2 (Memref.isWhole_whole _) arg4 harg4 arg5 harg5 arg6 harg6 arg7 harg7 arg8 harg8 arg9 harg9 hM3 (Memref.isWhole_whole _) arg11 harg11 arg12 harg12 arg13 harg13 arg14 harg14 arg15 harg15 arg16 harg16 arg17 harg17 arg18 harg18 rM0 (Memref.isWhole_whole _) rM1 (Memref.isWhole_whole _) rM2 (Memref.isWhole_whole _) cc0_scratch4) K := by
  obtain ⟨q1, q2, q3, q4⟩ := cond_iff t
  have hN : t.val < 8 := lt_of_lt_of_eq t.isLt (show cfg0.N = 8 from N_0)
  unfold ringAt
  rw [if_neg (show ¬ t.val + 1 = 0 by omega), if_neg (show ¬ t.val + 1 = 0 by omega), if_neg (show ¬ t.val + 1 = 0 by omega)]
  by_cases h0 : t.val = 0
  · simp only [if_pos h0, if_neg (show ¬ t.val = 7 by omega)]
    rw [Ring.At₀_eq3' _ (cellP c 0) _ t.val h0 (by decide : 3 ≤ 8), Ring.At3_one' _ (cellP c 0) _ _ t.val h0 (by decide : 3 ≤ 8)]
    rw [Ring.At₀_eq3' _ (cellP c 1) _ t.val h0 (by decide : 3 ≤ 8), Ring.At3_one' _ (cellP c 1) _ _ t.val h0 (by decide : 3 ≤ 8)]
    rw [Ring.At₀_eq3' _ (cellP c 2) _ t.val h0 (by decide : 3 ≤ 8), Ring.At3_one' _ (cellP c 2) _ _ t.val h0 (by decide : 3 ≤ 8)]
    iintro ⟨H0, H1, H2, H3, H4, H5, H6, H7, H8, H9, H10, H11, H12, H13, ⟨-, Ra0, Rb0, Rc0⟩, ⟨-, Ra1, Rb1, Rc1⟩, ⟨-, Ra2, Rb2, Rc2⟩, HW, HK⟩
    iapply (runA c t _ harg4 _ harg5 _ harg6 _ harg7 _ harg8 _ harg9 _ harg11 _ harg12 _ harg13 _ harg14 _ harg15 _ harg16 _ harg17 _ harg18 (q1.2 h0) (q2.2 (by omega)) (q3.2 h0) (fun h => by have := q4.1 h; omega) h0 (by omega) x0 x1 x2 x3 x4 x5 y9 W0 W1 W2 W K)
    isplitl [H0]; iexact H0
    isplitl [H1]; iexact H1
    isplitl [H2]; iexact H2
    isplitl [H3]; iexact H3
    isplitl [H4]; iexact H4
    isplitl [H5]; iexact H5
    isplitl [H6]; iexists _; iexact H6
    isplitl [H7]; iexists _; iexact H7
    isplitl [H8]; iexists _; iexact H8
    isplitl [H9]; iexact H9
    isplitl [H10]; iexists _; iexact H10
    isplitl [H11]; iexists _; iexact H11
    isplitl [H12]; iexists _; iexact H12
    isplitl [H13]; iexists _; iexact H13
    isplitl [Ra0]; iexact Ra0
    isplitl [Rb0]; iexact Rb0
    isplitl [Rc0]; iexact Rc0
    isplitl [Ra1]; iexact Ra1
    isplitl [Rb1]; iexact Rb1
    isplitl [Rc1]; iexact Rc1
    isplitl [Ra2]; iexact Ra2
    isplitl [Rb2]; iexact Rb2
    isplitl [Rc2]; iexact Rc2
    isplitl [HW]; iexact HW
    iintro ⟨H0, H1, H2, H3, H4, H5, H6, H7, H8, H9, H10, H11, H12, H13, Ra0, Rb0, Rc0, Ra1, Rb1, Rc1, Ra2, Rb2, Rc2, HW⟩
    iapply HK
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [Ra0 Rb0 Rc0]
    · iapply (Ring.with_homes (Idealize.SL.BI.Entails.refl _))
      isplitl [Ra0]; iexact Ra0
      isplitl [Rb0]; iexact Rb0
      iexact Rc0
    isplitl [Ra1 Rb1 Rc1]
    · iapply (Ring.with_homes (Idealize.SL.BI.Entails.refl _))
      isplitl [Ra1]; iexact Ra1
      isplitl [Rb1]; iexact Rb1
      iexact Rc1
    isplitl [Ra2 Rb2 Rc2]
    · iapply (Ring.with_homes (Idealize.SL.BI.Entails.refl _))
      isplitl [Ra2]; iexact Ra2
      isplitl [Rb2]; iexact Rb2
      iexact Rc2
    iexact HW
  by_cases h2 : t.val + 2 < 8
  · have h7 : ¬ t.val = 7 := by omega
    simp only [if_neg h0, if_neg h7]
    rw [Ring.At3_here _ (cellP c 0) _ _ t.val h2, Ring.At3_next _ (cellP c 0) _ _ t.val h2, Ring.slotAt3_next0 (cellP c 0) _ _ t.val (by omega), Ring.slotAt3_next1 (cellP c 0) _ _ t.val h2]
    rw [Ring.At3_here _ (cellP c 1) _ _ t.val h2, Ring.At3_next _ (cellP c 1) _ _ t.val h2, Ring.slotAt3_next0 (cellP c 1) _ _ t.val (by omega), Ring.slotAt3_next1 (cellP c 1) _ _ t.val h2]
    rw [Ring.At3_here _ (cellP c 2) _ _ t.val h2, Ring.At3_next _ (cellP c 2) _ _ t.val h2, Ring.slotAt3_next0 (cellP c 2) _ _ t.val (by omega), Ring.slotAt3_next1 (cellP c 2) _ _ t.val h2]
    iintro ⟨H0, H1, H2, H3, H4, H5, H6, H7, H8, H9, H10, H11, H12, H13, ⟨-, Ra0, Rb0, Rc0⟩, ⟨-, Ra1, Rb1, Rc1⟩, ⟨-, Ra2, Rb2, Rc2⟩, HW, HK⟩
    iapply (runB c t _ harg4 _ harg5 _ harg6 _ harg7 _ harg8 _ harg9 _ harg11 _ harg12 _ harg13 _ harg14 _ harg15 _ harg16 _ harg17 _ harg18 (fun h => h0 (q1.1 h)) (q2.2 (by omega)) (fun h => h0 (q3.1 h)) (fun h => h7 (q4.1 h)) h2 x0 x1 x2 x3 x4 x5 y9 y10 y11 y12 y13 W0 W1 W2 W K)
    isplitl [H0]; iexact H0
    isplitl [H1]; iexact H1
    isplitl [H2]; iexact H2
    isplitl [H3]; iexact H3
    isplitl [H4]; iexact H4
    isplitl [H5]; iexact H5
    isplitl [H6]; iexists _; iexact H6
    isplitl [H7]; iexists _; iexact H7
    isplitl [H8]; iexists _; iexact H8
    isplitl [H9]; iexact H9
    isplitl [H10]; iexact H10
    isplitl [H11]; iexact H11
    isplitl [H12]; iexact H12
    isplitl [H13]; iexact H13
    isplitl [Ra0]; iexact Ra0
    isplitl [Rb0]; iexact Rb0
    isplitl [Rc0]; iexact Rc0
    isplitl [Ra1]; iexact Ra1
    isplitl [Rb1]; iexact Rb1
    isplitl [Rc1]; iexact Rc1
    isplitl [Ra2]; iexact Ra2
    isplitl [Rb2]; iexact Rb2
    isplitl [Rc2]; iexact Rc2
    isplitl [HW]; iexact HW
    iintro ⟨H0, H1, H2, H3, H4, H5, H6, H7, H8, H9, H10, H11, H12, H13, Ra0, Rb0, Rc0, Ra1, Rb1, Rc1, Ra2, Rb2, Rc2, HW⟩
    iapply HK
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [Ra0 Rb0 Rc0]
    · iapply (Ring.with_homes (Idealize.SL.BI.Entails.refl _))
      isplitl [Ra0]; iexact Ra0
      isplitl [Rb0]; iexact Rb0
      iexact Rc0
    isplitl [Ra1 Rb1 Rc1]
    · iapply (Ring.with_homes (Idealize.SL.BI.Entails.refl _))
      isplitl [Ra1]; iexact Ra1
      isplitl [Rb1]; iexact Rb1
      iexact Rc1
    isplitl [Ra2 Rb2 Rc2]
    · iapply (Ring.with_homes (Idealize.SL.BI.Entails.refl _))
      isplitl [Ra2]; iexact Ra2
      isplitl [Rb2]; iexact Rb2
      iexact Rc2
    iexact HW
  by_cases h7 : t.val = 7
  · simp only [if_neg h0, if_pos h7]
    rw [Ring.At3_here_tail _ (cellP c 0) _ _ t.val hN, Ring.At3_next_tail _ (cellP c 0) _ _ t.val (by omega) hN, Ring.slotAt3_tail_role (cellP c 0) _ _ t.val]
    rw [Ring.At3_here_tail _ (cellP c 1) _ _ t.val hN, Ring.At3_next_tail _ (cellP c 1) _ _ t.val (by omega) hN, Ring.slotAt3_tail_role (cellP c 1) _ _ t.val]
    rw [Ring.At3_here_tail _ (cellP c 2) _ _ t.val hN, Ring.At3_next_tail _ (cellP c 2) _ _ t.val (by omega) hN, Ring.slotAt3_tail_role (cellP c 2) _ _ t.val]
    iintro ⟨H0, H1, H2, H3, H4, H5, H6, H7, H8, H9, H10, H11, H12, H13, ⟨-, Ra0, Rb0, Rc0⟩, ⟨-, Ra1, Rb1, Rc1⟩, ⟨-, Ra2, Rb2, Rc2⟩, HW, HK⟩
    iapply (runD c t _ harg4 _ harg5 _ harg6 _ harg7 _ harg8 _ harg9 _ harg11 _ harg12 _ harg13 _ harg14 _ harg15 _ harg16 _ harg17 _ harg18 (fun h => h0 (q1.1 h)) (fun h => by have := q2.1 h; omega) (fun h => h0 (q3.1 h)) (q4.2 h7) x0 x1 x2 x3 x4 x5 y10 y11 y12 y13 W0 W1 W2 W K)
    isplitl [H0]; iexact H0
    isplitl [H1]; iexact H1
    isplitl [H2]; iexact H2
    isplitl [H3]; iexact H3
    isplitl [H4]; iexact H4
    isplitl [H5]; iexact H5
    isplitl [H6]; iexists _; iexact H6
    isplitl [H7]; iexists _; iexact H7
    isplitl [H8]; iexists _; iexact H8
    isplitl [H9]; iexists _; iexact H9
    isplitl [H10]; iexact H10
    isplitl [H11]; iexact H11
    isplitl [H12]; iexact H12
    isplitl [H13]; iexact H13
    isplitl [Ra0]; iexact Ra0
    isplitl [Rb0]; iexact Rb0
    isplitl [Rc0]; iexact Rc0
    isplitl [Ra1]; iexact Ra1
    isplitl [Rb1]; iexact Rb1
    isplitl [Rc1]; iexact Rc1
    isplitl [Ra2]; iexact Ra2
    isplitl [Rb2]; iexact Rb2
    isplitl [Rc2]; iexact Rc2
    isplitl [HW]; iexact HW
    iintro ⟨H0, H1, H2, H3, H4, H5, H6, H7, H8, H9, H10, H11, H12, H13, Ra0, Rb0, Rc0, Ra1, Rb1, Rc1, Ra2, Rb2, Rc2, HW⟩
    iapply HK
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [Ra0 Rb0 Rc0]
    · iapply (Ring.with_homes (Idealize.SL.BI.Entails.refl _))
      isplitl [Ra0]; iexact Ra0
      isplitl [Rb0]; iexact Rb0
      iexact Rc0
    isplitl [Ra1 Rb1 Rc1]
    · iapply (Ring.with_homes (Idealize.SL.BI.Entails.refl _))
      isplitl [Ra1]; iexact Ra1
      isplitl [Rb1]; iexact Rb1
      iexact Rc1
    isplitl [Ra2 Rb2 Rc2]
    · iapply (Ring.with_homes (Idealize.SL.BI.Entails.refl _))
      isplitl [Ra2]; iexact Ra2
      isplitl [Rb2]; iexact Rb2
      iexact Rc2
    iexact HW
  · simp only [if_neg h0, if_neg h7]
    rw [Ring.At3_here_tail _ (cellP c 0) _ _ t.val hN, Ring.At3_next_tail _ (cellP c 0) _ _ t.val (by omega) hN, Ring.slotAt3_tail_role (cellP c 0) _ _ t.val]
    rw [Ring.At3_here_tail _ (cellP c 1) _ _ t.val hN, Ring.At3_next_tail _ (cellP c 1) _ _ t.val (by omega) hN, Ring.slotAt3_tail_role (cellP c 1) _ _ t.val]
    rw [Ring.At3_here_tail _ (cellP c 2) _ _ t.val hN, Ring.At3_next_tail _ (cellP c 2) _ _ t.val (by omega) hN, Ring.slotAt3_tail_role (cellP c 2) _ _ t.val]
    iintro ⟨H0, H1, H2, H3, H4, H5, H6, H7, H8, H9, H10, H11, H12, H13, ⟨-, Ra0, Rb0, Rc0⟩, ⟨-, Ra1, Rb1, Rc1⟩, ⟨-, Ra2, Rb2, Rc2⟩, HW, HK⟩
    iapply (runC c t _ harg4 _ harg5 _ harg6 _ harg7 _ harg8 _ harg9 _ harg11 _ harg12 _ harg13 _ harg14 _ harg15 _ harg16 _ harg17 _ harg18 (fun h => h0 (q1.1 h)) (fun h => by have := q2.1 h; omega) (fun h => h0 (q3.1 h)) (fun h => h7 (q4.1 h)) x0 x1 x2 x3 x4 x5 y9 y10 y11 y12 y13 W0 W1 W2 W K)
    isplitl [H0]; iexact H0
    isplitl [H1]; iexact H1
    isplitl [H2]; iexact H2
    isplitl [H3]; iexact H3
    isplitl [H4]; iexact H4
    isplitl [H5]; iexact H5
    isplitl [H6]; iexists _; iexact H6
    isplitl [H7]; iexists _; iexact H7
    isplitl [H8]; iexists _; iexact H8
    isplitl [H9]; iexact H9
    isplitl [H10]; iexact H10
    isplitl [H11]; iexact H11
    isplitl [H12]; iexact H12
    isplitl [H13]; iexact H13
    isplitl [Ra0]; iexact Ra0
    isplitl [Rb0]; iexact Rb0
    isplitl [Rc0]; iexact Rc0
    isplitl [Ra1]; iexact Ra1
    isplitl [Rb1]; iexact Rb1
    isplitl [Rc1]; iexact Rc1
    isplitl [Ra2]; iexact Ra2
    isplitl [Rb2]; iexact Rb2
    isplitl [Rc2]; iexact Rc2
    isplitl [HW]; iexact HW
    iintro ⟨H0, H1, H2, H3, H4, H5, H6, H7, H8, H9, H10, H11, H12, H13, Ra0, Rb0, Rc0, Ra1, Rb1, Rc1, Ra2, Rb2, Rc2, HW⟩
    iapply HK
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [Ra0 Rb0 Rc0]
    · iapply (Ring.with_homes (Idealize.SL.BI.Entails.refl _))
      isplitl [Ra0]; iexact Ra0
      isplitl [Rb0]; iexact Rb0
      iexact Rc0
    isplitl [Ra1 Rb1 Rc1]
    · iapply (Ring.with_homes (Idealize.SL.BI.Entails.refl _))
      isplitl [Ra1]; iexact Ra1
      isplitl [Rb1]; iexact Rb1
      iexact Rc1
    isplitl [Ra2 Rb2 Rc2]
    · iapply (Ring.with_homes (Idealize.SL.BI.Entails.refl _))
      isplitl [Ra2]; iexact Ra2
      isplitl [Rb2]; iexact Rb2
      iexact Rc2
    iexact HW

end Cert.OutKernelIdeal.Hand
-- ==== Proof.OutFrame.lean ====
module

public import proofs.«01_k».proof.Proof.OutStep
public import Idealize.ShloMosaic.Lib.Pipeline.ArrRel

@[expose] public section

set_option maxRecDepth 16384

noncomputable section

namespace Cert.OutKernelIdeal.Hand

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Grid point number `n`. -/
def point (n : ℕ) : Fin cfg0.N := ⟨n % 8, Nat.mod_lt _ (by decide)⟩
theorem point_val (t : Fin cfg0.N) : point t.val = t := Fin.ext (Nat.mod_eq_of_lt t.isLt)

/-! ## The blocks the kernel reads, and the sums over them -/

variable (c : Dev nD)

def bYp (n : ℕ) : Vec F S4x512x128 .f32 := iblk m c 0 (point n)
def bYl (n : ℕ) : Vec F S4x512x128 .f32 := iblk m c 1 (point n)
def bGp (n : ℕ) : Vec F S1x512 .f32 := iblk m c 2 (point n)
def bGl (n : ℕ) : Vec F S1x512 .f32 := iblk m c 3 (point n)
def bW (n : ℕ) : Vec F S1024x1024 .bf16 := iblk m c 4 (point n)
def bG2 (n : ℕ) : Vec F S1x1024 .f32 := iblk m c 5 (point n)
def bDn (n : ℕ) : Vec F S1x512x1024 .f32 := rb hM0 (V m c main_arg7) (point n)
def bDh (n : ℕ) : Vec F S1x512x1024 .f32 := rb hM1 (V m c main_arg8) (point n)
def bH1 (n : ℕ) : Vec F S1x512x1024 .f32 := rb hM2 (V m c main_v26) (point n)

/-- What point `n` writes of the three gradients it completes. -/
def blkD (n : ℕ) : Vec F S512x1024 .f32 := outD (bG2 m c n) (bDn m c n) (bDh m c n) (bH1 m c n)
def blkP (n : ℕ) : Vec F S4x512x128 .f32 := outP (bYp m c n) (bGp m c n) (bW m c n) (bG2 m c n) (bDn m c n) (bDh m c n) (bH1 m c n)
def blkL (n : ℕ) : Vec F S4x512x128 .f32 := outL (bYl m c n) (bGl m c n) (bW m c n) (bG2 m c n) (bDn m c n) (bDh m c n) (bH1 m c n)

/-- The sums over the first `n` points: of the three gains' gradients and of the weight's. -/
def accG : ℕ → Vec F S1x1024 .f32
  | 0 => k0_pay8
  | n + 1 => stepG (bDn m c n) (bH1 m c n) (accG n)
def accP : ℕ → Vec F S1x512 .f32
  | 0 => k0_pay9
  | n + 1 => stepP (bYp m c n) (bW m c n) (bG2 m c n) (bDn m c n) (bDh m c n) (bH1 m c n) (accP n)
def accL : ℕ → Vec F S1x512 .f32
  | 0 => k0_pay10
  | n + 1 => stepL (bYl m c n) (bW m c n) (bG2 m c n) (bDn m c n) (bDh m c n) (bH1 m c n) (accL n)
def accW : ℕ → Vec F S1024x1024 .f32
  | 0 => k0_pay7
  | n + 1 => stepW (bYp m c n) (bYl m c n) (bGp m c n) (bGl m c n) (bG2 m c n) (bDn m c n) (bDh m c n) (bH1 m c n) (accW n)

/-! ## The proof data -/

/-- What the body leaves in a window's buffer: an input as it was; a finished gradient's block; a sum one point further; the weight's
    gradient after the last point. -/
def left (t : Fin cfg0.N) : (w : Fin cfg0.W) → (Y X : (cfg0.win w).block.Idx → Elt F (cfg0.win w).elt) → Prop
  | ⟨6, _⟩ => fun _ X => X = blkD m c t.val
  | ⟨7, _⟩ => fun _ X => X = blkP m c t.val
  | ⟨8, _⟩ => fun _ X => X = blkL m c t.val
  | ⟨9, _⟩ => fun _ X => t.val = 7 → X = k0_pay6 (accW m c 8)
  | ⟨10, _⟩ => fun _ X => X = accG m c (t.val + 1)
  | ⟨11, _⟩ => fun _ X => X = accP m c (t.val + 1)
  | ⟨12, _⟩ => fun _ X => X = accL m c (t.val + 1)
  | ⟨0, _⟩ => fun Y X => X = Y
  | ⟨1, _⟩ => fun Y X => X = Y
  | ⟨2, _⟩ => fun Y X => X = Y
  | ⟨3, _⟩ => fun Y X => X = Y
  | ⟨4, _⟩ => fun Y X => X = Y
  | ⟨5, _⟩ => fun Y X => X = Y

/-- Between two points: the register, the array the body is handed and does not touch, the three streams, and the weight's running sum. -/
def between (n : ℕ) : sProp 𝕄 :=
  iprop((∃ r, prngReg c r) ∗ hPt c hM3 (V m c main_v44) ∗ ringAt c 0 rM0 hM0 (V m c main_arg7) n ∗ ringAt c 1 rM1 hM1 (V m c main_arg8) n
    ∗ ringAt c 2 rM2 hM2 (V m c main_v26) n ∗ ∃ a, ⌜n ≠ 0 → a = accW m c n⌝ ∗ owns (c : Thread nD τ) dwM fullShare a)

def rdat : RDat τ (Elt F) Unit ℕ (Pipeline.UD sig nD τ) ℕ cfg0 c where
  A w := V m c (Pipeline.arrRef spec0 w)
  after w t := left m c t w
  Φ n := between m c n.val
  q _ := fullShare
  owed _ := 0

theorem A_eq (w : Fin cfg0.W) : (rdat m c).A w = V m c (Pipeline.arrRef spec0 w) := by dsimp only [rdat]

/-- An input window that keeps what it is handed holds its block. -/
theorem finds_input (w : Fin cfg0.W) (hw : (cfg0.win w).isOut = false) (hclip : ∀ t t' : Fin cfg0.N, (cfg0.win w).index t = (cfg0.win w).index t' →
      (cfg0.win w).clip (cfg0.grid.coords t) = (cfg0.win w).clip (cfg0.grid.coords t'))
    (hkeep : ∀ t Y X, (rdat m c).after w t Y X → X = Y) (t : Fin cfg0.N) (Y) (h : (rdat m c).Finds w t Y) :
    ∃ d, Y = (rdat m c).fetched w t d := (rdat m c).finds_in_eq_fetched w hw hclip hkeep t Y h

theorem find0 (t : Fin cfg0.N) (Y) (h : (rdat m c).Finds 0 t Y) : Y = bYp m c t.val := by
  obtain ⟨d, rfl⟩ := finds_input m c 0 rfl (fun _ _ _ => rfl) (fun _ _ _ h => h) t Y h
  unfold bYp; rw [point_val]; unfold RDat.fetched RDat.blockOf iblk; rw [A_eq]; try rfl
theorem find1 (t : Fin cfg0.N) (Y) (h : (rdat m c).Finds 1 t Y) : Y = bYl m c t.val := by
  obtain ⟨d, rfl⟩ := finds_input m c 1 rfl (fun _ _ _ => rfl) (fun _ _ _ h => h) t Y h
  unfold bYl; rw [point_val]; unfold RDat.fetched RDat.blockOf iblk; rw [A_eq]; try rfl
theorem find2 (t : Fin cfg0.N) (Y) (h : (rdat m c).Finds 2 t Y) : Y = bGp m c t.val := by
  obtain ⟨d, rfl⟩ := finds_input m c 2 rfl (fun _ _ _ => rfl) (fun _ _ _ h => h) t Y h
  unfold bGp; rw [point_val]; unfold RDat.fetched RDat.blockOf iblk; rw [A_eq]; try rfl
theorem find3 (t : Fin cfg0.N) (Y) (h : (rdat m c).Finds 3 t Y) : Y = bGl m c t.val := by
  obtain ⟨d, rfl⟩ := finds_input m c 3 rfl (fun _ _ _ => rfl) (fun _ _ _ h => h) t Y h
  unfold bGl; rw [point_val]; unfold RDat.fetched RDat.blockOf iblk; rw [A_eq]; try rfl
theorem find4 (t : Fin cfg0.N) (Y) (h : (rdat m c).Finds 4 t Y) : Y = bW m c t.val := by
  obtain ⟨d, rfl⟩ := finds_input m c 4 rfl (fun _ _ _ => rfl) (fun _ _ _ h => h) t Y h
  unfold bW; rw [point_val]; unfold RDat.fetched RDat.blockOf iblk; rw [A_eq]; try rfl
theorem find5 (t : Fin cfg0.N) (Y) (h : (rdat m c).Finds 5 t Y) : Y = bG2 m c t.val := by
  obtain ⟨d, rfl⟩ := finds_input m c 5 rfl (fun _ _ _ => rfl) (fun _ _ _ h => h) t Y h
  unfold bG2; rw [point_val]; unfold RDat.fetched RDat.blockOf iblk; rw [A_eq]; try rfl

/-- After the first point a window that is written back only at the last holds what the point before left. -/
theorem finds_acc (w : Fin cfg0.W) (hf : ∀ t : Fin cfg0.N, (cfg0.win w).fetch t = false) (hl : ∀ t : Fin cfg0.N, (cfg0.win w).flush t = true ↔ t.val % 8 = 7)
    (t : Fin cfg0.N) (h0 : t.val ≠ 0) (Y) (h : (rdat m c).Finds w t Y) :
    ∃ Y', (rdat m c).after w ⟨t.val - 1, Nat.lt_of_le_of_lt (Nat.sub_le _ _) t.isLt⟩ Y' Y := by
  have hN : t.val < 8 := lt_of_lt_of_eq t.isLt (show cfg0.N = 8 from N_0)
  rcases ((rdat m c).finds_of_pos (hf t) h0 Y).1 h with h | ⟨Y', -, h⟩
  · have := (hl _).1 h
    dsimp only at this
    omega
  · exact ⟨Y', h⟩
theorem find10 (t : Fin cfg0.N) (h0 : t.val ≠ 0) (Y) (h : (rdat m c).Finds 10 t Y) : Y = accG m c t.val := by
  obtain ⟨Y', h⟩ := finds_acc m c 10 (by decide +kernel) flush0_10 t h0 Y h
  refine (show Y = accG m c (t.val - 1 + 1) from h).trans ?_
  rw [Nat.sub_add_cancel (Nat.pos_of_ne_zero h0)]
theorem find11 (t : Fin cfg0.N) (h0 : t.val ≠ 0) (Y) (h : (rdat m c).Finds 11 t Y) : Y = accP m c t.val := by
  obtain ⟨Y', h⟩ := finds_acc m c 11 (by decide +kernel) flush0_11 t h0 Y h
  refine (show Y = accP m c (t.val - 1 + 1) from h).trans ?_
  rw [Nat.sub_add_cancel (Nat.pos_of_ne_zero h0)]
theorem find12 (t : Fin cfg0.N) (h0 : t.val ≠ 0) (Y) (h : (rdat m c).Finds 12 t Y) : Y = accL m c t.val := by
  obtain ⟨Y', h⟩ := finds_acc m c 12 (by decide +kernel) flush0_12 t h0 Y h
  refine (show Y = accL m c (t.val - 1 + 1) from h).trans ?_
  rw [Nat.sub_add_cancel (Nat.pos_of_ne_zero h0)]

/-! ## The body obligation -/

theorem defs₀_row (t : Fin cfg0.N) : defs₀ (F := F) .tc cfg0.body (cfg0.bodyArgs t (cfg0.slots t)) = bodyAt0 t := by
  unfold defs₀; rw [Defs.onTc_tc]

theorem body_obligation : (rdat (F := F) m c).BodyObligation (defs₀ (F := F)) Variants.none () Set.univ := fun t Y hY => by
  have e0 := find0 m c t _ (hY 0)
  have e1 := find1 m c t _ (hY 1)
  have e2 := find2 m c t _ (hY 2)
  have e3 := find3 m c t _ (hY 3)
  have e4 := find4 m c t _ (hY 4)
  have e5 := find5 m c t _ (hY 5)
  have d0 : rb hM0 (V m c main_arg7) t = bDn m c t.val := by unfold bDn; rw [point_val]
  have d1 : rb hM1 (V m c main_arg8) t = bDh m c t.val := by unfold bDh; rw [point_val]
  have d2 : rb hM2 (V m c main_v26) t = bH1 m c t.val := by unfold bH1; rw [point_val]
  have sG : (if t.val = 0 then k0_pay8 else Y 10) = accG m c t.val := by
    by_cases h : t.val = 0
    · rw [if_pos h, h]; rfl
    · rw [if_neg h]; exact find10 m c t h _ (hY 10)
  have sP : (if t.val = 0 then k0_pay9 else Y 11) = accP m c t.val := by
    by_cases h : t.val = 0
    · rw [if_pos h, h]; rfl
    · rw [if_neg h]; exact find11 m c t h _ (hY 11)
  have sL : (if t.val = 0 then k0_pay10 else Y 12) = accL m c t.val := by
    by_cases h : t.val = 0
    · rw [if_pos h, h]; rfl
    · rw [if_neg h]; exact find12 m c t h _ (hY 12)
  rw [bigSep_W0, bigSep_W0, defs₀_row]
  rw [show (rdat m c).Φ t.castSucc = between m c t.val from rfl, show (rdat m c).Φ t.succ = between m c (t.val + 1) from rfl]
  unfold RDat.owesAt Pipeline.owesWithin
  rw [show (rdat m c).owed t.castSucc = 0 from rfl, show (rdat m c).owed t.succ = 0 from rfl]
  unfold between
  iintro ⟨⟨Hg, Hh, R0, R1, R2, ⟨%a, %ha, HA⟩⟩, ⟨%W, -, HW⟩, H0, H1, H2, H3, H4, H5, H6, H7, H8, H9, H10, H11, H12⟩
  have sW : (if t.val = 0 then k0_pay7 else a) = accW m c t.val := by
    by_cases h : t.val = 0
    · rw [if_pos h, h]; rfl
    · rw [if_neg h]; exact ha h
  iapply (bodyRun c t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12))
    dwM (Memref.isWhole_whole _) (Y 0) (Y 1) (Y 2) (Y 3) (Y 4) (Y 5) (Y 6) (Y 7) (Y 8) (Y 9) (Y 10) (Y 11) (Y 12) a
    (V m c main_arg7) (V m c main_arg8) (V m c main_v26) W _)
  isplitl [H0]; iexact H0
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [HA]; iexact HA
  isplitl [R0]; iexact R0
  isplitl [R1]; iexact R1
  isplitl [R2]; iexact R2
  isplitl [HW]; iexact HW
  iintro ⟨H0, H1, H2, H3, H4, H5, H6, H7, H8, H9, H10, H11, H12, HA, R0, R1, R2, ⟨%W', HW⟩⟩
  isplitl [Hg Hh R0 R1 R2 HA]
  · isplitl [Hg]; iexact Hg
    isplitl [Hh]; iexact Hh
    isplitl [R0]; iexact R0
    isplitl [R1]; iexact R1
    isplitl [R2]; iexact R2
    iexists _; isplitr; swap; iexact HA; ipureintro
    intro _
    rw [e0, e1, e2, e3, e5, d0, d1, d2, sW]; rfl
  isplitl [HW]
  · iexists W'; isplitr; · ipureintro; exact fun _ _ => Or.inl trivial
    iexact HW
  isplitl [H0]; iexists _; isplitr; swap; iexact H0; ipureintro; exact rfl
  isplitl [H1]; iexists _; isplitr; swap; iexact H1; ipureintro; exact rfl
  isplitl [H2]; iexists _; isplitr; swap; iexact H2; ipureintro; exact rfl
  isplitl [H3]; iexists _; isplitr; swap; iexact H3; ipureintro; exact rfl
  isplitl [H4]; iexists _; isplitr; swap; iexact H4; ipureintro; exact rfl
  isplitl [H5]; iexists _; isplitr; swap; iexact H5; ipureintro; exact rfl
  isplitl [H6]; iexists _; isplitr; swap; iexact H6; ipureintro
  · show _ = blkD m c t.val
    rw [e5, d0, d1, d2]; rfl
  isplitl [H7]; iexists _; isplitr; swap; iexact H7; ipureintro
  · show _ = blkP m c t.val
    rw [e0, e2, e4, e5, d0, d1, d2]; rfl
  isplitl [H8]; iexists _; isplitr; swap; iexact H8; ipureintro
  · show _ = blkL m c t.val
    rw [e1, e3, e4, e5, d0, d1, d2]; rfl
  isplitl [H9]; iexists _; isplitr; swap; iexact H9; ipureintro
  · intro h7
    rw [if_pos h7, e0, e1, e2, e3, e5, d0, d1, d2, sW, h7]; rfl
  isplitl [H10]; iexists _; isplitr; swap; iexact H10; ipureintro
  · show _ = accG m c (t.val + 1)
    rw [d0, d2, sG]; rfl
  isplitl [H11]; iexists _; isplitr; swap; iexact H11; ipureintro
  · show _ = accP m c (t.val + 1)
    rw [e0, e4, e5, d0, d1, d2, sP]; rfl
  iexists _; isplitr; swap; iexact H12; ipureintro
  · show _ = accL m c (t.val + 1)
    rw [e1, e4, e5, d0, d1, d2, sL]; rfl

/-! ## The launch -/

theorem enter : Pipeline.ΦD osem0 spec0 H0 (V m) c ⊢ (rdat m c).Φ 0 := by
  rw [PhiD0_eq, show (rdat m c).Φ 0 = between m c 0 from rfl]
  unfold between
  iintro ⟨⟨⟨%a, HA⟩, S0, S1, S2⟩, Hg, ⟨Q00, Q10, Q20, Q01, Q11, Q21, Q02, Q12, Q22⟩, ⟨Hh0, Hh1, Hh2, Hh3⟩⟩
  isplitl [Hg]; iexact Hg
  isplitl [Hh3]; iexact Hh3
  isplitl [S0 Q00 Q01 Q02 Hh0]
  · iapply (ring_in (F := F) c 0 rM0 hM0 _ (slots0_in c))
    isplitl [S0]; iexact S0
    isplitl [Q00 Q01 Q02]
    · isplitl [Q00]; iexact Q00
      isplitl [Q01]; iexact Q01
      iexact Q02
    iexact Hh0
  isplitl [S1 Q10 Q11 Q12 Hh1]
  · iapply (ring_in (F := F) c 1 rM1 hM1 _ (slots1_in c))
    isplitl [S1]; iexact S1
    isplitl [Q10 Q11 Q12]
    · isplitl [Q10]; iexact Q10
      isplitl [Q11]; iexact Q11
      iexact Q12
    iexact Hh1
  isplitl [S2 Q20 Q21 Q22 Hh2]
  · iapply (ring_in (F := F) c 2 rM2 hM2 _ (slots2_in c))
    isplitl [S2]; iexact S2
    isplitl [Q20 Q21 Q22]
    · isplitl [Q20]; iexact Q20
      isplitl [Q21]; iexact Q21
      iexact Q22
    iexact Hh2
  iexists a
  isplitr
  · ipureintro; exact fun h => absurd rfl h
  iexact HA

theorem leave : (rdat m c).Φ (Fin.last cfg0.N) ⊢ Pipeline.ΦD osem0 spec0 H0 (V m) c := by
  rw [PhiD0_eq, show (rdat m c).Φ (Fin.last cfg0.N) = between m c 8 from rfl]
  unfold between
  iintro ⟨Hg, Hh3, R0, R1, R2, ⟨%a, -, HA⟩⟩
  ihave X0 := (ring_out (F := F) c 0 rM0 hM0 _ (slots0_out c)) $$ R0
  icases X0 with ⟨S0, ⟨Q00, Q01, Q02⟩, Hh0⟩
  ihave X1 := (ring_out (F := F) c 1 rM1 hM1 _ (slots1_out c)) $$ R1
  icases X1 with ⟨S1, ⟨Q10, Q11, Q12⟩, Hh1⟩
  ihave X2 := (ring_out (F := F) c 2 rM2 hM2 _ (slots2_out c)) $$ R2
  icases X2 with ⟨S2, ⟨Q20, Q21, Q22⟩, Hh2⟩
  isplitl [HA S0 S1 S2]
  · isplitl [HA]; iexists a; iexact HA
    isplitl [S0]; iexact S0
    isplitl [S1]; iexact S1
    iexact S2
  isplitl [Hg]; iexact Hg
  isplitl [Q00 Q10 Q20 Q01 Q11 Q21 Q02 Q12 Q22]
  · isplitl [Q00]; iexact Q00
    isplitl [Q10]; iexact Q10
    isplitl [Q20]; iexact Q20
    isplitl [Q01]; iexact Q01
    isplitl [Q11]; iexact Q11
    isplitl [Q21]; iexact Q21
    isplitl [Q02]; iexact Q02
    isplitl [Q12]; iexact Q12
    iexact Q22
  isplitl [Hh0]; iexact Hh0
  isplitl [Hh1]; iexact Hh1
  isplitl [Hh2]; iexact Hh2
  iexact Hh3

set_option maxHeartbeats 800000 in
theorem prefix_run : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- From any memory with zero counters every weakly fair execution terminates, every output array being what its write-backs leave, every
    other buffer as the region found it, and every counter at zero. -/
theorem run_main :
    θ_run defs (onTc (τ := τ) (main (F := F))) (s₀ m ρ)
      (fun r => Pipeline.RDat.FramePost (cfgs 0) (fun c => rdat m c) (V m) r ∧ r.2.sem = fun _ => 0) :=
  Pipeline.RDat.θ_run_frame_dma (Q' := _) cfgs (0 : Fin 1) launch0 osem0 defs₀ Variants.none (fun c => rdat m c) ownSemFacts0 H0 H0_sub m ρ main
    (hbody := fun c => body_obligation m c) (hshare := fun c => (rdat m c).share_full fun _ => rfl)
    (howed := fun _ _ => rfl) (V := V m) (hmain := prefix_run m) (hA := A_eq m)
    (hin := enter m) (hout := leave m) (hQ' := fun _ h => h)

variable {m}

/-- After the run the arguments hold what they held at launch. -/
theorem args_kept {r : PUnit × MemSt nD τ sig (Elt F)} (h : Pipeline.RDat.FramePost (cfgs 0) (fun c => rdat m c) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (Pipeline.RDat.FramePost.arr_in h c 2 rfl).trans ((A_eq m c 2).trans (V_main_arg3 m c)),
    (Pipeline.RDat.FramePost.arr_in h c 3 rfl).trans ((A_eq m c 3).trans (V_main_arg4 m c)),
    ((h c).2 main_arg5 (Pipeline.mem_restRefs_of main_arg5 (by decide) (by decide))).trans (V_main_arg5 m c),
    (Pipeline.RDat.FramePost.arr_in h c 5 rfl).trans ((A_eq m c 5).trans (V_main_arg6 m c)),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

end Cert.OutKernelIdeal.Hand
-- ==== Proof.OutBlocks.lean ====
module

public import proofs.«01_k».proof.Proof.OutMath
public import proofs.«01_k».proof.Proof.OutFrame
public import Idealize.ShloMosaic.Lib.Pointwise
public import Idealize.ShloMosaic.Lib.StableHlo.ReadAt
public import Idealize.ShloMosaic.Lib.Pipeline.ValueKit

@[expose] public section

set_option maxRecDepth 16384
set_option maxHeartbeats 1000000

noncomputable section

/-!
# The arguments of the output projection's gradient kernel, and the blocks it reads
-/

namespace Cert.OutKernelIdeal.Hand

open Cert.OutKernelIdeal Cert.OutKernelIdeal.Gen
open Idealize.ShloMosaic Idealize.ShloMosaic.TcCoe Idealize.ShloMosaic.Tactic
open Idealize.ShloMosaic.Pipeline (RDat)

section Value
variable (m : (ℓ : Loc nD τ sig) → Buf (Elt Ideal) ℓ) (c : Dev nD)

/-! ## The arguments -/

def aX (r : Fin 4096) (k : Fin 1024) : EReal := m ((c : Thread nD τ).loc main_arg0) (ix2 r k)
def aYp (r : Fin 4096) (j : Fin 512) : EReal := m ((c : Thread nD τ).loc main_arg1) (ix2 r j)
def aYl (r : Fin 4096) (j : Fin 512) : EReal := m ((c : Thread nD τ).loc main_arg2) (ix2 r j)
def aGp (j : Fin 512) : EReal := m ((c : Thread nD τ).loc main_arg3) (ix2 0 j)
def aGl (j : Fin 512) : EReal := m ((c : Thread nD τ).loc main_arg4) (ix2 0 j)
def aW (j : Fin 1024) (k : Fin 1024) : EReal := m ((c : Thread nD τ).loc main_arg5) (ix2 j k)
def aG2 (k : Fin 1024) : EReal := m ((c : Thread nD τ).loc main_arg6) (ix2 0 k)
def aDn (r : Fin 4096) (k : Fin 1024) : EReal := m ((c : Thread nD τ).loc main_arg7) (ix2 r k)
def aDh (r : Fin 4096) (k : Fin 1024) : EReal := m ((c : Thread nD τ).loc main_arg8) (ix2 r k)
/-- The residual after the projection, its gradient, and the gradients at the two normed halves. -/
def H1 (r : Fin 4096) (k : Fin 1024) : EReal := Proj.h1 (aX m c) (aYp m c) (aYl m c) (aGp m c) (aGl m c) (aW m c) r k
def D1 (r : Fin 4096) (k : Fin 1024) : EReal := Out.dh1 (H1 m c) (aG2 m c) (aDn m c) (aDh m c) r k
def Up (r : Fin 4096) (j : Fin 512) : EReal := Out.dm (D1 m c) (aW m c) Proj.lo r j
def Ul (r : Fin 4096) (j : Fin 512) : EReal := Out.dm (D1 m c) (aW m c) Proj.hi r j

theorem V_gp (k : Fin 512) : V m c main_arg3 (ix2 0 k) = aGp m c k := by
  unfold V; after_reads_at; rfl
theorem V_gl (k : Fin 512) : V m c main_arg4 (ix2 0 k) = aGl m c k := by
  unfold V; after_reads_at; rfl
theorem V_g2 (k : Fin 1024) : V m c main_arg6 (ix2 0 k) = aG2 m c k := by
  unfold V; after_reads_at; rfl
theorem V_dn (r : Fin 4096) (k : Fin 1024) : V m c main_arg7 (ix2 r k) = aDn m c r k := by
  unfold V; after_reads_at; rfl
theorem V_dh (r : Fin 4096) (k : Fin 1024) : V m c main_arg8 (ix2 r k) = aDh m c r k := by
  unfold V; after_reads_at; rfl
theorem V_w (j : Fin 1024) (k : Fin 1024) : V m c main_v43 (ix2 j k) = aW m c j k := by
  unfold V; after_reads_at; rfl
theorem V_yp (s : Fin 4) (r : Fin 4096) (l : Fin 128) : V m c main_v40 (ix3 s r l) = aYp m c r (Out.lane s l) := by
  unfold V; after_reads_at
  pointwise
  exact congrArg (fun j => aYp m c r j) (Fin.ext (by dsimp [Out.lane]; omega))
theorem V_yl (s : Fin 4) (r : Fin 4096) (l : Fin 128) : V m c main_v42 (ix3 s r l) = aYl m c r (Out.lane s l) := by
  unfold V; after_reads_at
  pointwise
  exact congrArg (fun j => aYl m c r j) (Fin.ext (by dsimp [Out.lane]; omega))
theorem mixed_p (r : Fin 4096) (j : Fin 512) :
    StableHlo.upto hostOps0 (fun b => m (c, b)) 30 (no_index (Proc.tc.devRef main_v11)) (ix2 r j) = Proj.nrm 512 (aYp m c r) (aGp m c) j := by
  after_reads_at
  try simp only [Rms.lit_eps, Rms.lit_512]
  rfl
theorem mixed_l (r : Fin 4096) (j : Fin 512) :
    StableHlo.upto hostOps0 (fun b => m (c, b)) 30 (no_index (Proc.tc.devRef main_v23)) (ix2 r j) = Proj.nrm 512 (aYl m c r) (aGl m c) j := by
  after_reads_at
  try simp only [Rms.lit_eps, Rms.lit_512]
  rfl
theorem V_h1 (r : Fin 4096) (k : Fin 1024) : V m c main_v26 (ix2 r k) = H1 m c r k := by
  unfold V; after_reads_at
  pointwise
  simp only [mixed_p, mixed_l]
  exact (add_assoc (G := EReal) _ _ _).symm

/-! ## The blocks -/

theorem index_slabs : ∀ t : Fin grid0.N, win0_0.index t = ![0, t.val, 0] ∧ win0_1.index t = ![0, t.val, 0] := by decide +kernel
theorem index_fixed : ∀ t : Fin grid0.N, win0_2.index t = ![0, 0] ∧ win0_3.index t = ![0, 0] ∧ win0_4.index t = ![0, 0] ∧ win0_5.index t = ![0, 0] := by
  decide +kernel

/-- Row `r` of the token block of point `t`. -/
def row (t : Fin 8) (r : Fin 512) : Fin 4096 := ⟨512 * t.val + r.val, by omega⟩
theorem row_point (n : ℕ) (r : Fin 512) : row (point n) r = Rms.rowOf n r := rfl

theorem bYp_at (n : ℕ) (s : Fin 4) (r : Fin 512) (l : Fin 128) : bYp m c n (ix3 s r l) = aYp m c (Rms.rowOf n r) (Out.lane s l) := by
  rw [← row_point, ← V_yp]; unfold bYp
  generalize point n = t
  unfold row
  blk_ext [iblk, (index_slabs t).1]
theorem bYl_at (n : ℕ) (s : Fin 4) (r : Fin 512) (l : Fin 128) : bYl m c n (ix3 s r l) = aYl m c (Rms.rowOf n r) (Out.lane s l) := by
  rw [← row_point, ← V_yl]; unfold bYl
  generalize point n = t
  unfold row
  blk_ext [iblk, (index_slabs t).2]
theorem bGp_at (n : ℕ) (k : Fin 512) : bGp m c n (ix2 0 k) = aGp m c k := by
  rw [← V_gp]; unfold bGp
  generalize point n = t
  blk_ext [iblk, (index_fixed t).1]
theorem bGl_at (n : ℕ) (k : Fin 512) : bGl m c n (ix2 0 k) = aGl m c k := by
  rw [← V_gl]; unfold bGl
  generalize point n = t
  blk_ext [iblk, (index_fixed t).2.1]
theorem bG2_at (n : ℕ) (k : Fin 1024) : bG2 m c n (ix2 0 k) = aG2 m c k := by
  rw [← V_g2]; unfold bG2
  generalize point n = t
  blk_ext [iblk, (index_fixed t).2.2.2]
theorem bW_at (n : ℕ) (j k : Fin 1024) : bW m c n (ix2 j k) = aW m c j k := by
  rw [← V_w]; unfold bW
  generalize point n = t
  blk_ext [iblk, (index_fixed t).2.2.1]
theorem srcB_at (H : Memref sig .tc .hbm S4096x1024 .f32) (W : HB (F := Ideal) c H) (t : Fin 8) (r : Fin 512) (k : Fin 1024) :
    (srcB H t).view.read (Elt Ideal) W (ix2 r k) = H.view.read (Elt Ideal) W (ix2 ⟨512 * t.val + r.val, by omega⟩ k) := by
  show H.view.read (Elt Ideal) W _ = _
  refine congrArg (H.view.read (Elt Ideal) W) (funext fun i => Fin.ext ?_)
  fin_cases i
  · show 512 * t.val + 1 * r.val = 512 * t.val + r.val; omega
  · show 0 + 1 * k.val = k.val; omega
theorem rb0_at (n : ℕ) (W : HB (F := Ideal) c hM0) (r : Fin 512) (k : Fin 1024) : rb hM0 W (point n) (ix3 0 r k) = W (ix2 (Rms.rowOf n r) k) := by
  rw [← row_point]
  have ht : (Ring.bk 8 (point n).val) = point n := Fin.ext (Nat.mod_mod n 8)
  unfold rb
  rw [ht]
  generalize point n = t
  unfold row
  pointwise
  exact srcB_at c _ W t r k
theorem rb1_at (n : ℕ) (W : HB (F := Ideal) c hM1) (r : Fin 512) (k : Fin 1024) : rb hM1 W (point n) (ix3 0 r k) = W (ix2 (Rms.rowOf n r) k) := by
  rw [← row_point]
  have ht : (Ring.bk 8 (point n).val) = point n := Fin.ext (Nat.mod_mod n 8)
  unfold rb
  rw [ht]
  generalize point n = t
  unfold row
  pointwise
  exact srcB_at c _ W t r k
theorem rb2_at (n : ℕ) (W : HB (F := Ideal) c hM2) (r : Fin 512) (k : Fin 1024) : rb hM2 W (point n) (ix3 0 r k) = W (ix2 (Rms.rowOf n r) k) := by
  rw [← row_point]
  have ht : (Ring.bk 8 (point n).val) = point n := Fin.ext (Nat.mod_mod n 8)
  unfold rb
  rw [ht]
  generalize point n = t
  unfold row
  pointwise
  exact srcB_at c _ W t r k
theorem bDn_at (n : ℕ) (r : Fin 512) (k : Fin 1024) : bDn m c n (ix3 0 r k) = aDn m c (Rms.rowOf n r) k := (rb0_at c n _ r k).trans (V_dn m c _ k)
theorem bDh_at (n : ℕ) (r : Fin 512) (k : Fin 1024) : bDh m c n (ix3 0 r k) = aDh m c (Rms.rowOf n r) k := (rb1_at c n _ r k).trans (V_dh m c _ k)
theorem bH1_at (n : ℕ) (r : Fin 512) (k : Fin 1024) : bH1 m c n (ix3 0 r k) = H1 m c (Rms.rowOf n r) k := (rb2_at c n _ r k).trans (V_h1 m c _ k)
end Value

end Cert.OutKernelIdeal.Hand
-- ==== Proof.OutStages.lean ====
module

public import proofs.«01_k».proof.Proof.OutMath
public import proofs.«01_k».proof.Proof.OutFrame
public import Idealize.ShloMosaic.Lib.Pointwise
public import Idealize.ShloMosaic.Lib.StableHlo.ReadAt
public import Idealize.ShloMosaic.Lib.Pipeline.ValueKit

@[expose] public section

set_option maxRecDepth 16384
set_option maxHeartbeats 1000000

noncomputable section

/-!
# The stages of one block of the output projection's gradient kernel
-/

namespace Cert.OutKernelIdeal.Hand

open Cert.OutKernelIdeal Cert.OutKernelIdeal.Gen
open Idealize.ShloMosaic Idealize.ShloMosaic.TcCoe Idealize.ShloMosaic.Tactic
open Idealize.ShloMosaic.Pipeline (RDat)

/-! ## The stages of one block -/

section At
variable (x : Vec Ideal S4x512x128 .f32) (g : Vec Ideal S1x512 .f32) (w : Vec Ideal S1024x1024 .bf16) (g2 : Vec Ideal S1x1024 .f32) (dn dh h1 : Vec Ideal S1x512x1024 .f32)
  (a : Vec Ideal S1024x1024 .f32)
  (Y : Fin 512 → Fin 512 → EReal) (G : Fin 512 → EReal) (W : Fin 1024 → Fin 1024 → EReal) (G2 : Fin 1024 → EReal) (DN DH H : Fin 512 → Fin 1024 → EReal)

theorem slab_at (s : Fin 4) (r : Fin 512) (l : Fin 128) : slab x s (ix3 0 r l) = x (ix3 s r l) := by
  refine congrArg x (funext fun i => Fin.ext ?_)
  fin_cases i
  · show s.val + 1 * 0 = s.val; omega
  · show 0 + 1 * r.val = r.val; omega
  · show 0 + 1 * l.val = l.val; omega
theorem half_lo {e : EltTy} (x : Vec Ideal S1024x1024 e) (j : Fin 512) (k : Fin 1024) : half x 0 (ix2 j k) = x (ix2 (Proj.lo j) k) := by
  refine congrArg x (funext fun i => Fin.ext ?_)
  fin_cases i
  · show 512 * 0 + 1 * j.val = j.val; omega
  · show 0 + 1 * k.val = k.val; omega
theorem half_hi {e : EltTy} (x : Vec Ideal S1024x1024 e) (j : Fin 512) (k : Fin 1024) : half x 1 (ix2 j k) = x (ix2 (Proj.hi j) k) := by
  refine congrArg x (funext fun i => Fin.ext ?_)
  fin_cases i
  · show 512 * 1 + 1 * j.val = 512 + j.val; omega
  · show 0 + 1 * k.val = k.val; omega
theorem put_lo (p q : Vec Ideal S512x1024 .f32) (j : Fin 512) (k : Fin 1024) : putHalf (putHalf a 0 p) 1 q (ix2 (Proj.lo j) k) = p (ix2 j k) := by
  have hj := j.isLt
  have hk := k.isLt
  unfold putHalf VecWindow.put
  rw [dif_neg fun h => by have := (h 0).1; change 512 * 1 ≤ j.val at this; omega, dif_pos fun i => by
    fin_cases i
    · show 512 * 0 ≤ j.val ∧ j.val < 512 * 0 + 512; omega
    · show 0 ≤ k.val ∧ k.val < 0 + 1024; omega]
  refine congrArg p (funext fun i => Fin.ext ?_)
  fin_cases i
  · show j.val - 512 * 0 = j.val; omega
  · show k.val - 0 = k.val; omega
theorem put_hi (p q : Vec Ideal S512x1024 .f32) (j : Fin 512) (k : Fin 1024) : putHalf (putHalf a 0 p) 1 q (ix2 (Proj.hi j) k) = q (ix2 j k) := by
  have hj := j.isLt
  have hk := k.isLt
  unfold putHalf VecWindow.put
  rw [dif_pos fun i => by
    fin_cases i
    · show 512 * 1 ≤ 512 + j.val ∧ 512 + j.val < 512 * 1 + 512; omega
    · show 0 ≤ k.val ∧ k.val < 0 + 1024; omega]
  refine congrArg q (funext fun i => Fin.ext ?_)
  fin_cases i
  · show 512 + j.val - 512 * 1 = j.val; omega
  · show k.val - 0 = k.val; omega

section Half
variable (hx : ∀ s r l, x (ix3 s r l) = Y r (Out.lane s l)) (hg : ∀ j, g (ix2 0 j) = G j)
include hx

theorem catP_at (r j : Fin 512) : k0_pay21 (k0_pay19 (slab x 0)) (k0_pay20 (slab x 1)) (slab x 2) (slab x 3) (ix2 r j) = Y r j := by
  have h0 := fun r l => (slab_at x 0 r l).trans (hx 0 r l)
  have h1 := fun r l => (slab_at x 1 r l).trans (hx 1 r l)
  have h2 := fun r l => (slab_at x 2 r l).trans (hx 2 r l)
  have h3 := fun r l => (slab_at x 3 r l).trans (hx 3 r l)
  generalize slab x 0 = p0 at *
  generalize slab x 1 = p1 at *
  generalize slab x 2 = p2 at *
  generalize slab x 3 = p3 at *
  unfold k0_pay21 k0_pay19 k0_pay20
  pointwise
  simp only [h0, h1, h2, h3]
  split_ifs <;> exact congrArg (fun j => Y r j) (Fin.ext (by dsimp [Out.lane] <;> omega))
theorem catL_at (r j : Fin 512) : k0_pay25 (slab x 0) (slab x 1) (slab x 2) (slab x 3) (ix2 r j) = Y r j := by
  have e : k0_pay25 (slab x 0) (slab x 1) (slab x 2) (slab x 3) = k0_pay21 (k0_pay19 (slab x 0)) (k0_pay20 (slab x 1)) (slab x 2) (slab x 3) := rfl
  exact (congrFun e _).trans (catP_at x Y hx r j)
theorem rsP_at (r : Fin 512) : rsP x (ix2 r 0) = Out.rs 512 (Y r) := by
  unfold rsP k0_pay22
  pointwise
  simp only [catP_at x Y hx, Rms.lit_eps, Rms.lit_512]
  rfl
theorem rsL_at (r : Fin 512) : rsL x (ix2 r 0) = Out.rs 512 (Y r) := by
  unfold rsL k0_pay26
  pointwise
  simp only [catL_at x Y hx, Rms.lit_eps, Rms.lit_512]
  rfl
theorem nrP_at (r j : Fin 512) : nrP x (ix2 r j) = Y r j * Out.rs 512 (Y r) := by
  have e := rsP_at x Y hx r
  unfold rsP at e
  unfold nrP k0_pay23
  pointwise
  rw [catP_at x Y hx, e]
theorem nrL_at (r j : Fin 512) : nrL x (ix2 r j) = Y r j * Out.rs 512 (Y r) := by
  have e := rsL_at x Y hx r
  unfold rsL at e
  unfold nrL k0_pay27
  pointwise
  rw [catL_at x Y hx, e]
include hg
theorem mxP_at (r j : Fin 512) : mxP x g (ix2 r j) = Proj.nrm 512 (Y r) G j := by
  have e := nrP_at x Y hx r j
  unfold nrP at e
  unfold mxP k0_pay24
  pointwise
  rw [e, hg]
  rfl
end Half

section Side
variable (hg : ∀ k, g2 (ix2 0 k) = G2 k) (hn : ∀ r k, dn (ix3 0 r k) = DN r k) (hd : ∀ r k, dh (ix3 0 r k) = DH r k) (hh : ∀ r k, h1 (ix3 0 r k) = H r k)
include hh

theorem rs2_at (r : Fin 512) : k0_pay12 h1 (ix2 r 0) = Out.rs 1024 (H r) := by
  unfold k0_pay12 k0_pay11
  pointwise
  simp only [hh, Rms.lit_eps, Rms.lit_1024]
  rfl
theorem xh2_at (r : Fin 512) (k : Fin 1024) : k0_pay13 h1 (ix2 r k) = H r k * Out.rs 1024 (H r) := by
  unfold k0_pay13 k0_pay11
  pointwise
  rw [hh, rs2_at h1 H hh]
include hn
theorem stepG_at (b : Vec Ideal S1x1024 .f32) (k : Fin 1024) : stepG dn h1 b (ix2 0 k) = b (ix2 0 k) + ∑ r, DN r k * (H r k * Out.rs 1024 (H r)) := by
  unfold stepG k0_pay15 k0_pay14
  pointwise
  simp only [hn, xh2_at h1 H hh]
include hg hd
theorem side_at (r : Fin 512) (k : Fin 1024) :
    k0_pay16 g2 (k0_pay12 h1) (k0_pay13 h1) dn dh (ix2 r k) = DH r k + Out.back 1024 (H r) (fun j => DN r j * G2 j) k := by
  unfold k0_pay16 k0_pay14
  pointwise
  simp only [hn, hg, hd, rs2_at h1 H hh, xh2_at h1 H hh, Rms.lit_1024]
  rfl
theorem outD_at (r : Fin 512) (k : Fin 1024) : outD g2 dn dh h1 (ix2 r k) = DH r k + Out.back 1024 (H r) (fun j => DN r j * G2 j) k := by
  rw [← side_at g2 dn dh h1 G2 DN DH H hg hn hd hh r k]
  unfold outD k0_pay17
  generalize k0_pay16 g2 (k0_pay12 h1) (k0_pay13 h1) dn dh = s
  pointwise
theorem dhb_at (r : Fin 512) (k : Fin 1024) : dhb g2 dn dh h1 (ix2 r k) = DH r k + Out.back 1024 (H r) (fun j => DN r j * G2 j) k := by
  rw [← side_at g2 dn dh h1 G2 DN DH H hg hn hd hh r k]
  unfold dhb k0_pay18
  generalize k0_pay16 g2 (k0_pay12 h1) (k0_pay13 h1) dn dh = s
  pointwise
end Side

section Prod
variable (d : FVec Ideal S512x1024 .bf16) (D : Fin 512 → Fin 1024 → EReal) (hd : ∀ r k, d (ix2 r k) = D r k) (q : Vec Ideal S512x1024 .bf16) (Q : Fin 512 → Fin 1024 → EReal) (hq : ∀ j k, q (ix2 j k) = Q j k)
  (rv : FVec Ideal S512x1 .f32) (v : FVec Ideal S512x512 .f32) (hr : ∀ r, rv (ix2 r 0) = Out.rs 512 (Y r)) (hv : ∀ r j, v (ix2 r j) = Y r j * Out.rs 512 (Y r))
  (hg : ∀ j, g (ix2 0 j) = G j)
include hd

theorem addP_at (p : FVec Ideal S512x512 .f32) (P : Fin 512 → Fin 512 → EReal) (hp : ∀ r j, p (ix2 r j) = P r j) (b : Vec Ideal S512x1024 .f32) (j : Fin 512)
    (k : Fin 1024) : k0_pay29 d p b (ix2 j k) = b (ix2 j k) + ∑ r, P r j * D r k := by
  unfold k0_pay29
  pointwise
  simp only [hp, hd]
theorem addL_at (hv : ∀ r j, v (ix2 r j) = Y r j * Out.rs 512 (Y r)) (hg : ∀ j, g (ix2 0 j) = G j) (b : Vec Ideal S512x1024 .f32) (j : Fin 512)
    (k : Fin 1024) : k0_pay30 d v (k0_pay28 g) b (ix2 j k) = b (ix2 j k) + ∑ r, Proj.nrm 512 (Y r) G j * D r k := by
  unfold k0_pay30 k0_pay28
  pointwise
  simp only [hv, hg, hd]
  rfl
include hq
theorem uP_at (r j : Fin 512) : k0_pay31 d q (ix2 r j) = ∑ k, D r k * Q j k := by
  unfold k0_pay31
  pointwise
  simp only [hd, hq]
theorem uL_at (r j : Fin 512) : k0_pay34 d q (ix2 r j) = ∑ k, D r k * Q j k := by
  unfold k0_pay34
  pointwise
  simp only [hd, hq]
include hv
theorem gainP_at (b : Vec Ideal S1x512 .f32) (j : Fin 512) :
    k0_pay4 (k0_pay33 d v q) b (ix2 0 j) = b (ix2 0 j) + ∑ r, (∑ k, D r k * Q j k) * (Y r j * Out.rs 512 (Y r)) := by
  unfold k0_pay4 k0_pay33
  pointwise
  simp only [uP_at d D hd q Q hq, hv]
theorem gainL_at (b : Vec Ideal S1x512 .f32) (j : Fin 512) :
    k0_pay5 (k0_pay38 v (k0_pay34 d q)) b (ix2 0 j) = b (ix2 0 j) + ∑ r, (∑ k, D r k * Q j k) * (Y r j * Out.rs 512 (Y r)) := by
  unfold k0_pay5 k0_pay38
  pointwise
  simp only [uL_at d D hd q Q hq, hv]
include hr hg
theorem backP_at (r j : Fin 512) :
    k0_pay32 d g rv v q (ix2 r j) = Out.back 512 (Y r) (fun i => (∑ k, D r k * Q i k) * G i) j := by
  unfold k0_pay32
  pointwise
  simp only [uP_at d D hd q Q hq, hv, hr, hg, Rms.lit_512]
  rfl
theorem backL_at (r j : Fin 512) :
    k0_pay37 rv v (k0_pay35 d g q) (k0_pay36 d g v q) (ix2 r j) = Out.back 512 (Y r) (fun i => (∑ k, D r k * Q i k) * G i) j := by
  unfold k0_pay37 k0_pay36 k0_pay35
  pointwise
  simp only [uL_at d D hd q Q hq, hv, hr, hg, Rms.lit_512]
  rfl
end Prod

theorem glue_at (p : Fin 4 → Vec Ideal S1x512x128 .f32) (s : Fin 4) (r : Fin 512) (l : Fin 128) : glue p (ix3 s r l) = p s (ix3 0 r l) := by
  unfold glue
  exact congrArg (p s) (funext fun a => by fin_cases a <;> rfl)
theorem glueP_at (b : FVec Ideal S512x512 .f32) (s : Fin 4) (r : Fin 512) (l : Fin 128) :
    glue ![k0_pay39 b, k0_pay40 b, k0_pay41 b, k0_pay42 b] (ix3 s r l) = b (ix2 r (Out.lane s l)) := by
  rw [glue_at]
  fin_cases s
  · show k0_pay39 b (ix3 0 r l) = _
    unfold k0_pay39; pointwise
    exact congrArg (fun j => b (ix2 r j)) (Fin.ext (by dsimp [Out.lane] <;> omega))
  · show k0_pay40 b (ix3 0 r l) = _
    unfold k0_pay40; pointwise
    exact congrArg (fun j => b (ix2 r j)) (Fin.ext (by dsimp [Out.lane] <;> omega))
  · show k0_pay41 b (ix3 0 r l) = _
    unfold k0_pay41; pointwise
    exact congrArg (fun j => b (ix2 r j)) (Fin.ext (by dsimp [Out.lane] <;> omega))
  · show k0_pay42 b (ix3 0 r l) = _
    unfold k0_pay42; pointwise
    exact congrArg (fun j => b (ix2 r j)) (Fin.ext (by dsimp [Out.lane] <;> omega))
theorem glueL_at (rv : FVec Ideal S512x1 .f32) (v p q : FVec Ideal S512x512 .f32) (s : Fin 4) (r : Fin 512) (l : Fin 128) :
    glue ![k0_pay43 rv v p q, k0_pay1 (k0_pay44 rv v p q), k0_pay2 (k0_pay37 rv v p q), k0_pay3 (k0_pay37 rv v p q)] (ix3 s r l)
      = k0_pay37 rv v p q (ix2 r (Out.lane s l)) := by
  rw [glue_at]
  unfold k0_pay43 k0_pay44
  generalize k0_pay37 rv v p q = b
  exact (glue_at ![k0_pay39 b, k0_pay40 b, k0_pay41 b, k0_pay42 b] s r l).symm.trans (glueP_at b s r l)
end At

end Cert.OutKernelIdeal.Hand
-- ==== Proof.OutValue.lean ====
module

public import proofs.«01_k».proof.Proof.OutBlocks
public import proofs.«01_k».proof.Proof.OutStages
public import Idealize.ShloMosaic.Lib.Pointwise
public import Idealize.ShloMosaic.Lib.StableHlo.ReadAt
public import Idealize.ShloMosaic.Lib.Pipeline.ValueKit

@[expose] public section

set_option maxRecDepth 16384
set_option maxHeartbeats 1000000

noncomputable section

/-!
# What the output projection's gradient kernel leaves in its results
-/

namespace Cert.OutKernelIdeal.Hand

open Cert.OutKernelIdeal Cert.OutKernelIdeal.Gen
open Idealize.ShloMosaic Idealize.ShloMosaic.TcCoe Idealize.ShloMosaic.Tactic
open Idealize.ShloMosaic.Pipeline (RDat)

section Value
variable (m : (ℓ : Loc nD τ sig) → Buf (Elt Ideal) ℓ) (c : Dev nD)

/-! ## The blocks it writes -/

theorem blkD_at (n : ℕ) (r : Fin 512) (k : Fin 1024) : blkD m c n (ix2 r k) = D1 m c (Rms.rowOf n r) k :=
  outD_at (bG2 m c n) (bDn m c n) (bDh m c n) (bH1 m c n) (aG2 m c) (fun r => aDn m c (Rms.rowOf n r)) (fun r => aDh m c (Rms.rowOf n r)) (fun r => H1 m c (Rms.rowOf n r)) (bG2_at m c n) (bDn_at m c n) (bDh_at m c n) (bH1_at m c n) r k
theorem dhb_blk (n : ℕ) (r : Fin 512) (k : Fin 1024) : dhb (bG2 m c n) (bDn m c n) (bDh m c n) (bH1 m c n) (ix2 r k) = D1 m c (Rms.rowOf n r) k :=
  dhb_at (bG2 m c n) (bDn m c n) (bDh m c n) (bH1 m c n) (aG2 m c) (fun r => aDn m c (Rms.rowOf n r)) (fun r => aDh m c (Rms.rowOf n r)) (fun r => H1 m c (Rms.rowOf n r)) (bG2_at m c n) (bDn_at m c n) (bDh_at m c n) (bH1_at m c n) r k
theorem half_p (n : ℕ) (j : Fin 512) (k : Fin 1024) : half (bW m c n) 0 (ix2 j k) = aW m c (Proj.lo j) k := (half_lo _ j k).trans (bW_at m c n _ k)
theorem half_l (n : ℕ) (j : Fin 512) (k : Fin 1024) : half (bW m c n) 1 (ix2 j k) = aW m c (Proj.hi j) k := (half_hi _ j k).trans (bW_at m c n _ k)
theorem rsP_blk (n : ℕ) (r : Fin 512) : rsP (bYp m c n) (ix2 r 0) = Out.rs 512 (aYp m c (Rms.rowOf n r)) :=
  rsP_at (bYp m c n) (fun r => aYp m c (Rms.rowOf n r)) (bYp_at m c n) r
theorem nrP_blk (n : ℕ) (r j : Fin 512) : nrP (bYp m c n) (ix2 r j) = aYp m c (Rms.rowOf n r) j * Out.rs 512 (aYp m c (Rms.rowOf n r)) :=
  nrP_at (bYp m c n) (fun r => aYp m c (Rms.rowOf n r)) (bYp_at m c n) r j
theorem blkP_at (n : ℕ) (s : Fin 4) (r : Fin 512) (l : Fin 128) :
    blkP m c n (ix3 s r l) = Out.dy (aYp m c) (Up m c) (aGp m c) (Rms.rowOf n r) (Out.lane s l) := by
  unfold blkP outP rowP
  refine (glueP_at _ s r l).trans ?_
  exact backP_at _ ((fun r => aYp m c (Rms.rowOf n r))) (aGp m c) _ (fun r k => D1 m c (Rms.rowOf n r) k) (dhb_blk m c n) _ (fun j k => aW m c (Proj.lo j) k)
    (half_p m c n) _ _ (rsP_blk m c n) (nrP_blk m c n) (bGp_at m c n) r (Out.lane s l)
theorem rsL_blk (n : ℕ) (r : Fin 512) : rsL (bYl m c n) (ix2 r 0) = Out.rs 512 (aYl m c (Rms.rowOf n r)) :=
  rsL_at (bYl m c n) (fun r => aYl m c (Rms.rowOf n r)) (bYl_at m c n) r
theorem nrL_blk (n : ℕ) (r j : Fin 512) : nrL (bYl m c n) (ix2 r j) = aYl m c (Rms.rowOf n r) j * Out.rs 512 (aYl m c (Rms.rowOf n r)) :=
  nrL_at (bYl m c n) (fun r => aYl m c (Rms.rowOf n r)) (bYl_at m c n) r j
theorem blkL_at (n : ℕ) (s : Fin 4) (r : Fin 512) (l : Fin 128) :
    blkL m c n (ix3 s r l) = Out.dy (aYl m c) (Ul m c) (aGl m c) (Rms.rowOf n r) (Out.lane s l) := by
  unfold blkL outL rowL a78 a79
  refine (glueL_at _ _ _ _ s r l).trans ?_
  exact backL_at _ ((fun r => aYl m c (Rms.rowOf n r))) (aGl m c) _ (fun r k => D1 m c (Rms.rowOf n r) k) (dhb_blk m c n) _ (fun j k => aW m c (Proj.hi j) k)
    (half_l m c n) _ _ (rsL_blk m c n) (nrL_blk m c n) (bGl_at m c n) r (Out.lane s l)

/-! ## The sums over the blocks -/

theorem accG_at (k : Fin 1024) : ∀ n, accG m c n (ix2 0 k) = ∑ i ∈ Finset.range n, ∑ r, Out.dG2 (H1 m c) (aDn m c) k (Rms.rowOf i r)
  | 0 => by
    rw [Finset.sum_range_zero]
    show k0_pay8 (F := Ideal) (ix2 0 k) = _
    unfold k0_pay8; pointwise
  | n + 1 => by
    rw [Finset.sum_range_succ, ← accG_at k n]
    exact stepG_at _ _ (fun r => aDn m c (Rms.rowOf n r)) (fun r => H1 m c (Rms.rowOf n r)) (bDn_at m c n) (bH1_at m c n) (accG m c n) k
theorem accP_at (j : Fin 512) : ∀ n, accP m c n (ix2 0 j) = ∑ i ∈ Finset.range n, ∑ r, Out.dG (aYp m c) (Up m c) j (Rms.rowOf i r)
  | 0 => by
    rw [Finset.sum_range_zero]
    show k0_pay9 (F := Ideal) (ix2 0 j) = _
    unfold k0_pay9; pointwise
  | n + 1 => by
    rw [Finset.sum_range_succ, ← accP_at j n]
    exact gainP_at ((fun r => aYp m c (Rms.rowOf n r))) _ (fun r k => D1 m c (Rms.rowOf n r) k) (dhb_blk m c n) _ (fun j k => aW m c (Proj.lo j) k)
      (half_p m c n) _ (nrP_blk m c n) (accP m c n) j
theorem accL_at (j : Fin 512) : ∀ n, accL m c n (ix2 0 j) = ∑ i ∈ Finset.range n, ∑ r, Out.dG (aYl m c) (Ul m c) j (Rms.rowOf i r)
  | 0 => by
    rw [Finset.sum_range_zero]
    show k0_pay10 (F := Ideal) (ix2 0 j) = _
    unfold k0_pay10; pointwise
  | n + 1 => by
    rw [Finset.sum_range_succ, ← accL_at j n]
    exact gainL_at ((fun r => aYl m c (Rms.rowOf n r))) _ (fun r k => D1 m c (Rms.rowOf n r) k) (dhb_blk m c n) _ (fun j k => aW m c (Proj.hi j) k)
      (half_l m c n) _ (nrL_blk m c n) (accL m c n) j
theorem accW_lo (j : Fin 512) (k : Fin 1024) : ∀ n, accW m c n (ix2 (Proj.lo j) k)
      = ∑ i ∈ Finset.range n, ∑ r, Proj.nrm 512 (aYp m c (Rms.rowOf i r)) (aGp m c) j * D1 m c (Rms.rowOf i r) k
  | 0 => by
    rw [Finset.sum_range_zero]
    show k0_pay7 (F := Ideal) (ix2 _ k) = _
    unfold k0_pay7; pointwise
  | n + 1 => by
    rw [Finset.sum_range_succ, ← accW_lo j k n]
    show stepW _ _ _ _ _ _ _ _ (accW m c n) _ = _
    unfold stepW
    refine (put_lo _ _ _ j k).trans ((addP_at _ (fun r k => D1 m c (Rms.rowOf n r) k) (dhb_blk m c n) _ (fun r j => Proj.nrm 512 (aYp m c (Rms.rowOf n r)) (aGp m c) j)
      (mxP_at (bYp m c n) (bGp m c n) (fun r => aYp m c (Rms.rowOf n r)) (aGp m c) (bYp_at m c n) (bGp_at m c n)) _ j k).trans ?_)
    exact congrArg (· + _) (half_lo _ j k)
theorem accW_hi (j : Fin 512) (k : Fin 1024) : ∀ n, accW m c n (ix2 (Proj.hi j) k)
      = ∑ i ∈ Finset.range n, ∑ r, Proj.nrm 512 (aYl m c (Rms.rowOf i r)) (aGl m c) j * D1 m c (Rms.rowOf i r) k
  | 0 => by
    rw [Finset.sum_range_zero]
    show k0_pay7 (F := Ideal) (ix2 _ k) = _
    unfold k0_pay7; pointwise
  | n + 1 => by
    rw [Finset.sum_range_succ, ← accW_hi j k n]
    show stepW _ _ _ _ _ _ _ _ (accW m c n) _ = _
    unfold stepW
    refine (put_hi _ _ _ j k).trans ((addL_at _ ((fun r => aYl m c (Rms.rowOf n r))) (aGl m c) _ (fun r k => D1 m c (Rms.rowOf n r) k) (dhb_blk m c n)
      _ (nrL_blk m c n) (bGl_at m c n) _ j k).trans ?_)
    exact congrArg (· + _) (half_hi _ j k)
theorem accW_at (j k : Fin 1024) : accW m c 8 (ix2 j k) = ∑ r, Out.dW (D1 m c) (aYp m c) (aYl m c) (aGp m c) (aGl m c) j k r := by
  unfold Out.dW Out.mix
  by_cases h : j.val < 512
  · simp only [dif_pos h]
    exact (accW_lo m c ⟨j.val, h⟩ k 8).trans (Rms.sum_rowOf fun r => Proj.nrm 512 (aYp m c r) (aGp m c) ⟨j.val, h⟩ * D1 m c r k)
  · simp only [dif_neg h]
    have e : Proj.hi ⟨j.val - 512, by omega⟩ = j := Fin.ext (by show 512 + (j.val - 512) = j.val; omega)
    refine (congrArg (fun i => accW m c 8 (ix2 i k)) e.symm).trans ?_
    exact (accW_hi m c ⟨j.val - 512, by omega⟩ k 8).trans (Rms.sum_rowOf fun r => Proj.nrm 512 (aYl m c r) (aGl m c) ⟨j.val - 512, by omega⟩ * D1 m c r k)

/-! ## The results -/

theorem index_outs : ∀ t : Fin grid0.N, win0_6.index t = ![t.val, 0] ∧ win0_7.index t = ![0, t.val, 0] ∧ win0_8.index t = ![0, t.val, 0] := by decide +kernel
theorem index_sums : ∀ t : Fin grid0.N, win0_9.index t = ![0, 0] ∧ win0_10.index t = ![0, 0] ∧ win0_11.index t = ![0, 0] ∧ win0_12.index t = ![0, 0] := by
  decide +kernel
theorem last_val (t : Fin cfg0.N) (h : t.val % 8 = 7) : t.val = 7 := by
  have hN : t.val < 8 := lt_of_lt_of_eq t.isLt (show cfg0.N = 8 from N_0)
  omega
theorem row_val (t : Fin cfg0.N) (r : Fin 512) : (Rms.rowOf t.val r).val = t.val * 512 + r.val := by
  have hN : t.val < 8 := lt_of_lt_of_eq t.isLt (show cfg0.N = 8 from N_0)
  show 512 * (t.val % 8) + r.val = _
  omega

theorem out_dh {r} (hr : RDat.FramePost (cfgs 0) (fun c => rdat m c) (V m) r) :
    r.2.mem ((c : Thread nD τ).loc main_v45_0) = fun i => D1 m c (i 0) (i 1) := by
  obtain ⟨after, hl, he⟩ := RDat.FramePost.exists_exact hr c
  refine (he 6).trans (Pipeline.Dat.arrAt_eq_of_covers _ 6 _ (by decide +kernel) fun t hf y => ?_)
  obtain ⟨Y, hY, hX⟩ := hl 6 t hf
  refine (congrFun hX _).trans ?_
  idx_vars y
  refine (blkD_at m c t.val y0 y1).trans (congrArg₂ (D1 m c) (Fin.ext ?_) (Fin.ext ?_))
  · blk_simp [(index_outs t).1]
    exact row_val t y0
  · blk_simp [(index_outs t).1]

theorem out_p {r} (hr : RDat.FramePost (cfgs 0) (fun c => rdat m c) (V m) r) :
    r.2.mem ((c : Thread nD τ).loc main_v45_1) = fun i => Out.dy (aYp m c) (Up m c) (aGp m c) (i 1) (Out.lane (i 0) (i 2)) := by
  obtain ⟨after, hl, he⟩ := RDat.FramePost.exists_exact hr c
  refine (he 7).trans (Pipeline.Dat.arrAt_eq_of_covers _ 7 _ (by decide +kernel) fun t hf y => ?_)
  obtain ⟨Y, hY, hX⟩ := hl 7 t hf
  refine (congrFun hX _).trans ?_
  idx_vars y
  refine (blkP_at m c t.val y0 y1 y2).trans (congrArg₂ (Out.dy (aYp m c) (Up m c) (aGp m c)) (Fin.ext ?_) (congrArg₂ Out.lane (Fin.ext ?_) (Fin.ext ?_)))
  · blk_simp [(index_outs t).2.1]
    exact row_val t y1
  · blk_simp [(index_outs t).2.1]
  · blk_simp [(index_outs t).2.1]

theorem out_l {r} (hr : RDat.FramePost (cfgs 0) (fun c => rdat m c) (V m) r) :
    r.2.mem ((c : Thread nD τ).loc main_v45_2) = fun i => Out.dy (aYl m c) (Ul m c) (aGl m c) (i 1) (Out.lane (i 0) (i 2)) := by
  obtain ⟨after, hl, he⟩ := RDat.FramePost.exists_exact hr c
  refine (he 8).trans (Pipeline.Dat.arrAt_eq_of_covers _ 8 _ (by decide +kernel) fun t hf y => ?_)
  obtain ⟨Y, hY, hX⟩ := hl 8 t hf
  refine (congrFun hX _).trans ?_
  idx_vars y
  refine (blkL_at m c t.val y0 y1 y2).trans (congrArg₂ (Out.dy (aYl m c) (Ul m c) (aGl m c)) (Fin.ext ?_) (congrArg₂ Out.lane (Fin.ext ?_) (Fin.ext ?_)))
  · blk_simp [(index_outs t).2.2]
    exact row_val t y1
  · blk_simp [(index_outs t).2.2]
  · blk_simp [(index_outs t).2.2]

theorem out_w {r} (hr : RDat.FramePost (cfgs 0) (fun c => rdat m c) (V m) r) :
    r.2.mem ((c : Thread nD τ).loc main_v45_3) = fun i => ∑ r, Out.dW (D1 m c) (aYp m c) (aYl m c) (aGp m c) (aGl m c) (i 0) (i 1) r := by
  obtain ⟨after, hl, he⟩ := RDat.FramePost.exists_exact hr c
  refine (he 9).trans (Pipeline.Dat.arrAt_eq_of_covers _ 9 _ (by decide +kernel) fun t hf y => ?_)
  obtain ⟨Y, hY, hX⟩ := hl 9 t hf
  refine (congrFun (hX (last_val t ((flush0_9 t).1 hf))) _).trans ?_
  idx_vars y
  have e : k0_pay6 (accW m c 8) (ix2 y0 y1) = accW m c 8 (ix2 y0 y1) := by unfold k0_pay6; pointwise
  refine e.trans ((accW_at m c y0 y1).trans (congrArg₂ (fun j k => ∑ r, Out.dW (D1 m c) (aYp m c) (aYl m c) (aGp m c) (aGl m c) j k r) (Fin.ext ?_) (Fin.ext ?_)))
  · blk_simp [(index_sums t).1]
  · blk_simp [(index_sums t).1]

theorem out_g2 {r} (hr : RDat.FramePost (cfgs 0) (fun c => rdat m c) (V m) r) :
    r.2.mem ((c : Thread nD τ).loc main_v45_4) = fun i => ∑ r, Out.dG2 (H1 m c) (aDn m c) (i 1) r := by
  obtain ⟨after, hl, he⟩ := RDat.FramePost.exists_exact hr c
  refine (he 10).trans (Pipeline.Dat.arrAt_eq_of_covers _ 10 _ (by decide +kernel) fun t hf y => ?_)
  obtain ⟨Y, hY, hX⟩ := hl 10 t hf
  refine (congrFun hX _).trans ?_
  rw [last_val t ((flush0_10 t).1 hf)]
  idx_vars y
  obtain rfl : y0 = 0 := Subsingleton.elim _ _
  refine (accG_at m c y1 8).trans ((Rms.sum_rowOf (Out.dG2 (H1 m c) (aDn m c) y1)).trans (congrArg (fun k => ∑ r, Out.dG2 (H1 m c) (aDn m c) k r) (Fin.ext ?_)))
  blk_simp [(index_sums t).2.1]

theorem out_gp {r} (hr : RDat.FramePost (cfgs 0) (fun c => rdat m c) (V m) r) :
    r.2.mem ((c : Thread nD τ).loc main_v45_5) = fun i => ∑ r, Out.dG (aYp m c) (Up m c) (i 1) r := by
  obtain ⟨after, hl, he⟩ := RDat.FramePost.exists_exact hr c
  refine (he 11).trans (Pipeline.Dat.arrAt_eq_of_covers _ 11 _ (by decide +kernel) fun t hf y => ?_)
  obtain ⟨Y, hY, hX⟩ := hl 11 t hf
  refine (congrFun hX _).trans ?_
  rw [last_val t ((flush0_11 t).1 hf)]
  idx_vars y
  obtain rfl : y0 = 0 := Subsingleton.elim _ _
  refine (accP_at m c y1 8).trans ((Rms.sum_rowOf (Out.dG (aYp m c) (Up m c) y1)).trans (congrArg (fun k => ∑ r, Out.dG (aYp m c) (Up m c) k r) (Fin.ext ?_)))
  blk_simp [(index_sums t).2.2.1]

theorem out_gl {r} (hr : RDat.FramePost (cfgs 0) (fun c => rdat m c) (V m) r) :
    r.2.mem ((c : Thread nD τ).loc main_v45_6) = fun i => ∑ r, Out.dG (aYl m c) (Ul m c) (i 1) r := by
  obtain ⟨after, hl, he⟩ := RDat.FramePost.exists_exact hr c
  refine (he 12).trans (Pipeline.Dat.arrAt_eq_of_covers _ 12 _ (by decide +kernel) fun t hf y => ?_)
  obtain ⟨Y, hY, hX⟩ := hl 12 t hf
  refine (congrFun hX _).trans ?_
  rw [last_val t ((flush0_12 t).1 hf)]
  idx_vars y
  obtain rfl : y0 = 0 := Subsingleton.elim _ _
  refine (accL_at m c y1 8).trans ((Rms.sum_rowOf (Out.dG (aYl m c) (Ul m c) y1)).trans (congrArg (fun k => ∑ r, Out.dG (aYl m c) (Ul m c) k r) (Fin.ext ?_)))
  blk_simp [(index_sums t).2.2.2]

end Value

end Cert.OutKernelIdeal.Hand
-- ==== Proof.OutRef.lean ====
module

public import proofs.«01_k».proof.Proof.OutMath
public import proofs.«01_k».proof.Proof.Gen.OutReferenceIdeal.Run
public import Idealize.ShloMosaic.Lib.IdealHost

@[expose] public section

set_option maxRecDepth 16384
set_option maxHeartbeats 1000000

noncomputable section

/-!
# What the reference of the output projection's gradient leaves in its results
-/

namespace Cert.OutReferenceIdeal.Hand

open Cert.OutReferenceIdeal Cert.OutReferenceIdeal.Gen
open Idealize.ShloMosaic Idealize.ShloMosaic.TcCoe Idealize.SL.Sem

variable (m : (ℓ : Loc nD τ sig) → Buf (Elt Ideal) ℓ) (ρ : Dev nD → PrngReg) (c : Dev nD)

def aX (r : Fin 4096) (k : Fin 1024) : EReal := m ((c : Thread nD τ).loc main_arg0) (ix2 r k)
def aYp (r : Fin 4096) (j : Fin 512) : EReal := m ((c : Thread nD τ).loc main_arg1) (ix2 r j)
def aYl (r : Fin 4096) (j : Fin 512) : EReal := m ((c : Thread nD τ).loc main_arg2) (ix2 r j)
def aGp (j : Fin 512) : EReal := m ((c : Thread nD τ).loc main_arg3) (ix2 0 j)
def aGl (j : Fin 512) : EReal := m ((c : Thread nD τ).loc main_arg4) (ix2 0 j)
def aW (j : Fin 1024) (k : Fin 1024) : EReal := m ((c : Thread nD τ).loc main_arg5) (ix2 j k)
def aG2 (k : Fin 1024) : EReal := m ((c : Thread nD τ).loc main_arg6) (ix2 0 k)
def aDn (r : Fin 4096) (k : Fin 1024) : EReal := m ((c : Thread nD τ).loc main_arg7) (ix2 r k)
def aDh (r : Fin 4096) (k : Fin 1024) : EReal := m ((c : Thread nD τ).loc main_arg8) (ix2 r k)
/-- The residual after the projection, its gradient, and the gradients at the two normed halves. -/
def H1 (r : Fin 4096) (k : Fin 1024) : EReal := Proj.h1 (aX m c) (aYp m c) (aYl m c) (aGp m c) (aGl m c) (aW m c) r k
def D1 (r : Fin 4096) (k : Fin 1024) : EReal := Out.dh1 (H1 m c) (aG2 m c) (aDn m c) (aDh m c) r k
def Up (r : Fin 4096) (j : Fin 512) : EReal := Out.dm (D1 m c) (aW m c) Proj.lo r j
def Ul (r : Fin 4096) (j : Fin 512) : EReal := Out.dm (D1 m c) (aW m c) Proj.hi r j

/-! ## The stages, as the program composes them -/

section Stages
variable (x h dn dh d mx : FVec Ideal S4096x1024 .f32) (yp yl y u : FVec Ideal S4096x512 .f32) (gp gl g : FVec Ideal S1x512 .f32)
  (w : FVec Ideal S1024x1024 .f32) (g2 : FVec Ideal S1x1024 .f32)

/-- The two normed halves side by side. -/
def mixT : FVec Ideal S4096x1024 .f32 :=
  (concatenate S4096x1024 1 [⟨S4096x512, (mulf (mulf yp (broadcastInDim S4096x512 ![0, 1] bcast_S4096x1_S4096x512_0_1 (Host.rsqrt (addf (Host.divf (broadcastInDim S4096x1 ![0] bcast_S4096_S4096x1_0 (Host.reduceAdd (mulf yp yp) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 gp))⟩, ⟨S4096x512, (mulf (mulf yl (broadcastInDim S4096x512 ![0, 1] bcast_S4096x1_S4096x512_0_1 (Host.rsqrt (addf (Host.divf (broadcastInDim S4096x1 ![0] bcast_S4096_S4096x1_0 (Host.reduceAdd (mulf yl yl) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 gl))⟩] concatenates_S4096x512_S4096x512_S4096x1024_d1)
/-- The residual. -/
def resT : FVec Ideal S4096x1024 .f32 :=
  (addf x (Host.dotGeneral dot_S4096x1024_S1024x1024_S4096x1024_1_0_0_1_n_n none mx w))
/-- Its gradient. -/
def sideT : FVec Ideal S4096x1024 .f32 :=
  addf (addf (addf dh (mulf (mulf dn (broadcastInDim S4096x1024 ![0, 1] bcast_S1x1024_S4096x1024_0_1 g2)) (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf h (broadcastInDim S4096x1024 ![0] bcast_S4096_S4096x1024_0 (Host.reduceAdd (Host.divf (mulf (shapeCast _ (Host.reduceAdd (mulf h (mulf dn (broadcastInDim S4096x1024 ![0, 1] bcast_S1x1024_S4096x1024_0_1 g2))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf h (mulf dn (broadcastInDim S4096x1024 ![0, 1] bcast_S1x1024_S4096x1024_0_1 g2))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) h)
/-- The last gain's gradient. -/
def gainT : FVec Ideal S1x1024 .f32 :=
  shapeCast _ (Host.reduceAdd (mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) dn) (constant S_ .f32 0x00000000#32) reducesTo_S4096x1024_S1024_d0 h_S_) shapeCasts_S1024_S1x1024
/-- The weight's gradient. -/
def weightT : FVec Ideal S1024x1024 .bf16 :=
  truncf .bf16 (transpose S1024x1024 [1, 0] (Host.dotGeneral dot_S4096x1024_S4096x1024_S1024x1024_0_0_1_1_n_n none d mx) transposes_S1024x1024_S1024x1024_1_0) bitsLt_bf16_f32
/-- The gradients at the two normed halves. -/
def loT : FVec Ideal S4096x512 .f32 :=
  (extractStridedSlice S4096x512 ![0, 0] (Host.dotGeneral dot_S4096x1024_S1024x1024_S4096x1024_1_1_0_0_n_n none d w) slices_S4096x1024_S4096x512_0_0)
def hiT : FVec Ideal S4096x512 .f32 :=
  (extractStridedSlice S4096x512 ![0, 512] (Host.dotGeneral dot_S4096x1024_S1024x1024_S4096x1024_1_1_0_0_n_n none d w) slices_S4096x1024_S4096x512_0_512)
/-- The gradient of one mixer's output, and that of its gain. -/
def backT : FVec Ideal S4096x512 .f32 :=
  (addf (addf (mulf (mulf u (broadcastInDim S4096x512 ![0, 1] bcast_S1x512_S4096x512_0_1 g)) (broadcastInDim S4096x512 ![0, 1] bcast_S4096x1_S4096x512_0_1 (Host.rsqrt (addf (Host.divf (broadcastInDim S4096x1 ![0] bcast_S4096_S4096x1_0 (Host.reduceAdd (mulf y y) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (mulf y (broadcastInDim S4096x512 ![0] bcast_S4096_S4096x512_0 (Host.reduceAdd (Host.divf (mulf (shapeCast _ (Host.reduceAdd (mulf y (mulf u (broadcastInDim S4096x512 ![0, 1] bcast_S1x512_S4096x512_0_1 g))) (constant S_ .f32 0x00000000#32) reducesTo_S4096x512_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf y y) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))) (addf (Host.divf (broadcastInDim S4096x1 ![0] bcast_S4096_S4096x1_0 (Host.reduceAdd (mulf y y) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x1 ![] bcast_S_S4096x1 (constant S_ .f32 0x44000000#32))) (constant S_ .f32 0x00000000#32) reducesTo_S4096x1_S4096_d1 h_S_)))) (mulf (broadcastInDim S4096x512 ![0] bcast_S4096_S4096x512_0 (Host.reduceAdd (Host.divf (mulf (shapeCast _ (Host.reduceAdd (mulf y (mulf u (broadcastInDim S4096x512 ![0, 1] bcast_S1x512_S4096x512_0_1 g))) (constant S_ .f32 0x00000000#32) reducesTo_S4096x512_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf y y) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))) (addf (Host.divf (broadcastInDim S4096x1 ![0] bcast_S4096_S4096x1_0 (Host.reduceAdd (mulf y y) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x1 ![] bcast_S_S4096x1 (constant S_ .f32 0x44000000#32))) (constant S_ .f32 0x00000000#32) reducesTo_S4096x1_S4096_d1 h_S_)) y))
def halfT : FVec Ideal S1x512 .f32 :=
  shapeCast _ (Host.reduceAdd (mulf (mulf y (broadcastInDim S4096x512 ![0, 1] bcast_S4096x1_S4096x512_0_1 (Host.rsqrt (addf (Host.divf (broadcastInDim S4096x1 ![0] bcast_S4096_S4096x1_0 (Host.reduceAdd (mulf y y) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) u) (constant S_ .f32 0x00000000#32) reducesTo_S4096x512_S512_d0 h_S_) shapeCasts_S512_S1x512
def slabT : FVec Ideal S4x4096x128 .f32 :=
  transpose S4x4096x128 [1, 0, 2] (shapeCast S4096x4x128 y shapeCasts_S4096x512_S4096x4x128) transposes_S4096x4x128_S4x4096x128_1_0_2
end Stages

def tMix : FVec Ideal S4096x1024 .f32 :=
  mixT (m ((c.tc : Thread nD τ).loc main_arg1)) (m ((c.tc : Thread nD τ).loc main_arg2)) (m ((c.tc : Thread nD τ).loc main_arg3)) (m ((c.tc : Thread nD τ).loc main_arg4))
def tRes : FVec Ideal S4096x1024 .f32 := resT (m ((c.tc : Thread nD τ).loc main_arg0)) (tMix m c) (m ((c.tc : Thread nD τ).loc main_arg5))
def tSide : FVec Ideal S4096x1024 .f32 :=
  sideT (tRes m c) (m ((c.tc : Thread nD τ).loc main_arg7)) (m ((c.tc : Thread nD τ).loc main_arg8)) (m ((c.tc : Thread nD τ).loc main_arg6))
def tCast : FVec Ideal S4096x1024 .f32 := shapeCast S4096x1024 (tSide m c) shapeCasts_S4096x1024_S4096x1024

theorem v67 : Value.res_main_v67 m c = tSide m c := rfl
theorem v50 : Value.res_main_v50 m c = gainT (tRes m c) (m ((c.tc : Thread nD τ).loc main_arg7)) := rfl
theorem v116 : Value.res_main_v116 m c = weightT (tCast m c) (tMix m c) := rfl
theorem v113 : Value.res_main_v113 m c = slabT (backT (m ((c.tc : Thread nD τ).loc main_arg1)) (loT (tCast m c) (m ((c.tc : Thread nD τ).loc main_arg5))) (m ((c.tc : Thread nD τ).loc main_arg3))) := rfl
theorem v115 : Value.res_main_v115 m c = slabT (backT (m ((c.tc : Thread nD τ).loc main_arg2)) (hiT (tCast m c) (m ((c.tc : Thread nD τ).loc main_arg5))) (m ((c.tc : Thread nD τ).loc main_arg4))) := rfl
theorem v95 : Value.res_main_v95 m c = halfT (m ((c.tc : Thread nD τ).loc main_arg1)) (loT (tCast m c) (m ((c.tc : Thread nD τ).loc main_arg5))) := rfl
theorem v76 : Value.res_main_v76 m c = halfT (m ((c.tc : Thread nD τ).loc main_arg2)) (hiT (tCast m c) (m ((c.tc : Thread nD τ).loc main_arg5))) := rfl

/-! ## The entries of the stages -/

theorem mix_at (r : Fin 4096) (j : Fin 1024) : tMix m c (ix2 r j) = Out.mix (aYp m c) (aYl m c) (aGp m c) (aGl m c) r j := by
  unfold tMix mixT
  pointwise
  simp only [Rms.lit_512, Rms.lit_eps]
  rfl
theorem res_at (r : Fin 4096) (k : Fin 1024) : tRes m c (ix2 r k) = H1 m c r k := by
  unfold tRes resT tMix mixT
  pointwise
  simp only [Rms.lit_512, Rms.lit_eps]
  exact (add_assoc (G := EReal) _ _ _).symm

section At
variable (h dn dh d mx : FVec Ideal S4096x1024 .f32) (y u : FVec Ideal S4096x512 .f32) (g : FVec Ideal S1x512 .f32)
  (w : FVec Ideal S1024x1024 .f32) (g2 : FVec Ideal S1x1024 .f32)
  (H DN DH D MX : Fin 4096 → Fin 1024 → EReal) (Y U : Fin 4096 → Fin 512 → EReal) (G : Fin 512 → EReal) (W : Fin 1024 → Fin 1024 → EReal)
  (G2 : Fin 1024 → EReal)

theorem side_at (hh : ∀ r k, h (ix2 r k) = H r k) (hn : ∀ r k, dn (ix2 r k) = DN r k) (hd : ∀ r k, dh (ix2 r k) = DH r k)
    (hg : ∀ k, g2 (ix2 0 k) = G2 k) (r : Fin 4096) (k : Fin 1024) : sideT h dn dh g2 (ix2 r k) = Out.dh1 H G2 DN DH r k := by
  unfold sideT
  pointwise
  simp only [hh, hn, hd, hg, Rms.lit_1024, Rms.lit_eps, Rms.lit_neg_half, Finset.univ_unique, Finset.sum_singleton]
  unfold Out.dh1
  rw [Out.back_chain 1024 (H r) (fun j => DN r j * G2 j) (by norm_num) k, ← add_assoc, ← add_assoc]
  rfl
theorem gain_at (hh : ∀ r k, h (ix2 r k) = H r k) (hn : ∀ r k, dn (ix2 r k) = DN r k) (k : Fin 1024) :
    gainT h dn (ix2 0 k) = ∑ r, Out.dG2 H DN k r := by
  unfold gainT
  pointwise
  simp only [hh, hn, Rms.lit_1024, Rms.lit_eps]
  exact Finset.sum_congr (M := EReal) rfl fun r _ => mul_comm (G := EReal) _ _
theorem weight_at (hd : ∀ r k, d (ix2 r k) = D r k) (hm : ∀ r k, mx (ix2 r k) = MX r k) (j k : Fin 1024) :
    weightT d mx (ix2 j k) = ∑ r, MX r j * D r k := by
  unfold weightT
  pointwise
  simp only [hd, hm]
  exact Finset.sum_congr (M := EReal) rfl fun r _ => mul_comm (G := EReal) _ _
theorem lo_at (hd : ∀ r k, d (ix2 r k) = D r k) (hw : ∀ j k, w (ix2 j k) = W j k) (r : Fin 4096) (j : Fin 512) :
    loT d w (ix2 r j) = Out.dm D W Proj.lo r j := by
  unfold loT
  pointwise
  simp only [hd, hw]
  rfl
theorem hi_at (hd : ∀ r k, d (ix2 r k) = D r k) (hw : ∀ j k, w (ix2 j k) = W j k) (r : Fin 4096) (j : Fin 512) :
    hiT d w (ix2 r j) = Out.dm D W Proj.hi r j := by
  unfold hiT
  pointwise
  simp only [hd, hw]
  rfl
theorem back_at (hy : ∀ r j, y (ix2 r j) = Y r j) (hu : ∀ r j, u (ix2 r j) = U r j) (hg : ∀ j, g (ix2 0 j) = G j) (r : Fin 4096) (j : Fin 512) :
    backT y u g (ix2 r j) = Out.dy Y U G r j := by
  unfold backT
  pointwise
  simp only [hy, hu, hg, Rms.lit_512, Rms.lit_eps, Rms.lit_neg_half, Finset.univ_unique, Finset.sum_singleton]
  exact (Out.back_chain 512 (Y r) (fun i => U r i * G i) (by norm_num) j).symm
theorem half_at (hy : ∀ r j, y (ix2 r j) = Y r j) (hu : ∀ r j, u (ix2 r j) = U r j) (j : Fin 512) :
    halfT y u (ix2 0 j) = ∑ r, Out.dG Y U j r := by
  unfold halfT
  pointwise
  simp only [hy, hu, Rms.lit_512, Rms.lit_eps]
  exact Finset.sum_congr (M := EReal) rfl fun r _ => mul_comm (G := EReal) _ _
theorem slab_at (hy : ∀ r j, y (ix2 r j) = Y r j) (s : Fin 4) (r : Fin 4096) (l : Fin 128) :
    slabT y (ix3 s r l) = Y r (Out.lane s l) := by
  unfold slabT
  pointwise
  simp only [hy]
  exact congrArg (fun j => Y r j) (Fin.ext (by dsimp [Out.lane]; omega))
end At

theorem cast_at (r : Fin 4096) (k : Fin 1024) : tCast m c (ix2 r k) = D1 m c r k := by
  unfold tCast
  refine Eq.trans (?_ : _ = tSide m c (ix2 r k)) (side_at _ _ _ _ (H1 m c) (aDn m c) (aDh m c) (aG2 m c) (res_at m c) (fun _ _ => rfl) (fun _ _ => rfl) (fun _ => rfl) r k)
  generalize tSide m c = s
  pointwise
theorem tLo_at (r : Fin 4096) (j : Fin 512) : loT (tCast m c) (m ((c.tc : Thread nD τ).loc main_arg5)) (ix2 r j) = Up m c r j :=
  lo_at _ _ (D1 m c) (aW m c) (cast_at m c) (fun _ _ => rfl) r j
theorem tHi_at (r : Fin 4096) (j : Fin 512) : hiT (tCast m c) (m ((c.tc : Thread nD τ).loc main_arg5)) (ix2 r j) = Ul m c r j :=
  hi_at _ _ (D1 m c) (aW m c) (cast_at m c) (fun _ _ => rfl) r j

theorem results :
    θ_run defs (onTc (τ := τ) (main (F := Ideal))) ⟨m, fun _ => 0, ρ⟩ fun r => ∀ c : Dev nD,
      r.2.mem ((c : Thread nD τ).loc main_v67) = (fun i => D1 m c (i 0) (i 1))
      ∧ r.2.mem ((c : Thread nD τ).loc main_v113) = (fun i => Out.dy (aYp m c) (Up m c) (aGp m c) (i 1) (Out.lane (i 0) (i 2)))
      ∧ r.2.mem ((c : Thread nD τ).loc main_v115) = (fun i => Out.dy (aYl m c) (Ul m c) (aGl m c) (i 1) (Out.lane (i 0) (i 2)))
      ∧ r.2.mem ((c : Thread nD τ).loc main_v116) = (fun i => ∑ r, Out.dW (D1 m c) (aYp m c) (aYl m c) (aGp m c) (aGl m c) (i 0) (i 1) r)
      ∧ r.2.mem ((c : Thread nD τ).loc main_v50) = (fun i => ∑ r, Out.dG2 (H1 m c) (aDn m c) (i 1) r)
      ∧ r.2.mem ((c : Thread nD τ).loc main_v95) = (fun i => ∑ r, Out.dG (aYp m c) (Up m c) (i 1) r)
      ∧ r.2.mem ((c : Thread nD τ).loc main_v76) = (fun i => ∑ r, Out.dG (aYl m c) (Ul m c) (i 1) r)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (Value.run m ρ)
  obtain ⟨h0, h1, h2, h3, h4, h5, h6, hrest⟩ := h c
  refine ⟨h0.trans (funext fun i => ?_), h1.trans (funext fun i => ?_), h2.trans (funext fun i => ?_), h3.trans (funext fun i => ?_),
    h4.trans (funext fun i => ?_), h5.trans (funext fun i => ?_), h6.trans (funext fun i => ?_), hrest⟩ <;> clear h0 h1 h2 h3 h4 h5 h6 hrest h <;> idx_vars i
  · rw [v67]
    exact side_at _ _ _ _ (H1 m c) (aDn m c) (aDh m c) (aG2 m c) (res_at m c) (fun _ _ => rfl) (fun _ _ => rfl) (fun _ => rfl) _ _
  · rw [v113]
    exact slab_at _ (Out.dy (aYp m c) (Up m c) (aGp m c)) (back_at _ _ _ (aYp m c) (Up m c) (aGp m c) (fun _ _ => rfl) (tLo_at m c) fun _ => rfl) _ _ _
  · rw [v115]
    exact slab_at _ (Out.dy (aYl m c) (Ul m c) (aGl m c)) (back_at _ _ _ (aYl m c) (Ul m c) (aGl m c) (fun _ _ => rfl) (tHi_at m c) fun _ => rfl) _ _ _
  · rw [v116]
    exact weight_at _ _ (D1 m c) (Out.mix (aYp m c) (aYl m c) (aGp m c) (aGl m c)) (cast_at m c) (mix_at m c) _ _
  · rw [v50]
    obtain rfl : i0 = 0 := Subsingleton.elim _ _
    exact gain_at _ _ (H1 m c) (aDn m c) (res_at m c) (fun _ _ => rfl) _
  · rw [v95]
    obtain rfl : i0 = 0 := Subsingleton.elim _ _
    exact half_at _ _ (aYp m c) (Up m c) (fun _ _ => rfl) (tLo_at m c) _
  · rw [v76]
    obtain rfl : i0 = 0 := Subsingleton.elim _ _
    exact half_at _ _ (aYl m c) (Ul m c) (fun _ _ => rfl) (tHi_at m c) _

end Cert.OutReferenceIdeal.Hand
-- ==== Proof.FwdMath.lean ====
module

public import proofs.«01_k».proof.Proof.FfnMath
public import proofs.«01_k».proof.Proof.RmsMath

@[expose] public section

noncomputable section

/-!
# The forward channel mixer with the loss's gradient, entry by entry

The mixer is added to the residual `h1`, the sum `h` goes through an RMS norm with a gain, and the loss is half the sum over the rows of the
mean square of the error against a target. Here are the entries of the hidden layer, of the sum, and of the loss's gradients.
-/

namespace Cert.Fwd

open Idealize.ShloMosaic

theorem lit_thousandth : Ideal.ofBits .f32 0x3A800000#32 = ((1 / 1024 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

section Sum
variable (h1 x : Fin 4096 → Fin 1024 → EReal) (wg wu : Fin 1024 → Fin 2816 → EReal) (wd : Fin 2816 → Fin 1024 → EReal)

/-- The hidden layer. -/
def hid (r : Fin 4096) (j : Fin 2816) : EReal := Ffn.hidden (Ffn.proj x wg r j) (Ffn.proj x wu r j)
/-- The mixer's output added to the residual. -/
def h2 (r : Fin 4096) (k : Fin 1024) : EReal := h1 r k + ∑ j, hid x wg wu r j * wd j k
end Sum

section Loss
variable (h tg : Fin 4096 → Fin 1024 → EReal) (g : Fin 1024 → EReal)

/-- The reciprocal root of a row. -/
def rs (r : Fin 4096) : EReal := Ideal.rsqrt (Rms.ms 1024 Rms.eps (h r))
/-- The error. -/
def err (r : Fin 4096) (k : Fin 1024) : EReal := h r k * rs h r * g k - tg r k
/-- The loss's gradient at the norm's output. -/
def de (r : Fin 4096) (k : Fin 1024) : EReal := err h tg g r k * ((1 / 1024 : ℝ) : EReal)
/-- The same times the gain. -/
def gy (r : Fin 4096) (k : Fin 1024) : EReal := de h tg g r k * g k
/-- The loss's gradient at the sum, in its closed form. -/
def dh (r : Fin 4096) (k : Fin 1024) : EReal :=
  rs h r * (gy h tg g r k - (h r k * rs h r) * Ideal.div (∑ j, gy h tg g r j * (h r j * rs h r)) ((1024 : ℝ) : EReal))
/-- One row's addend of the gain's gradient. -/
def dG (k : Fin 1024) (r : Fin 4096) : EReal := de h tg g r k * (h r k * rs h r)
/-- One row's squared error. -/
def sq (k : Fin 1024) (r : Fin 4096) : EReal := err h tg g r k * err h tg g r k

/-- The gradient through the mean square, once: the chain rule's factor of the row. -/
def viaMean (r : Fin 4096) : EReal :=
  Ideal.div ((∑ j, h r j * gy h tg g r j) * (((-(1 / 2) : ℝ) : EReal) * Ideal.div (rs h r) (Rms.ms 1024 Rms.eps (h r)))) ((1024 : ℝ) : EReal)

/-- The closed form is the chain rule. -/
theorem dh_chain (r : Fin 4096) (k : Fin 1024) :
    dh h tg g r k = gy h tg g r k * rs h r + h r k * viaMean h tg g r + viaMean h tg g r * h r k := by
  unfold dh
  rw [rs, Rms.back (by norm_num) Rms.eps_pos (h r) (gy h tg g r) k, mul_comm (viaMean h tg g r), add_assoc]
  rfl

/-- The chain rule's constants: half of twice over the width. -/
theorem consts (e : EReal) :
    Ideal.div ((1 / 2 : ℝ) : EReal) ((1024 : ℝ) : EReal) * (((2 : ℝ) : EReal) * e) = e * ((1 / 1024 : ℝ) : EReal) := by
  rw [Ideal.div_coe (by norm_num), ← mul_assoc, mul_comm _ e, ← EReal.coe_mul, ← EReal.coe_mul]
  norm_num
end Loss

end Cert.Fwd
-- ==== Proof.FwdValue.lean ====
module

public import proofs.«01_k».proof.Proof.FwdMath
public import proofs.«01_k».proof.Proof.Gen.FfnFwdKernelIdeal.Value
public import Idealize.ShloMosaic.Lib.Pointwise
public import Idealize.ShloMosaic.Lib.StableHlo.ReadAt
public import Idealize.ShloMosaic.Lib.Pipeline.ValueKit
public import Idealize.ShloMosaic.Lib.Pipeline.ReadBack

@[expose] public section

set_option maxRecDepth 16384
set_option maxHeartbeats 1000000

noncomputable section

/-!
# What the forward channel-mixer kernel leaves in its results
-/

namespace Cert.FfnFwdKernelIdeal.Hand

open Cert.FfnFwdKernelIdeal Cert.FfnFwdKernelIdeal.Gen
open Idealize.ShloMosaic Idealize.ShloMosaic.TcCoe Idealize.ShloMosaic.Tactic
open Idealize.ShloMosaic.Pipeline (RDat)

theorem hz : (![0, 0] : Fin 2 → Nat) = fun _ => 0 := funext fun a => by fin_cases a <;> rfl

/-! ## One point's arithmetic

From the blocks `h1`, `x`, `tg`, the gain `g` and the three weights. The hidden layer is taken in eleven blocks of 256 columns. -/

/-- Rows `o` to `o + 256` of a weight. -/
def ch (w : FVec Ideal S2816x1024 .bf16) (o : Nat) (h : o + 256 ≤ 2816) : FVec Ideal S256x1024 .bf16 :=
  View.ld (Val := Elt Ideal) (e' := .bf16) w (Rect.unit (s := S2816x1024) ![o, 0] ![256, 1024] (fun a => by fin_cases a; exacts [h, Nat.le_refl 1024]))
/-- A block of 256 columns of a product. -/
def Pj (x : FVec Ideal S512x1024 .bf16) (w : FVec Ideal S256x1024 .bf16) : FVec Ideal S512x256 .f32 :=
  matmul dot_S512x1024_S256x1024_S512x256_1_1_0_0_n_n none (shapeCast S512x1024 x shapeCasts_S512x1024_S512x1024) w (constant S512x256 .f32 0x00000000#32)
/-- The block as it is stored. -/
def Cb (x : FVec Ideal S512x1024 .bf16) (w : FVec Ideal S256x1024 .bf16) : FVec Ideal S512x256 .bf16 :=
  shapeCast S512x256 (truncf .bf16 (Pj x w) bitsLt_bf16_f32) shapeCasts_S512x256_S512x256
/-- The block of the hidden layer. -/
def Hd (x : FVec Ideal S512x1024 .bf16) (a b : FVec Ideal S256x1024 .bf16) : FVec Ideal S512x256 .bf16 :=
  truncf .bf16 (mulf (mulf (Pj x a) (logistic (Pj x a))) (Pj x b)) bitsLt_bf16_f32
/-- The output after one more block. -/
def St (x : FVec Ideal S512x1024 .bf16) (a b d : FVec Ideal S256x1024 .bf16) (acc : FVec Ideal S512x1024 .f32) : FVec Ideal S512x1024 .f32 :=
  addf acc (matmul dot_S512x256_S256x1024_S512x1024_1_0_0_1_n_n none (Hd x a b) d (constant S512x1024 .f32 0x00000000#32))
/-- The output of the mixer. -/
def Acc (x : FVec Ideal S512x1024 .bf16) (wg wu wd : FVec Ideal S2816x1024 .bf16) : FVec Ideal S512x1024 .f32 :=
  St x (ch wg 2560 (by omega)) (ch wu 2560 (by omega)) (ch wd 2560 (by omega))
    (St x (ch wg 2304 (by omega)) (ch wu 2304 (by omega)) (ch wd 2304 (by omega))
    (St x (ch wg 2048 (by omega)) (ch wu 2048 (by omega)) (ch wd 2048 (by omega))
    (St x (ch wg 1792 (by omega)) (ch wu 1792 (by omega)) (ch wd 1792 (by omega))
    (St x (ch wg 1536 (by omega)) (ch wu 1536 (by omega)) (ch wd 1536 (by omega))
    (St x (ch wg 1280 (by omega)) (ch wu 1280 (by omega)) (ch wd 1280 (by omega))
    (St x (ch wg 1024 (by omega)) (ch wu 1024 (by omega)) (ch wd 1024 (by omega))
    (St x (ch wg 768 (by omega)) (ch wu 768 (by omega)) (ch wd 768 (by omega))
    (St x (ch wg 512 (by omega)) (ch wu 512 (by omega)) (ch wd 512 (by omega))
    (St x (ch wg 256 (by omega)) (ch wu 256 (by omega)) (ch wd 256 (by omega))
    (St x (ch wg 0 (by omega)) (ch wu 0 (by omega)) (ch wd 0 (by omega))
    ((broadcast S512x1024 (Scalar.ofBits .f32 0x00000000#32)))))))))))))
/-- The stores of one product, the last first. -/
def PL (x : FVec Ideal S512x1024 .bf16) (w : FVec Ideal S2816x1024 .bf16) : List (View.Piece (Elt Ideal) S512x2816 .bf16) :=
  [⟨Rect.unit ![0, 2560] ![512, 256] inb_S512x2816_S512x256_0_2560, Cb x (ch w 2560 (by omega))⟩,
   ⟨Rect.unit ![0, 2304] ![512, 256] inb_S512x2816_S512x256_0_2304, Cb x (ch w 2304 (by omega))⟩,
   ⟨Rect.unit ![0, 2048] ![512, 256] inb_S512x2816_S512x256_0_2048, Cb x (ch w 2048 (by omega))⟩,
   ⟨Rect.unit ![0, 1792] ![512, 256] inb_S512x2816_S512x256_0_1792, Cb x (ch w 1792 (by omega))⟩,
   ⟨Rect.unit ![0, 1536] ![512, 256] inb_S512x2816_S512x256_0_1536, Cb x (ch w 1536 (by omega))⟩,
   ⟨Rect.unit ![0, 1280] ![512, 256] inb_S512x2816_S512x256_0_1280, Cb x (ch w 1280 (by omega))⟩,
   ⟨Rect.unit ![0, 1024] ![512, 256] inb_S512x2816_S512x256_0_1024, Cb x (ch w 1024 (by omega))⟩,
   ⟨Rect.unit ![0, 768] ![512, 256] inb_S512x2816_S512x256_0_768, Cb x (ch w 768 (by omega))⟩,
   ⟨Rect.unit ![0, 512] ![512, 256] inb_S512x2816_S512x256_0_512, Cb x (ch w 512 (by omega))⟩,
   ⟨Rect.unit ![0, 256] ![512, 256] inb_S512x2816_S512x256_0_256, Cb x (ch w 256 (by omega))⟩,
   ⟨Rect.unit ![0, 0] ![512, 256] inb_S512x2816_S512x256_0_0, Cb x (ch w 0 (by omega))⟩]

/-- The two halves of the block of sums. -/
def Ha (h1 : FVec Ideal S512x1024 .f32) (acc : FVec Ideal S512x1024 .f32) : FVec Ideal S256x1024 .f32 :=
  addf (View.ld (Val := Elt Ideal) (e' := .f32) h1 (Rect.unit ![0, 0] ![256, 1024] inb_S512x1024_S256x1024_0_0)) (extractStridedSlice S256x1024 ![0, 0] acc slices_S512x1024_o0_0_S256x1024)
def Hb (h1 : FVec Ideal S512x1024 .f32) (acc : FVec Ideal S512x1024 .f32) : FVec Ideal S256x1024 .f32 :=
  addf (View.ld (Val := Elt Ideal) (e' := .f32) h1 (Rect.unit ![256, 0] ![256, 1024] inb_S512x1024_S256x1024_256_0)) (extractStridedSlice S256x1024 ![256, 0] acc slices_S512x1024_o256_0_S256x1024)
def Ta (tg : FVec Ideal S512x1024 .f32) : FVec Ideal S256x1024 .f32 := View.ld (Val := Elt Ideal) (e' := .f32) tg (Rect.unit ![0, 0] ![256, 1024] inb_S512x1024_S256x1024_0_0)
def Tb (tg : FVec Ideal S512x1024 .f32) : FVec Ideal S256x1024 .f32 := View.ld (Val := Elt Ideal) (e' := .f32) tg (Rect.unit ![256, 0] ![256, 1024] inb_S512x1024_S256x1024_256_0)

/-- A row's sum, as a column. -/
def Rsum (h : FVec Ideal S256x1024 .f32) : FVec Ideal S256x1 .f32 :=
  shapeCast S256x1 (multiReduction .add [1] S256 h 0x00000000#32 reduces_S256x1024_S256 (.inl rfl) rfl) shapeCasts_S256_S256x1
/-- The reciprocal roots of a half's rows. -/
def Rv (h : FVec Ideal S256x1024 .f32) : FVec Ideal S256x1 .f32 := k0_pay74 (Rsum (mulf h h)) (Scalar.ofBits .f32 0x44800000#32)
/-- The half divided by its roots. -/
def Xv (h : FVec Ideal S256x1024 .f32) : FVec Ideal S256x1024 .f32 := mulf h (broadcastTo S256x1024 (Rv h) broadcasts_S256x1_S256x1024)
/-- The error of the half. -/
def Ev (g : FVec Ideal S1x1024 .f32) (h tg : FVec Ideal S256x1024 .f32) : FVec Ideal S256x1024 .f32 :=
  subf (mulf (Xv h) (broadcastTo S256x1024 g broadcasts_S1x1024_S256x1024)) tg
/-- The loss's gradient at the norm's output. -/
def Dv (g : FVec Ideal S1x1024 .f32) (h tg : FVec Ideal S256x1024 .f32) : FVec Ideal S256x1024 .f32 :=
  mulf (Ev g h tg) (broadcast S256x1024 (Scalar.ofBits .f32 0x3A800000#32))
/-- The same times the gain. -/
def Gv (g : FVec Ideal S1x1024 .f32) (h tg : FVec Ideal S256x1024 .f32) : FVec Ideal S256x1024 .f32 :=
  mulf (Dv g h tg) (broadcastTo S256x1024 g broadcasts_S1x1024_S256x1024)
/-- The mean along a row of the gradient times the normed row. -/
def Mv (g : FVec Ideal S1x1024 .f32) (h tg : FVec Ideal S256x1024 .f32) : FVec Ideal S256x1 .f32 :=
  divf (Rsum (mulf (Gv g h tg) (Xv h))) (broadcast S256x1 (Scalar.ofBits .f32 0x44800000#32))
/-- The loss's gradient at the half. -/
def Bv (g : FVec Ideal S1x1024 .f32) (h tg : FVec Ideal S256x1024 .f32) : FVec Ideal S256x1024 .f32 :=
  mulf (broadcastTo S256x1024 (Rv h) broadcasts_S256x1_S256x1024)
    (subf (Gv g h tg) (mulf (Xv h) (broadcastTo S256x1024 (Mv g h tg) broadcasts_S256x1_S256x1024)))
/-- A sum over a half's rows, added to what was there. -/
def Cv (a : FVec Ideal S1x1024 .f32) (h : FVec Ideal S256x1024 .f32) : FVec Ideal S1x1024 .f32 :=
  addf (shapeCast S1x1024 a shapeCasts_S1x1024_S1x1024)
    (shapeCast S1x1024 (multiReduction .add [0] S1024 h 0x00000000#32 reduces_S256x1024_S1024 (.inl rfl) rfl) shapeCasts_S1024_S1x1024)

section Point
variable (h1 : FVec Ideal S512x1024 .f32) (x : FVec Ideal S512x1024 .bf16) (tg : FVec Ideal S512x1024 .f32) (g : FVec Ideal S1x1024 .f32)
  (wg wu wd : FVec Ideal S2816x1024 .bf16)

def DHL : List (View.Piece (Elt Ideal) S512x1024 .f32) :=
  [⟨Rect.unit ![256, 0] ![256, 1024] inb_S512x1024_S256x1024_256_0, shapeCast S256x1024 (Bv g (Hb h1 (Acc x wg wu wd)) (Tb tg)) shapeCasts_S256x1024_S256x1024⟩,
   ⟨Rect.unit ![0, 0] ![256, 1024] inb_S512x1024_S256x1024_0_0, shapeCast S256x1024 (Bv g (Ha h1 (Acc x wg wu wd)) (Ta tg)) shapeCasts_S256x1024_S256x1024⟩]
def DBL : List (View.Piece (Elt Ideal) S512x1024 .bf16) :=
  [⟨Rect.unit ![256, 0] ![256, 1024] inb_S512x1024_S256x1024_256_0,
      shapeCast S256x1024 (truncf .bf16 (Bv g (Hb h1 (Acc x wg wu wd)) (Tb tg)) bitsLt_bf16_f32) shapeCasts_S256x1024_S256x1024⟩,
   ⟨Rect.unit ![0, 0] ![256, 1024] inb_S512x1024_S256x1024_0_0,
      shapeCast S256x1024 (truncf .bf16 (Bv g (Ha h1 (Acc x wg wu wd)) (Ta tg)) bitsLt_bf16_f32) shapeCasts_S256x1024_S256x1024⟩]
def DGv (a : FVec Ideal S1x1024 .f32) : FVec Ideal S1x1024 .f32 :=
  Cv (Cv a (mulf (Dv g (Ha h1 (Acc x wg wu wd)) (Ta tg)) (Xv (Ha h1 (Acc x wg wu wd)))))
    (mulf (Dv g (Hb h1 (Acc x wg wu wd)) (Tb tg)) (Xv (Hb h1 (Acc x wg wu wd))))
def SQv (a : FVec Ideal S1x1024 .f32) : FVec Ideal S1x1024 .f32 :=
  Cv (Cv a (mulf (Ev g (Ha h1 (Acc x wg wu wd)) (Ta tg)) (Ev g (Ha h1 (Acc x wg wu wd)) (Ta tg))))
    (mulf (Ev g (Hb h1 (Acc x wg wu wd)) (Tb tg)) (Ev g (Hb h1 (Acc x wg wu wd)) (Tb tg)))
end Point

/-! ## Its entries -/

theorem ch_at (w : FVec Ideal S2816x1024 .bf16) (o : Nat) (h : o + 256 ≤ 2816) (i : Fin 256) (k : Fin 1024) :
    ch w o h (ix2 i k) = w (ix2 ⟨o + i.val, by omega⟩ k) := by
  unfold ch
  pointwise
theorem Pj_at (x : FVec Ideal S512x1024 .bf16) (w : FVec Ideal S2816x1024 .bf16) (o : Nat) (h : o + 256 ≤ 2816) (r : Fin 512) (i : Fin 256) :
    Pj x (ch w o h) (ix2 r i) = ∑ l, x (ix2 r l) * w (ix2 ⟨o + i.val, by omega⟩ l) := by
  unfold Pj
  pointwise
  simp only [ch_at]
theorem Hd_at (x : FVec Ideal S512x1024 .bf16) (a b : FVec Ideal S256x1024 .bf16) (r : Fin 512) (i : Fin 256) :
    Hd x a b (ix2 r i) = Ffn.hidden (Pj x a (ix2 r i)) (Pj x b (ix2 r i)) := by
  unfold Hd Ffn.hidden
  pointwise
theorem St_at (x : FVec Ideal S512x1024 .bf16) (a b d : FVec Ideal S256x1024 .bf16) (acc : FVec Ideal S512x1024 .f32) (r : Fin 512) (k : Fin 1024) :
    St x a b d acc (ix2 r k) = acc (ix2 r k) + ∑ i, Ffn.hidden (Pj x a (ix2 r i)) (Pj x b (ix2 r i)) * d (ix2 i k) := by
  unfold St
  pointwise
  simp only [Hd_at]
/-- The product the stores are blocks of. -/
def PLF (x : FVec Ideal S512x1024 .bf16) (w : FVec Ideal S2816x1024 .bf16) (i : S512x2816.Idx) : Elt Ideal .bf16 :=
  (∑ l, x (ix2 (i 0) l) * w (ix2 (i 1) l) : EReal)
theorem piece_at (x : FVec Ideal S512x1024 .bf16) (w : FVec Ideal S2816x1024 .bf16) (o : Nat) (h : o + 256 ≤ 2816) (inb) (y : S512x256.Idx) :
    Cb x (ch w o h) y = PLF x w ((Rect.unit (s := S512x2816) ![0, o] ![512, 256] inb).emb y) := by
  idx_vars y
  unfold Cb
  pointwise
  rw [Pj_at]
  refine Finset.sum_congr rfl fun l _ => congrArg₂ (fun a b => x (ix2 a l) * w (ix2 b l)) (Fin.ext ?_) (Fin.ext ?_)
  · show y0.val = 0 + 1 * y0.val
    omega
  · show o + y1.val = o + 1 * y1.val
    omega
theorem PL_at (x : FVec Ideal S512x1024 .bf16) (w : FVec Ideal S2816x1024 .bf16) (r : Fin 512) (j : Fin 2816) :
    View.canon (PL x w) (ix2 r j) = ∑ l, x (ix2 r l) * w (ix2 j l) := by
  exact View.canon_apply_of_pieces (PLF x w) (PL x w)
    (View.PiecesOf.mem (show View.PiecesOf (PLF x w) (PL x w) from ⟨piece_at x w 2560 (by omega) inb_S512x2816_S512x256_0_2560, piece_at x w 2304 (by omega) inb_S512x2816_S512x256_0_2304, piece_at x w 2048 (by omega) inb_S512x2816_S512x256_0_2048, piece_at x w 1792 (by omega) inb_S512x2816_S512x256_0_1792, piece_at x w 1536 (by omega) inb_S512x2816_S512x256_0_1536, piece_at x w 1280 (by omega) inb_S512x2816_S512x256_0_1280, piece_at x w 1024 (by omega) inb_S512x2816_S512x256_0_1024, piece_at x w 768 (by omega) inb_S512x2816_S512x256_0_768, piece_at x w 512 (by omega) inb_S512x2816_S512x256_0_512, piece_at x w 256 (by omega) inb_S512x2816_S512x256_0_256, piece_at x w 0 (by omega) inb_S512x2816_S512x256_0_0, trivial⟩)) _ (View.cover_of_tiled _ ![512, 256] rfl _)
/-- Column `i` of block `n` of the hidden layer. -/
def unit (n : ℕ) (i : Fin 256) : Fin 2816 := ⟨256 * (n % 11) + i.val, by omega⟩
theorem sum_unit (f : Fin 2816 → EReal) : (∑ n ∈ Finset.range 11, ∑ i, f (unit n i)) = ∑ j, f j := by
  rw [Fin.sum_univ_tiles 11 256 rfl, Finset.sum_range]
  exact Finset.sum_congr rfl fun t _ => Finset.sum_congr rfl fun r _ => congrArg f (Fin.ext (by
    show 256 * (t.val % 11) + r.val = t.val * 256 + r.val
    have := t.isLt
    omega))
theorem Acc_at (x : FVec Ideal S512x1024 .bf16) (wg wu wd : FVec Ideal S2816x1024 .bf16) (r : Fin 512) (k : Fin 1024) :
    Acc x wg wu wd (ix2 r k)
      = ∑ j, Ffn.hidden (∑ l, x (ix2 r l) * wg (ix2 j l)) (∑ l, x (ix2 r l) * wu (ix2 j l)) * wd (ix2 j k) := by
  have z : (broadcast S512x1024 (Scalar.ofBits .f32 0x00000000#32) : FVec Ideal S512x1024 .f32) (ix2 r k) = 0 := by pointwise
  rw [← sum_unit]
  simp only [Finset.sum_range_succ, Finset.sum_range_zero]
  unfold Acc
  simp only [St_at, Pj_at, ch_at]
  rw [z]
  rfl

section Half
variable (h tg : FVec Ideal S256x1024 .f32) (g : FVec Ideal S1x1024 .f32) (ρ : Fin 256 → Fin 4096)
  (H T : Fin 4096 → Fin 1024 → EReal) (G : Fin 1024 → EReal)
  (hh : ∀ q k, h (ix2 q k) = H (ρ q) k) (ht : ∀ q k, tg (ix2 q k) = T (ρ q) k) (hg : ∀ k, g (ix2 0 k) = G k)
include hh
theorem Rv_at (q : Fin 256) : Rv h (ix2 q 0) = Fwd.rs H (ρ q) := by
  unfold Rv k0_pay74 Rsum
  pointwise
  simp only [hh, Rms.lit_eps, Rms.lit_1024]
  rfl
theorem Xv_at (q : Fin 256) (k : Fin 1024) : Xv h (ix2 q k) = H (ρ q) k * Fwd.rs H (ρ q) := by
  unfold Xv
  pointwise
  rw [hh, Rv_at h ρ H hh]
include ht hg
theorem Ev_at (q : Fin 256) (k : Fin 1024) : Ev g h tg (ix2 q k) = Fwd.err H T G (ρ q) k := by
  unfold Ev
  pointwise
  rw [Xv_at h ρ H hh, ht, hg]
  rfl
theorem Dv_at (q : Fin 256) (k : Fin 1024) : Dv g h tg (ix2 q k) = Fwd.de H T G (ρ q) k := by
  unfold Dv
  pointwise
  rw [Ev_at h tg g ρ H T G hh ht hg, Fwd.lit_thousandth]
  rfl
theorem Gv_at (q : Fin 256) (k : Fin 1024) : Gv g h tg (ix2 q k) = Fwd.gy H T G (ρ q) k := by
  unfold Gv
  pointwise
  rw [Dv_at h tg g ρ H T G hh ht hg, hg]
  rfl
theorem Bv_at (q : Fin 256) (k : Fin 1024) : Bv g h tg (ix2 q k) = Fwd.dh H T G (ρ q) k := by
  unfold Bv Mv Rsum
  pointwise
  simp only [Gv_at h tg g ρ H T G hh ht hg, Xv_at h ρ H hh, Rv_at h ρ H hh, Rms.lit_1024]
  rfl
theorem CvG_at (a : FVec Ideal S1x1024 .f32) (k : Fin 1024) :
    Cv a (mulf (Dv g h tg) (Xv h)) (ix2 0 k) = a (ix2 0 k) + ∑ q, Fwd.dG H T G k (ρ q) := by
  unfold Cv
  pointwise
  simp only [Dv_at h tg g ρ H T G hh ht hg, Xv_at h ρ H hh]
  rfl
theorem CvS_at (a : FVec Ideal S1x1024 .f32) (k : Fin 1024) :
    Cv a (mulf (Ev g h tg) (Ev g h tg)) (ix2 0 k) = a (ix2 0 k) + ∑ q, Fwd.sq H T G k (ρ q) := by
  unfold Cv
  pointwise
  simp only [Ev_at h tg g ρ H T G hh ht hg]
  rfl
end Half

/-! ## The kernel's stores -/

variable (m : (ℓ : Loc nD τ sig) → Buf (Elt Ideal) ℓ) (c : Dev nD)

/-- What the point before left. -/
abbrev prev (t : Fin cfg0.N) := outsAt0 m c (t.val - 1) (Nat.lt_of_le_of_lt (Nat.sub_le _ _) t.isLt)

theorem sc0_read (x : Vec Ideal S2816x1024 .bf16) :
    View.read (Elt Ideal) (View.whole cc0_scratch0) ((Memref.isWhole_whole cc0_scratch0).unread x) = x :=
  (Memref.isWhole_whole cc0_scratch0).read_unread x
theorem sc1_read (x : Vec Ideal S2816x1024 .bf16) :
    View.read (Elt Ideal) (View.whole cc0_scratch1) ((Memref.isWhole_whole cc0_scratch1).unread x) = x :=
  (Memref.isWhole_whole cc0_scratch1).read_unread x
theorem sc2_read (x : Vec Ideal S2816x1024 .bf16) :
    View.read (Elt Ideal) (View.whole cc0_scratch2) ((Memref.isWhole_whole cc0_scratch2).unread x) = x :=
  (Memref.isWhole_whole cc0_scratch2).read_unread x
/-- A load from a weight that was filled by one copy. -/
theorem cov_ld {sp : Space} (v : View sig .tc sp S2816x1024 .bf16) (X : S2816x1024.Idx → Elt Ideal .bf16) (r : Rect S2816x1024) :
    v.readCov [⟨Rect.whole S2816x1024, X⟩] r.toLoadRect = View.ld X r := by
  rw [View.readCov_eq_canon']
  funext j
  exact congrFun (View.canon_unit_zero (S := S2816x1024) rfl _ X) _

theorem g_A (t : Fin cfg0.N) (h0 : t.val % 8 = 0) : (outsAt0 m c t.val t.isLt).1 = View.canon (PL (iblk m c 1 t) (V m c main_v2)) := by
  rw [outsAt0_A m c t h0]
  dsimp only
  unfold out0_A_4
  refine (View.read_writes_eq_canon _ _ _ (fun y => cover0_A_4 ..)).trans ?_
  unfold kernelRun0_A
  dsimp only
  sl_unfold_words
  simp only [View.readAt_eq_ld, (hs0_0 t).read_unread, (hs0_1 t).read_unread, (hs0_2 t).read_unread, (hs0_3 t).read_unread, (hs0_8 t).read_unread, (hs0_9 t).read_unread, sc0_read, sc1_read, sc2_read, cov_ld, View.ld_unit_zero (S := S512x1024) hz, View.ld_unit_zero (S := S1x1024) hz]
  rfl
theorem u_A (t : Fin cfg0.N) (h0 : t.val % 8 = 0) : (outsAt0 m c t.val t.isLt).2.1 = View.canon (PL (iblk m c 1 t) (V m c main_v4)) := by
  rw [outsAt0_A m c t h0]
  dsimp only
  unfold out0_A_5
  refine (View.read_writes_eq_canon _ _ _ (fun y => cover0_A_5 ..)).trans ?_
  unfold kernelRun0_A
  dsimp only
  sl_unfold_words
  simp only [View.readAt_eq_ld, (hs0_0 t).read_unread, (hs0_1 t).read_unread, (hs0_2 t).read_unread, (hs0_3 t).read_unread, (hs0_8 t).read_unread, (hs0_9 t).read_unread, sc0_read, sc1_read, sc2_read, cov_ld, View.ld_unit_zero (S := S512x1024) hz, View.ld_unit_zero (S := S1x1024) hz]
  rfl
theorem dh_A (t : Fin cfg0.N) (h0 : t.val % 8 = 0) : (outsAt0 m c t.val t.isLt).2.2.1 = View.canon (DHL (iblk m c 0 t) (iblk m c 1 t) (iblk m c 2 t) (iblk m c 3 t) (V m c main_v2) (V m c main_v4) (V m c main_v5)) := by
  rw [outsAt0_A m c t h0]
  dsimp only
  unfold out0_A_6
  refine (View.read_writes_eq_canon _ _ _ (fun y => cover0_A_6 ..)).trans ?_
  unfold kernelRun0_A
  dsimp only
  sl_unfold_words
  simp only [View.readAt_eq_ld, (hs0_0 t).read_unread, (hs0_1 t).read_unread, (hs0_2 t).read_unread, (hs0_3 t).read_unread, (hs0_8 t).read_unread, (hs0_9 t).read_unread, sc0_read, sc1_read, sc2_read, cov_ld, View.ld_unit_zero (S := S512x1024) hz, View.ld_unit_zero (S := S1x1024) hz]
  rfl
theorem db_A (t : Fin cfg0.N) (h0 : t.val % 8 = 0) : (outsAt0 m c t.val t.isLt).2.2.2.1 = View.canon (DBL (iblk m c 0 t) (iblk m c 1 t) (iblk m c 2 t) (iblk m c 3 t) (V m c main_v2) (V m c main_v4) (V m c main_v5)) := by
  rw [outsAt0_A m c t h0]
  dsimp only
  unfold out0_A_7
  refine (View.read_writes_eq_canon _ _ _ (fun y => cover0_A_7 ..)).trans ?_
  unfold kernelRun0_A
  dsimp only
  sl_unfold_words
  simp only [View.readAt_eq_ld, (hs0_0 t).read_unread, (hs0_1 t).read_unread, (hs0_2 t).read_unread, (hs0_3 t).read_unread, (hs0_8 t).read_unread, (hs0_9 t).read_unread, sc0_read, sc1_read, sc2_read, cov_ld, View.ld_unit_zero (S := S512x1024) hz, View.ld_unit_zero (S := S1x1024) hz]
  rfl
theorem dg_A (t : Fin cfg0.N) (h0 : t.val % 8 = 0) : (outsAt0 m c t.val t.isLt).2.2.2.2.1 = DGv (iblk m c 0 t) (iblk m c 1 t) (iblk m c 2 t) (iblk m c 3 t) (V m c main_v2) (V m c main_v4) (V m c main_v5) k0_pay3 := by
  rw [outsAt0_A m c t h0]
  dsimp only
  unfold out0_A_8
  refine (View.read_writes_eq_canon _ _ _ (fun y => cover0_A_8 ..)).trans ?_
  unfold kernelRun0_A
  dsimp only
  sl_unfold_words
  rw [View.canon_cons_unit_zero (S := S1x1024) hz]
  simp only [View.readCov_cons_toLoadRect]
  simp only [View.readAt_eq_ld, (hs0_0 t).read_unread, (hs0_1 t).read_unread, (hs0_2 t).read_unread, (hs0_3 t).read_unread, (hs0_8 t).read_unread, (hs0_9 t).read_unread, sc0_read, sc1_read, sc2_read, cov_ld, View.ld_unit_zero (S := S512x1024) hz, View.ld_unit_zero (S := S1x1024) hz]
  rfl
theorem sq_A (t : Fin cfg0.N) (h0 : t.val % 8 = 0) : (outsAt0 m c t.val t.isLt).2.2.2.2.2.1 = SQv (iblk m c 0 t) (iblk m c 1 t) (iblk m c 2 t) (iblk m c 3 t) (V m c main_v2) (V m c main_v4) (V m c main_v5) k0_pay4 := by
  rw [outsAt0_A m c t h0]
  dsimp only
  unfold out0_A_9
  refine (View.read_writes_eq_canon _ _ _ (fun y => cover0_A_9 ..)).trans ?_
  unfold kernelRun0_A
  dsimp only
  sl_unfold_words
  rw [View.canon_cons_unit_zero (S := S1x1024) hz]
  simp only [View.readCov_cons_toLoadRect]
  simp only [View.readAt_eq_ld, (hs0_0 t).read_unread, (hs0_1 t).read_unread, (hs0_2 t).read_unread, (hs0_3 t).read_unread, (hs0_8 t).read_unread, (hs0_9 t).read_unread, sc0_read, sc1_read, sc2_read, cov_ld, View.ld_unit_zero (S := S512x1024) hz, View.ld_unit_zero (S := S1x1024) hz]
  rfl
theorem g_B (t : Fin cfg0.N) (h0 : ¬t.val % 8 = 0) : (outsAt0 m c t.val t.isLt).1 = View.canon (PL (iblk m c 1 t) (prev m c t).2.2.2.2.2.2.1) := by
  rw [outsAt0_B m c t h0]
  dsimp only
  unfold out0_B_4
  refine (View.read_writes_eq_canon _ _ _ (fun y => cover0_B_4 ..)).trans ?_
  unfold kernelRun0_B
  dsimp only
  sl_unfold_words
  simp only [View.readAt_eq_ld, (hs0_0 t).read_unread, (hs0_1 t).read_unread, (hs0_2 t).read_unread, (hs0_3 t).read_unread, (hs0_8 t).read_unread, (hs0_9 t).read_unread, sc0_read, sc1_read, sc2_read, cov_ld, View.ld_unit_zero (S := S512x1024) hz, View.ld_unit_zero (S := S1x1024) hz]
  rfl
theorem u_B (t : Fin cfg0.N) (h0 : ¬t.val % 8 = 0) : (outsAt0 m c t.val t.isLt).2.1 = View.canon (PL (iblk m c 1 t) (prev m c t).2.2.2.2.2.2.2.1) := by
  rw [outsAt0_B m c t h0]
  dsimp only
  unfold out0_B_5
  refine (View.read_writes_eq_canon _ _ _ (fun y => cover0_B_5 ..)).trans ?_
  unfold kernelRun0_B
  dsimp only
  sl_unfold_words
  simp only [View.readAt_eq_ld, (hs0_0 t).read_unread, (hs0_1 t).read_unread, (hs0_2 t).read_unread, (hs0_3 t).read_unread, (hs0_8 t).read_unread, (hs0_9 t).read_unread, sc0_read, sc1_read, sc2_read, cov_ld, View.ld_unit_zero (S := S512x1024) hz, View.ld_unit_zero (S := S1x1024) hz]
  rfl
theorem dh_B (t : Fin cfg0.N) (h0 : ¬t.val % 8 = 0) : (outsAt0 m c t.val t.isLt).2.2.1 = View.canon (DHL (iblk m c 0 t) (iblk m c 1 t) (iblk m c 2 t) (iblk m c 3 t) (prev m c t).2.2.2.2.2.2.1 (prev m c t).2.2.2.2.2.2.2.1 (prev m c t).2.2.2.2.2.2.2.2) := by
  rw [outsAt0_B m c t h0]
  dsimp only
  unfold out0_B_6
  refine (View.read_writes_eq_canon _ _ _ (fun y => cover0_B_6 ..)).trans ?_
  unfold kernelRun0_B
  dsimp only
  sl_unfold_words
  simp only [View.readAt_eq_ld, (hs0_0 t).read_unread, (hs0_1 t).read_unread, (hs0_2 t).read_unread, (hs0_3 t).read_unread, (hs0_8 t).read_unread, (hs0_9 t).read_unread, sc0_read, sc1_read, sc2_read, cov_ld, View.ld_unit_zero (S := S512x1024) hz, View.ld_unit_zero (S := S1x1024) hz]
  rfl
theorem db_B (t : Fin cfg0.N) (h0 : ¬t.val % 8 = 0) : (outsAt0 m c t.val t.isLt).2.2.2.1 = View.canon (DBL (iblk m c 0 t) (iblk m c 1 t) (iblk m c 2 t) (iblk m c 3 t) (prev m c t).2.2.2.2.2.2.1 (prev m c t).2.2.2.2.2.2.2.1 (prev m c t).2.2.2.2.2.2.2.2) := by
  rw [outsAt0_B m c t h0]
  dsimp only
  unfold out0_B_7
  refine (View.read_writes_eq_canon _ _ _ (fun y => cover0_B_7 ..)).trans ?_
  unfold kernelRun0_B
  dsimp only
  sl_unfold_words
  simp only [View.readAt_eq_ld, (hs0_0 t).read_unread, (hs0_1 t).read_unread, (hs0_2 t).read_unread, (hs0_3 t).read_unread, (hs0_8 t).read_unread, (hs0_9 t).read_unread, sc0_read, sc1_read, sc2_read, cov_ld, View.ld_unit_zero (S := S512x1024) hz, View.ld_unit_zero (S := S1x1024) hz]
  rfl
theorem dg_B (t : Fin cfg0.N) (h0 : ¬t.val % 8 = 0) : (outsAt0 m c t.val t.isLt).2.2.2.2.1 = DGv (iblk m c 0 t) (iblk m c 1 t) (iblk m c 2 t) (iblk m c 3 t) (prev m c t).2.2.2.2.2.2.1 (prev m c t).2.2.2.2.2.2.2.1 (prev m c t).2.2.2.2.2.2.2.2 (prev m c t).2.2.2.2.1 := by
  rw [outsAt0_B m c t h0]
  dsimp only
  unfold out0_B_8
  refine (View.read_writes_eq_canon _ _ _ (fun y => cover0_B_8 ..)).trans ?_
  unfold kernelRun0_B
  dsimp only
  sl_unfold_words
  rw [View.canon_cons_unit_zero (S := S1x1024) hz]
  simp only [View.readCov_cons_toLoadRect]
  simp only [View.readAt_eq_ld, (hs0_0 t).read_unread, (hs0_1 t).read_unread, (hs0_2 t).read_unread, (hs0_3 t).read_unread, (hs0_8 t).read_unread, (hs0_9 t).read_unread, sc0_read, sc1_read, sc2_read, cov_ld, View.ld_unit_zero (S := S512x1024) hz, View.ld_unit_zero (S := S1x1024) hz]
  rfl
theorem sq_B (t : Fin cfg0.N) (h0 : ¬t.val % 8 = 0) : (outsAt0 m c t.val t.isLt).2.2.2.2.2.1 = SQv (iblk m c 0 t) (iblk m c 1 t) (iblk m c 2 t) (iblk m c 3 t) (prev m c t).2.2.2.2.2.2.1 (prev m c t).2.2.2.2.2.2.2.1 (prev m c t).2.2.2.2.2.2.2.2 (prev m c t).2.2.2.2.2.1 := by
  rw [outsAt0_B m c t h0]
  dsimp only
  unfold out0_B_9
  refine (View.read_writes_eq_canon _ _ _ (fun y => cover0_B_9 ..)).trans ?_
  unfold kernelRun0_B
  dsimp only
  sl_unfold_words
  rw [View.canon_cons_unit_zero (S := S1x1024) hz]
  simp only [View.readCov_cons_toLoadRect]
  simp only [View.readAt_eq_ld, (hs0_0 t).read_unread, (hs0_1 t).read_unread, (hs0_2 t).read_unread, (hs0_3 t).read_unread, (hs0_8 t).read_unread, (hs0_9 t).read_unread, sc0_read, sc1_read, sc2_read, cov_ld, View.ld_unit_zero (S := S512x1024) hz, View.ld_unit_zero (S := S1x1024) hz]
  rfl

theorem w_A (t : Fin cfg0.N) (h0 : t.val % 8 = 0) : (outsAt0 m c t.val t.isLt).2.2.2.2.2.2 = (V m c main_v2, V m c main_v4, V m c main_v5) := by
  rw [outsAt0_A m c t h0]
  dsimp only
  unfold sout0_A_0 sout0_A_1 sout0_A_2
  refine congrArg₂ Prod.mk ?_ (congrArg₂ Prod.mk ?_ ?_)
  · refine (View.read_writes_eq_canon _ _ _ (fun y => scover0_A_0 ..)).trans ?_
    unfold kernelRun0_A
    dsimp only
    sl_unfold_words
    exact View.canon_unit_zero (S := S2816x1024) rfl _ _
  · refine (View.read_writes_eq_canon _ _ _ (fun y => scover0_A_1 ..)).trans ?_
    unfold kernelRun0_A
    dsimp only
    sl_unfold_words
    exact View.canon_unit_zero (S := S2816x1024) rfl _ _
  · refine (View.read_writes_eq_canon _ _ _ (fun y => scover0_A_2 ..)).trans ?_
    unfold kernelRun0_A
    dsimp only
    sl_unfold_words
    exact View.canon_unit_zero (S := S2816x1024) rfl _ _
theorem w_B (t : Fin cfg0.N) (h0 : ¬t.val % 8 = 0) : (outsAt0 m c t.val t.isLt).2.2.2.2.2.2 = (prev m c t).2.2.2.2.2.2 := by
  rw [outsAt0_B m c t h0]
  rfl

/-- The weights stay as the first point loaded them. -/
theorem w_all : ∀ (n : ℕ) (h : n < cfg0.N), (outsAt0 m c n h).2.2.2.2.2.2 = (V m c main_v2, V m c main_v4, V m c main_v5)
  | 0, h => w_A m c ⟨0, h⟩ (Nat.zero_mod 8)
  | n + 1, h => by
    have hN : n + 1 < 8 := h
    exact (w_B m c ⟨n + 1, h⟩ (by show ¬(n + 1) % 8 = 0; omega)).trans (w_all n (Nat.lt_of_succ_lt h))
theorem w_prev (t : Fin cfg0.N) : (prev m c t).2.2.2.2.2.2 = (V m c main_v2, V m c main_v4, V m c main_v5) := w_all m c _ _

theorem g_all (t : Fin cfg0.N) : (outsAt0 m c t.val t.isLt).1 = View.canon (PL (iblk m c 1 t) (V m c main_v2)) := by
  by_cases h0 : t.val % 8 = 0
  · exact g_A m c t h0
  · rw [g_B m c t h0, w_prev]
theorem u_all (t : Fin cfg0.N) : (outsAt0 m c t.val t.isLt).2.1 = View.canon (PL (iblk m c 1 t) (V m c main_v4)) := by
  by_cases h0 : t.val % 8 = 0
  · exact u_A m c t h0
  · rw [u_B m c t h0, w_prev]
theorem dh_all (t : Fin cfg0.N) : (outsAt0 m c t.val t.isLt).2.2.1
    = View.canon (DHL (iblk m c 0 t) (iblk m c 1 t) (iblk m c 2 t) (iblk m c 3 t) (V m c main_v2) (V m c main_v4) (V m c main_v5)) := by
  by_cases h0 : t.val % 8 = 0
  · exact dh_A m c t h0
  · rw [dh_B m c t h0, w_prev]
theorem db_all (t : Fin cfg0.N) : (outsAt0 m c t.val t.isLt).2.2.2.1
    = View.canon (DBL (iblk m c 0 t) (iblk m c 1 t) (iblk m c 2 t) (iblk m c 3 t) (V m c main_v2) (V m c main_v4) (V m c main_v5)) := by
  by_cases h0 : t.val % 8 = 0
  · exact db_A m c t h0
  · rw [db_B m c t h0, w_prev]
theorem dg_step (t : Fin cfg0.N) (h0 : ¬t.val % 8 = 0) : (outsAt0 m c t.val t.isLt).2.2.2.2.1
    = DGv (iblk m c 0 t) (iblk m c 1 t) (iblk m c 2 t) (iblk m c 3 t) (V m c main_v2) (V m c main_v4) (V m c main_v5) (prev m c t).2.2.2.2.1 := by
  rw [dg_B m c t h0, w_prev]
theorem sq_step (t : Fin cfg0.N) (h0 : ¬t.val % 8 = 0) : (outsAt0 m c t.val t.isLt).2.2.2.2.2.1
    = SQv (iblk m c 0 t) (iblk m c 1 t) (iblk m c 2 t) (iblk m c 3 t) (V m c main_v2) (V m c main_v4) (V m c main_v5) (prev m c t).2.2.2.2.2.1 := by
  rw [sq_B m c t h0, w_prev]

/-! ## The arguments -/

def aH1 (r : Fin 4096) (k : Fin 1024) : EReal := m ((c : Thread nD τ).loc main_arg0) (ix2 r k)
def aX (r : Fin 4096) (k : Fin 1024) : EReal := m ((c : Thread nD τ).loc main_arg1) (ix2 r k)
def aT (r : Fin 4096) (k : Fin 1024) : EReal := m ((c : Thread nD τ).loc main_arg2) (ix2 r k)
def aG (k : Fin 1024) : EReal := m ((c : Thread nD τ).loc main_arg3) (ix2 0 k)
def aWg (k : Fin 1024) (j : Fin 2816) : EReal := m ((c : Thread nD τ).loc main_arg4) (ix2 k j)
def aWu (k : Fin 1024) (j : Fin 2816) : EReal := m ((c : Thread nD τ).loc main_arg5) (ix2 k j)
def aWd (j : Fin 2816) (k : Fin 1024) : EReal := m ((c : Thread nD τ).loc main_arg6) (ix2 j k)

/-- Row `r` of the token block of point `n`. -/
def row (n : Fin 8) (r : Fin 512) : Fin 4096 := ⟨512 * n.val + r.val, by omega⟩

theorem V_h1 (r : Fin 4096) (k : Fin 1024) : V m c main_arg0 (ix2 r k) = aH1 m c r k := by
  unfold V; after_reads_at; rfl
theorem V_x (r : Fin 4096) (k : Fin 1024) : V m c main_v0 (ix2 r k) = aX m c r k := by
  unfold V; after_reads_at; rfl
theorem V_t (r : Fin 4096) (k : Fin 1024) : V m c main_arg2 (ix2 r k) = aT m c r k := by
  unfold V; after_reads_at; rfl
theorem V_g (k : Fin 1024) : V m c main_arg3 (ix2 0 k) = aG m c k := by
  unfold V; after_reads_at; rfl
theorem V_wg (k : Fin 1024) (j : Fin 2816) : V m c main_v2 (ix2 j k) = aWg m c k j := by
  unfold V; after_reads_at; rfl
theorem V_wu (k : Fin 1024) (j : Fin 2816) : V m c main_v4 (ix2 j k) = aWu m c k j := by
  unfold V; after_reads_at; rfl
theorem V_wd (k : Fin 1024) (j : Fin 2816) : V m c main_v5 (ix2 j k) = aWd m c j k := by
  unfold V; after_reads_at; rfl

theorem index_rows : ∀ t : Fin grid0.N, win0_0.index t = ![t.val, 0] ∧ win0_1.index t = ![t.val, 0] ∧ win0_2.index t = ![t.val, 0] ∧ win0_3.index t = ![0, 0] := by decide +kernel

theorem bH1_at (t : Fin cfg0.N) (r : Fin 512) (k : Fin 1024) : iblk m c 0 t (ix2 r k) = aH1 m c (row t r) k := by
  rw [← V_h1]; unfold row
  blk_ext [iblk, (index_rows t).1]
theorem bX_at (t : Fin cfg0.N) (r : Fin 512) (k : Fin 1024) : iblk m c 1 t (ix2 r k) = aX m c (row t r) k := by
  rw [← V_x]; unfold row
  blk_ext [iblk, (index_rows t).2.1]
theorem bT_at (t : Fin cfg0.N) (r : Fin 512) (k : Fin 1024) : iblk m c 2 t (ix2 r k) = aT m c (row t r) k := by
  rw [← V_t]; unfold row
  blk_ext [iblk, (index_rows t).2.2.1]
theorem bG_at (t : Fin cfg0.N) (k : Fin 1024) : iblk m c 3 t (ix2 0 k) = aG m c k := by
  rw [← V_g]
  blk_ext [iblk, (index_rows t).2.2.2]

/-! ## The entries of one point's results -/

def H2 (r : Fin 4096) (k : Fin 1024) : EReal := Fwd.h2 (aH1 m c) (aX m c) (aWg m c) (aWu m c) (aWd m c) r k
def Dh (r : Fin 4096) (k : Fin 1024) : EReal := Fwd.dh (H2 m c) (aT m c) (aG m c) r k
def dG (k : Fin 1024) (r : Fin 4096) : EReal := Fwd.dG (H2 m c) (aT m c) (aG m c) k r
def Sq (k : Fin 1024) (r : Fin 4096) : EReal := Fwd.sq (H2 m c) (aT m c) (aG m c) k r

/-- The rows of the two halves. -/
def rowA (t : Fin 8) (q : Fin 256) : Fin 4096 := row t ⟨q.val, by omega⟩
def rowB (t : Fin 8) (q : Fin 256) : Fin 4096 := row t ⟨256 + q.val, by omega⟩
theorem sum_halves (t : Fin 8) (f : Fin 4096 → EReal) : (∑ q, f (rowA t q)) + ∑ q, f (rowB t q) = ∑ r, f (row t r) :=
  ((Fin.sum_univ_tiles 2 256 rfl fun r => f (row t r)).trans (by
    rw [Fin.sum_univ_two]
    exact congrArg₂ (· + ·) (Finset.sum_congr rfl fun q _ => congrArg (fun r => f (row t r)) (Fin.ext (by show 0 * 256 + q.val = q.val; omega)))
      (Finset.sum_congr rfl fun q _ => congrArg (fun r => f (row t r)) (Fin.ext (by show 1 * 256 + q.val = 256 + q.val; omega))))).symm

abbrev acc (t : Fin cfg0.N) := Acc (iblk m c 1 t) (V m c main_v2) (V m c main_v4) (V m c main_v5)
theorem acc_at (t : Fin cfg0.N) (r : Fin 512) (k : Fin 1024) :
    acc m c t (ix2 r k) = ∑ j, Fwd.hid (aX m c) (aWg m c) (aWu m c) (row t r) j * aWd m c j k := by
  unfold acc
  rw [Acc_at]
  simp only [bX_at]
  exact Finset.sum_congr rfl fun j _ => congrArg₂ (· * ·)
    (congrArg₂ Ffn.hidden (Finset.sum_congr rfl fun l _ => congrArg (_ * ·) (V_wg m c l j)) (Finset.sum_congr rfl fun l _ => congrArg (_ * ·) (V_wu m c l j)))
    (V_wd m c k j)
theorem Ha_at (t : Fin cfg0.N) (q : Fin 256) (k : Fin 1024) : Ha (iblk m c 0 t) (acc m c t) (ix2 q k) = H2 m c (rowA t q) k := by
  unfold Ha
  pointwise
  rw [bH1_at, acc_at]
  rfl
theorem Hb_at (t : Fin cfg0.N) (q : Fin 256) (k : Fin 1024) : Hb (iblk m c 0 t) (acc m c t) (ix2 q k) = H2 m c (rowB t q) k := by
  unfold Hb
  pointwise
  rw [bH1_at, acc_at]
  rfl
theorem Ta_at (t : Fin cfg0.N) (q : Fin 256) (k : Fin 1024) : Ta (iblk m c 2 t) (ix2 q k) = aT m c (rowA t q) k := by
  unfold Ta
  pointwise
  rw [bT_at]
  rfl
theorem Tb_at (t : Fin cfg0.N) (q : Fin 256) (k : Fin 1024) : Tb (iblk m c 2 t) (ix2 q k) = aT m c (rowB t q) k := by
  unfold Tb
  pointwise
  rw [bT_at]
  rfl
theorem Ba_at (t : Fin cfg0.N) (q : Fin 256) (k : Fin 1024) :
    Bv (iblk m c 3 t) (Ha (iblk m c 0 t) (acc m c t)) (Ta (iblk m c 2 t)) (ix2 q k) = Dh m c (rowA t q) k :=
  Bv_at _ _ _ (rowA t) (H2 m c) (aT m c) (aG m c) (Ha_at m c t) (Ta_at m c t) (bG_at m c t) q k
theorem Bb_at (t : Fin cfg0.N) (q : Fin 256) (k : Fin 1024) :
    Bv (iblk m c 3 t) (Hb (iblk m c 0 t) (acc m c t)) (Tb (iblk m c 2 t)) (ix2 q k) = Dh m c (rowB t q) k :=
  Bv_at _ _ _ (rowB t) (H2 m c) (aT m c) (aG m c) (Hb_at m c t) (Tb_at m c t) (bG_at m c t) q k

/-- The block of point `t` of the gradient at the sum. -/
def DHF (t : Fin cfg0.N) (i : S512x1024.Idx) : Elt Ideal .f32 := (Dh m c (row t (i 0)) (i 1) : EReal)
def DBF (t : Fin cfg0.N) (i : S512x1024.Idx) : Elt Ideal .bf16 := (Dh m c (row t (i 0)) (i 1) : EReal)

theorem dh_at (t : Fin cfg0.N) (r : Fin 512) (k : Fin 1024) : (outsAt0 m c t.val t.isLt).2.2.1 (ix2 r k) = Dh m c (row t r) k := by
  rw [dh_all]
  refine View.canon_apply_of_pieces (DHF m c t) (DHL _ _ _ _ _ _ _)
    (View.PiecesOf.mem (show View.PiecesOf (DHF m c t) (DHL _ _ _ _ _ _ _) from ⟨fun y => ?_, fun y => ?_, trivial⟩)) _
    (View.cover_of_tiled _ ![256, 1024] rfl _)
  · idx_vars y
    pointwise
    refine (Bb_at m c t y0 y1).trans ?_
    refine congrArg₂ (Dh m c) (Fin.ext ?_) (Fin.ext ?_)
    · show 512 * t.val + (256 + y0.val) = 512 * t.val + (256 + 1 * y0.val)
      omega
    · show y1.val = 0 + 1 * y1.val
      omega
  · idx_vars y
    pointwise
    refine (Ba_at m c t y0 y1).trans ?_
    refine congrArg₂ (Dh m c) (Fin.ext ?_) (Fin.ext ?_)
    · show 512 * t.val + y0.val = 512 * t.val + (0 + 1 * y0.val)
      omega
    · show y1.val = 0 + 1 * y1.val
      omega
theorem db_at (t : Fin cfg0.N) (r : Fin 512) (k : Fin 1024) : (outsAt0 m c t.val t.isLt).2.2.2.1 (ix2 r k) = Dh m c (row t r) k := by
  rw [db_all]
  refine View.canon_apply_of_pieces (DBF m c t) (DBL _ _ _ _ _ _ _)
    (View.PiecesOf.mem (show View.PiecesOf (DBF m c t) (DBL _ _ _ _ _ _ _) from ⟨fun y => ?_, fun y => ?_, trivial⟩)) _
    (View.cover_of_tiled _ ![256, 1024] rfl _)
  · idx_vars y
    pointwise
    refine (Bb_at m c t y0 y1).trans ?_
    refine congrArg₂ (Dh m c) (Fin.ext ?_) (Fin.ext ?_)
    · show 512 * t.val + (256 + y0.val) = 512 * t.val + (256 + 1 * y0.val)
      omega
    · show y1.val = 0 + 1 * y1.val
      omega
  · idx_vars y
    pointwise
    refine (Ba_at m c t y0 y1).trans ?_
    refine congrArg₂ (Dh m c) (Fin.ext ?_) (Fin.ext ?_)
    · show 512 * t.val + y0.val = 512 * t.val + (0 + 1 * y0.val)
      omega
    · show y1.val = 0 + 1 * y1.val
      omega

theorem DGv_at (t : Fin cfg0.N) (a : FVec Ideal S1x1024 .f32) (k : Fin 1024) :
    DGv (iblk m c 0 t) (iblk m c 1 t) (iblk m c 2 t) (iblk m c 3 t) (V m c main_v2) (V m c main_v4) (V m c main_v5) a (ix2 0 k)
      = a (ix2 0 k) + ∑ r, dG m c k (row t r) := by
  unfold DGv
  rw [CvG_at _ _ _ (rowB t) (H2 m c) (aT m c) (aG m c) (Hb_at m c t) (Tb_at m c t) (bG_at m c t),
    CvG_at _ _ _ (rowA t) (H2 m c) (aT m c) (aG m c) (Ha_at m c t) (Ta_at m c t) (bG_at m c t), add_assoc]
  exact congrArg _ (sum_halves t (dG m c k))
theorem SQv_at (t : Fin cfg0.N) (a : FVec Ideal S1x1024 .f32) (k : Fin 1024) :
    SQv (iblk m c 0 t) (iblk m c 1 t) (iblk m c 2 t) (iblk m c 3 t) (V m c main_v2) (V m c main_v4) (V m c main_v5) a (ix2 0 k)
      = a (ix2 0 k) + ∑ r, Sq m c k (row t r) := by
  unfold SQv
  rw [CvS_at _ _ _ (rowB t) (H2 m c) (aT m c) (aG m c) (Hb_at m c t) (Tb_at m c t) (bG_at m c t),
    CvS_at _ _ _ (rowA t) (H2 m c) (aT m c) (aG m c) (Ha_at m c t) (Ta_at m c t) (bG_at m c t), add_assoc]
  exact congrArg _ (sum_halves t (Sq m c k))

/-! ## The sums over the points -/

theorem row_eq (n : ℕ) (h : n < 8) : Rms.rowOf n = row ⟨n, h⟩ :=
  funext fun r => Fin.ext (by show 512 * (n % 8) + _ = 512 * n + _; omega)

theorem dg_acc (k : Fin 1024) : ∀ (n : ℕ) (h : n < cfg0.N),
    (outsAt0 m c n h).2.2.2.2.1 (ix2 0 k) = ∑ i ∈ Finset.range (n + 1), ∑ r, dG m c k (Rms.rowOf i r)
  | 0, h => by
    rw [dg_A m c ⟨0, h⟩ (Nat.zero_mod 8), DGv_at, Finset.sum_range_one, row_eq 0 h]
    unfold k0_pay3
    pointwise
  | n + 1, h => by
    have hN : n + 1 < 8 := h
    rw [dg_step m c ⟨n + 1, h⟩ (by show ¬(n + 1) % 8 = 0; omega), DGv_at, Finset.sum_range_succ _ (n + 1), row_eq (n + 1) h, ← dg_acc k n (Nat.lt_of_succ_lt h)]
    rfl
theorem sq_acc (k : Fin 1024) : ∀ (n : ℕ) (h : n < cfg0.N),
    (outsAt0 m c n h).2.2.2.2.2.1 (ix2 0 k) = ∑ i ∈ Finset.range (n + 1), ∑ r, Sq m c k (Rms.rowOf i r)
  | 0, h => by
    rw [sq_A m c ⟨0, h⟩ (Nat.zero_mod 8), SQv_at, Finset.sum_range_one, row_eq 0 h]
    unfold k0_pay4
    pointwise
  | n + 1, h => by
    have hN : n + 1 < 8 := h
    rw [sq_step m c ⟨n + 1, h⟩ (by show ¬(n + 1) % 8 = 0; omega), SQv_at, Finset.sum_range_succ _ (n + 1), row_eq (n + 1) h, ← sq_acc k n (Nat.lt_of_succ_lt h)]
    rfl
theorem dg_last (t : Fin cfg0.N) (h1 : t.val % 8 = 7) (z : Fin 1) (k : Fin 1024) :
    (outsAt0 m c t.val t.isLt).2.2.2.2.1 (ix2 z k) = ∑ r, dG m c k r := by
  obtain rfl : z = 0 := Subsingleton.elim _ _
  have hN : t.val < 8 := t.isLt
  rw [dg_acc, show t.val + 1 = 8 by omega, Rms.sum_rowOf]
theorem sq_last (t : Fin cfg0.N) (h1 : t.val % 8 = 7) (z : Fin 1) (k : Fin 1024) :
    (outsAt0 m c t.val t.isLt).2.2.2.2.2.1 (ix2 z k) = ∑ r, Sq m c k r := by
  obtain rfl : z = 0 := Subsingleton.elim _ _
  have hN : t.val < 8 := t.isLt
  rw [sq_acc, show t.val + 1 = 8 by omega, Rms.sum_rowOf]

/-! ## The arrays after the run -/

theorem index_outs : ∀ t : Fin grid0.N, win0_4.index t = ![t.val, 0] ∧ win0_5.index t = ![t.val, 0] ∧ win0_6.index t = ![t.val, 0]
    ∧ win0_7.index t = ![t.val, 0] ∧ win0_8.index t = ![0, 0] ∧ win0_9.index t = ![0, 0] := by decide +kernel

def Gt (r : Fin 4096) (j : Fin 2816) : EReal := Ffn.proj (aX m c) (aWg m c) r j
def Up (r : Fin 4096) (j : Fin 2816) : EReal := Ffn.proj (aX m c) (aWu m c) r j

theorem g_at (t : Fin cfg0.N) (r : Fin 512) (j : Fin 2816) : (outsAt0 m c t.val t.isLt).1 (ix2 r j) = Gt m c (row t r) j := by
  rw [g_all, PL_at]
  simp only [bX_at]
  exact Finset.sum_congr rfl fun l _ => congrArg (_ * ·) (V_wg m c l j)
theorem u_at (t : Fin cfg0.N) (r : Fin 512) (j : Fin 2816) : (outsAt0 m c t.val t.isLt).2.1 (ix2 r j) = Up m c (row t r) j := by
  rw [u_all, PL_at]
  simp only [bX_at]
  exact Finset.sum_congr rfl fun l _ => congrArg (_ * ·) (V_wu m c l j)

theorem out_g : (dats m 0 c).arrAt 4 cfg0.N = fun i => Gt m c (i 0) (i 1) := by
  refine Pipeline.Dat.arrAt_eq_of_covers _ 4 _ (by decide +kernel) fun t hf y => ?_
  refine (congrFun (after0_4 m c t) _).trans ?_
  idx_vars y
  refine (g_at m c t _ _).trans (congrArg₂ (Gt m c) (Fin.ext ?_) (Fin.ext ?_))
  · blk_simp [(index_outs t).1]
    show 512 * t.val + y0.val = t.val * 512 + y0.val
    omega
  · blk_simp [(index_outs t).1]
theorem out_u : (dats m 0 c).arrAt 5 cfg0.N = fun i => Up m c (i 0) (i 1) := by
  refine Pipeline.Dat.arrAt_eq_of_covers _ 5 _ (by decide +kernel) fun t hf y => ?_
  refine (congrFun (after0_5 m c t) _).trans ?_
  idx_vars y
  refine (u_at m c t _ _).trans (congrArg₂ (Up m c) (Fin.ext ?_) (Fin.ext ?_))
  · blk_simp [(index_outs t).2.1]
    show 512 * t.val + y0.val = t.val * 512 + y0.val
    omega
  · blk_simp [(index_outs t).2.1]
theorem out_dh : (dats m 0 c).arrAt 6 cfg0.N = fun i => Dh m c (i 0) (i 1) := by
  refine Pipeline.Dat.arrAt_eq_of_covers _ 6 _ (by decide +kernel) fun t hf y => ?_
  refine (congrFun (after0_6 m c t) _).trans ?_
  idx_vars y
  refine (dh_at m c t _ _).trans (congrArg₂ (Dh m c) (Fin.ext ?_) (Fin.ext ?_))
  · blk_simp [(index_outs t).2.2.1]
    show 512 * t.val + y0.val = t.val * 512 + y0.val
    omega
  · blk_simp [(index_outs t).2.2.1]
theorem out_db : (dats m 0 c).arrAt 7 cfg0.N = fun i => Dh m c (i 0) (i 1) := by
  refine Pipeline.Dat.arrAt_eq_of_covers _ 7 _ (by decide +kernel) fun t hf y => ?_
  refine (congrFun (after0_7 m c t) _).trans ?_
  idx_vars y
  refine (db_at m c t _ _).trans (congrArg₂ (Dh m c) (Fin.ext ?_) (Fin.ext ?_))
  · blk_simp [(index_outs t).2.2.2.1]
    show 512 * t.val + y0.val = t.val * 512 + y0.val
    omega
  · blk_simp [(index_outs t).2.2.2.1]
theorem out_dg : (dats m 0 c).arrAt 8 cfg0.N = fun i => ∑ r, dG m c (i 1) r := by
  refine Pipeline.Dat.arrAt_eq_of_covers _ 8 _ (by decide +kernel) fun t hf y => ?_
  refine (congrFun (after0_8 m c t) _).trans ?_
  idx_vars y
  refine (dg_last m c t ((flush0_8 t).1 hf) _ _).trans (congrArg (fun b => ∑ r, dG m c b r) (Fin.ext ?_))
  blk_simp [(index_outs t).2.2.2.2.1]
theorem out_sq : (dats m 0 c).arrAt 9 cfg0.N = fun i => ∑ r, Sq m c (i 1) r := by
  refine Pipeline.Dat.arrAt_eq_of_covers _ 9 _ (by decide +kernel) fun t hf y => ?_
  refine (congrFun (after0_9 m c t) _).trans ?_
  idx_vars y
  refine (sq_last m c t ((flush0_9 t).1 hf) _ _).trans (congrArg (fun b => ∑ r, Sq m c b r) (Fin.ext ?_))
  blk_simp [(index_outs t).2.2.2.2.2]

end Cert.FfnFwdKernelIdeal.Hand
-- ==== Proof.FwdRef.lean ====
module

public import proofs.«01_k».proof.Proof.FwdMath
public import proofs.«01_k».proof.Proof.Gen.FfnFwdReferenceIdeal.Run
public import Idealize.ShloMosaic.Lib.IdealHost

@[expose] public section

set_option maxRecDepth 16384
set_option maxHeartbeats 1000000

noncomputable section

/-!
# What the reference of the forward channel mixer leaves in its results
-/

namespace Cert.FfnFwdReferenceIdeal.Hand

open Cert.FfnFwdReferenceIdeal Cert.FfnFwdReferenceIdeal.Gen
open Idealize.ShloMosaic Idealize.ShloMosaic.TcCoe Idealize.SL.Sem

variable (m : (ℓ : Loc nD τ sig) → Buf (Elt Ideal) ℓ) (ρ : Dev nD → PrngReg) (c : Dev nD)

def aH1 (r : Fin 4096) (k : Fin 1024) : EReal := m ((c : Thread nD τ).loc main_arg0) (ix2 r k)
def aX (r : Fin 4096) (k : Fin 1024) : EReal := m ((c : Thread nD τ).loc main_arg1) (ix2 r k)
def aT (r : Fin 4096) (k : Fin 1024) : EReal := m ((c : Thread nD τ).loc main_arg2) (ix2 r k)
def aG (k : Fin 1024) : EReal := m ((c : Thread nD τ).loc main_arg3) (ix2 0 k)
def aWg (k : Fin 1024) (j : Fin 2816) : EReal := m ((c : Thread nD τ).loc main_arg4) (ix2 k j)
def aWu (k : Fin 1024) (j : Fin 2816) : EReal := m ((c : Thread nD τ).loc main_arg5) (ix2 k j)
def aWd (j : Fin 2816) (k : Fin 1024) : EReal := m ((c : Thread nD τ).loc main_arg6) (ix2 j k)
def H2 (r : Fin 4096) (k : Fin 1024) : EReal := Fwd.h2 (aH1 m c) (aX m c) (aWg m c) (aWu m c) (aWd m c) r k

theorem results :
    θ_run defs (onTc (τ := τ) (main (F := Ideal))) ⟨m, fun _ => 0, ρ⟩ fun r => ∀ c : Dev nD,
      r.2.mem ((c : Thread nD τ).loc main_v71) = (fun i => Ffn.proj (aX m c) (aWg m c) (i 0) (i 1))
      ∧ r.2.mem ((c : Thread nD τ).loc main_v72) = (fun i => Ffn.proj (aX m c) (aWu m c) (i 0) (i 1))
      ∧ r.2.mem ((c : Thread nD τ).loc main_v54) = (fun i => Fwd.dh (H2 m c) (aT m c) (aG m c) (i 0) (i 1))
      ∧ r.2.mem ((c : Thread nD τ).loc main_v73) = (fun i => Fwd.dh (H2 m c) (aT m c) (aG m c) (i 0) (i 1))
      ∧ r.2.mem ((c : Thread nD τ).loc main_v38) = (fun i => ∑ r, Fwd.dG (H2 m c) (aT m c) (aG m c) (i 1) r)
      ∧ r.2.mem ((c : Thread nD τ).loc main_v70) = (fun i => ∑ r, Fwd.sq (H2 m c) (aT m c) (aG m c) (i 1) r)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (Value.run m ρ)
  obtain ⟨h0, h1, h2, h3, h4, h5, hrest⟩ := h c
  have f0 : ∀ r k, (m ((c : Thread nD τ).loc main_arg0) (ix2 r k) : EReal) = aH1 m c r k := fun _ _ => rfl
  have f1 : ∀ r k, (m ((c : Thread nD τ).loc main_arg1) (ix2 r k) : EReal) = aX m c r k := fun _ _ => rfl
  have f2 : ∀ r k, (m ((c : Thread nD τ).loc main_arg2) (ix2 r k) : EReal) = aT m c r k := fun _ _ => rfl
  have f3 : ∀ k, (m ((c : Thread nD τ).loc main_arg3) (ix2 0 k) : EReal) = aG m c k := fun _ => rfl
  have f4 : ∀ r k, (m ((c : Thread nD τ).loc main_arg4) (ix2 r k) : EReal) = aWg m c r k := fun _ _ => rfl
  have f5 : ∀ r k, (m ((c : Thread nD τ).loc main_arg5) (ix2 r k) : EReal) = aWu m c r k := fun _ _ => rfl
  have f6 : ∀ r k, (m ((c : Thread nD τ).loc main_arg6) (ix2 r k) : EReal) = aWd m c r k := fun _ _ => rfl
  have fH : ∀ r k, aH1 m c r k + ∑ j, (∑ x, aX m c r x * aWg m c x j) * Ideal.div 1 (1 + Ideal.exp (-∑ x, aX m c r x * aWg m c x j))
      * (∑ x, aX m c r x * aWu m c x j) * aWd m c j k = H2 m c r k := fun _ _ => rfl
  refine ⟨h0.trans (funext fun i => ?_), h1.trans (funext fun i => ?_), h2.trans (funext fun i => ?_), h3.trans (funext fun i => ?_),
    h4.trans (funext fun i => ?_), h5.trans (funext fun i => ?_), hrest⟩ <;>
    clear h0 h1 h2 h3 h4 h5 hrest h
  · idx_vars i
    pointwise
    rfl
  · idx_vars i
    pointwise
    rfl
  · unfold Value.res_main_v54
    idx_vars i
    pointwise
    simp only [f0, f1, f2, f3, f4, f5, f6, fH, Fwd.consts, Rms.lit_1024, Rms.lit_eps, Rms.lit_neg_half, Fwd.lit_half, Fwd.lit_two, Finset.univ_unique, Finset.sum_singleton]
    exact (Fwd.dh_chain (H2 m c) (aT m c) (aG m c) i0 i1).symm
  · unfold Value.res_main_v73
    idx_vars i
    pointwise
    simp only [f0, f1, f2, f3, f4, f5, f6, fH, Fwd.consts, Rms.lit_1024, Rms.lit_eps, Rms.lit_neg_half, Fwd.lit_half, Fwd.lit_two, Finset.univ_unique, Finset.sum_singleton]
    exact (Fwd.dh_chain (H2 m c) (aT m c) (aG m c) i0 i1).symm
  · unfold Value.res_main_v38
    idx_vars i
    pointwise
    simp only [f0, f1, f2, f3, f4, f5, f6, fH, Fwd.consts, Rms.lit_1024, Rms.lit_eps, Rms.lit_neg_half, Fwd.lit_half, Fwd.lit_two, Finset.univ_unique, Finset.sum_singleton]
    refine Finset.sum_congr (M := EReal) rfl fun x _ => ?_
    exact mul_comm (G := EReal) _ _
  · unfold Value.res_main_v70
    idx_vars i
    pointwise
    simp only [f0, f1, f2, f3, f4, f5, f6, fH, Fwd.consts, Rms.lit_1024, Rms.lit_eps, Rms.lit_neg_half, Fwd.lit_half, Fwd.lit_two, Finset.univ_unique, Finset.sum_singleton]
    rfl

end Cert.FfnFwdReferenceIdeal.Hand
-- ==== Proof.AdamMath.lean ====
module

public import Idealize.ShloMosaic.Lib.Pointwise

@[expose] public section

noncomputable section

/-!
# One step of the optimiser, entry by entry

The gradient of a weight is the sum of the parts that the devices send. The two moments decay toward the gradient and its square, and the
weight's change is the first moment over the root of the second, both corrected for their start, plus a decay of the weight itself. Every
constant is the number that its float word stands for, the same word on both sides.
-/

namespace Cert.Adam

open Idealize.ShloMosaic

/-- The gradient: the sum of the parts. -/
def grad {n : Nat} (p : Fin n → EReal) : EReal := ∑ s, p s
/-- The new first moment. -/
def mom (m g : EReal) : EReal := Ideal.ofBits .f32 0x3F666666#32 * m + Ideal.ofBits .f32 0x3DCCCCCD#32 * g
/-- The new second moment. -/
def vel (v g : EReal) : EReal := Ideal.ofBits .f32 0x3F7FBE77#32 * v + Ideal.ofBits .f32 0x3A83126F#32 * (g * g)
/-- The change of the weight. -/
def delta (w m v : EReal) : EReal :=
  Ideal.ofBits .f32 0xBA83126F#32
    * (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

theorem grad_four (p : Fin 4 → EReal) : p 0 + p 1 + p 2 + p 3 = grad p := (Fin.sum_univ_four p).symm
theorem grad_eight (p : Fin 8 → EReal) : p 0 + p 1 + p 2 + p 3 + p 4 + p 5 + p 6 + p 7 = grad p := (Fin.sum_univ_eight p).symm

/-! ## The same steps as the reference's whole arrays -/

section Host
variable {S0 S : Shape} {d : Fin S0.rank → Fin S.rank} (b : S0.BroadcastsInDim S d)

theorem host_mom (m g : FVec Ideal S .f32) (i : S.Idx) :
    addf (mulf (broadcastInDim S d b (constant (F := Ideal) S0 .f32 0x3F666666#32)) m) (mulf (broadcastInDim S d b (constant (F := Ideal) S0 .f32 0x3DCCCCCD#32)) g) i
      = mom (m i) (g i) := rfl
theorem host_vel (v g : FVec Ideal S .f32) (i : S.Idx) :
    addf (mulf (broadcastInDim S d b (constant (F := Ideal) S0 .f32 0x3F7FBE77#32)) v) (mulf (broadcastInDim S d b (constant (F := Ideal) S0 .f32 0x3A83126F#32)) (mulf g g)) i
      = vel (v i) (g i) := rfl
theorem host_delta (w m v : FVec Ideal S .f32) (i : S.Idx) :
    mulf (broadcastInDim S d b (constant (F := Ideal) S0 .f32 0xBA83126F#32))
        (addf (Host.divf (Host.divf m (broadcastInDim S d b (constant (F := Ideal) S0 .f32 0x3F26BD02#32)))
            (addf (Host.sqrt (Host.divf v (broadcastInDim S d b (constant (F := Ideal) S0 .f32 0x3C231ACC#32)))) (broadcastInDim S d b (constant (F := Ideal) S0 .f32 0x322BCC77#32))))
          (mulf (broadcastInDim S d b (constant (F := Ideal) S0 .f32 0x3C23D70A#32)) w)) i
      = delta (w i) (m i) (v i) := rfl
end Host

end Cert.Adam
-- ==== Proof.AdamGateValue.lean ====
module

public import proofs.«01_k».proof.Proof.AdamMath
public import proofs.«01_k».proof.Proof.Gen.AdamGateKernelIdeal.Value
public import Idealize.ShloMosaic.Lib.Pointwise
public import Idealize.ShloMosaic.Lib.StableHlo.ReadAt
public import Idealize.ShloMosaic.Lib.Pipeline.ValueKit

@[expose] public section

set_option maxRecDepth 16384
set_option maxHeartbeats 1000000

noncomputable section

/-!
# What the optimiser's kernel leaves for a gate weight
-/

namespace Cert.AdamGateKernelIdeal.Hand

open Cert.AdamGateKernelIdeal Cert.AdamGateKernelIdeal.Gen
open Idealize.ShloMosaic Idealize.ShloMosaic.TcCoe Idealize.ShloMosaic.Tactic

variable (m : (ℓ : Loc nD τ sig) → Buf (Elt Ideal) ℓ) (c : Dev nD)

theorem hz : (![0, 0] : Fin 2 → Nat) = fun _ => 0 := funext fun a => by fin_cases a <;> rfl

/-- The parts of the gradient, and the weight and its moments laid out as the gradient is. -/
def aP (r : Fin 352) (k : Fin 1024) (s : Fin 4) : EReal := m ((c : Thread nD τ).loc main_arg0) (ix3 s r k)
def Gr (r : Fin 352) (k : Fin 1024) : EReal := Adam.grad (aP m c r k)
def aW (r : Fin 352) (k : Fin 1024) : EReal := m ((c : Thread nD τ).loc main_arg1) (ix3 0 k r)
def aM (r : Fin 352) (k : Fin 1024) : EReal := m ((c : Thread nD τ).loc main_arg2) (ix3 0 k r)
def aV (r : Fin 352) (k : Fin 1024) : EReal := m ((c : Thread nD τ).loc main_arg3) (ix3 0 k r)

/-- The new moments and the weight's change. -/
def Mn (r : Fin 352) (k : Fin 1024) : EReal := Adam.mom (aM m c r k) (Gr m c r k)
def Vn (r : Fin 352) (k : Fin 1024) : EReal := Adam.vel (aV m c r k) (Gr m c r k)
def Dl (r : Fin 352) (k : Fin 1024) : EReal := Adam.delta (aW m c r k) (Mn m c r k) (Vn m c r k)

/-- Row `r` of the block of point `n`. -/
def row (n : Fin 2) (r : Fin 176) : Fin 352 := ⟨176 * n.val + r.val, by omega⟩

theorem V_p (s : Fin 4) (r : Fin 352) (k : Fin 1024) : V m c main_arg0 (ix3 s r k) = aP m c r k s := by
  unfold V; after_reads_at; rfl
theorem V_w (r : Fin 352) (k : Fin 1024) : V m c main_v1 (ix2 r k) = aW m c r k := by
  unfold V; after_reads_at
  pointwise
  rfl
theorem V_m (r : Fin 352) (k : Fin 1024) : V m c main_v3 (ix2 r k) = aM m c r k := by
  unfold V; after_reads_at
  pointwise
  rfl
theorem V_v (r : Fin 352) (k : Fin 1024) : V m c main_v5 (ix2 r k) = aV m c r k := by
  unfold V; after_reads_at
  pointwise
  rfl

theorem index_parts : ∀ t : Fin grid0.N, win0_0.index t = ![0, t.val, 0] := by decide +kernel
theorem index_rows : ∀ t : Fin grid0.N, win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by decide +kernel

theorem bP_at (t : Fin cfg0.N) (s : Fin 4) (r : Fin 176) (k : Fin 1024) : iblk m c 0 t (ix3 s r k) = aP m c (row t r) k s := by
  rw [← V_p]; unfold row
  blk_ext [iblk, index_parts t]
theorem bW_at (t : Fin cfg0.N) (r : Fin 176) (k : Fin 1024) : iblk m c 1 t (ix2 r k) = aW m c (row t r) k := by
  rw [← V_w]; unfold row
  blk_ext [iblk, (index_rows t).1]
theorem bM_at (t : Fin cfg0.N) (r : Fin 176) (k : Fin 1024) : iblk m c 2 t (ix2 r k) = aM m c (row t r) k := by
  rw [← V_m]; unfold row
  blk_ext [iblk, (index_rows t).2.1]
theorem bV_at (t : Fin cfg0.N) (r : Fin 176) (k : Fin 1024) : iblk m c 3 t (ix2 r k) = aV m c (row t r) k := by
  rw [← V_v]; unfold row
  blk_ext [iblk, (index_rows t).2.2.1]

theorem l4 (x : Vec Ideal S176x1024 .f32) : View.ld (Val := Elt Ideal) (e' := .f32) x r0_4 = x := View.ld_unit_zero hz _ x

/-! ## The four results of a block -/

theorem g_at (t : Fin cfg0.N) (r : Fin 176) (k : Fin 1024) :
    k0_pay2 (View.ld (iblk m c 0 t) r0_0) (View.ld (iblk m c 0 t) r0_1) (View.ld (iblk m c 0 t) r0_2) (View.ld (iblk m c 0 t) r0_3) (ix2 r k)
      = Gr m c (row t r) k := by
  unfold k0_pay2
  pointwise
  simp only [bP_at]
  exact Adam.grad_four _

theorem m_at (t : Fin cfg0.N) (r : Fin 176) (k : Fin 1024) :
    k0_pay6 (F := Ideal) (iblk m c 0 t) (iblk m c 1 t) (iblk m c 2 t) (iblk m c 3 t) (ix2 r k) = Mn m c (row t r) k := by
  unfold Mn
  rw [← g_at, ← bM_at]
  unfold k0_pay6 k0_pay4
  rw [l4]
  generalize k0_pay2 (F := Ideal) _ _ _ _ = g
  pointwise
  rfl

theorem v_at (t : Fin cfg0.N) (r : Fin 176) (k : Fin 1024) :
    k0_pay7 (F := Ideal) (iblk m c 0 t) (iblk m c 1 t) (iblk m c 2 t) (iblk m c 3 t) (ix2 r k) = Vn m c (row t r) k := by
  unfold Vn
  rw [← g_at, ← bV_at]
  unfold k0_pay7 k0_pay5
  rw [l4]
  generalize k0_pay2 (F := Ideal) _ _ _ _ = g
  pointwise
  rfl

theorem d_at (t : Fin cfg0.N) (r : Fin 176) (k : Fin 1024) :
    out0_5 (F := Ideal) (iblk m c 0 t) (iblk m c 1 t) (iblk m c 2 t) (iblk m c 3 t) (ix2 r k) = Dl m c (row t r) k := by
  unfold Dl
  rw [← m_at, ← v_at, ← bW_at]
  unfold out0_5
  rw [View.canon_unit_zero hz, l4]
  generalize k0_pay6 (F := Ideal) _ _ _ _ = x
  generalize k0_pay7 (F := Ideal) _ _ _ _ = y
  unfold k0_pay1 k0_pay3
  pointwise
  rfl

theorem out_4 : (dats m 0 c).arrAt 4 cfg0.N = fun i => Gr m c (i 0) (i 1) := by
  refine Pipeline.Dat.arrAt_eq_of_covers _ 4 _ (by decide +kernel) fun t hf y => ?_
  refine (congrFun (after0_4 m c t) _).trans ?_
  unfold out0_4
  rw [View.canon_unit_zero hz]
  idx_vars y
  refine (g_at m c t _ _).trans (congrArg₂ (Gr m c) (Fin.ext ?_) (Fin.ext ?_))
  · blk_simp [(index_rows t).2.2.2.1]
    show 176 * t.val + y0.val = t.val * 176 + y0.val
    omega
  · blk_simp [(index_rows t).2.2.2.1]

theorem out_5 : (dats m 0 c).arrAt 5 cfg0.N = fun i => Dl m c (i 0) (i 1) := by
  refine Pipeline.Dat.arrAt_eq_of_covers _ 5 _ (by decide +kernel) fun t hf y => ?_
  refine (congrFun (after0_5 m c t) _).trans ?_
  idx_vars y
  refine (d_at m c t _ _).trans (congrArg₂ (Dl m c) (Fin.ext ?_) (Fin.ext ?_))
  · blk_simp [(index_rows t).2.2.2.2.1]
    show 176 * t.val + y0.val = t.val * 176 + y0.val
    omega
  · blk_simp [(index_rows t).2.2.2.2.1]

theorem out_6 : (dats m 0 c).arrAt 6 cfg0.N = fun i => Mn m c (i 0) (i 1) := by
  refine Pipeline.Dat.arrAt_eq_of_covers _ 6 _ (by decide +kernel) fun t hf y => ?_
  refine (congrFun (after0_6 m c t) _).trans ?_
  unfold out0_6
  rw [View.canon_unit_zero hz]
  idx_vars y
  refine (m_at m c t _ _).trans (congrArg₂ (Mn m c) (Fin.ext ?_) (Fin.ext ?_))
  · blk_simp [(index_rows t).2.2.2.2.2.1]
    show 176 * t.val + y0.val = t.val * 176 + y0.val
    omega
  · blk_simp [(index_rows t).2.2.2.2.2.1]

theorem out_7 : (dats m 0 c).arrAt 7 cfg0.N = fun i => Vn m c (i 0) (i 1) := by
  refine Pipeline.Dat.arrAt_eq_of_covers _ 7 _ (by decide +kernel) fun t hf y => ?_
  refine (congrFun (after0_7 m c t) _).trans ?_
  unfold out0_7
  rw [View.canon_unit_zero hz]
  idx_vars y
  refine (v_at m c t _ _).trans (congrArg₂ (Vn m c) (Fin.ext ?_) (Fin.ext ?_))
  · blk_simp [(index_rows t).2.2.2.2.2.2]
    show 176 * t.val + y0.val = t.val * 176 + y0.val
    omega
  · blk_simp [(index_rows t).2.2.2.2.2.2]

end Cert.AdamGateKernelIdeal.Hand
-- ==== Proof.AdamGateRef.lean ====
module

public import proofs.«01_k».proof.Proof.AdamMath
public import proofs.«01_k».proof.Proof.Gen.AdamGateReferenceIdeal.Run
public import Idealize.ShloMosaic.Lib.IdealHost

@[expose] public section

set_option maxRecDepth 16384
set_option maxHeartbeats 1000000

noncomputable section

/-!
# What the optimiser's reference leaves for a gate weight
-/

namespace Cert.AdamGateReferenceIdeal.Hand

open Cert.AdamGateReferenceIdeal Cert.AdamGateReferenceIdeal.Gen
open Idealize.ShloMosaic Idealize.ShloMosaic.TcCoe Idealize.SL.Sem

variable (m : (ℓ : Loc nD τ sig) → Buf (Elt Ideal) ℓ) (ρ : Dev nD → PrngReg) (c : Dev nD)

/-- The parts of the gradient, and the weight and its moments laid out as the gradient is. -/
def aP (r : Fin 352) (k : Fin 1024) (s : Fin 4) : EReal := m ((c : Thread nD τ).loc main_arg0) (ix3 s r k)
def Gr (r : Fin 352) (k : Fin 1024) : EReal := Adam.grad (aP m c r k)
def aW (r : Fin 352) (k : Fin 1024) : EReal := m ((c : Thread nD τ).loc main_arg1) (ix3 0 k r)
def aM (r : Fin 352) (k : Fin 1024) : EReal := m ((c : Thread nD τ).loc main_arg2) (ix3 0 k r)
def aV (r : Fin 352) (k : Fin 1024) : EReal := m ((c : Thread nD τ).loc main_arg3) (ix3 0 k r)
/-- The new moments and the weight's change. -/
def Mn (r : Fin 352) (k : Fin 1024) : EReal := Adam.mom (aM m c r k) (Gr m c r k)
def Vn (r : Fin 352) (k : Fin 1024) : EReal := Adam.vel (aV m c r k) (Gr m c r k)
def Dl (r : Fin 352) (k : Fin 1024) : EReal := Adam.delta (aW m c r k) (Mn m c r k) (Vn m c r k)

theorem g_at (r : Fin 352) (k : Fin 1024) :
    Host.reduceAdd (extf .f32 (m ((c : Thread nD τ).loc main_arg0)) bitsLt_bf16_f32) (constant (F := Ideal) S_ .f32 0x00000000#32) reducesTo_S4x352x1024_S352x1024_d0 h_S_ (ix2 r k)
      = Gr m c r k := by
  pointwise
  rfl

theorem w_at (x : FVec Ideal S1x1024x352 .f32) (r : Fin 352) (k : Fin 1024) :
    transpose S352x1024 [1, 0] (shapeCast S1024x352 x shapeCasts_S1x1024x352_S1024x352) transposes_S1024x352_S352x1024_1_0 (ix2 r k) = x (ix3 0 k r) := by
  pointwise

theorem results :
    θ_run defs (onTc (τ := τ) (main (F := Ideal))) ⟨m, fun _ => 0, ρ⟩ fun r => ∀ c : Dev nD,
      r.2.mem ((c : Thread nD τ).loc main_v1) = (fun i => Gr m c (i 0) (i 1))
      ∧ r.2.mem ((c : Thread nD τ).loc main_v31) = (fun i => Dl m c (i 0) (i 1))
      ∧ r.2.mem ((c : Thread nD τ).loc main_v12) = (fun i => Mn m c (i 0) (i 1))
      ∧ r.2.mem ((c : Thread nD τ).loc main_v18) = (fun i => Vn m c (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run m ρ)
  obtain ⟨h0, h1, h2, h3, hrest⟩ := h c
  refine ⟨h0.trans (funext fun i => ?_), h1.trans (funext fun i => ?_), h2.trans (funext fun i => ?_), h3.trans (funext fun i => ?_), hrest⟩ <;>
    clear h0 h1 h2 h3 hrest h <;> idx_vars i
  · exact g_at m c i0 i1
  · rw [Adam.host_delta, Adam.host_mom, Adam.host_vel, g_at, w_at, w_at, w_at]
    rfl
  · rw [Adam.host_mom, g_at, w_at]
    rfl
  · rw [Adam.host_vel, g_at, w_at]
    rfl

end Cert.AdamGateReferenceIdeal.Hand
-- ==== Proof.AdamDownValue.lean ====
module

public import proofs.«01_k».proof.Proof.AdamMath
public import proofs.«01_k».proof.Proof.Gen.AdamDownKernelIdeal.Value
public import Idealize.ShloMosaic.Lib.Pointwise
public import Idealize.ShloMosaic.Lib.StableHlo.ReadAt
public import Idealize.ShloMosaic.Lib.Pipeline.ValueKit

@[expose] public section

set_option maxRecDepth 16384
set_option maxHeartbeats 1000000

noncomputable section

/-!
# What the optimiser's kernel leaves for the down weight
-/

namespace Cert.AdamDownKernelIdeal.Hand

open Cert.AdamDownKernelIdeal Cert.AdamDownKernelIdeal.Gen
open Idealize.ShloMosaic Idealize.ShloMosaic.TcCoe Idealize.ShloMosaic.Tactic

variable (m : (ℓ : Loc nD τ sig) → Buf (Elt Ideal) ℓ) (c : Dev nD)

theorem hz : (![0, 0] : Fin 2 → Nat) = fun _ => 0 := funext fun a => by fin_cases a <;> rfl

/-- The parts of the gradient, and the weight and its moments. -/
def aP (r : Fin 352) (k : Fin 1024) (s : Fin 8) : EReal := m ((c : Thread nD τ).loc main_arg0) (ix3 s r k)
def Gr (r : Fin 352) (k : Fin 1024) : EReal := Adam.grad (aP m c r k)
def aW (r : Fin 352) (k : Fin 1024) : EReal := m ((c : Thread nD τ).loc main_arg1) (ix3 0 r k)
def aM (r : Fin 352) (k : Fin 1024) : EReal := m ((c : Thread nD τ).loc main_arg2) (ix3 0 r k)
def aV (r : Fin 352) (k : Fin 1024) : EReal := m ((c : Thread nD τ).loc main_arg3) (ix3 0 r k)

/-- The new moments and the weight's change. -/
def Mn (r : Fin 352) (k : Fin 1024) : EReal := Adam.mom (aM m c r k) (Gr m c r k)
def Vn (r : Fin 352) (k : Fin 1024) : EReal := Adam.vel (aV m c r k) (Gr m c r k)
def Dl (r : Fin 352) (k : Fin 1024) : EReal := Adam.delta (aW m c r k) (Mn m c r k) (Vn m c r k)

/-- Row `r` of the block of point `n`. -/
def row (n : Fin 2) (r : Fin 176) : Fin 352 := ⟨176 * n.val + r.val, by omega⟩

theorem V_p (s : Fin 8) (r : Fin 352) (k : Fin 1024) : V m c main_arg0 (ix3 s r k) = aP m c r k s := by
  unfold V; after_reads_at; rfl
theorem V_w (r : Fin 352) (k : Fin 1024) : V m c main_v0 (ix2 r k) = aW m c r k := by
  unfold V; after_reads_at
  pointwise
  rfl
theorem V_m (r : Fin 352) (k : Fin 1024) : V m c main_v1 (ix2 r k) = aM m c r k := by
  unfold V; after_reads_at
  pointwise
  rfl
theorem V_v (r : Fin 352) (k : Fin 1024) : V m c main_v2 (ix2 r k) = aV m c r k := by
  unfold V; after_reads_at
  pointwise
  rfl

theorem index_parts : ∀ t : Fin grid0.N, win0_0.index t = ![0, t.val, 0] := by decide +kernel
theorem index_rows : ∀ t : Fin grid0.N, win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by decide +kernel

theorem bP_at (t : Fin cfg0.N) (s : Fin 8) (r : Fin 176) (k : Fin 1024) : iblk m c 0 t (ix3 s r k) = aP m c (row t r) k s := by
  rw [← V_p]; unfold row
  blk_ext [iblk, index_parts t]
theorem bW_at (t : Fin cfg0.N) (r : Fin 176) (k : Fin 1024) : iblk m c 1 t (ix2 r k) = aW m c (row t r) k := by
  rw [← V_w]; unfold row
  blk_ext [iblk, (index_rows t).1]
theorem bM_at (t : Fin cfg0.N) (r : Fin 176) (k : Fin 1024) : iblk m c 2 t (ix2 r k) = aM m c (row t r) k := by
  rw [← V_m]; unfold row
  blk_ext [iblk, (index_rows t).2.1]
theorem bV_at (t : Fin cfg0.N) (r : Fin 176) (k : Fin 1024) : iblk m c 3 t (ix2 r k) = aV m c (row t r) k := by
  rw [← V_v]; unfold row
  blk_ext [iblk, (index_rows t).2.2.1]

theorem l8 (x : Vec Ideal S176x1024 .f32) : View.ld (Val := Elt Ideal) (e' := .f32) x r0_8 = x := View.ld_unit_zero hz _ x

/-! ## The four results of a block -/

theorem g_at (t : Fin cfg0.N) (r : Fin 176) (k : Fin 1024) :
    k0_pay5 (F := Ideal) (iblk m c 0 t) (iblk m c 1 t) (iblk m c 2 t) (iblk m c 3 t) (ix2 r k) = Gr m c (row t r) k := by
  unfold k0_pay5 k0_pay4
  pointwise
  simp only [bP_at]
  exact Adam.grad_eight _

theorem m_at (t : Fin cfg0.N) (r : Fin 176) (k : Fin 1024) :
    k0_pay1 (F := Ideal) (k0_pay5 (iblk m c 0 t) (iblk m c 1 t) (iblk m c 2 t) (iblk m c 3 t)) (iblk m c 2 t) (ix2 r k) = Mn m c (row t r) k := by
  unfold Mn
  rw [← g_at, ← bM_at]
  generalize k0_pay5 (F := Ideal) _ _ _ _ = g
  unfold k0_pay1
  pointwise
  rfl

theorem v_at (t : Fin cfg0.N) (r : Fin 176) (k : Fin 1024) :
    k0_pay2 (F := Ideal) (k0_pay5 (iblk m c 0 t) (iblk m c 1 t) (iblk m c 2 t) (iblk m c 3 t)) (iblk m c 3 t) (ix2 r k) = Vn m c (row t r) k := by
  unfold Vn
  rw [← g_at, ← bV_at]
  generalize k0_pay5 (F := Ideal) _ _ _ _ = g
  unfold k0_pay2
  pointwise
  rfl

theorem d_at (t : Fin cfg0.N) (r : Fin 176) (k : Fin 1024) :
    k0_pay3 (F := Ideal) (k0_pay5 (iblk m c 0 t) (iblk m c 1 t) (iblk m c 2 t) (iblk m c 3 t)) (iblk m c 1 t) (iblk m c 2 t) (iblk m c 3 t) (ix2 r k)
      = Dl m c (row t r) k := by
  unfold Dl
  rw [← m_at, ← v_at, ← bW_at]
  generalize k0_pay5 (F := Ideal) _ _ _ _ = g
  unfold k0_pay3
  generalize k0_pay1 (F := Ideal) _ _ = x
  generalize k0_pay2 (F := Ideal) _ _ = y
  pointwise
  rfl

theorem out_4 : (dats m 0 c).arrAt 4 cfg0.N = fun i => Gr m c (i 0) (i 1) := by
  refine Pipeline.Dat.arrAt_eq_of_covers _ 4 _ (by decide +kernel) fun t hf y => ?_
  refine (congrFun (after0_4 m c t) _).trans ?_
  unfold out0_4
  rw [View.canon_unit_zero hz]
  idx_vars y
  refine (g_at m c t _ _).trans (congrArg₂ (Gr m c) (Fin.ext ?_) (Fin.ext ?_))
  · blk_simp [(index_rows t).2.2.2.1]
    show 176 * t.val + y0.val = t.val * 176 + y0.val
    omega
  · blk_simp [(index_rows t).2.2.2.1]

theorem out_5 : (dats m 0 c).arrAt 5 cfg0.N = fun i => Dl m c (i 0) (i 1) := by
  refine Pipeline.Dat.arrAt_eq_of_covers _ 5 _ (by decide +kernel) fun t hf y => ?_
  refine (congrFun (after0_5 m c t) _).trans ?_
  unfold out0_5
  rw [View.canon_unit_zero hz]
  simp only [l8]
  idx_vars y
  refine (d_at m c t _ _).trans (congrArg₂ (Dl m c) (Fin.ext ?_) (Fin.ext ?_))
  · blk_simp [(index_rows t).2.2.2.2.1]
    show 176 * t.val + y0.val = t.val * 176 + y0.val
    omega
  · blk_simp [(index_rows t).2.2.2.2.1]

theorem out_6 : (dats m 0 c).arrAt 6 cfg0.N = fun i => Mn m c (i 0) (i 1) := by
  refine Pipeline.Dat.arrAt_eq_of_covers _ 6 _ (by decide +kernel) fun t hf y => ?_
  refine (congrFun (after0_6 m c t) _).trans ?_
  unfold out0_6
  rw [View.canon_unit_zero hz]
  simp only [l8]
  idx_vars y
  refine (m_at m c t _ _).trans (congrArg₂ (Mn m c) (Fin.ext ?_) (Fin.ext ?_))
  · blk_simp [(index_rows t).2.2.2.2.2.1]
    show 176 * t.val + y0.val = t.val * 176 + y0.val
    omega
  · blk_simp [(index_rows t).2.2.2.2.2.1]

theorem out_7 : (dats m 0 c).arrAt 7 cfg0.N = fun i => Vn m c (i 0) (i 1) := by
  refine Pipeline.Dat.arrAt_eq_of_covers _ 7 _ (by decide +kernel) fun t hf y => ?_
  refine (congrFun (after0_7 m c t) _).trans ?_
  unfold out0_7
  rw [View.canon_unit_zero hz]
  simp only [l8]
  idx_vars y
  refine (v_at m c t _ _).trans (congrArg₂ (Vn m c) (Fin.ext ?_) (Fin.ext ?_))
  · blk_simp [(index_rows t).2.2.2.2.2.2]
    show 176 * t.val + y0.val = t.val * 176 + y0.val
    omega
  · blk_simp [(index_rows t).2.2.2.2.2.2]

end Cert.AdamDownKernelIdeal.Hand
-- ==== Proof.AdamDownRef.lean ====
module

public import proofs.«01_k».proof.Proof.AdamMath
public import proofs.«01_k».proof.Proof.Gen.AdamDownReferenceIdeal.Run
public import Idealize.ShloMosaic.Lib.IdealHost

@[expose] public section

set_option maxRecDepth 16384
set_option maxHeartbeats 1000000

noncomputable section

/-!
# What the optimiser's reference leaves for the down weight
-/

namespace Cert.AdamDownReferenceIdeal.Hand

open Cert.AdamDownReferenceIdeal Cert.AdamDownReferenceIdeal.Gen
open Idealize.ShloMosaic Idealize.ShloMosaic.TcCoe Idealize.SL.Sem

variable (m : (ℓ : Loc nD τ sig) → Buf (Elt Ideal) ℓ) (ρ : Dev nD → PrngReg) (c : Dev nD)

/-- The parts of the gradient, and the weight and its moments. -/
def aP (r : Fin 352) (k : Fin 1024) (s : Fin 8) : EReal := m ((c : Thread nD τ).loc main_arg0) (ix3 s r k)
def Gr (r : Fin 352) (k : Fin 1024) : EReal := Adam.grad (aP m c r k)
def aW (r : Fin 352) (k : Fin 1024) : EReal := m ((c : Thread nD τ).loc main_arg1) (ix3 0 r k)
def aM (r : Fin 352) (k : Fin 1024) : EReal := m ((c : Thread nD τ).loc main_arg2) (ix3 0 r k)
def aV (r : Fin 352) (k : Fin 1024) : EReal := m ((c : Thread nD τ).loc main_arg3) (ix3 0 r k)
/-- The new moments and the weight's change. -/
def Mn (r : Fin 352) (k : Fin 1024) : EReal := Adam.mom (aM m c r k) (Gr m c r k)
def Vn (r : Fin 352) (k : Fin 1024) : EReal := Adam.vel (aV m c r k) (Gr m c r k)
def Dl (r : Fin 352) (k : Fin 1024) : EReal := Adam.delta (aW m c r k) (Mn m c r k) (Vn m c r k)

theorem g_at (r : Fin 352) (k : Fin 1024) :
    Host.reduceAdd (extf .f32 (m ((c : Thread nD τ).loc main_arg0)) bitsLt_bf16_f32) (constant (F := Ideal) S_ .f32 0x00000000#32) reducesTo_S8x352x1024_S352x1024_d0 h_S_ (ix2 r k)
      = Gr m c r k := by
  pointwise
  rfl

theorem w_at (x : FVec Ideal S1x352x1024 .f32) (r : Fin 352) (k : Fin 1024) :
    shapeCast S352x1024 x shapeCasts_S1x352x1024_S352x1024 (ix2 r k) = x (ix3 0 r k) := by
  pointwise

theorem results :
    θ_run defs (onTc (τ := τ) (main (F := Ideal))) ⟨m, fun _ => 0, ρ⟩ fun r => ∀ c : Dev nD,
      r.2.mem ((c : Thread nD τ).loc main_v1) = (fun i => Gr m c (i 0) (i 1))
      ∧ r.2.mem ((c : Thread nD τ).loc main_v28) = (fun i => Dl m c (i 0) (i 1))
      ∧ r.2.mem ((c : Thread nD τ).loc main_v9) = (fun i => Mn m c (i 0) (i 1))
      ∧ r.2.mem ((c : Thread nD τ).loc main_v15) = (fun i => Vn m c (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run m ρ)
  obtain ⟨h0, h1, h2, h3, hrest⟩ := h c
  refine ⟨h0.trans (funext fun i => ?_), h1.trans (funext fun i => ?_), h2.trans (funext fun i => ?_), h3.trans (funext fun i => ?_), hrest⟩ <;>
    clear h0 h1 h2 h3 hrest h <;> idx_vars i
  · exact g_at m c i0 i1
  · rw [Adam.host_delta, Adam.host_mom, Adam.host_vel, g_at, w_at, w_at, w_at]
    rfl
  · rw [Adam.host_mom, g_at, w_at]
    rfl
  · rw [Adam.host_vel, g_at, w_at]
    rfl

end Cert.AdamDownReferenceIdeal.Hand
-- ==== Proof.AdamInValue.lean ====
module

public import proofs.«01_k».proof.Proof.AdamMath
public import proofs.«01_k».proof.Proof.Gen.AdamInKernelIdeal.Value
public import Idealize.ShloMosaic.Lib.Pointwise
public import Idealize.ShloMosaic.Lib.StableHlo.ReadAt
public import Idealize.ShloMosaic.Lib.Pipeline.ValueKit

@[expose] public section

set_option maxRecDepth 16384
set_option maxHeartbeats 1000000

noncomputable section

/-!
# What the optimiser's kernel leaves for the input projection
-/

namespace Cert.AdamInKernelIdeal.Hand

open Cert.AdamInKernelIdeal Cert.AdamInKernelIdeal.Gen
open Idealize.ShloMosaic Idealize.ShloMosaic.TcCoe Idealize.ShloMosaic.Tactic

variable (m : (ℓ : Loc nD τ sig) → Buf (Elt Ideal) ℓ) (c : Dev nD)

theorem hz : (![0, 0] : Fin 2 → Nat) = fun _ => 0 := funext fun a => by fin_cases a <;> rfl

/-- The parts of the gradient, and the weight and its moments laid out as the gradient is. -/
def aP (r : Fin 192) (k : Fin 1024) (s : Fin 4) : EReal := m ((c : Thread nD τ).loc main_arg0) (ix3 s r k)
def Gr (r : Fin 192) (k : Fin 1024) : EReal := Adam.grad (aP m c r k)
def aW (r : Fin 192) (k : Fin 1024) : EReal := m ((c : Thread nD τ).loc main_arg1) (ix3 0 k r)
def aM (r : Fin 192) (k : Fin 1024) : EReal := m ((c : Thread nD τ).loc main_arg2) (ix3 0 k r)
def aV (r : Fin 192) (k : Fin 1024) : EReal := m ((c : Thread nD τ).loc main_arg3) (ix3 0 k r)

/-- The new moments and the weight's change. -/
def Mn (r : Fin 192) (k : Fin 1024) : EReal := Adam.mom (aM m c r k) (Gr m c r k)
def Vn (r : Fin 192) (k : Fin 1024) : EReal := Adam.vel (aV m c r k) (Gr m c r k)
def Dl (r : Fin 192) (k : Fin 1024) : EReal := Adam.delta (aW m c r k) (Mn m c r k) (Vn m c r k)

/-- Row `r` of the block of point `n`. -/
def row (n : Fin 1) (r : Fin 192) : Fin 192 := ⟨192 * n.val + r.val, by omega⟩

theorem V_p (s : Fin 4) (r : Fin 192) (k : Fin 1024) : V m c main_arg0 (ix3 s r k) = aP m c r k s := by
  unfold V; after_reads_at; rfl
theorem V_w (r : Fin 192) (k : Fin 1024) : V m c main_v1 (ix2 r k) = aW m c r k := by
  unfold V; after_reads_at
  pointwise
  rfl
theorem V_m (r : Fin 192) (k : Fin 1024) : V m c main_v3 (ix2 r k) = aM m c r k := by
  unfold V; after_reads_at
  pointwise
  rfl
theorem V_v (r : Fin 192) (k : Fin 1024) : V m c main_v5 (ix2 r k) = aV m c r k := by
  unfold V; after_reads_at
  pointwise
  rfl

theorem index_parts : ∀ t : Fin grid0.N, win0_0.index t = ![0, t.val, 0] := by decide +kernel
theorem index_rows : ∀ t : Fin grid0.N, win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by decide +kernel

theorem bP_at (t : Fin cfg0.N) (s : Fin 4) (r : Fin 192) (k : Fin 1024) : iblk m c 0 t (ix3 s r k) = aP m c (row t r) k s := by
  rw [← V_p]; unfold row
  blk_ext [iblk, index_parts t]
theorem bW_at (t : Fin cfg0.N) (r : Fin 192) (k : Fin 1024) : iblk m c 1 t (ix2 r k) = aW m c (row t r) k := by
  rw [← V_w]; unfold row
  blk_ext [iblk, (index_rows t).1]
theorem bM_at (t : Fin cfg0.N) (r : Fin 192) (k : Fin 1024) : iblk m c 2 t (ix2 r k) = aM m c (row t r) k := by
  rw [← V_m]; unfold row
  blk_ext [iblk, (index_rows t).2.1]
theorem bV_at (t : Fin cfg0.N) (r : Fin 192) (k : Fin 1024) : iblk m c 3 t (ix2 r k) = aV m c (row t r) k := by
  rw [← V_v]; unfold row
  blk_ext [iblk, (index_rows t).2.2.1]

theorem l4 (x : Vec Ideal S192x1024 .f32) : View.ld (Val := Elt Ideal) (e' := .f32) x r0_4 = x := View.ld_unit_zero hz _ x

/-! ## The four results of a block -/

theorem g_at (t : Fin cfg0.N) (r : Fin 192) (k : Fin 1024) :
    k0_pay2 (View.ld (iblk m c 0 t) r0_0) (View.ld (iblk m c 0 t) r0_1) (View.ld (iblk m c 0 t) r0_2) (View.ld (iblk m c 0 t) r0_3) (ix2 r k)
      = Gr m c (row t r) k := by
  unfold k0_pay2
  pointwise
  simp only [bP_at]
  exact Adam.grad_four _

theorem m_at (t : Fin cfg0.N) (r : Fin 192) (k : Fin 1024) :
    k0_pay6 (F := Ideal) (iblk m c 0 t) (iblk m c 1 t) (iblk m c 2 t) (iblk m c 3 t) (ix2 r k) = Mn m c (row t r) k := by
  unfold Mn
  rw [← g_at, ← bM_at]
  unfold k0_pay6 k0_pay4
  rw [l4]
  generalize k0_pay2 (F := Ideal) _ _ _ _ = g
  pointwise
  rfl

theorem v_at (t : Fin cfg0.N) (r : Fin 192) (k : Fin 1024) :
    k0_pay7 (F := Ideal) (iblk m c 0 t) (iblk m c 1 t) (iblk m c 2 t) (iblk m c 3 t) (ix2 r k) = Vn m c (row t r) k := by
  unfold Vn
  rw [← g_at, ← bV_at]
  unfold k0_pay7 k0_pay5
  rw [l4]
  generalize k0_pay2 (F := Ideal) _ _ _ _ = g
  pointwise
  rfl

theorem d_at (t : Fin cfg0.N) (r : Fin 192) (k : Fin 1024) :
    out0_5 (F := Ideal) (iblk m c 0 t) (iblk m c 1 t) (iblk m c 2 t) (iblk m c 3 t) (ix2 r k) = Dl m c (row t r) k := by
  unfold Dl
  rw [← m_at, ← v_at, ← bW_at]
  unfold out0_5
  rw [View.canon_unit_zero hz, l4]
  generalize k0_pay6 (F := Ideal) _ _ _ _ = x
  generalize k0_pay7 (F := Ideal) _ _ _ _ = y
  unfold k0_pay1 k0_pay3
  pointwise
  rfl

theorem out_4 : (dats m 0 c).arrAt 4 cfg0.N = fun i => Gr m c (i 0) (i 1) := by
  refine Pipeline.Dat.arrAt_eq_of_covers _ 4 _ (by decide +kernel) fun t hf y => ?_
  refine (congrFun (after0_4 m c t) _).trans ?_
  unfold out0_4
  rw [View.canon_unit_zero hz]
  idx_vars y
  refine (g_at m c t _ _).trans (congrArg₂ (Gr m c) (Fin.ext ?_) (Fin.ext ?_))
  · blk_simp [(index_rows t).2.2.2.1]
    have ht : t.val < 1 := t.isLt
    show 192 * t.val + y0.val = y0.val
    omega
  · blk_simp [(index_rows t).2.2.2.1]

theorem out_5 : (dats m 0 c).arrAt 5 cfg0.N = fun i => Dl m c (i 0) (i 1) := by
  refine Pipeline.Dat.arrAt_eq_of_covers _ 5 _ (by decide +kernel) fun t hf y => ?_
  refine (congrFun (after0_5 m c t) _).trans ?_
  idx_vars y
  refine (d_at m c t _ _).trans (congrArg₂ (Dl m c) (Fin.ext ?_) (Fin.ext ?_))
  · blk_simp [(index_rows t).2.2.2.2.1]
    have ht : t.val < 1 := t.isLt
    show 192 * t.val + y0.val = y0.val
    omega
  · blk_simp [(index_rows t).2.2.2.2.1]

theorem out_6 : (dats m 0 c).arrAt 6 cfg0.N = fun i => Mn m c (i 0) (i 1) := by
  refine Pipeline.Dat.arrAt_eq_of_covers _ 6 _ (by decide +kernel) fun t hf y => ?_
  refine (congrFun (after0_6 m c t) _).trans ?_
  unfold out0_6
  rw [View.canon_unit_zero hz]
  idx_vars y
  refine (m_at m c t _ _).trans (congrArg₂ (Mn m c) (Fin.ext ?_) (Fin.ext ?_))
  · blk_simp [(index_rows t).2.2.2.2.2.1]
    have ht : t.val < 1 := t.isLt
    show 192 * t.val + y0.val = y0.val
    omega
  · blk_simp [(index_rows t).2.2.2.2.2.1]

theorem out_7 : (dats m 0 c).arrAt 7 cfg0.N = fun i => Vn m c (i 0) (i 1) := by
  refine Pipeline.Dat.arrAt_eq_of_covers _ 7 _ (by decide +kernel) fun t hf y => ?_
  refine (congrFun (after0_7 m c t) _).trans ?_
  unfold out0_7
  rw [View.canon_unit_zero hz]
  idx_vars y
  refine (v_at m c t _ _).trans (congrArg₂ (Vn m c) (Fin.ext ?_) (Fin.ext ?_))
  · blk_simp [(index_rows t).2.2.2.2.2.2]
    have ht : t.val < 1 := t.isLt
    show 192 * t.val + y0.val = y0.val
    omega
  · blk_simp [(index_rows t).2.2.2.2.2.2]

end Cert.AdamInKernelIdeal.Hand
-- ==== Proof.AdamInRef.lean ====
module

public import proofs.«01_k».proof.Proof.AdamMath
public import proofs.«01_k».proof.Proof.Gen.AdamInReferenceIdeal.Run
public import Idealize.ShloMosaic.Lib.IdealHost

@[expose] public section

set_option maxRecDepth 16384
set_option maxHeartbeats 1000000

noncomputable section

/-!
# What the optimiser's reference leaves for the input projection
-/

namespace Cert.AdamInReferenceIdeal.Hand

open Cert.AdamInReferenceIdeal Cert.AdamInReferenceIdeal.Gen
open Idealize.ShloMosaic Idealize.ShloMosaic.TcCoe Idealize.SL.Sem

variable (m : (ℓ : Loc nD τ sig) → Buf (Elt Ideal) ℓ) (ρ : Dev nD → PrngReg) (c : Dev nD)

/-- The parts of the gradient, and the weight and its moments laid out as the gradient is. -/
def aP (r : Fin 192) (k : Fin 1024) (s : Fin 4) : EReal := m ((c : Thread nD τ).loc main_arg0) (ix3 s r k)
def Gr (r : Fin 192) (k : Fin 1024) : EReal := Adam.grad (aP m c r k)
def aW (r : Fin 192) (k : Fin 1024) : EReal := m ((c : Thread nD τ).loc main_arg1) (ix3 0 k r)
def aM (r : Fin 192) (k : Fin 1024) : EReal := m ((c : Thread nD τ).loc main_arg2) (ix3 0 k r)
def aV (r : Fin 192) (k : Fin 1024) : EReal := m ((c : Thread nD τ).loc main_arg3) (ix3 0 k r)
/-- The new moments and the weight's change. -/
def Mn (r : Fin 192) (k : Fin 1024) : EReal := Adam.mom (aM m c r k) (Gr m c r k)
def Vn (r : Fin 192) (k : Fin 1024) : EReal := Adam.vel (aV m c r k) (Gr m c r k)
def Dl (r : Fin 192) (k : Fin 1024) : EReal := Adam.delta (aW m c r k) (Mn m c r k) (Vn m c r k)

theorem g_at (r : Fin 192) (k : Fin 1024) :
    Host.reduceAdd (extf .f32 (m ((c : Thread nD τ).loc main_arg0)) bitsLt_bf16_f32) (constant (F := Ideal) S_ .f32 0x00000000#32) reducesTo_S4x192x1024_S192x1024_d0 h_S_ (ix2 r k)
      = Gr m c r k := by
  pointwise
  rfl

theorem w_at (x : FVec Ideal S1x1024x192 .f32) (r : Fin 192) (k : Fin 1024) :
    transpose S192x1024 [1, 0] (shapeCast S1024x192 x shapeCasts_S1x1024x192_S1024x192) transposes_S1024x192_S192x1024_1_0 (ix2 r k) = x (ix3 0 k r) := by
  pointwise

theorem results :
    θ_run defs (onTc (τ := τ) (main (F := Ideal))) ⟨m, fun _ => 0, ρ⟩ fun r => ∀ c : Dev nD,
      r.2.mem ((c : Thread nD τ).loc main_v1) = (fun i => Gr m c (i 0) (i 1))
      ∧ r.2.mem ((c : Thread nD τ).loc main_v31) = (fun i => Dl m c (i 0) (i 1))
      ∧ r.2.mem ((c : Thread nD τ).loc main_v12) = (fun i => Mn m c (i 0) (i 1))
      ∧ r.2.mem ((c : Thread nD τ).loc main_v18) = (fun i => Vn m c (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run m ρ)
  obtain ⟨h0, h1, h2, h3, hrest⟩ := h c
  refine ⟨h0.trans (funext fun i => ?_), h1.trans (funext fun i => ?_), h2.trans (funext fun i => ?_), h3.trans (funext fun i => ?_), hrest⟩ <;>
    clear h0 h1 h2 h3 hrest h <;> idx_vars i
  · exact g_at m c i0 i1
  · rw [Adam.host_delta, Adam.host_mom, Adam.host_vel, g_at, w_at, w_at, w_at]
    rfl
  · rw [Adam.host_mom, g_at, w_at]
    rfl
  · rw [Adam.host_vel, g_at, w_at]
    rfl

end Cert.AdamInReferenceIdeal.Hand
-- ==== Proof.AdamOutValue.lean ====
module

public import proofs.«01_k».proof.Proof.AdamMath
public import proofs.«01_k».proof.Proof.Gen.AdamOutKernelIdeal.Value
public import Idealize.ShloMosaic.Lib.Pointwise
public import Idealize.ShloMosaic.Lib.StableHlo.ReadAt
public import Idealize.ShloMosaic.Lib.Pipeline.ValueKit

@[expose] public section

set_option maxRecDepth 16384
set_option maxHeartbeats 1000000

noncomputable section

/-!
# What the optimiser's kernel leaves for the output projection
-/

namespace Cert.AdamOutKernelIdeal.Hand

open Cert.AdamOutKernelIdeal Cert.AdamOutKernelIdeal.Gen
open Idealize.ShloMosaic Idealize.ShloMosaic.TcCoe Idealize.ShloMosaic.Tactic

variable (m : (ℓ : Loc nD τ sig) → Buf (Elt Ideal) ℓ) (c : Dev nD)

theorem hz : (![0, 0] : Fin 2 → Nat) = fun _ => 0 := funext fun a => by fin_cases a <;> rfl

/-- The parts of the gradient, and the weight and its moments. -/
def aP (r : Fin 128) (k : Fin 1024) (s : Fin 8) : EReal := m ((c : Thread nD τ).loc main_arg0) (ix3 s r k)
def Gr (r : Fin 128) (k : Fin 1024) : EReal := Adam.grad (aP m c r k)
def aW (r : Fin 128) (k : Fin 1024) : EReal := m ((c : Thread nD τ).loc main_arg1) (ix3 0 r k)
def aM (r : Fin 128) (k : Fin 1024) : EReal := m ((c : Thread nD τ).loc main_arg2) (ix3 0 r k)
def aV (r : Fin 128) (k : Fin 1024) : EReal := m ((c : Thread nD τ).loc main_arg3) (ix3 0 r k)

/-- The new moments and the weight's change. -/
def Mn (r : Fin 128) (k : Fin 1024) : EReal := Adam.mom (aM m c r k) (Gr m c r k)
def Vn (r : Fin 128) (k : Fin 1024) : EReal := Adam.vel (aV m c r k) (Gr m c r k)
def Dl (r : Fin 128) (k : Fin 1024) : EReal := Adam.delta (aW m c r k) (Mn m c r k) (Vn m c r k)

/-- Row `r` of the block of point `n`. -/
def row (n : Fin 1) (r : Fin 128) : Fin 128 := ⟨128 * n.val + r.val, by omega⟩

theorem V_p (s : Fin 8) (r : Fin 128) (k : Fin 1024) : V m c main_arg0 (ix3 s r k) = aP m c r k s := by
  unfold V; after_reads_at; rfl
theorem V_w (r : Fin 128) (k : Fin 1024) : V m c main_v0 (ix2 r k) = aW m c r k := by
  unfold V; after_reads_at
  pointwise
  rfl
theorem V_m (r : Fin 128) (k : Fin 1024) : V m c main_v1 (ix2 r k) = aM m c r k := by
  unfold V; after_reads_at
  pointwise
  rfl
theorem V_v (r : Fin 128) (k : Fin 1024) : V m c main_v2 (ix2 r k) = aV m c r k := by
  unfold V; after_reads_at
  pointwise
  rfl

theorem index_parts : ∀ t : Fin grid0.N, win0_0.index t = ![0, t.val, 0] := by decide +kernel
theorem index_rows : ∀ t : Fin grid0.N, win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by decide +kernel

theorem bP_at (t : Fin cfg0.N) (s : Fin 8) (r : Fin 128) (k : Fin 1024) : iblk m c 0 t (ix3 s r k) = aP m c (row t r) k s := by
  rw [← V_p]; unfold row
  blk_ext [iblk, index_parts t]
theorem bW_at (t : Fin cfg0.N) (r : Fin 128) (k : Fin 1024) : iblk m c 1 t (ix2 r k) = aW m c (row t r) k := by
  rw [← V_w]; unfold row
  blk_ext [iblk, (index_rows t).1]
theorem bM_at (t : Fin cfg0.N) (r : Fin 128) (k : Fin 1024) : iblk m c 2 t (ix2 r k) = aM m c (row t r) k := by
  rw [← V_m]; unfold row
  blk_ext [iblk, (index_rows t).2.1]
theorem bV_at (t : Fin cfg0.N) (r : Fin 128) (k : Fin 1024) : iblk m c 3 t (ix2 r k) = aV m c (row t r) k := by
  rw [← V_v]; unfold row
  blk_ext [iblk, (index_rows t).2.2.1]

theorem l8 (x : Vec Ideal S128x1024 .f32) : View.ld (Val := Elt Ideal) (e' := .f32) x r0_8 = x := View.ld_unit_zero hz _ x

/-! ## The four results of a block -/

theorem g_at (t : Fin cfg0.N) (r : Fin 128) (k : Fin 1024) :
    k0_pay5 (F := Ideal) (iblk m c 0 t) (iblk m c 1 t) (iblk m c 2 t) (iblk m c 3 t) (ix2 r k) = Gr m c (row t r) k := by
  unfold k0_pay5 k0_pay4
  pointwise
  simp only [bP_at]
  exact Adam.grad_eight _

theorem m_at (t : Fin cfg0.N) (r : Fin 128) (k : Fin 1024) :
    k0_pay1 (F := Ideal) (k0_pay5 (iblk m c 0 t) (iblk m c 1 t) (iblk m c 2 t) (iblk m c 3 t)) (iblk m c 2 t) (ix2 r k) = Mn m c (row t r) k := by
  unfold Mn
  rw [← g_at, ← bM_at]
  generalize k0_pay5 (F := Ideal) _ _ _ _ = g
  unfold k0_pay1
  pointwise
  rfl

theorem v_at (t : Fin cfg0.N) (r : Fin 128) (k : Fin 1024) :
    k0_pay2 (F := Ideal) (k0_pay5 (iblk m c 0 t) (iblk m c 1 t) (iblk m c 2 t) (iblk m c 3 t)) (iblk m c 3 t) (ix2 r k) = Vn m c (row t r) k := by
  unfold Vn
  rw [← g_at, ← bV_at]
  generalize k0_pay5 (F := Ideal) _ _ _ _ = g
  unfold k0_pay2
  pointwise
  rfl

theorem d_at (t : Fin cfg0.N) (r : Fin 128) (k : Fin 1024) :
    k0_pay3 (F := Ideal) (k0_pay5 (iblk m c 0 t) (iblk m c 1 t) (iblk m c 2 t) (iblk m c 3 t)) (iblk m c 1 t) (iblk m c 2 t) (iblk m c 3 t) (ix2 r k)
      = Dl m c (row t r) k := by
  unfold Dl
  rw [← m_at, ← v_at, ← bW_at]
  generalize k0_pay5 (F := Ideal) _ _ _ _ = g
  unfold k0_pay3
  generalize k0_pay1 (F := Ideal) _ _ = x
  generalize k0_pay2 (F := Ideal) _ _ = y
  pointwise
  rfl

theorem out_4 : (dats m 0 c).arrAt 4 cfg0.N = fun i => Gr m c (i 0) (i 1) := by
  refine Pipeline.Dat.arrAt_eq_of_covers _ 4 _ (by decide +kernel) fun t hf y => ?_
  refine (congrFun (after0_4 m c t) _).trans ?_
  unfold out0_4
  rw [View.canon_unit_zero hz]
  idx_vars y
  refine (g_at m c t _ _).trans (congrArg₂ (Gr m c) (Fin.ext ?_) (Fin.ext ?_))
  · blk_simp [(index_rows t).2.2.2.1]
    have ht : t.val < 1 := t.isLt
    show 128 * t.val + y0.val = y0.val
    omega
  · blk_simp [(index_rows t).2.2.2.1]

theorem out_5 : (dats m 0 c).arrAt 5 cfg0.N = fun i => Dl m c (i 0) (i 1) := by
  refine Pipeline.Dat.arrAt_eq_of_covers _ 5 _ (by decide +kernel) fun t hf y => ?_
  refine (congrFun (after0_5 m c t) _).trans ?_
  unfold out0_5
  rw [View.canon_unit_zero hz]
  simp only [l8]
  idx_vars y
  refine (d_at m c t _ _).trans (congrArg₂ (Dl m c) (Fin.ext ?_) (Fin.ext ?_))
  · blk_simp [(index_rows t).2.2.2.2.1]
    have ht : t.val < 1 := t.isLt
    show 128 * t.val + y0.val = y0.val
    omega
  · blk_simp [(index_rows t).2.2.2.2.1]

theorem out_6 : (dats m 0 c).arrAt 6 cfg0.N = fun i => Mn m c (i 0) (i 1) := by
  refine Pipeline.Dat.arrAt_eq_of_covers _ 6 _ (by decide +kernel) fun t hf y => ?_
  refine (congrFun (after0_6 m c t) _).trans ?_
  unfold out0_6
  rw [View.canon_unit_zero hz]
  simp only [l8]
  idx_vars y
  refine (m_at m c t _ _).trans (congrArg₂ (Mn m c) (Fin.ext ?_) (Fin.ext ?_))
  · blk_simp [(index_rows t).2.2.2.2.2.1]
    have ht : t.val < 1 := t.isLt
    show 128 * t.val + y0.val = y0.val
    omega
  · blk_simp [(index_rows t).2.2.2.2.2.1]

theorem out_7 : (dats m 0 c).arrAt 7 cfg0.N = fun i => Vn m c (i 0) (i 1) := by
  refine Pipeline.Dat.arrAt_eq_of_covers _ 7 _ (by decide +kernel) fun t hf y => ?_
  refine (congrFun (after0_7 m c t) _).trans ?_
  unfold out0_7
  rw [View.canon_unit_zero hz]
  simp only [l8]
  idx_vars y
  refine (v_at m c t _ _).trans (congrArg₂ (Vn m c) (Fin.ext ?_) (Fin.ext ?_))
  · blk_simp [(index_rows t).2.2.2.2.2.2]
    have ht : t.val < 1 := t.isLt
    show 128 * t.val + y0.val = y0.val
    omega
  · blk_simp [(index_rows t).2.2.2.2.2.2]

end Cert.AdamOutKernelIdeal.Hand
-- ==== Proof.AdamOutRef.lean ====
module

public import proofs.«01_k».proof.Proof.AdamMath
public import proofs.«01_k».proof.Proof.Gen.AdamOutReferenceIdeal.Run
public import Idealize.ShloMosaic.Lib.IdealHost

@[expose] public section

set_option maxRecDepth 16384
set_option maxHeartbeats 1000000

noncomputable section

/-!
# What the optimiser's reference leaves for the output projection
-/

namespace Cert.AdamOutReferenceIdeal.Hand

open Cert.AdamOutReferenceIdeal Cert.AdamOutReferenceIdeal.Gen
open Idealize.ShloMosaic Idealize.ShloMosaic.TcCoe Idealize.SL.Sem

variable (m : (ℓ : Loc nD τ sig) → Buf (Elt Ideal) ℓ) (ρ : Dev nD → PrngReg) (c : Dev nD)

/-- The parts of the gradient, and the weight and its moments. -/
def aP (r : Fin 128) (k : Fin 1024) (s : Fin 8) : EReal := m ((c : Thread nD τ).loc main_arg0) (ix3 s r k)
def Gr (r : Fin 128) (k : Fin 1024) : EReal := Adam.grad (aP m c r k)
def aW (r : Fin 128) (k : Fin 1024) : EReal := m ((c : Thread nD τ).loc main_arg1) (ix3 0 r k)
def aM (r : Fin 128) (k : Fin 1024) : EReal := m ((c : Thread nD τ).loc main_arg2) (ix3 0 r k)
def aV (r : Fin 128) (k : Fin 1024) : EReal := m ((c : Thread nD τ).loc main_arg3) (ix3 0 r k)
/-- The new moments and the weight's change. -/
def Mn (r : Fin 128) (k : Fin 1024) : EReal := Adam.mom (aM m c r k) (Gr m c r k)
def Vn (r : Fin 128) (k : Fin 1024) : EReal := Adam.vel (aV m c r k) (Gr m c r k)
def Dl (r : Fin 128) (k : Fin 1024) : EReal := Adam.delta (aW m c r k) (Mn m c r k) (Vn m c r k)

theorem g_at (r : Fin 128) (k : Fin 1024) :
    Host.reduceAdd (extf .f32 (m ((c : Thread nD τ).loc main_arg0)) bitsLt_bf16_f32) (constant (F := Ideal) S_ .f32 0x00000000#32) reducesTo_S8x128x1024_S128x1024_d0 h_S_ (ix2 r k)
      = Gr m c r k := by
  pointwise
  rfl

theorem w_at (x : FVec Ideal S1x128x1024 .f32) (r : Fin 128) (k : Fin 1024) :
    shapeCast S128x1024 x shapeCasts_S1x128x1024_S128x1024 (ix2 r k) = x (ix3 0 r k) := by
  pointwise

theorem results :
    θ_run defs (onTc (τ := τ) (main (F := Ideal))) ⟨m, fun _ => 0, ρ⟩ fun r => ∀ c : Dev nD,
      r.2.mem ((c : Thread nD τ).loc main_v1) = (fun i => Gr m c (i 0) (i 1))
      ∧ r.2.mem ((c : Thread nD τ).loc main_v28) = (fun i => Dl m c (i 0) (i 1))
      ∧ r.2.mem ((c : Thread nD τ).loc main_v9) = (fun i => Mn m c (i 0) (i 1))
      ∧ r.2.mem ((c : Thread nD τ).loc main_v15) = (fun i => Vn m c (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run m ρ)
  obtain ⟨h0, h1, h2, h3, hrest⟩ := h c
  refine ⟨h0.trans (funext fun i => ?_), h1.trans (funext fun i => ?_), h2.trans (funext fun i => ?_), h3.trans (funext fun i => ?_), hrest⟩ <;>
    clear h0 h1 h2 h3 hrest h <;> idx_vars i
  · exact g_at m c i0 i1
  · rw [Adam.host_delta, Adam.host_mom, Adam.host_vel, g_at, w_at, w_at, w_at]
    rfl
  · rw [Adam.host_mom, g_at, w_at]
    rfl
  · rw [Adam.host_vel, g_at, w_at]
    rfl

end Cert.AdamOutReferenceIdeal.Hand
-- ==== Proof.AdamNormValue.lean ====
module

public import proofs.«01_k».proof.Proof.AdamMath
public import proofs.«01_k».proof.Proof.Gen.AdamNormKernelIdeal.Value
public import Idealize.ShloMosaic.Lib.Pointwise
public import Idealize.ShloMosaic.Lib.StableHlo.ReadAt
public import Idealize.ShloMosaic.Lib.Pipeline.ValueKit

@[expose] public section

set_option maxRecDepth 16384
set_option maxHeartbeats 1000000

noncomputable section

/-!
# What the optimiser's kernel leaves for the first norm's gain
-/

namespace Cert.AdamNormKernelIdeal.Hand

open Cert.AdamNormKernelIdeal Cert.AdamNormKernelIdeal.Gen
open Idealize.ShloMosaic Idealize.ShloMosaic.TcCoe Idealize.ShloMosaic.Tactic

variable (m : (ℓ : Loc nD τ sig) → Buf (Elt Ideal) ℓ) (c : Dev nD)

theorem hz : (![0, 0] : Fin 2 → Nat) = fun _ => 0 := funext fun a => by fin_cases a <;> rfl

/-- The parts of the gradient, and the weight and its moments. -/
def aP (k : Fin 1024) (s : Fin 8) : EReal := m ((c : Thread nD τ).loc main_arg0) (ix3 s 0 k)
def Gr (k : Fin 1024) : EReal := Adam.grad (aP m c k)
def aW (k : Fin 1024) : EReal := m ((c : Thread nD τ).loc main_arg1) (ix2 0 k)
def aM (k : Fin 1024) : EReal := m ((c : Thread nD τ).loc main_arg2) (ix2 0 k)
def aV (k : Fin 1024) : EReal := m ((c : Thread nD τ).loc main_arg3) (ix2 0 k)

/-- The new moments and the weight's change. -/
def Mn (k : Fin 1024) : EReal := Adam.mom (aM m c k) (Gr m c k)
def Vn (k : Fin 1024) : EReal := Adam.vel (aV m c k) (Gr m c k)
def Dl (k : Fin 1024) : EReal := Adam.delta (aW m c k) (Mn m c k) (Vn m c k)

theorem V_p (s : Fin 8) (k : Fin 1024) : V m c main_arg0 (ix3 s 0 k) = aP m c k s := by
  rfl
theorem V_w (k : Fin 1024) : V m c main_arg1 (ix2 0 k) = aW m c k := by
  rfl
theorem V_m (k : Fin 1024) : V m c main_arg2 (ix2 0 k) = aM m c k := by
  rfl
theorem V_v (k : Fin 1024) : V m c main_arg3 (ix2 0 k) = aV m c k := by
  rfl

theorem index_parts : ∀ t : Fin grid0.N, win0_0.index t = ![0, t.val, 0] := by decide +kernel
theorem index_rows : ∀ t : Fin grid0.N, win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by decide +kernel

theorem bP_at (t : Fin cfg0.N) (s : Fin 8) (k : Fin 1024) : iblk m c 0 t (ix3 s 0 k) = aP m c k s := by
  rw [← V_p]
  blk_ext [iblk, index_parts t]
theorem bW_at (t : Fin cfg0.N) (k : Fin 1024) : iblk m c 1 t (ix2 0 k) = aW m c k := by
  rw [← V_w]
  blk_ext [iblk, (index_rows t).1]
theorem bM_at (t : Fin cfg0.N) (k : Fin 1024) : iblk m c 2 t (ix2 0 k) = aM m c k := by
  rw [← V_m]
  blk_ext [iblk, (index_rows t).2.1]
theorem bV_at (t : Fin cfg0.N) (k : Fin 1024) : iblk m c 3 t (ix2 0 k) = aV m c k := by
  rw [← V_v]
  blk_ext [iblk, (index_rows t).2.2.1]

theorem l8 (x : Vec Ideal S1x1024 .f32) : View.ld (Val := Elt Ideal) (e' := .f32) x r0_8 = x := View.ld_unit_zero hz _ x

/-! ## The four results of a block -/

theorem g_at (t : Fin cfg0.N) (k : Fin 1024) :
    k0_pay5 (F := Ideal) (iblk m c 0 t) (iblk m c 1 t) (iblk m c 2 t) (iblk m c 3 t) (ix2 0 k) = Gr m c k := by
  unfold k0_pay5 k0_pay4
  pointwise
  simp only [bP_at]
  exact Adam.grad_eight _

theorem m_at (t : Fin cfg0.N) (k : Fin 1024) :
    k0_pay1 (F := Ideal) (k0_pay5 (iblk m c 0 t) (iblk m c 1 t) (iblk m c 2 t) (iblk m c 3 t)) (iblk m c 2 t) (ix2 0 k) = Mn m c k := by
  unfold Mn
  rw [← g_at, ← bM_at]
  generalize k0_pay5 (F := Ideal) _ _ _ _ = g
  unfold k0_pay1
  pointwise
  rfl

theorem v_at (t : Fin cfg0.N) (k : Fin 1024) :
    k0_pay2 (F := Ideal) (k0_pay5 (iblk m c 0 t) (iblk m c 1 t) (iblk m c 2 t) (iblk m c 3 t)) (iblk m c 3 t) (ix2 0 k) = Vn m c k := by
  unfold Vn
  rw [← g_at, ← bV_at]
  generalize k0_pay5 (F := Ideal) _ _ _ _ = g
  unfold k0_pay2
  pointwise
  rfl

theorem d_at (t : Fin cfg0.N) (k : Fin 1024) :
    k0_pay3 (F := Ideal) (k0_pay5 (iblk m c 0 t) (iblk m c 1 t) (iblk m c 2 t) (iblk m c 3 t)) (iblk m c 1 t) (iblk m c 2 t) (iblk m c 3 t) (ix2 0 k)
      = Dl m c k := by
  unfold Dl
  rw [← m_at, ← v_at, ← bW_at]
  generalize k0_pay5 (F := Ideal) _ _ _ _ = g
  unfold k0_pay3
  generalize k0_pay1 (F := Ideal) _ _ = x
  generalize k0_pay2 (F := Ideal) _ _ = y
  pointwise
  rfl

theorem out_4 : (dats m 0 c).arrAt 4 cfg0.N = fun i => Gr m c (i 1) := by
  refine Pipeline.Dat.arrAt_eq_of_covers _ 4 _ (by decide +kernel) fun t hf y => ?_
  refine (congrFun (after0_4 m c t) _).trans ?_
  unfold out0_4
  rw [View.canon_unit_zero hz]
  idx_vars y
  obtain rfl := Subsingleton.elim y0 0
  refine (g_at m c t _).trans (congrArg (Gr m c) (Fin.ext ?_))
  blk_simp [(index_rows t).2.2.2.1]

theorem out_5 : (dats m 0 c).arrAt 5 cfg0.N = fun i => Dl m c (i 1) := by
  refine Pipeline.Dat.arrAt_eq_of_covers _ 5 _ (by decide +kernel) fun t hf y => ?_
  refine (congrFun (after0_5 m c t) _).trans ?_
  unfold out0_5
  rw [View.canon_unit_zero hz]
  simp only [l8]
  idx_vars y
  obtain rfl := Subsingleton.elim y0 0
  refine (d_at m c t _).trans (congrArg (Dl m c) (Fin.ext ?_))
  blk_simp [(index_rows t).2.2.2.2.1]

theorem out_6 : (dats m 0 c).arrAt 6 cfg0.N = fun i => Mn m c (i 1) := by
  refine Pipeline.Dat.arrAt_eq_of_covers _ 6 _ (by decide +kernel) fun t hf y => ?_
  refine (congrFun (after0_6 m c t) _).trans ?_
  unfold out0_6
  rw [View.canon_unit_zero hz]
  simp only [l8]
  idx_vars y
  obtain rfl := Subsingleton.elim y0 0
  refine (m_at m c t _).trans (congrArg (Mn m c) (Fin.ext ?_))
  blk_simp [(index_rows t).2.2.2.2.2.1]

theorem out_7 : (dats m 0 c).arrAt 7 cfg0.N = fun i => Vn m c (i 1) := by
  refine Pipeline.Dat.arrAt_eq_of_covers _ 7 _ (by decide +kernel) fun t hf y => ?_
  refine (congrFun (after0_7 m c t) _).trans ?_
  unfold out0_7
  rw [View.canon_unit_zero hz]
  simp only [l8]
  idx_vars y
  obtain rfl := Subsingleton.elim y0 0
  refine (v_at m c t _).trans (congrArg (Vn m c) (Fin.ext ?_))
  blk_simp [(index_rows t).2.2.2.2.2.2]

end Cert.AdamNormKernelIdeal.Hand
-- ==== Proof.AdamNormRef.lean ====
module

public import proofs.«01_k».proof.Proof.AdamMath
public import proofs.«01_k».proof.Proof.Gen.AdamNormReferenceIdeal.Run
public import Idealize.ShloMosaic.Lib.IdealHost

@[expose] public section

set_option maxRecDepth 16384
set_option maxHeartbeats 1000000

noncomputable section

/-!
# What the optimiser's reference leaves for the first norm's gain
-/

namespace Cert.AdamNormReferenceIdeal.Hand

open Cert.AdamNormReferenceIdeal Cert.AdamNormReferenceIdeal.Gen
open Idealize.ShloMosaic Idealize.ShloMosaic.TcCoe Idealize.SL.Sem

variable (m : (ℓ : Loc nD τ sig) → Buf (Elt Ideal) ℓ) (ρ : Dev nD → PrngReg) (c : Dev nD)

/-- The parts of the gradient, and the weight and its moments. -/
def aP (k : Fin 1024) (s : Fin 8) : EReal := m ((c : Thread nD τ).loc main_arg0) (ix3 s 0 k)
def Gr (k : Fin 1024) : EReal := Adam.grad (aP m c k)
def aW (k : Fin 1024) : EReal := m ((c : Thread nD τ).loc main_arg1) (ix2 0 k)
def aM (k : Fin 1024) : EReal := m ((c : Thread nD τ).loc main_arg2) (ix2 0 k)
def aV (k : Fin 1024) : EReal := m ((c : Thread nD τ).loc main_arg3) (ix2 0 k)
/-- The new moments and the weight's change. -/
def Mn (k : Fin 1024) : EReal := Adam.mom (aM m c k) (Gr m c k)
def Vn (k : Fin 1024) : EReal := Adam.vel (aV m c k) (Gr m c k)
def Dl (k : Fin 1024) : EReal := Adam.delta (aW m c k) (Mn m c k) (Vn m c k)

theorem g_at (k : Fin 1024) :
    Host.reduceAdd (m ((c : Thread nD τ).loc main_arg0)) (constant (F := Ideal) S_ .f32 0x00000000#32) reducesTo_S8x1x1024_S1x1024_d0 h_S_ (ix2 0 k)
      = Gr m c k := by
  pointwise
  rfl

theorem results :
    θ_run defs (onTc (τ := τ) (main (F := Ideal))) ⟨m, fun _ => 0, ρ⟩ fun r => ∀ c : Dev nD,
      r.2.mem ((c : Thread nD τ).loc main_v0) = (fun i => Gr m c (i 1))
      ∧ r.2.mem ((c : Thread nD τ).loc main_v24) = (fun i => Dl m c (i 1))
      ∧ r.2.mem ((c : Thread nD τ).loc main_v5) = (fun i => Mn m c (i 1))
      ∧ r.2.mem ((c : Thread nD τ).loc main_v11) = (fun i => Vn m c (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run m ρ)
  obtain ⟨h0, h1, h2, h3, hrest⟩ := h c
  refine ⟨h0.trans (funext fun i => ?_), h1.trans (funext fun i => ?_), h2.trans (funext fun i => ?_), h3.trans (funext fun i => ?_), hrest⟩ <;>
    clear h0 h1 h2 h3 hrest h <;> idx_vars i <;> obtain rfl := Subsingleton.elim i0 0
  · exact g_at m c i1
  · rw [Adam.host_delta, Adam.host_mom, Adam.host_vel, g_at]
    rfl
  · rw [Adam.host_mom, g_at]
    rfl
  · rw [Adam.host_vel, g_at]
    rfl

end Cert.AdamNormReferenceIdeal.Hand
-- ==== Proof.lean ====
module

public import proofs.«01_k».proof.Defs
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.FfnFwdKernel
public import proofs.«01_k».proof.Proof.Gen.FfnFwdKernel.Skeleton
public import proofs.«01_k».proof.Proof.Gen.FfnFwdKernel.Launch
public import proofs.«01_k».proof.Proof.Gen.FfnFwdKernel.Points
public import proofs.«01_k».proof.Proof.Gen.FfnFwdKernel.Frame
public import proofs.«01_k».proof.Proof.Gen.FfnFwdKernelIdeal
public import proofs.«01_k».proof.Proof.Gen.FfnFwdKernelIdeal.Skeleton
public import proofs.«01_k».proof.Proof.Gen.FfnFwdKernelIdeal.Launch
public import proofs.«01_k».proof.Proof.Gen.FfnFwdKernelIdeal.Points
public import proofs.«01_k».proof.Proof.Gen.FfnFwdKernelIdeal.Frame
public import proofs.«01_k».proof.Proof.Gen.FfnFwdKernelIdeal.Value
public import proofs.«01_k».proof.Proof.Gen.FfnFwdReferenceIdeal
public import proofs.«01_k».proof.Proof.Gen.FfnFwdReferenceIdeal.Run
public import proofs.«01_k».proof.Proof.Gen.FwdInKernel
public import proofs.«01_k».proof.Proof.Gen.FwdInKernel.Skeleton
public import proofs.«01_k».proof.Proof.Gen.FwdInKernel.Launch
public import proofs.«01_k».proof.Proof.Gen.FwdInKernel.Points
public import proofs.«01_k».proof.Proof.Gen.FwdInKernel.Frame
public import proofs.«01_k».proof.Proof.Gen.FwdInKernelIdeal
public import proofs.«01_k».proof.Proof.Gen.FwdInKernelIdeal.Skeleton
public import proofs.«01_k».proof.Proof.Gen.FwdInKernelIdeal.Launch
public import proofs.«01_k».proof.Proof.Gen.FwdInKernelIdeal.Points
public import proofs.«01_k».proof.Proof.Gen.FwdInKernelIdeal.Frame
public import proofs.«01_k».proof.Proof.Gen.FwdOutKernel
public import proofs.«01_k».proof.Proof.Gen.FwdOutKernel.Skeleton
public import proofs.«01_k».proof.Proof.Gen.FwdOutKernel.Launch
public import proofs.«01_k».proof.Proof.Gen.FwdOutKernel.Points
public import proofs.«01_k».proof.Proof.Gen.FwdOutKernel.Frame
public import proofs.«01_k».proof.Proof.Gen.FwdOutKernelIdeal
public import proofs.«01_k».proof.Proof.Gen.FwdOutKernelIdeal.Skeleton
public import proofs.«01_k».proof.Proof.Gen.FwdOutKernelIdeal.Launch
public import proofs.«01_k».proof.Proof.Gen.FwdOutKernelIdeal.Points
public import proofs.«01_k».proof.Proof.Gen.FwdOutKernelIdeal.Frame
public import proofs.«01_k».proof.Proof.Gen.FwdInKernelIdeal.Value
public import proofs.«01_k».proof.Proof.Gen.FwdInReferenceIdeal
public import proofs.«01_k».proof.Proof.Gen.FwdInReferenceIdeal.Run
public import proofs.«01_k».proof.Proof.Gen.FwdOutKernelIdeal.Value
public import proofs.«01_k».proof.Proof.Gen.FwdOutReferenceIdeal
public import proofs.«01_k».proof.Proof.Gen.FwdOutReferenceIdeal.Run
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.OutReferenceIdeal.Run
public import proofs.«01_k».proof.Proof.Gen.AdamGateKernel
public import proofs.«01_k».proof.Proof.Gen.AdamGateKernel.Skeleton
public import proofs.«01_k».proof.Proof.Gen.AdamGateKernel.Launch
public import proofs.«01_k».proof.Proof.Gen.AdamGateKernel.Points
public import proofs.«01_k».proof.Proof.Gen.AdamGateKernel.Frame
public import proofs.«01_k».proof.Proof.Gen.AdamGateKernelIdeal
public import proofs.«01_k».proof.Proof.Gen.AdamGateKernelIdeal.Skeleton
public import proofs.«01_k».proof.Proof.Gen.AdamGateKernelIdeal.Launch
public import proofs.«01_k».proof.Proof.Gen.AdamGateKernelIdeal.Points
public import proofs.«01_k».proof.Proof.Gen.AdamGateKernelIdeal.Frame
public import proofs.«01_k».proof.Proof.Gen.AdamGateKernelIdeal.Value
public import proofs.«01_k».proof.Proof.Gen.AdamGateReferenceIdeal
public import proofs.«01_k».proof.Proof.Gen.AdamGateReferenceIdeal.Run
public import proofs.«01_k».proof.Proof.Gen.AdamDownKernel
public import proofs.«01_k».proof.Proof.Gen.AdamDownKernel.Skeleton
public import proofs.«01_k».proof.Proof.Gen.AdamDownKernel.Launch
public import proofs.«01_k».proof.Proof.Gen.AdamDownKernel.Points
public import proofs.«01_k».proof.Proof.Gen.AdamDownKernel.Frame
public import proofs.«01_k».proof.Proof.Gen.AdamDownKernelIdeal
public import proofs.«01_k».proof.Proof.Gen.AdamDownKernelIdeal.Skeleton
public import proofs.«01_k».proof.Proof.Gen.AdamDownKernelIdeal.Launch
public import proofs.«01_k».proof.Proof.Gen.AdamDownKernelIdeal.Points
public import proofs.«01_k».proof.Proof.Gen.AdamDownKernelIdeal.Frame
public import proofs.«01_k».proof.Proof.Gen.AdamDownKernelIdeal.Value
public import proofs.«01_k».proof.Proof.Gen.AdamDownReferenceIdeal
public import proofs.«01_k».proof.Proof.Gen.AdamDownReferenceIdeal.Run
public import proofs.«01_k».proof.Proof.Gen.AdamInKernel
public import proofs.«01_k».proof.Proof.Gen.AdamInKernel.Skeleton
public import proofs.«01_k».proof.Proof.Gen.AdamInKernel.Launch
public import proofs.«01_k».proof.Proof.Gen.AdamInKernel.Points
public import proofs.«01_k».proof.Proof.Gen.AdamInKernel.Frame
public import proofs.«01_k».proof.Proof.Gen.AdamInKernelIdeal
public import proofs.«01_k».proof.Proof.Gen.AdamInKernelIdeal.Skeleton
public import proofs.«01_k».proof.Proof.Gen.AdamInKernelIdeal.Launch
public import proofs.«01_k».proof.Proof.Gen.AdamInKernelIdeal.Points
public import proofs.«01_k».proof.Proof.Gen.AdamInKernelIdeal.Frame
public import proofs.«01_k».proof.Proof.Gen.AdamInKernelIdeal.Value
public import proofs.«01_k».proof.Proof.Gen.AdamInReferenceIdeal
public import proofs.«01_k».proof.Proof.Gen.AdamInReferenceIdeal.Run
public import proofs.«01_k».proof.Proof.Gen.AdamOutKernel
public import proofs.«01_k».proof.Proof.Gen.AdamOutKernel.Skeleton
public import proofs.«01_k».proof.Proof.Gen.AdamOutKernel.Launch
public import proofs.«01_k».proof.Proof.Gen.AdamOutKernel.Points
public import proofs.«01_k».proof.Proof.Gen.AdamOutKernel.Frame
public import proofs.«01_k».proof.Proof.Gen.AdamOutKernelIdeal
public import proofs.«01_k».proof.Proof.Gen.AdamOutKernelIdeal.Skeleton
public import proofs.«01_k».proof.Proof.Gen.AdamOutKernelIdeal.Launch
public import proofs.«01_k».proof.Proof.Gen.AdamOutKernelIdeal.Points
public import proofs.«01_k».proof.Proof.Gen.AdamOutKernelIdeal.Frame
public import proofs.«01_k».proof.Proof.Gen.AdamOutKernelIdeal.Value
public import proofs.«01_k».proof.Proof.Gen.AdamOutReferenceIdeal
public import proofs.«01_k».proof.Proof.Gen.AdamOutReferenceIdeal.Run
public import proofs.«01_k».proof.Proof.Gen.AdamNormKernel
public import proofs.«01_k».proof.Proof.Gen.AdamNormKernel.Skeleton
public import proofs.«01_k».proof.Proof.Gen.AdamNormKernel.Launch
public import proofs.«01_k».proof.Proof.Gen.AdamNormKernel.Points
public import proofs.«01_k».proof.Proof.Gen.AdamNormKernel.Frame
public import proofs.«01_k».proof.Proof.Gen.AdamNormKernelIdeal
public import proofs.«01_k».proof.Proof.Gen.AdamNormKernelIdeal.Skeleton
public import proofs.«01_k».proof.Proof.Gen.AdamNormKernelIdeal.Launch
public import proofs.«01_k».proof.Proof.Gen.AdamNormKernelIdeal.Points
public import proofs.«01_k».proof.Proof.Gen.AdamNormKernelIdeal.Frame
public import proofs.«01_k».proof.Proof.Gen.AdamNormKernelIdeal.Value
public import proofs.«01_k».proof.Proof.Gen.AdamNormReferenceIdeal
public import proofs.«01_k».proof.Proof.Gen.AdamNormReferenceIdeal.Run
public import proofs.«01_k».proof.Proof.Gen.Pre_finite
public import proofs.«01_k».proof.Proof.FfnValue
public import proofs.«01_k».proof.Proof.FfnRef
public import proofs.«01_k».proof.Proof.InValue
public import proofs.«01_k».proof.Proof.InRef
public import proofs.«01_k».proof.Proof.FwdInValue
public import proofs.«01_k».proof.Proof.FwdInRef
public import proofs.«01_k».proof.Proof.FwdOutValue
public import proofs.«01_k».proof.Proof.FwdOutRef
public import proofs.«01_k».proof.Proof.OutValue
public import proofs.«01_k».proof.Proof.OutRef
public import proofs.«01_k».proof.Proof.FwdValue
public import proofs.«01_k».proof.Proof.FwdRef
public import proofs.«01_k».proof.Proof.AdamGateValue
public import proofs.«01_k».proof.Proof.AdamGateRef
public import proofs.«01_k».proof.Proof.AdamDownValue
public import proofs.«01_k».proof.Proof.AdamDownRef
public import proofs.«01_k».proof.Proof.AdamInValue
public import proofs.«01_k».proof.Proof.AdamInRef
public import proofs.«01_k».proof.Proof.AdamOutValue
public import proofs.«01_k».proof.Proof.AdamOutRef
public import proofs.«01_k».proof.Proof.AdamNormValue
public import proofs.«01_k».proof.Proof.AdamNormRef
public import Idealize.ShloMosaic.Lib.Quiescent
public import Idealize.ShloMosaic.Adequacy
public import Idealize.ShloMosaic.Init

@[expose] public section

noncomputable section

namespace Cert.Proof

open Idealize.ShloMosaic Idealize.SL.Sem Cert.FfnKernel

/-! ## The frames -/

/-- The two programs' calls are the same text, so their tables agree. -/
theorem ffn_calls : Cert.FfnKernel.defs₀ (F := Bits) = Cert.FfnKernelIdeal.defs₀ := by
  unfold Cert.FfnKernel.defs₀ Cert.FfnKernelIdeal.defs₀
  refine congrArg Defs.onTc ?_
  funext l a
  match l with
  | 0 => rfl

theorem ffn_defs : Cert.FfnKernel.defs (F := Bits) = Cert.FfnKernelIdeal.defs :=
  congrArg (Pipeline.defs Cert.FfnKernelIdeal.pcfgs) ffn_calls

theorem frame_FfnKernel : Cert.quiescent_FfnKernel := fun m ρ _ => by
  rw [ffn_defs]
  exact (θ_run Cert.FfnKernelIdeal.defs _ _).mono (fun _ h => ⟨fun c => Cert.FfnKernelIdeal.Hand.args_kept h.1 c, h.2⟩)
    (Cert.FfnKernelIdeal.Hand.run_main (F := Bits) m ρ)

theorem frame_FfnKernelIdeal : Cert.quiescent_FfnKernelIdeal := fun m ρ _ =>
  (θ_run Cert.FfnKernelIdeal.defs _ _).mono (fun _ h => ⟨fun c => Cert.FfnKernelIdeal.Hand.args_kept h.1 c, h.2⟩)
    (Cert.FfnKernelIdeal.Hand.run_main (F := Ideal) m ρ)

theorem frame_FfnReferenceIdeal : Cert.quiescent_FfnReferenceIdeal := fun m ρ _ =>
  (θ_run Cert.FfnReferenceIdeal.defs _ _).mono (fun r h => ⟨fun c => (h c).2.2.2.2, sem_eq_zero_of_no_sems (by decide) r.2⟩)
    (Cert.FfnReferenceIdeal.Value.run (F := Ideal) m ρ)

theorem frame_InKernel : Cert.quiescent_InKernel := fun m ρ _ => Cert.InKernel.Gen.frame m ρ

theorem frame_InKernelIdeal : Cert.quiescent_InKernelIdeal := fun m ρ _ => Cert.InKernelIdeal.Gen.frame m ρ

theorem frame_InReferenceIdeal : Cert.quiescent_InReferenceIdeal := fun m ρ _ =>
  (θ_run Cert.InReferenceIdeal.defs _ _).mono (fun r h => ⟨fun c => (h c).2.2.2, sem_eq_zero_of_no_sems (by decide) r.2⟩)
    (Cert.InReferenceIdeal.Value.run (F := Ideal) m ρ)

theorem frame_FfnFwdKernel : Cert.quiescent_FfnFwdKernel := fun m ρ _ => Cert.FfnFwdKernel.Gen.frame m ρ

theorem frame_FfnFwdKernelIdeal : Cert.quiescent_FfnFwdKernelIdeal := fun m ρ _ => Cert.FfnFwdKernelIdeal.Gen.frame m ρ

theorem frame_FfnFwdReferenceIdeal : Cert.quiescent_FfnFwdReferenceIdeal := fun m ρ _ =>
  (θ_run Cert.FfnFwdReferenceIdeal.defs _ _).mono (fun r h => ⟨fun c => (h c).2.2.2.2.2.2, sem_eq_zero_of_no_sems (by decide) r.2⟩)
    (Cert.FfnFwdReferenceIdeal.Value.run (F := Ideal) m ρ)

theorem frame_FwdInKernel : Cert.quiescent_FwdInKernel := fun m ρ _ => Cert.FwdInKernel.Gen.frame m ρ

theorem frame_FwdInKernelIdeal : Cert.quiescent_FwdInKernelIdeal := fun m ρ _ => Cert.FwdInKernelIdeal.Gen.frame m ρ

theorem frame_FwdInReferenceIdeal : Cert.quiescent_FwdInReferenceIdeal := fun m ρ _ =>
  (θ_run Cert.FwdInReferenceIdeal.defs _ _).mono (fun r h => ⟨fun c => (h c).2.2.2, sem_eq_zero_of_no_sems (by decide) r.2⟩)
    (Cert.FwdInReferenceIdeal.Value.run (F := Ideal) m ρ)

theorem frame_FwdOutKernel : Cert.quiescent_FwdOutKernel := fun m ρ _ => Cert.FwdOutKernel.Gen.frame m ρ

theorem frame_FwdOutKernelIdeal : Cert.quiescent_FwdOutKernelIdeal := fun m ρ _ => Cert.FwdOutKernelIdeal.Gen.frame m ρ

theorem frame_FwdOutReferenceIdeal : Cert.quiescent_FwdOutReferenceIdeal := fun m ρ _ =>
  (θ_run Cert.FwdOutReferenceIdeal.defs _ _).mono (fun r h => ⟨fun c => (h c).2.2, sem_eq_zero_of_no_sems (by decide) r.2⟩)
    (Cert.FwdOutReferenceIdeal.Value.run (F := Ideal) m ρ)

set_option maxHeartbeats 4000000 in
theorem out_calls : Cert.OutKernel.defs₀ (F := Bits) = Cert.OutKernelIdeal.defs₀ := by
  unfold Cert.OutKernel.defs₀ Cert.OutKernelIdeal.defs₀
  refine congrArg Defs.onTc ?_
  funext l a
  match l with
  | 0 => rfl

theorem out_defs : Cert.OutKernel.defs (F := Bits) = Cert.OutKernelIdeal.defs :=
  congrArg (Pipeline.defs Cert.OutKernelIdeal.pcfgs) out_calls

set_option maxHeartbeats 4000000 in
theorem out_main : Cert.OutKernel.main (F := Bits) = Cert.OutKernelIdeal.main := rfl

theorem frame_OutKernel : Cert.quiescent_OutKernel := fun m ρ _ => by
  rw [out_defs, out_main]
  exact (θ_run Cert.OutKernelIdeal.defs _ _).mono (fun _ h => ⟨fun c => Cert.OutKernelIdeal.Hand.args_kept h.1 c, h.2⟩)
    (Cert.OutKernelIdeal.Hand.run_main (F := Bits) m ρ)

theorem frame_OutKernelIdeal : Cert.quiescent_OutKernelIdeal := fun m ρ _ =>
  (θ_run Cert.OutKernelIdeal.defs _ _).mono (fun _ h => ⟨fun c => Cert.OutKernelIdeal.Hand.args_kept h.1 c, h.2⟩)
    (Cert.OutKernelIdeal.Hand.run_main (F := Ideal) m ρ)

theorem frame_OutReferenceIdeal : Cert.quiescent_OutReferenceIdeal := fun m ρ _ =>
  (θ_run Cert.OutReferenceIdeal.defs _ _).mono (fun r h => ⟨fun c => (h c).2.2.2.2.2.2.2, sem_eq_zero_of_no_sems (by decide) r.2⟩)
    (Cert.OutReferenceIdeal.Value.run (F := Ideal) m ρ)

theorem frame_AdamGateKernel : Cert.quiescent_AdamGateKernel := fun m ρ _ => Cert.AdamGateKernel.Gen.frame m ρ

theorem frame_AdamGateKernelIdeal : Cert.quiescent_AdamGateKernelIdeal := fun m ρ _ => Cert.AdamGateKernelIdeal.Gen.frame m ρ

theorem frame_AdamGateReferenceIdeal : Cert.quiescent_AdamGateReferenceIdeal := fun m ρ _ =>
  (θ_run Cert.AdamGateReferenceIdeal.defs _ _).mono (fun r h => ⟨fun c => (h c).2.2.2.2, sem_eq_zero_of_no_sems (by decide) r.2⟩)
    (Cert.AdamGateReferenceIdeal.Value.run (F := Ideal) m ρ)

theorem frame_AdamDownKernel : Cert.quiescent_AdamDownKernel := fun m ρ _ => Cert.AdamDownKernel.Gen.frame m ρ

theorem frame_AdamDownKernelIdeal : Cert.quiescent_AdamDownKernelIdeal := fun m ρ _ => Cert.AdamDownKernelIdeal.Gen.frame m ρ

theorem frame_AdamDownReferenceIdeal : Cert.quiescent_AdamDownReferenceIdeal := fun m ρ _ =>
  (θ_run Cert.AdamDownReferenceIdeal.defs _ _).mono (fun r h => ⟨fun c => (h c).2.2.2.2, sem_eq_zero_of_no_sems (by decide) r.2⟩)
    (Cert.AdamDownReferenceIdeal.Value.run (F := Ideal) m ρ)

theorem frame_AdamInKernel : Cert.quiescent_AdamInKernel := fun m ρ _ => Cert.AdamInKernel.Gen.frame m ρ

theorem frame_AdamInKernelIdeal : Cert.quiescent_AdamInKernelIdeal := fun m ρ _ => Cert.AdamInKernelIdeal.Gen.frame m ρ

theorem frame_AdamInReferenceIdeal : Cert.quiescent_AdamInReferenceIdeal := fun m ρ _ =>
  (θ_run Cert.AdamInReferenceIdeal.defs _ _).mono (fun r h => ⟨fun c => (h c).2.2.2.2, sem_eq_zero_of_no_sems (by decide) r.2⟩)
    (Cert.AdamInReferenceIdeal.Value.run (F := Ideal) m ρ)

theorem frame_AdamOutKernel : Cert.quiescent_AdamOutKernel := fun m ρ _ => Cert.AdamOutKernel.Gen.frame m ρ

theorem frame_AdamOutKernelIdeal : Cert.quiescent_AdamOutKernelIdeal := fun m ρ _ => Cert.AdamOutKernelIdeal.Gen.frame m ρ

theorem frame_AdamOutReferenceIdeal : Cert.quiescent_AdamOutReferenceIdeal := fun m ρ _ =>
  (θ_run Cert.AdamOutReferenceIdeal.defs _ _).mono (fun r h => ⟨fun c => (h c).2.2.2.2, sem_eq_zero_of_no_sems (by decide) r.2⟩)
    (Cert.AdamOutReferenceIdeal.Value.run (F := Ideal) m ρ)

theorem frame_AdamNormKernel : Cert.quiescent_AdamNormKernel := fun m ρ _ => Cert.AdamNormKernel.Gen.frame m ρ

theorem frame_AdamNormKernelIdeal : Cert.quiescent_AdamNormKernelIdeal := fun m ρ _ => Cert.AdamNormKernelIdeal.Gen.frame m ρ

theorem frame_AdamNormReferenceIdeal : Cert.quiescent_AdamNormReferenceIdeal := fun m ρ _ =>
  (θ_run Cert.AdamNormReferenceIdeal.defs _ _).mono (fun r h => ⟨fun c => (h c).2.2.2.2, sem_eq_zero_of_no_sems (by decide) r.2⟩)
    (Cert.AdamNormReferenceIdeal.Value.run (F := Ideal) m ρ)

/-! ## The values -/

/-- Where the precondition holds, every entry of the reference's arguments is real. -/
theorem ffn_real (m : (ℓ : Loc Cert.FfnReferenceIdeal.nD Cert.FfnReferenceIdeal.τ Cert.FfnReferenceIdeal.sig) → Buf (Elt Ideal) ℓ)
    (h : Cert.Pre_FfnReferenceIdeal_finite m) (c : Dev Cert.FfnReferenceIdeal.nD) : Cert.FfnReferenceIdeal.Hand.Real m c := by
  obtain ⟨h0, h1, h2, h3, h4⟩ := Cert.Pre_finite.real_of_fn _ _ _ _ _ (h c)
  exact ⟨fun i j => h0 (ix2 i j), fun i j => h1 (ix2 i j), fun i j => h2 (ix2 i j), fun i j => h3 (ix2 i j), fun i j => h4 (ix2 i j)⟩

theorem value_Ffn : Cert.algebraic_FfnKernelIdeal_FfnReferenceIdeal_pre_finite := by
  intro m ρ m' ρ' hpre hagree
  have hpre' : Cert.Pre_FfnReferenceIdeal_finite m' := fun c => by
    obtain ⟨e0, e1, e2, e3, e4⟩ := hagree c
    rw [e0, e1, e2, e3, e4]
    exact hpre c
  refine ⟨fun c i => Cert.FfnKernelIdeal.Hand.outG m c (i 0) (i 1), fun c i => Cert.FfnKernelIdeal.Hand.outU m c (i 0) (i 1),
    fun c i => Cert.FfnKernelIdeal.Hand.outD m c (i 0) (i 1), fun c i => Cert.FfnKernelIdeal.Hand.outN m c (i 0) (i 1), ?_, ?_⟩
  · refine (θ_run Cert.FfnKernelIdeal.defs _ _).mono (fun r h c => ?_) (Cert.FfnKernelIdeal.Hand.run_main (F := Ideal) m ρ)
    exact ⟨Cert.FfnKernelIdeal.Hand.out_gate m c h.1, Cert.FfnKernelIdeal.Hand.out_up m c h.1, Cert.FfnKernelIdeal.Hand.out_down m c h.1,
      Cert.FfnKernelIdeal.Hand.out_input m c h.1, Cert.FfnKernelIdeal.Hand.args_kept h.1 c⟩
  · refine (θ_run Cert.FfnReferenceIdeal.defs _ _).mono (fun r h c => ?_) (Cert.FfnReferenceIdeal.Hand.results m' ρ' (ffn_real m' hpre'))
    obtain ⟨h0, h1, h2, h3, hrest⟩ := h c
    obtain ⟨e0, e1, e2, e3, e4⟩ := hagree c
    have k0 : Cert.FfnReferenceIdeal.Hand.aX m' c = Cert.FfnKernelIdeal.Hand.aX m c := funext₂ fun i j => congrFun e0 (ix2 i j)
    have k1 : Cert.FfnReferenceIdeal.Hand.aWg m' c = Cert.FfnKernelIdeal.Hand.aWg m c := funext₂ fun i j => congrFun e1 (ix2 i j)
    have k2 : Cert.FfnReferenceIdeal.Hand.aWu m' c = Cert.FfnKernelIdeal.Hand.aWu m c := funext₂ fun i j => congrFun e2 (ix2 i j)
    have k3 : Cert.FfnReferenceIdeal.Hand.aWd m' c = Cert.FfnKernelIdeal.Hand.aWd m c := funext₂ fun i j => congrFun e3 (ix2 i j)
    have k4 : Cert.FfnReferenceIdeal.Hand.aCt m' c = Cert.FfnKernelIdeal.Hand.aCt m c := funext₂ fun i j => congrFun e4 (ix2 i j)
    rw [k0, k1, k3, k4] at h1
    rw [k0, k1, k2, k4] at h2
    rw [k0, k1, k2, k3, k4] at h0 h3
    exact ⟨h0, h1, h2, h3, hrest⟩

theorem value_In : Cert.algebraic_InKernelIdeal_InReferenceIdeal := by
  intro m ρ m' ρ' _ hagree
  refine ⟨fun c i => Cert.InKernelIdeal.Hand.Dx m c (i 0) (i 1), fun c i => (∑ r, Cert.InKernelIdeal.Hand.dW m c (i 0) (i 1) r : EReal),
    fun c i => (∑ r, Cert.InKernelIdeal.Hand.dG m c (i 1) r : EReal), ?_, ?_⟩
  · refine (θ_run Cert.InKernelIdeal.defs _ _).mono (fun r h c => ?_) (Cert.InKernelIdeal.Value.run_blocks (F := Ideal) m ρ)
    obtain ⟨h0, h1, h2, hrest⟩ := h c
    exact ⟨h0.trans (Cert.InKernelIdeal.Hand.out_dx m c), h1.trans (Cert.InKernelIdeal.Hand.out_dw m c),
      h2.trans (Cert.InKernelIdeal.Hand.out_dg m c), hrest⟩
  · refine (θ_run Cert.InReferenceIdeal.defs _ _).mono (fun r h c => ?_) (Cert.InReferenceIdeal.Hand.results m' ρ')
    obtain ⟨h0, h1, h2, hrest⟩ := h c
    obtain ⟨e0, e1, e2, e3, e4⟩ := hagree c
    have k0 : Cert.InReferenceIdeal.Hand.aX m' c = Cert.InKernelIdeal.Hand.aX m c := funext₂ fun i j => congrFun e0 (ix2 i j)
    have k1 : Cert.InReferenceIdeal.Hand.aG m' c = Cert.InKernelIdeal.Hand.aG m c := funext fun j => congrFun e1 (ix2 0 j)
    have k2 : Cert.InReferenceIdeal.Hand.aW m' c = Cert.InKernelIdeal.Hand.aW m c := funext₂ fun i j => congrFun e2 (ix2 i j)
    have k3 : Cert.InReferenceIdeal.Hand.aDp m' c = Cert.InKernelIdeal.Hand.aDp m c := funext₂ fun i j => congrFun e3 (ix2 i j)
    have k4 : Cert.InReferenceIdeal.Hand.aDh m' c = Cert.InKernelIdeal.Hand.aDh m c := funext₂ fun i j => congrFun e4 (ix2 i j)
    rw [k0, k1, k2, k3, k4] at h0
    rw [k0, k1, k3] at h1
    rw [k0, k2, k3] at h2
    exact ⟨h0, h1, h2, hrest⟩

theorem value_FfnFwd : Cert.algebraic_FfnFwdKernelIdeal_FfnFwdReferenceIdeal := by
  intro m ρ m' ρ' _ hagree
  refine ⟨fun c i => Cert.FfnFwdKernelIdeal.Hand.Gt m c (i 0) (i 1), fun c i => Cert.FfnFwdKernelIdeal.Hand.Up m c (i 0) (i 1),
    fun c i => Cert.FfnFwdKernelIdeal.Hand.Dh m c (i 0) (i 1), fun c i => Cert.FfnFwdKernelIdeal.Hand.Dh m c (i 0) (i 1),
    fun c i => (∑ r, Cert.FfnFwdKernelIdeal.Hand.dG m c (i 1) r : EReal), fun c i => (∑ r, Cert.FfnFwdKernelIdeal.Hand.Sq m c (i 1) r : EReal), ?_, ?_⟩
  · refine (θ_run Cert.FfnFwdKernelIdeal.defs _ _).mono (fun r h c => ?_) (Cert.FfnFwdKernelIdeal.Value.run_blocks (F := Ideal) m ρ)
    obtain ⟨h0, h1, h2, h3, h4, h5, hrest⟩ := h c
    exact ⟨h0.trans (Cert.FfnFwdKernelIdeal.Hand.out_g m c), h1.trans (Cert.FfnFwdKernelIdeal.Hand.out_u m c), h2.trans (Cert.FfnFwdKernelIdeal.Hand.out_dh m c), h3.trans (Cert.FfnFwdKernelIdeal.Hand.out_db m c),
      h4.trans (Cert.FfnFwdKernelIdeal.Hand.out_dg m c), h5.trans (Cert.FfnFwdKernelIdeal.Hand.out_sq m c), hrest⟩
  · refine (θ_run Cert.FfnFwdReferenceIdeal.defs _ _).mono (fun r h c => ?_) (Cert.FfnFwdReferenceIdeal.Hand.results m' ρ')
    obtain ⟨h0, h1, h2, h3, h4, h5, hrest⟩ := h c
    obtain ⟨e0, e1, e2, e3, e4, e5, e6⟩ := hagree c
    have k0 : Cert.FfnFwdReferenceIdeal.Hand.aH1 m' c = Cert.FfnFwdKernelIdeal.Hand.aH1 m c := funext₂ fun i j => congrFun e0 (ix2 i j)
    have k1 : Cert.FfnFwdReferenceIdeal.Hand.aX m' c = Cert.FfnFwdKernelIdeal.Hand.aX m c := funext₂ fun i j => congrFun e1 (ix2 i j)
    have k2 : Cert.FfnFwdReferenceIdeal.Hand.aT m' c = Cert.FfnFwdKernelIdeal.Hand.aT m c := funext₂ fun i j => congrFun e2 (ix2 i j)
    have k3 : Cert.FfnFwdReferenceIdeal.Hand.aG m' c = Cert.FfnFwdKernelIdeal.Hand.aG m c := funext fun j => congrFun e3 (ix2 0 j)
    have k4 : Cert.FfnFwdReferenceIdeal.Hand.aWg m' c = Cert.FfnFwdKernelIdeal.Hand.aWg m c := funext₂ fun i j => congrFun e4 (ix2 i j)
    have k5 : Cert.FfnFwdReferenceIdeal.Hand.aWu m' c = Cert.FfnFwdKernelIdeal.Hand.aWu m c := funext₂ fun i j => congrFun e5 (ix2 i j)
    have k6 : Cert.FfnFwdReferenceIdeal.Hand.aWd m' c = Cert.FfnFwdKernelIdeal.Hand.aWd m c := funext₂ fun i j => congrFun e6 (ix2 i j)
    have kH : Cert.FfnFwdReferenceIdeal.Hand.H2 m' c = Cert.FfnFwdKernelIdeal.Hand.H2 m c := by
      unfold Cert.FfnFwdReferenceIdeal.Hand.H2 Cert.FfnFwdKernelIdeal.Hand.H2
      rw [k0, k1, k4, k5, k6]
    rw [k1, k4] at h0
    rw [k1, k5] at h1
    rw [kH, k2, k3] at h2 h3 h4 h5
    exact ⟨h0, h1, h2, h3, h4, h5, hrest⟩

theorem value_FwdIn : Cert.algebraic_FwdInKernelIdeal_FwdInReferenceIdeal := by
  intro m ρ m' ρ' _ hagree
  open Cert.FwdInKernelIdeal.Hand in
  refine ⟨fun c i => Pr m c (i 1) (col 0 (by omega) (i 0) (i 2)), fun c i => Pr m c (i 1) (col 512 (by omega) (i 0) (i 2)),
    fun c i => Pr m c (i 1) (col 1024 (by omega) (i 0) (i 2)), ?_, ?_⟩
  · refine (θ_run Cert.FwdInKernelIdeal.defs _ _).mono (fun r h c => ?_) (Cert.FwdInKernelIdeal.Value.run_blocks (F := Ideal) m ρ)
    obtain ⟨h0, h1, h2, hrest⟩ := h c
    exact ⟨h0.trans (Cert.FwdInKernelIdeal.Hand.out_3 m c), h1.trans (Cert.FwdInKernelIdeal.Hand.out_4 m c),
      h2.trans (Cert.FwdInKernelIdeal.Hand.out_5 m c), hrest⟩
  · refine (θ_run Cert.FwdInReferenceIdeal.defs _ _).mono (fun r h c => ?_) (Cert.FwdInReferenceIdeal.Hand.results m' ρ')
    obtain ⟨h0, h1, h2, hrest⟩ := h c
    obtain ⟨e0, e1, e2⟩ := hagree c
    have k0 : Cert.FwdInReferenceIdeal.Hand.aX m' c = Cert.FwdInKernelIdeal.Hand.aX m c := funext₂ fun i j => congrFun e0 (ix2 i j)
    have k1 : Cert.FwdInReferenceIdeal.Hand.aG m' c = Cert.FwdInKernelIdeal.Hand.aG m c := funext fun j => congrFun e1 (ix2 0 j)
    have k2 : Cert.FwdInReferenceIdeal.Hand.aW m' c = Cert.FwdInKernelIdeal.Hand.aW m c := funext₂ fun i j => congrFun e2 (ix2 i j)
    have kP : Cert.FwdInReferenceIdeal.Hand.Pr m' c = Cert.FwdInKernelIdeal.Hand.Pr m c := by
      unfold Cert.FwdInReferenceIdeal.Hand.Pr Cert.FwdInKernelIdeal.Hand.Pr
      rw [k0, k1, k2]
    rw [kP] at h0 h1 h2
    exact ⟨h0, h1, h2, hrest⟩

theorem value_FwdOut : Cert.algebraic_FwdOutKernelIdeal_FwdOutReferenceIdeal := by
  intro m ρ m' ρ' _ hagree
  refine ⟨fun c i => Cert.FwdOutKernelIdeal.Hand.H1 m c (i 0) (i 1), fun c i => Cert.FwdOutKernelIdeal.Hand.N2 m c (i 0) (i 1), ?_, ?_⟩
  · refine (θ_run Cert.FwdOutKernelIdeal.defs _ _).mono (fun r h c => ?_) (Cert.FwdOutKernelIdeal.Value.run_blocks (F := Ideal) m ρ)
    obtain ⟨h0, h1, hrest⟩ := h c
    exact ⟨h0.trans (Cert.FwdOutKernelIdeal.Hand.out_7 m c), h1.trans (Cert.FwdOutKernelIdeal.Hand.out_8 m c), hrest⟩
  · refine (θ_run Cert.FwdOutReferenceIdeal.defs _ _).mono (fun r h c => ?_) (Cert.FwdOutReferenceIdeal.Hand.results m' ρ')
    obtain ⟨h0, h1, hrest⟩ := h c
    obtain ⟨e0, e1, e2, e3, e4, e5, e6⟩ := hagree c
    have k0 : Cert.FwdOutReferenceIdeal.Hand.aX m' c = Cert.FwdOutKernelIdeal.Hand.aX m c := funext₂ fun i j => congrFun e0 (ix2 i j)
    have k1 : Cert.FwdOutReferenceIdeal.Hand.aYp m' c = Cert.FwdOutKernelIdeal.Hand.aYp m c := funext₂ fun i j => congrFun e1 (ix2 i j)
    have k2 : Cert.FwdOutReferenceIdeal.Hand.aYl m' c = Cert.FwdOutKernelIdeal.Hand.aYl m c := funext₂ fun i j => congrFun e2 (ix2 i j)
    have k3 : Cert.FwdOutReferenceIdeal.Hand.aGp m' c = Cert.FwdOutKernelIdeal.Hand.aGp m c := funext fun j => congrFun e3 (ix2 0 j)
    have k4 : Cert.FwdOutReferenceIdeal.Hand.aGl m' c = Cert.FwdOutKernelIdeal.Hand.aGl m c := funext fun j => congrFun e4 (ix2 0 j)
    have k5 : Cert.FwdOutReferenceIdeal.Hand.aW m' c = Cert.FwdOutKernelIdeal.Hand.aW m c := funext₂ fun i j => congrFun e5 (ix2 i j)
    have k6 : Cert.FwdOutReferenceIdeal.Hand.aG2 m' c = Cert.FwdOutKernelIdeal.Hand.aG2 m c := funext fun j => congrFun e6 (ix2 0 j)
    have kH : Cert.FwdOutReferenceIdeal.Hand.H1 m' c = Cert.FwdOutKernelIdeal.Hand.H1 m c := by
      unfold Cert.FwdOutReferenceIdeal.Hand.H1 Cert.FwdOutKernelIdeal.Hand.H1
      rw [k0, k1, k2, k3, k4, k5]
    have kN : Cert.FwdOutReferenceIdeal.Hand.N2 m' c = Cert.FwdOutKernelIdeal.Hand.N2 m c := by
      unfold Cert.FwdOutReferenceIdeal.Hand.N2 Cert.FwdOutKernelIdeal.Hand.N2
      rw [k0, k1, k2, k3, k4, k5, k6]
    rw [kH] at h0
    rw [kN] at h1
    exact ⟨h0, h1, hrest⟩

theorem value_Out : Cert.algebraic_OutKernelIdeal_OutReferenceIdeal := by
  intro m ρ m' ρ' _ hagree
  open Cert.OutKernelIdeal.Hand in
  refine ⟨fun c i => D1 m c (i 0) (i 1), fun c i => Cert.Out.dy (aYp m c) (Up m c) (aGp m c) (i 1) (Cert.Out.lane (i 0) (i 2)),
    fun c i => Cert.Out.dy (aYl m c) (Ul m c) (aGl m c) (i 1) (Cert.Out.lane (i 0) (i 2)),
    fun c i => (∑ r, Cert.Out.dW (D1 m c) (aYp m c) (aYl m c) (aGp m c) (aGl m c) (i 0) (i 1) r : EReal), fun c i => (∑ r, Cert.Out.dG2 (H1 m c) (aDn m c) (i 1) r : EReal),
    fun c i => (∑ r, Cert.Out.dG (aYp m c) (Up m c) (i 1) r : EReal), fun c i => (∑ r, Cert.Out.dG (aYl m c) (Ul m c) (i 1) r : EReal), ?_, ?_⟩
  · refine (θ_run Cert.OutKernelIdeal.defs _ _).mono (fun r h c => ?_) (Cert.OutKernelIdeal.Hand.run_main (F := Ideal) m ρ)
    exact ⟨Cert.OutKernelIdeal.Hand.out_dh m c h.1, Cert.OutKernelIdeal.Hand.out_p m c h.1, Cert.OutKernelIdeal.Hand.out_l m c h.1,
      Cert.OutKernelIdeal.Hand.out_w m c h.1, Cert.OutKernelIdeal.Hand.out_g2 m c h.1, Cert.OutKernelIdeal.Hand.out_gp m c h.1,
      Cert.OutKernelIdeal.Hand.out_gl m c h.1, Cert.OutKernelIdeal.Hand.args_kept h.1 c⟩
  · refine (θ_run Cert.OutReferenceIdeal.defs _ _).mono (fun r h c => ?_) (Cert.OutReferenceIdeal.Hand.results m' ρ')
    obtain ⟨h0, h1, h2, h3, h4, h5, h6, hrest⟩ := h c
    obtain ⟨e0, e1, e2, e3, e4, e5, e6, e7, e8⟩ := hagree c
    have k0 : Cert.OutReferenceIdeal.Hand.aX m' c = Cert.OutKernelIdeal.Hand.aX m c := funext₂ fun i j => congrFun e0 (ix2 i j)
    have k1 : Cert.OutReferenceIdeal.Hand.aYp m' c = Cert.OutKernelIdeal.Hand.aYp m c := funext₂ fun i j => congrFun e1 (ix2 i j)
    have k2 : Cert.OutReferenceIdeal.Hand.aYl m' c = Cert.OutKernelIdeal.Hand.aYl m c := funext₂ fun i j => congrFun e2 (ix2 i j)
    have k3 : Cert.OutReferenceIdeal.Hand.aGp m' c = Cert.OutKernelIdeal.Hand.aGp m c := funext fun j => congrFun e3 (ix2 0 j)
    have k4 : Cert.OutReferenceIdeal.Hand.aGl m' c = Cert.OutKernelIdeal.Hand.aGl m c := funext fun j => congrFun e4 (ix2 0 j)
    have k5 : Cert.OutReferenceIdeal.Hand.aW m' c = Cert.OutKernelIdeal.Hand.aW m c := funext₂ fun i j => congrFun e5 (ix2 i j)
    have k6 : Cert.OutReferenceIdeal.Hand.aG2 m' c = Cert.OutKernelIdeal.Hand.aG2 m c := funext fun j => congrFun e6 (ix2 0 j)
    have k7 : Cert.OutReferenceIdeal.Hand.aDn m' c = Cert.OutKernelIdeal.Hand.aDn m c := funext₂ fun i j => congrFun e7 (ix2 i j)
    have k8 : Cert.OutReferenceIdeal.Hand.aDh m' c = Cert.OutKernelIdeal.Hand.aDh m c := funext₂ fun i j => congrFun e8 (ix2 i j)
    have kH : Cert.OutReferenceIdeal.Hand.H1 m' c = Cert.OutKernelIdeal.Hand.H1 m c := by
      unfold Cert.OutReferenceIdeal.Hand.H1 Cert.OutKernelIdeal.Hand.H1
      rw [k0, k1, k2, k3, k4, k5]
    have kD : Cert.OutReferenceIdeal.Hand.D1 m' c = Cert.OutKernelIdeal.Hand.D1 m c := by
      unfold Cert.OutReferenceIdeal.Hand.D1 Cert.OutKernelIdeal.Hand.D1
      rw [kH, k6, k7, k8]
    have kP : Cert.OutReferenceIdeal.Hand.Up m' c = Cert.OutKernelIdeal.Hand.Up m c := by
      unfold Cert.OutReferenceIdeal.Hand.Up Cert.OutKernelIdeal.Hand.Up
      rw [kD, k5]
    have kL : Cert.OutReferenceIdeal.Hand.Ul m' c = Cert.OutKernelIdeal.Hand.Ul m c := by
      unfold Cert.OutReferenceIdeal.Hand.Ul Cert.OutKernelIdeal.Hand.Ul
      rw [kD, k5]
    rw [kD] at h0
    rw [k1, kP, k3] at h1
    rw [k2, kL, k4] at h2
    rw [kD, k1, k2, k3, k4] at h3
    rw [kH, k7] at h4
    rw [k1, kP] at h5
    rw [k2, kL] at h6
    exact ⟨h0, h1, h2, h3, h4, h5, h6, hrest⟩

theorem value_AdamGate : Cert.algebraic_AdamGateKernelIdeal_AdamGateReferenceIdeal := by
  intro m ρ m' ρ' _ hagree
  open Cert.AdamGateKernelIdeal.Hand in
  refine ⟨fun c i => Gr m c (i 0) (i 1), fun c i => Dl m c (i 0) (i 1), fun c i => Mn m c (i 0) (i 1), fun c i => Vn m c (i 0) (i 1), ?_, ?_⟩
  · refine (θ_run Cert.AdamGateKernelIdeal.defs _ _).mono (fun r h c => ?_) (Cert.AdamGateKernelIdeal.Value.run_blocks (F := Ideal) m ρ)
    obtain ⟨h0, h1, h2, h3, hrest⟩ := h c
    exact ⟨h0.trans (Cert.AdamGateKernelIdeal.Hand.out_4 m c), h1.trans (Cert.AdamGateKernelIdeal.Hand.out_5 m c), h2.trans (Cert.AdamGateKernelIdeal.Hand.out_6 m c),
      h3.trans (Cert.AdamGateKernelIdeal.Hand.out_7 m c), hrest⟩
  · refine (θ_run Cert.AdamGateReferenceIdeal.defs _ _).mono (fun r h c => ?_) (Cert.AdamGateReferenceIdeal.Hand.results m' ρ')
    obtain ⟨h0, h1, h2, h3, hrest⟩ := h c
    obtain ⟨e0, e1, e2, e3⟩ := hagree c
    have k0 : Cert.AdamGateReferenceIdeal.Hand.aP m' c = Cert.AdamGateKernelIdeal.Hand.aP m c := funext fun r => funext₂ fun k s => congrFun e0 (ix3 s r k)
    have k1 : Cert.AdamGateReferenceIdeal.Hand.aW m' c = Cert.AdamGateKernelIdeal.Hand.aW m c := funext₂ fun r k => congrFun e1 (ix3 0 k r)
    have k2 : Cert.AdamGateReferenceIdeal.Hand.aM m' c = Cert.AdamGateKernelIdeal.Hand.aM m c := funext₂ fun r k => congrFun e2 (ix3 0 k r)
    have k3 : Cert.AdamGateReferenceIdeal.Hand.aV m' c = Cert.AdamGateKernelIdeal.Hand.aV m c := funext₂ fun r k => congrFun e3 (ix3 0 k r)
    have kG : Cert.AdamGateReferenceIdeal.Hand.Gr m' c = Cert.AdamGateKernelIdeal.Hand.Gr m c := by
      unfold Cert.AdamGateReferenceIdeal.Hand.Gr Cert.AdamGateKernelIdeal.Hand.Gr
      rw [k0]
    have kM : Cert.AdamGateReferenceIdeal.Hand.Mn m' c = Cert.AdamGateKernelIdeal.Hand.Mn m c := by
      unfold Cert.AdamGateReferenceIdeal.Hand.Mn Cert.AdamGateKernelIdeal.Hand.Mn
      rw [kG, k2]
    have kV : Cert.AdamGateReferenceIdeal.Hand.Vn m' c = Cert.AdamGateKernelIdeal.Hand.Vn m c := by
      unfold Cert.AdamGateReferenceIdeal.Hand.Vn Cert.AdamGateKernelIdeal.Hand.Vn
      rw [kG, k3]
    have kD : Cert.AdamGateReferenceIdeal.Hand.Dl m' c = Cert.AdamGateKernelIdeal.Hand.Dl m c := by
      unfold Cert.AdamGateReferenceIdeal.Hand.Dl Cert.AdamGateKernelIdeal.Hand.Dl
      rw [kM, kV, k1]
    rw [kG] at h0
    rw [kD] at h1
    rw [kM] at h2
    rw [kV] at h3
    exact ⟨h0, h1, h2, h3, hrest⟩

theorem value_AdamDown : Cert.algebraic_AdamDownKernelIdeal_AdamDownReferenceIdeal := by
  intro m ρ m' ρ' _ hagree
  open Cert.AdamDownKernelIdeal.Hand in
  refine ⟨fun c i => Gr m c (i 0) (i 1), fun c i => Dl m c (i 0) (i 1), fun c i => Mn m c (i 0) (i 1), fun c i => Vn m c (i 0) (i 1), ?_, ?_⟩
  · refine (θ_run Cert.AdamDownKernelIdeal.defs _ _).mono (fun r h c => ?_) (Cert.AdamDownKernelIdeal.Value.run_blocks (F := Ideal) m ρ)
    obtain ⟨h0, h1, h2, h3, hrest⟩ := h c
    exact ⟨h0.trans (Cert.AdamDownKernelIdeal.Hand.out_4 m c), h1.trans (Cert.AdamDownKernelIdeal.Hand.out_5 m c), h2.trans (Cert.AdamDownKernelIdeal.Hand.out_6 m c),
      h3.trans (Cert.AdamDownKernelIdeal.Hand.out_7 m c), hrest⟩
  · refine (θ_run Cert.AdamDownReferenceIdeal.defs _ _).mono (fun r h c => ?_) (Cert.AdamDownReferenceIdeal.Hand.results m' ρ')
    obtain ⟨h0, h1, h2, h3, hrest⟩ := h c
    obtain ⟨e0, e1, e2, e3⟩ := hagree c
    have k0 : Cert.AdamDownReferenceIdeal.Hand.aP m' c = Cert.AdamDownKernelIdeal.Hand.aP m c := funext fun r => funext₂ fun k s => congrFun e0 (ix3 s r k)
    have k1 : Cert.AdamDownReferenceIdeal.Hand.aW m' c = Cert.AdamDownKernelIdeal.Hand.aW m c := funext₂ fun r k => congrFun e1 (ix3 0 r k)
    have k2 : Cert.AdamDownReferenceIdeal.Hand.aM m' c = Cert.AdamDownKernelIdeal.Hand.aM m c := funext₂ fun r k => congrFun e2 (ix3 0 r k)
    have k3 : Cert.AdamDownReferenceIdeal.Hand.aV m' c = Cert.AdamDownKernelIdeal.Hand.aV m c := funext₂ fun r k => congrFun e3 (ix3 0 r k)
    have kG : Cert.AdamDownReferenceIdeal.Hand.Gr m' c = Cert.AdamDownKernelIdeal.Hand.Gr m c := by
      unfold Cert.AdamDownReferenceIdeal.Hand.Gr Cert.AdamDownKernelIdeal.Hand.Gr
      rw [k0]
    have kM : Cert.AdamDownReferenceIdeal.Hand.Mn m' c = Cert.AdamDownKernelIdeal.Hand.Mn m c := by
      unfold Cert.AdamDownReferenceIdeal.Hand.Mn Cert.AdamDownKernelIdeal.Hand.Mn
      rw [kG, k2]
    have kV : Cert.AdamDownReferenceIdeal.Hand.Vn m' c = Cert.AdamDownKernelIdeal.Hand.Vn m c := by
      unfold Cert.AdamDownReferenceIdeal.Hand.Vn Cert.AdamDownKernelIdeal.Hand.Vn
      rw [kG, k3]
    have kD : Cert.AdamDownReferenceIdeal.Hand.Dl m' c = Cert.AdamDownKernelIdeal.Hand.Dl m c := by
      unfold Cert.AdamDownReferenceIdeal.Hand.Dl Cert.AdamDownKernelIdeal.Hand.Dl
      rw [kM, kV, k1]
    rw [kG] at h0
    rw [kD] at h1
    rw [kM] at h2
    rw [kV] at h3
    exact ⟨h0, h1, h2, h3, hrest⟩

theorem value_AdamIn : Cert.algebraic_AdamInKernelIdeal_AdamInReferenceIdeal := by
  intro m ρ m' ρ' _ hagree
  open Cert.AdamInKernelIdeal.Hand in
  refine ⟨fun c i => Gr m c (i 0) (i 1), fun c i => Dl m c (i 0) (i 1), fun c i => Mn m c (i 0) (i 1), fun c i => Vn m c (i 0) (i 1), ?_, ?_⟩
  · refine (θ_run Cert.AdamInKernelIdeal.defs _ _).mono (fun r h c => ?_) (Cert.AdamInKernelIdeal.Value.run_blocks (F := Ideal) m ρ)
    obtain ⟨h0, h1, h2, h3, hrest⟩ := h c
    exact ⟨h0.trans (Cert.AdamInKernelIdeal.Hand.out_4 m c), h1.trans (Cert.AdamInKernelIdeal.Hand.out_5 m c), h2.trans (Cert.AdamInKernelIdeal.Hand.out_6 m c),
      h3.trans (Cert.AdamInKernelIdeal.Hand.out_7 m c), hrest⟩
  · refine (θ_run Cert.AdamInReferenceIdeal.defs _ _).mono (fun r h c => ?_) (Cert.AdamInReferenceIdeal.Hand.results m' ρ')
    obtain ⟨h0, h1, h2, h3, hrest⟩ := h c
    obtain ⟨e0, e1, e2, e3⟩ := hagree c
    have k0 : Cert.AdamInReferenceIdeal.Hand.aP m' c = Cert.AdamInKernelIdeal.Hand.aP m c := funext fun r => funext₂ fun k s => congrFun e0 (ix3 s r k)
    have k1 : Cert.AdamInReferenceIdeal.Hand.aW m' c = Cert.AdamInKernelIdeal.Hand.aW m c := funext₂ fun r k => congrFun e1 (ix3 0 k r)
    have k2 : Cert.AdamInReferenceIdeal.Hand.aM m' c = Cert.AdamInKernelIdeal.Hand.aM m c := funext₂ fun r k => congrFun e2 (ix3 0 k r)
    have k3 : Cert.AdamInReferenceIdeal.Hand.aV m' c = Cert.AdamInKernelIdeal.Hand.aV m c := funext₂ fun r k => congrFun e3 (ix3 0 k r)
    have kG : Cert.AdamInReferenceIdeal.Hand.Gr m' c = Cert.AdamInKernelIdeal.Hand.Gr m c := by
      unfold Cert.AdamInReferenceIdeal.Hand.Gr Cert.AdamInKernelIdeal.Hand.Gr
      rw [k0]
    have kM : Cert.AdamInReferenceIdeal.Hand.Mn m' c = Cert.AdamInKernelIdeal.Hand.Mn m c := by
      unfold Cert.AdamInReferenceIdeal.Hand.Mn Cert.AdamInKernelIdeal.Hand.Mn
      rw [kG, k2]
    have kV : Cert.AdamInReferenceIdeal.Hand.Vn m' c = Cert.AdamInKernelIdeal.Hand.Vn m c := by
      unfold Cert.AdamInReferenceIdeal.Hand.Vn Cert.AdamInKernelIdeal.Hand.Vn
      rw [kG, k3]
    have kD : Cert.AdamInReferenceIdeal.Hand.Dl m' c = Cert.AdamInKernelIdeal.Hand.Dl m c := by
      unfold Cert.AdamInReferenceIdeal.Hand.Dl Cert.AdamInKernelIdeal.Hand.Dl
      rw [kM, kV, k1]
    rw [kG] at h0
    rw [kD] at h1
    rw [kM] at h2
    rw [kV] at h3
    exact ⟨h0, h1, h2, h3, hrest⟩

theorem value_AdamOut : Cert.algebraic_AdamOutKernelIdeal_AdamOutReferenceIdeal := by
  intro m ρ m' ρ' _ hagree
  open Cert.AdamOutKernelIdeal.Hand in
  refine ⟨fun c i => Gr m c (i 0) (i 1), fun c i => Dl m c (i 0) (i 1), fun c i => Mn m c (i 0) (i 1), fun c i => Vn m c (i 0) (i 1), ?_, ?_⟩
  · refine (θ_run Cert.AdamOutKernelIdeal.defs _ _).mono (fun r h c => ?_) (Cert.AdamOutKernelIdeal.Value.run_blocks (F := Ideal) m ρ)
    obtain ⟨h0, h1, h2, h3, hrest⟩ := h c
    exact ⟨h0.trans (Cert.AdamOutKernelIdeal.Hand.out_4 m c), h1.trans (Cert.AdamOutKernelIdeal.Hand.out_5 m c), h2.trans (Cert.AdamOutKernelIdeal.Hand.out_6 m c),
      h3.trans (Cert.AdamOutKernelIdeal.Hand.out_7 m c), hrest⟩
  · refine (θ_run Cert.AdamOutReferenceIdeal.defs _ _).mono (fun r h c => ?_) (Cert.AdamOutReferenceIdeal.Hand.results m' ρ')
    obtain ⟨h0, h1, h2, h3, hrest⟩ := h c
    obtain ⟨e0, e1, e2, e3⟩ := hagree c
    have k0 : Cert.AdamOutReferenceIdeal.Hand.aP m' c = Cert.AdamOutKernelIdeal.Hand.aP m c := funext fun r => funext₂ fun k s => congrFun e0 (ix3 s r k)
    have k1 : Cert.AdamOutReferenceIdeal.Hand.aW m' c = Cert.AdamOutKernelIdeal.Hand.aW m c := funext₂ fun r k => congrFun e1 (ix3 0 r k)
    have k2 : Cert.AdamOutReferenceIdeal.Hand.aM m' c = Cert.AdamOutKernelIdeal.Hand.aM m c := funext₂ fun r k => congrFun e2 (ix3 0 r k)
    have k3 : Cert.AdamOutReferenceIdeal.Hand.aV m' c = Cert.AdamOutKernelIdeal.Hand.aV m c := funext₂ fun r k => congrFun e3 (ix3 0 r k)
    have kG : Cert.AdamOutReferenceIdeal.Hand.Gr m' c = Cert.AdamOutKernelIdeal.Hand.Gr m c := by
      unfold Cert.AdamOutReferenceIdeal.Hand.Gr Cert.AdamOutKernelIdeal.Hand.Gr
      rw [k0]
    have kM : Cert.AdamOutReferenceIdeal.Hand.Mn m' c = Cert.AdamOutKernelIdeal.Hand.Mn m c := by
      unfold Cert.AdamOutReferenceIdeal.Hand.Mn Cert.AdamOutKernelIdeal.Hand.Mn
      rw [kG, k2]
    have kV : Cert.AdamOutReferenceIdeal.Hand.Vn m' c = Cert.AdamOutKernelIdeal.Hand.Vn m c := by
      unfold Cert.AdamOutReferenceIdeal.Hand.Vn Cert.AdamOutKernelIdeal.Hand.Vn
      rw [kG, k3]
    have kD : Cert.AdamOutReferenceIdeal.Hand.Dl m' c = Cert.AdamOutKernelIdeal.Hand.Dl m c := by
      unfold Cert.AdamOutReferenceIdeal.Hand.Dl Cert.AdamOutKernelIdeal.Hand.Dl
      rw [kM, kV, k1]
    rw [kG] at h0
    rw [kD] at h1
    rw [kM] at h2
    rw [kV] at h3
    exact ⟨h0, h1, h2, h3, hrest⟩

theorem value_AdamNorm : Cert.algebraic_AdamNormKernelIdeal_AdamNormReferenceIdeal := by
  intro m ρ m' ρ' _ hagree
  open Cert.AdamNormKernelIdeal.Hand in
  refine ⟨fun c i => Gr m c (i 1), fun c i => Dl m c (i 1), fun c i => Mn m c (i 1), fun c i => Vn m c (i 1), ?_, ?_⟩
  · refine (θ_run Cert.AdamNormKernelIdeal.defs _ _).mono (fun r h c => ?_) (Cert.AdamNormKernelIdeal.Value.run_blocks (F := Ideal) m ρ)
    obtain ⟨h0, h1, h2, h3, hrest⟩ := h c
    exact ⟨h0.trans (Cert.AdamNormKernelIdeal.Hand.out_4 m c), h1.trans (Cert.AdamNormKernelIdeal.Hand.out_5 m c), h2.trans (Cert.AdamNormKernelIdeal.Hand.out_6 m c),
      h3.trans (Cert.AdamNormKernelIdeal.Hand.out_7 m c), hrest⟩
  · refine (θ_run Cert.AdamNormReferenceIdeal.defs _ _).mono (fun r h c => ?_) (Cert.AdamNormReferenceIdeal.Hand.results m' ρ')
    obtain ⟨h0, h1, h2, h3, hrest⟩ := h c
    obtain ⟨e0, e1, e2, e3⟩ := hagree c
    have k0 : Cert.AdamNormReferenceIdeal.Hand.aP m' c = Cert.AdamNormKernelIdeal.Hand.aP m c := funext₂ fun k s => congrFun e0 (ix3 s 0 k)
    have k1 : Cert.AdamNormReferenceIdeal.Hand.aW m' c = Cert.AdamNormKernelIdeal.Hand.aW m c := funext fun k => congrFun e1 (ix2 0 k)
    have k2 : Cert.AdamNormReferenceIdeal.Hand.aM m' c = Cert.AdamNormKernelIdeal.Hand.aM m c := funext fun k => congrFun e2 (ix2 0 k)
    have k3 : Cert.AdamNormReferenceIdeal.Hand.aV m' c = Cert.AdamNormKernelIdeal.Hand.aV m c := funext fun k => congrFun e3 (ix2 0 k)
    have kG : Cert.AdamNormReferenceIdeal.Hand.Gr m' c = Cert.AdamNormKernelIdeal.Hand.Gr m c := by
      unfold Cert.AdamNormReferenceIdeal.Hand.Gr Cert.AdamNormKernelIdeal.Hand.Gr
      rw [k0]
    have kM : Cert.AdamNormReferenceIdeal.Hand.Mn m' c = Cert.AdamNormKernelIdeal.Hand.Mn m c := by
      unfold Cert.AdamNormReferenceIdeal.Hand.Mn Cert.AdamNormKernelIdeal.Hand.Mn
      rw [kG, k2]
    have kV : Cert.AdamNormReferenceIdeal.Hand.Vn m' c = Cert.AdamNormKernelIdeal.Hand.Vn m c := by
      unfold Cert.AdamNormReferenceIdeal.Hand.Vn Cert.AdamNormKernelIdeal.Hand.Vn
      rw [kG, k3]
    have kD : Cert.AdamNormReferenceIdeal.Hand.Dl m' c = Cert.AdamNormKernelIdeal.Hand.Dl m c := by
      unfold Cert.AdamNormReferenceIdeal.Hand.Dl Cert.AdamNormKernelIdeal.Hand.Dl
      rw [kM, kV, k1]
    rw [kG] at h0
    rw [kD] at h1
    rw [kM] at h2
    rw [kV] at h3
    exact ⟨h0, h1, h2, h3, hrest⟩

theorem claim : Cert.Claim := ⟨Cert.FfnKernel.Gen.facts, Cert.FfnKernelIdeal.Gen.facts, Cert.FfnReferenceIdeal.Gen.facts,
  Cert.InKernel.Gen.facts, Cert.InKernelIdeal.Gen.facts, Cert.InReferenceIdeal.Gen.facts, Cert.FfnFwdKernel.Gen.facts,
  Cert.FfnFwdKernelIdeal.Gen.facts, Cert.FfnFwdReferenceIdeal.Gen.facts,
  Cert.FwdInKernel.Gen.facts, Cert.FwdInKernelIdeal.Gen.facts, Cert.FwdInReferenceIdeal.Gen.facts,
  Cert.FwdOutKernel.Gen.facts, Cert.FwdOutKernelIdeal.Gen.facts, Cert.FwdOutReferenceIdeal.Gen.facts,
  Cert.OutKernel.Gen.facts, Cert.OutKernelIdeal.Gen.facts, Cert.OutReferenceIdeal.Gen.facts,
  Cert.AdamGateKernel.Gen.facts, Cert.AdamGateKernelIdeal.Gen.facts, Cert.AdamGateReferenceIdeal.Gen.facts,
  Cert.AdamDownKernel.Gen.facts, Cert.AdamDownKernelIdeal.Gen.facts, Cert.AdamDownReferenceIdeal.Gen.facts,
  Cert.AdamInKernel.Gen.facts, Cert.AdamInKernelIdeal.Gen.facts, Cert.AdamInReferenceIdeal.Gen.facts,
  Cert.AdamOutKernel.Gen.facts, Cert.AdamOutKernelIdeal.Gen.facts, Cert.AdamOutReferenceIdeal.Gen.facts,
  Cert.AdamNormKernel.Gen.facts, Cert.AdamNormKernelIdeal.Gen.facts, Cert.AdamNormReferenceIdeal.Gen.facts,
  Cert.Pre_finite.Gen.facts,
  frame_FfnKernel, frame_FfnKernelIdeal, fun m ρ _ => frame_FfnKernelIdeal m ρ trivial, frame_FfnReferenceIdeal,
  fun m ρ _ => frame_FfnReferenceIdeal m ρ trivial, frame_InKernel, frame_InKernelIdeal, frame_InReferenceIdeal,
  frame_FfnFwdKernel, frame_FfnFwdKernelIdeal, frame_FfnFwdReferenceIdeal,
  frame_FwdInKernel, frame_FwdInKernelIdeal, frame_FwdInReferenceIdeal, frame_FwdOutKernel, frame_FwdOutKernelIdeal,
  frame_FwdOutReferenceIdeal, frame_OutKernel, frame_OutKernelIdeal, frame_OutReferenceIdeal,
  frame_AdamGateKernel, frame_AdamGateKernelIdeal, frame_AdamGateReferenceIdeal,
  frame_AdamDownKernel, frame_AdamDownKernelIdeal, frame_AdamDownReferenceIdeal,
  frame_AdamInKernel, frame_AdamInKernelIdeal, frame_AdamInReferenceIdeal,
  frame_AdamOutKernel, frame_AdamOutKernelIdeal, frame_AdamOutReferenceIdeal,
  frame_AdamNormKernel, frame_AdamNormKernelIdeal, frame_AdamNormReferenceIdeal,
  trivial, value_Ffn, trivial, value_In, trivial, value_FfnFwd, trivial, value_FwdIn, trivial, value_FwdOut, trivial, value_Out,
  trivial, value_AdamGate, trivial, value_AdamDown, trivial, value_AdamIn, trivial, value_AdamOut, trivial, value_AdamNorm⟩

end Cert.Proof

end
